-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_fwd [hPre_finite_fwd : Cert.Pre_finite_fwd.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_fwd.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))) = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_finite_fwd [hPre_finite_fwd : Cert.Pre_finite_fwd.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_finite_fwd.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))) = (fun _ => 1#1)

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_DU (m : (ℓ : Loc Cert.DU.nD Cert.DU.τ Cert.DU.sig) → Buf (Elt Bits) ℓ) : Prop :=
  True

def Pre_DUIdeal (m : (ℓ : Loc Cert.DUIdeal.nD Cert.DUIdeal.τ Cert.DUIdeal.sig) → Buf (Elt Ideal) ℓ) : Prop :=
  True

def Pre_DURefIdeal (m : (ℓ : Loc Cert.DURefIdeal.nD Cert.DURefIdeal.τ Cert.DURefIdeal.sig) → Buf (Elt Ideal) ℓ) : Prop :=
  True

def Pre_DWGate (m : (ℓ : Loc Cert.DWGate.nD Cert.DWGate.τ Cert.DWGate.sig) → Buf (Elt Bits) ℓ) : Prop :=
  True

def Pre_DWGateIdeal (m : (ℓ : Loc Cert.DWGateIdeal.nD Cert.DWGateIdeal.τ Cert.DWGateIdeal.sig) → Buf (Elt Ideal) ℓ) : Prop :=
  True

def Pre_DWGateRefIdeal (m : (ℓ : Loc Cert.DWGateRefIdeal.nD Cert.DWGateRefIdeal.τ Cert.DWGateRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_DWSsmO (m : (ℓ : Loc Cert.DWSsmO.nD Cert.DWSsmO.τ Cert.DWSsmO.sig) → Buf (Elt Bits) ℓ) : Prop :=
  True

def Pre_DWSsmOIdeal (m : (ℓ : Loc Cert.DWSsmOIdeal.nD Cert.DWSsmOIdeal.τ Cert.DWSsmOIdeal.sig) → Buf (Elt Ideal) ℓ) : Prop :=
  True

def Pre_DWSsmORefIdeal (m : (ℓ : Loc Cert.DWSsmORefIdeal.nD Cert.DWSsmORefIdeal.τ Cert.DWSsmORefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DFGate (m : (ℓ : Loc Cert.DFGate.nD Cert.DFGate.τ Cert.DFGate.sig) → Buf (Elt Bits) ℓ) : Prop :=
  True

def Pre_DFGateIdeal (m : (ℓ : Loc Cert.DFGateIdeal.nD Cert.DFGateIdeal.τ Cert.DFGateIdeal.sig) → Buf (Elt Ideal) ℓ) : Prop :=
  True

def Pre_DFGateRefIdeal (m : (ℓ : Loc Cert.DFGateRefIdeal.nD Cert.DFGateRefIdeal.τ Cert.DFGateRefIdeal.sig) → Buf (Elt Ideal) ℓ) : Prop :=
  True

def Pre_DFUp (m : (ℓ : Loc Cert.DFUp.nD Cert.DFUp.τ Cert.DFUp.sig) → Buf (Elt Bits) ℓ) : Prop :=
  True

def Pre_DFUpIdeal (m : (ℓ : Loc Cert.DFUpIdeal.nD Cert.DFUpIdeal.τ Cert.DFUpIdeal.sig) → Buf (Elt Ideal) ℓ) : Prop :=
  True

def Pre_DFUpRefIdeal (m : (ℓ : Loc Cert.DFUpRefIdeal.nD Cert.DFUpRefIdeal.τ Cert.DFUpRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DAttn (m : (ℓ : Loc Cert.DAttn.nD Cert.DAttn.τ Cert.DAttn.sig) → Buf (Elt Bits) ℓ) : Prop :=
  True

def Pre_DAttnIdeal (m : (ℓ : Loc Cert.DAttnIdeal.nD Cert.DAttnIdeal.τ Cert.DAttnIdeal.sig) → Buf (Elt Ideal) ℓ) : Prop :=
  True

def Pre_DAttnRefIdeal (m : (ℓ : Loc Cert.DAttnRefIdeal.nD Cert.DAttnRefIdeal.τ Cert.DAttnRefIdeal.sig) → Buf (Elt Ideal) ℓ) : Prop :=
  True

def Pre_DSsm (m : (ℓ : Loc Cert.DSsm.nD Cert.DSsm.τ Cert.DSsm.sig) → Buf (Elt Bits) ℓ) : Prop :=
  True

def Pre_DSsmIdeal (m : (ℓ : Loc Cert.DSsmIdeal.nD Cert.DSsmIdeal.τ Cert.DSsmIdeal.sig) → Buf (Elt Ideal) ℓ) : Prop :=
  True

def Pre_DSsmRefIdeal (m : (ℓ : Loc Cert.DSsmRefIdeal.nD Cert.DSsmRefIdeal.τ Cert.DSsmRefIdeal.sig) → Buf (Elt Ideal) ℓ) : Prop :=
  True

def Pre_DWQ (m : (ℓ : Loc Cert.DWQ.nD Cert.DWQ.τ Cert.DWQ.sig) → Buf (Elt Bits) ℓ) : Prop :=
  True

def Pre_DWQIdeal (m : (ℓ : Loc Cert.DWQIdeal.nD Cert.DWQIdeal.τ Cert.DWQIdeal.sig) → Buf (Elt Ideal) ℓ) : Prop :=
  True

def Pre_DWQRefIdeal (m : (ℓ : Loc Cert.DWQRefIdeal.nD Cert.DWQRefIdeal.τ Cert.DWQRefIdeal.sig) → Buf (Elt Ideal) ℓ) : Prop :=
  True

def Pre_DWV (m : (ℓ : Loc Cert.DWV.nD Cert.DWV.τ Cert.DWV.sig) → Buf (Elt Bits) ℓ) : Prop :=
  True

def Pre_DWVIdeal (m : (ℓ : Loc Cert.DWVIdeal.nD Cert.DWVIdeal.τ Cert.DWVIdeal.sig) → Buf (Elt Ideal) ℓ) : Prop :=
  True

def Pre_DWVRefIdeal (m : (ℓ : Loc Cert.DWVRefIdeal.nD Cert.DWVRefIdeal.τ Cert.DWVRefIdeal.sig) → Buf (Elt Ideal) ℓ) : Prop :=
  True

def Pre_DCqN (m : (ℓ : Loc Cert.DCqN.nD Cert.DCqN.τ Cert.DCqN.sig) → Buf (Elt Bits) ℓ) : Prop :=
  True

def Pre_DCqNIdeal (m : (ℓ : Loc Cert.DCqNIdeal.nD Cert.DCqNIdeal.τ Cert.DCqNIdeal.sig) → Buf (Elt Ideal) ℓ) : Prop :=
  True

def Pre_DCqNRefIdeal (m : (ℓ : Loc Cert.DCqNRefIdeal.nD Cert.DCqNRefIdeal.τ Cert.DCqNRefIdeal.sig) → Buf (Elt Ideal) ℓ) : Prop :=
  True

def Pre_DCkvNV (m : (ℓ : Loc Cert.DCkvNV.nD Cert.DCkvNV.τ Cert.DCkvNV.sig) → Buf (Elt Bits) ℓ) : Prop :=
  True

def Pre_DCkvNVIdeal (m : (ℓ : Loc Cert.DCkvNVIdeal.nD Cert.DCkvNVIdeal.τ Cert.DCkvNVIdeal.sig) → Buf (Elt Ideal) ℓ) : Prop :=
  True

def Pre_DCkvNVRefIdeal (m : (ℓ : Loc Cert.DCkvNVRefIdeal.nD Cert.DCkvNVRefIdeal.τ Cert.DCkvNVRefIdeal.sig) → Buf (Elt Ideal) ℓ) : Prop :=
  True

def Pre_DWPle (m : (ℓ : Loc Cert.DWPle.nD Cert.DWPle.τ Cert.DWPle.sig) → Buf (Elt Bits) ℓ) : Prop :=
  True

def Pre_DWPleIdeal (m : (ℓ : Loc Cert.DWPleIdeal.nD Cert.DWPleIdeal.τ Cert.DWPleIdeal.sig) → Buf (Elt Ideal) ℓ) : Prop :=
  True

def Pre_DWPleRefIdeal (m : (ℓ : Loc Cert.DWPleRefIdeal.nD Cert.DWPleRefIdeal.τ Cert.DWPleRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcRefIdeal (m : (ℓ : Loc Cert.InXbcRefIdeal.nD Cert.InXbcRefIdeal.τ Cert.InXbcRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_SsmO (m : (ℓ : Loc Cert.SsmO.nD Cert.SsmO.τ Cert.SsmO.sig) → Buf (Elt Bits) ℓ) : Prop :=
  True

def Pre_SsmOIdeal (m : (ℓ : Loc Cert.SsmOIdeal.nD Cert.SsmOIdeal.τ Cert.SsmOIdeal.sig) → Buf (Elt Ideal) ℓ) : Prop :=
  True

def Pre_SsmORefIdeal (m : (ℓ : Loc Cert.SsmORefIdeal.nD Cert.SsmORefIdeal.τ Cert.SsmORefIdeal.sig) → Buf (Elt Ideal) ℓ) : Prop :=
  True

def Pre_InCqkv (m : (ℓ : Loc Cert.InCqkv.nD Cert.InCqkv.τ Cert.InCqkv.sig) → Buf (Elt Bits) ℓ) : Prop :=
  True

def Pre_InCqkvIdeal (m : (ℓ : Loc Cert.InCqkvIdeal.nD Cert.InCqkvIdeal.τ Cert.InCqkvIdeal.sig) → Buf (Elt Ideal) ℓ) : Prop :=
  True

def Pre_InCqkvRefIdeal (m : (ℓ : Loc Cert.InCqkvRefIdeal.nD Cert.InCqkvRefIdeal.τ Cert.InCqkvRefIdeal.sig) → Buf (Elt Ideal) ℓ) : Prop :=
  True

def Pre_InSmall (m : (ℓ : Loc Cert.InSmall.nD Cert.InSmall.τ Cert.InSmall.sig) → Buf (Elt Bits) ℓ) : Prop :=
  True

def Pre_InSmallIdeal (m : (ℓ : Loc Cert.InSmallIdeal.nD Cert.InSmallIdeal.τ Cert.InSmallIdeal.sig) → Buf (Elt Ideal) ℓ) : Prop :=
  True

def Pre_InSmallRefIdeal (m : (ℓ : Loc Cert.InSmallRefIdeal.nD Cert.InSmallRefIdeal.τ Cert.InSmallRefIdeal.sig) → Buf (Elt Ideal) ℓ) : Prop :=
  True

def Pre_UpQ (m : (ℓ : Loc Cert.UpQ.nD Cert.UpQ.τ Cert.UpQ.sig) → Buf (Elt Bits) ℓ) : Prop :=
  True

def Pre_UpQIdeal (m : (ℓ : Loc Cert.UpQIdeal.nD Cert.UpQIdeal.τ Cert.UpQIdeal.sig) → Buf (Elt Ideal) ℓ) : Prop :=
  True

def Pre_UpQRefIdeal (m : (ℓ : Loc Cert.UpQRefIdeal.nD Cert.UpQRefIdeal.τ Cert.UpQRefIdeal.sig) → Buf (Elt Ideal) ℓ) : Prop :=
  True

def Pre_UpV (m : (ℓ : Loc Cert.UpV.nD Cert.UpV.τ Cert.UpV.sig) → Buf (Elt Bits) ℓ) : Prop :=
  True

def Pre_UpVIdeal (m : (ℓ : Loc Cert.UpVIdeal.nD Cert.UpVIdeal.τ Cert.UpVIdeal.sig) → Buf (Elt Ideal) ℓ) : Prop :=
  True

def Pre_UpVRefIdeal (m : (ℓ : Loc Cert.UpVRefIdeal.nD Cert.UpVRefIdeal.τ Cert.UpVRefIdeal.sig) → Buf (Elt Ideal) ℓ) : Prop :=
  True

def Pre_UpVT (m : (ℓ : Loc Cert.UpVT.nD Cert.UpVT.τ Cert.UpVT.sig) → Buf (Elt Bits) ℓ) : Prop :=
  True

def Pre_UpVTIdeal (m : (ℓ : Loc Cert.UpVTIdeal.nD Cert.UpVTIdeal.τ Cert.UpVTIdeal.sig) → Buf (Elt Ideal) ℓ) : Prop :=
  True

def Pre_UpVTRefIdeal (m : (ℓ : Loc Cert.UpVTRefIdeal.nD Cert.UpVTRefIdeal.τ Cert.UpVTRefIdeal.sig) → Buf (Elt Ideal) ℓ) : Prop :=
  True

def Pre_SwiGlu (m : (ℓ : Loc Cert.SwiGlu.nD Cert.SwiGlu.τ Cert.SwiGlu.sig) → Buf (Elt Bits) ℓ) : Prop :=
  True

def Pre_SwiGluIdeal (m : (ℓ : Loc Cert.SwiGluIdeal.nD Cert.SwiGluIdeal.τ Cert.SwiGluIdeal.sig) → Buf (Elt Ideal) ℓ) : Prop :=
  True

def Pre_SwiGluRefIdeal (m : (ℓ : Loc Cert.SwiGluRefIdeal.nD Cert.SwiGluRefIdeal.τ Cert.SwiGluRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_finite_fwd [hFlashFwdIdeal : Cert.FlashFwdIdeal.Facts] [hPre_finite_fwd : Cert.Pre_finite_fwd.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_fwd m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashFwdRefIdeal_pre_finite_fwd [hFlashFwdRefIdeal : Cert.FlashFwdRefIdeal.Facts] [hPre_finite_fwd : Cert.Pre_finite_fwd.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_finite_fwd m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1))
      ∧ r.2.sem = fun _ => 0)

def quiescent_DU [hDU : Cert.DU.Facts] : Prop :=
  ∀ (m : (ℓ : Loc Cert.DU.nD Cert.DU.τ Cert.DU.sig) → Buf (Elt Bits) ℓ) (g : Dev Cert.DU.nD → PrngReg), Pre_DU m →
    θ_run (Cert.DU.defs (F := Bits)) (onTc (τ := Cert.DU.τ) (Cert.DU.main (F := Bits))) ⟨m, fun _ => 0, g⟩ (fun r => (∀ c : Dev Cert.DU.nD,
      r.2.mem ((c.tc : Thread Cert.DU.nD Cert.DU.τ).loc Cert.DU.main_arg0) = m ((c.tc : Thread Cert.DU.nD Cert.DU.τ).loc Cert.DU.main_arg0)
      ∧ r.2.mem ((c.tc : Thread Cert.DU.nD Cert.DU.τ).loc Cert.DU.main_arg1) = m ((c.tc : Thread Cert.DU.nD Cert.DU.τ).loc Cert.DU.main_arg1))
      ∧ r.2.sem = fun _ => 0)

def quiescent_DUIdeal [hDUIdeal : Cert.DUIdeal.Facts] : Prop :=
  ∀ (m : (ℓ : Loc Cert.DUIdeal.nD Cert.DUIdeal.τ Cert.DUIdeal.sig) → Buf (Elt Ideal) ℓ) (g : Dev Cert.DUIdeal.nD → PrngReg), Pre_DUIdeal m →
    θ_run (Cert.DUIdeal.defs (F := Ideal)) (onTc (τ := Cert.DUIdeal.τ) (Cert.DUIdeal.main (F := Ideal))) ⟨m, fun _ => 0, g⟩ (fun r => (∀ c : Dev Cert.DUIdeal.nD,
      r.2.mem ((c.tc : Thread Cert.DUIdeal.nD Cert.DUIdeal.τ).loc Cert.DUIdeal.main_arg0) = m ((c.tc : Thread Cert.DUIdeal.nD Cert.DUIdeal.τ).loc Cert.DUIdeal.main_arg0)
      ∧ r.2.mem ((c.tc : Thread Cert.DUIdeal.nD Cert.DUIdeal.τ).loc Cert.DUIdeal.main_arg1) = m ((c.tc : Thread Cert.DUIdeal.nD Cert.DUIdeal.τ).loc Cert.DUIdeal.main_arg1))
      ∧ r.2.sem = fun _ => 0)

def quiescent_DURefIdeal [hDURefIdeal : Cert.DURefIdeal.Facts] : Prop :=
  ∀ (m : (ℓ : Loc Cert.DURefIdeal.nD Cert.DURefIdeal.τ Cert.DURefIdeal.sig) → Buf (Elt Ideal) ℓ) (g : Dev Cert.DURefIdeal.nD → PrngReg), Pre_DURefIdeal m →
    θ_run (Cert.DURefIdeal.defs (F := Ideal)) (onTc (τ := Cert.DURefIdeal.τ) (Cert.DURefIdeal.main (F := Ideal))) ⟨m, fun _ => 0, g⟩ (fun r => (∀ c : Dev Cert.DURefIdeal.nD,
      r.2.mem ((c.tc : Thread Cert.DURefIdeal.nD Cert.DURefIdeal.τ).loc Cert.DURefIdeal.main_arg0) = m ((c.tc : Thread Cert.DURefIdeal.nD Cert.DURefIdeal.τ).loc Cert.DURefIdeal.main_arg0)
      ∧ r.2.mem ((c.tc : Thread Cert.DURefIdeal.nD Cert.DURefIdeal.τ).loc Cert.DURefIdeal.main_arg1) = m ((c.tc : Thread Cert.DURefIdeal.nD Cert.DURefIdeal.τ).loc Cert.DURefIdeal.main_arg1))
      ∧ r.2.sem = fun _ => 0)

def quiescent_DWGate [hDWGate : Cert.DWGate.Facts] : Prop :=
  ∀ (m : (ℓ : Loc Cert.DWGate.nD Cert.DWGate.τ Cert.DWGate.sig) → Buf (Elt Bits) ℓ) (g : Dev Cert.DWGate.nD → PrngReg), Pre_DWGate m →
    θ_run (Cert.DWGate.defs (F := Bits)) (onTc (τ := Cert.DWGate.τ) (Cert.DWGate.main (F := Bits))) ⟨m, fun _ => 0, g⟩ (fun r => (∀ c : Dev Cert.DWGate.nD,
      r.2.mem ((c.tc : Thread Cert.DWGate.nD Cert.DWGate.τ).loc Cert.DWGate.main_arg0) = m ((c.tc : Thread Cert.DWGate.nD Cert.DWGate.τ).loc Cert.DWGate.main_arg0)
      ∧ r.2.mem ((c.tc : Thread Cert.DWGate.nD Cert.DWGate.τ).loc Cert.DWGate.main_arg1) = m ((c.tc : Thread Cert.DWGate.nD Cert.DWGate.τ).loc Cert.DWGate.main_arg1))
      ∧ r.2.sem = fun _ => 0)

def quiescent_DWGateIdeal [hDWGateIdeal : Cert.DWGateIdeal.Facts] : Prop :=
  ∀ (m : (ℓ : Loc Cert.DWGateIdeal.nD Cert.DWGateIdeal.τ Cert.DWGateIdeal.sig) → Buf (Elt Ideal) ℓ) (g : Dev Cert.DWGateIdeal.nD → PrngReg), Pre_DWGateIdeal m →
    θ_run (Cert.DWGateIdeal.defs (F := Ideal)) (onTc (τ := Cert.DWGateIdeal.τ) (Cert.DWGateIdeal.main (F := Ideal))) ⟨m, fun _ => 0, g⟩ (fun r => (∀ c : Dev Cert.DWGateIdeal.nD,
      r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
      ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1))
      ∧ r.2.sem = fun _ => 0)

def quiescent_DWGateRefIdeal [hDWGateRefIdeal : Cert.DWGateRefIdeal.Facts] : Prop :=
  ∀ (m : (ℓ : Loc Cert.DWGateRefIdeal.nD Cert.DWGateRefIdeal.τ Cert.DWGateRefIdeal.sig) → Buf (Elt Ideal) ℓ) (g : Dev Cert.DWGateRefIdeal.nD → PrngReg), Pre_DWGateRefIdeal m →
    θ_run (Cert.DWGateRefIdeal.defs (F := Ideal)) (onTc (τ := Cert.DWGateRefIdeal.τ) (Cert.DWGateRefIdeal.main (F := Ideal))) ⟨m, fun _ => 0, g⟩ (fun r => (∀ c : Dev Cert.DWGateRefIdeal.nD,
      r.2.mem ((c.tc : Thread Cert.DWGateRefIdeal.nD Cert.DWGateRefIdeal.τ).loc Cert.DWGateRefIdeal.main_arg0) = m ((c.tc : Thread Cert.DWGateRefIdeal.nD Cert.DWGateRefIdeal.τ).loc Cert.DWGateRefIdeal.main_arg0)
      ∧ r.2.mem ((c.tc : Thread Cert.DWGateRefIdeal.nD Cert.DWGateRefIdeal.τ).loc Cert.DWGateRefIdeal.main_arg1) = m ((c.tc : Thread Cert.DWGateRefIdeal.nD Cert.DWGateRefIdeal.τ).loc Cert.DWGateRefIdeal.main_arg1))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_DWSsmO [hDWSsmO : Cert.DWSsmO.Facts] : Prop :=
  ∀ (m : (ℓ : Loc Cert.DWSsmO.nD Cert.DWSsmO.τ Cert.DWSsmO.sig) → Buf (Elt Bits) ℓ) (g : Dev Cert.DWSsmO.nD → PrngReg), Pre_DWSsmO m →
    θ_run (Cert.DWSsmO.defs (F := Bits)) (onTc (τ := Cert.DWSsmO.τ) (Cert.DWSsmO.main (F := Bits))) ⟨m, fun _ => 0, g⟩ (fun r => (∀ c : Dev Cert.DWSsmO.nD,
      r.2.mem ((c.tc : Thread Cert.DWSsmO.nD Cert.DWSsmO.τ).loc Cert.DWSsmO.main_arg0) = m ((c.tc : Thread Cert.DWSsmO.nD Cert.DWSsmO.τ).loc Cert.DWSsmO.main_arg0)
      ∧ r.2.mem ((c.tc : Thread Cert.DWSsmO.nD Cert.DWSsmO.τ).loc Cert.DWSsmO.main_arg1) = m ((c.tc : Thread Cert.DWSsmO.nD Cert.DWSsmO.τ).loc Cert.DWSsmO.main_arg1))
      ∧ r.2.sem = fun _ => 0)

def quiescent_DWSsmOIdeal [hDWSsmOIdeal : Cert.DWSsmOIdeal.Facts] : Prop :=
  ∀ (m : (ℓ : Loc Cert.DWSsmOIdeal.nD Cert.DWSsmOIdeal.τ Cert.DWSsmOIdeal.sig) → Buf (Elt Ideal) ℓ) (g : Dev Cert.DWSsmOIdeal.nD → PrngReg), Pre_DWSsmOIdeal m →
    θ_run (Cert.DWSsmOIdeal.defs (F := Ideal)) (onTc (τ := Cert.DWSsmOIdeal.τ) (Cert.DWSsmOIdeal.main (F := Ideal))) ⟨m, fun _ => 0, g⟩ (fun r => (∀ c : Dev Cert.DWSsmOIdeal.nD,
      r.2.mem ((c.tc : Thread Cert.DWSsmOIdeal.nD Cert.DWSsmOIdeal.τ).loc Cert.DWSsmOIdeal.main_arg0) = m ((c.tc : Thread Cert.DWSsmOIdeal.nD Cert.DWSsmOIdeal.τ).loc Cert.DWSsmOIdeal.main_arg0)
      ∧ r.2.mem ((c.tc : Thread Cert.DWSsmOIdeal.nD Cert.DWSsmOIdeal.τ).loc Cert.DWSsmOIdeal.main_arg1) = m ((c.tc : Thread Cert.DWSsmOIdeal.nD Cert.DWSsmOIdeal.τ).loc Cert.DWSsmOIdeal.main_arg1))
      ∧ r.2.sem = fun _ => 0)

def quiescent_DWSsmORefIdeal [hDWSsmORefIdeal : Cert.DWSsmORefIdeal.Facts] : Prop :=
  ∀ (m : (ℓ : Loc Cert.DWSsmORefIdeal.nD Cert.DWSsmORefIdeal.τ Cert.DWSsmORefIdeal.sig) → Buf (Elt Ideal) ℓ) (g : Dev Cert.DWSsmORefIdeal.nD → PrngReg), Pre_DWSsmORefIdeal m →
    θ_run (Cert.DWSsmORefIdeal.defs (F := Ideal)) (onTc (τ := Cert.DWSsmORefIdeal.τ) (Cert.DWSsmORefIdeal.main (F := Ideal))) ⟨m, fun _ => 0, g⟩ (fun r => (∀ c : Dev Cert.DWSsmORefIdeal.nD,
      r.2.mem ((c.tc : Thread Cert.DWSsmORefIdeal.nD Cert.DWSsmORefIdeal.τ).loc Cert.DWSsmORefIdeal.main_arg0) = m ((c.tc : Thread Cert.DWSsmORefIdeal.nD Cert.DWSsmORefIdeal.τ).loc Cert.DWSsmORefIdeal.main_arg0)
      ∧ r.2.mem ((c.tc : Thread Cert.DWSsmORefIdeal.nD Cert.DWSsmORefIdeal.τ).loc Cert.DWSsmORefIdeal.main_arg1) = m ((c.tc : Thread Cert.DWSsmORefIdeal.nD Cert.DWSsmORefIdeal.τ).loc Cert.DWSsmORefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DFGate [hDFGate : Cert.DFGate.Facts] : Prop :=
  ∀ (m : (ℓ : Loc Cert.DFGate.nD Cert.DFGate.τ Cert.DFGate.sig) → Buf (Elt Bits) ℓ) (g : Dev Cert.DFGate.nD → PrngReg), Pre_DFGate m →
    θ_run (Cert.DFGate.defs (F := Bits)) (onTc (τ := Cert.DFGate.τ) (Cert.DFGate.main (F := Bits))) ⟨m, fun _ => 0, g⟩ (fun r => (∀ c : Dev Cert.DFGate.nD,
      r.2.mem ((c.tc : Thread Cert.DFGate.nD Cert.DFGate.τ).loc Cert.DFGate.main_arg0) = m ((c.tc : Thread Cert.DFGate.nD Cert.DFGate.τ).loc Cert.DFGate.main_arg0)
      ∧ r.2.mem ((c.tc : Thread Cert.DFGate.nD Cert.DFGate.τ).loc Cert.DFGate.main_arg1) = m ((c.tc : Thread Cert.DFGate.nD Cert.DFGate.τ).loc Cert.DFGate.main_arg1))
      ∧ r.2.sem = fun _ => 0)

def quiescent_DFGateIdeal [hDFGateIdeal : Cert.DFGateIdeal.Facts] : Prop :=
  ∀ (m : (ℓ : Loc Cert.DFGateIdeal.nD Cert.DFGateIdeal.τ Cert.DFGateIdeal.sig) → Buf (Elt Ideal) ℓ) (g : Dev Cert.DFGateIdeal.nD → PrngReg), Pre_DFGateIdeal m →
    θ_run (Cert.DFGateIdeal.defs (F := Ideal)) (onTc (τ := Cert.DFGateIdeal.τ) (Cert.DFGateIdeal.main (F := Ideal))) ⟨m, fun _ => 0, g⟩ (fun r => (∀ c : Dev Cert.DFGateIdeal.nD,
      r.2.mem ((c.tc : Thread Cert.DFGateIdeal.nD Cert.DFGateIdeal.τ).loc Cert.DFGateIdeal.main_arg0) = m ((c.tc : Thread Cert.DFGateIdeal.nD Cert.DFGateIdeal.τ).loc Cert.DFGateIdeal.main_arg0)
      ∧ r.2.mem ((c.tc : Thread Cert.DFGateIdeal.nD Cert.DFGateIdeal.τ).loc Cert.DFGateIdeal.main_arg1) = m ((c.tc : Thread Cert.DFGateIdeal.nD Cert.DFGateIdeal.τ).loc Cert.DFGateIdeal.main_arg1))
      ∧ r.2.sem = fun _ => 0)

def quiescent_DFGateRefIdeal [hDFGateRefIdeal : Cert.DFGateRefIdeal.Facts] : Prop :=
  ∀ (m : (ℓ : Loc Cert.DFGateRefIdeal.nD Cert.DFGateRefIdeal.τ Cert.DFGateRefIdeal.sig) → Buf (Elt Ideal) ℓ) (g : Dev Cert.DFGateRefIdeal.nD → PrngReg), Pre_DFGateRefIdeal m →
    θ_run (Cert.DFGateRefIdeal.defs (F := Ideal)) (onTc (τ := Cert.DFGateRefIdeal.τ) (Cert.DFGateRefIdeal.main (F := Ideal))) ⟨m, fun _ => 0, g⟩ (fun r => (∀ c : Dev Cert.DFGateRefIdeal.nD,
      r.2.mem ((c.tc : Thread Cert.DFGateRefIdeal.nD Cert.DFGateRefIdeal.τ).loc Cert.DFGateRefIdeal.main_arg0) = m ((c.tc : Thread Cert.DFGateRefIdeal.nD Cert.DFGateRefIdeal.τ).loc Cert.DFGateRefIdeal.main_arg0)
      ∧ r.2.mem ((c.tc : Thread Cert.DFGateRefIdeal.nD Cert.DFGateRefIdeal.τ).loc Cert.DFGateRefIdeal.main_arg1) = m ((c.tc : Thread Cert.DFGateRefIdeal.nD Cert.DFGateRefIdeal.τ).loc Cert.DFGateRefIdeal.main_arg1))
      ∧ r.2.sem = fun _ => 0)

def quiescent_DFUp [hDFUp : Cert.DFUp.Facts] : Prop :=
  ∀ (m : (ℓ : Loc Cert.DFUp.nD Cert.DFUp.τ Cert.DFUp.sig) → Buf (Elt Bits) ℓ) (g : Dev Cert.DFUp.nD → PrngReg), Pre_DFUp m →
    θ_run (Cert.DFUp.defs (F := Bits)) (onTc (τ := Cert.DFUp.τ) (Cert.DFUp.main (F := Bits))) ⟨m, fun _ => 0, g⟩ (fun r => (∀ c : Dev Cert.DFUp.nD,
      r.2.mem ((c.tc : Thread Cert.DFUp.nD Cert.DFUp.τ).loc Cert.DFUp.main_arg0) = m ((c.tc : Thread Cert.DFUp.nD Cert.DFUp.τ).loc Cert.DFUp.main_arg0)
      ∧ r.2.mem ((c.tc : Thread Cert.DFUp.nD Cert.DFUp.τ).loc Cert.DFUp.main_arg1) = m ((c.tc : Thread Cert.DFUp.nD Cert.DFUp.τ).loc Cert.DFUp.main_arg1)
      ∧ r.2.mem ((c.tc : Thread Cert.DFUp.nD Cert.DFUp.τ).loc Cert.DFUp.main_arg2) = m ((c.tc : Thread Cert.DFUp.nD Cert.DFUp.τ).loc Cert.DFUp.main_arg2))
      ∧ r.2.sem = fun _ => 0)

def quiescent_DFUpIdeal [hDFUpIdeal : Cert.DFUpIdeal.Facts] : Prop :=
  ∀ (m : (ℓ : Loc Cert.DFUpIdeal.nD Cert.DFUpIdeal.τ Cert.DFUpIdeal.sig) → Buf (Elt Ideal) ℓ) (g : Dev Cert.DFUpIdeal.nD → PrngReg), Pre_DFUpIdeal m →
    θ_run (Cert.DFUpIdeal.defs (F := Ideal)) (onTc (τ := Cert.DFUpIdeal.τ) (Cert.DFUpIdeal.main (F := Ideal))) ⟨m, fun _ => 0, g⟩ (fun r => (∀ c : Dev Cert.DFUpIdeal.nD,
      r.2.mem ((c.tc : Thread Cert.DFUpIdeal.nD Cert.DFUpIdeal.τ).loc Cert.DFUpIdeal.main_arg0) = m ((c.tc : Thread Cert.DFUpIdeal.nD Cert.DFUpIdeal.τ).loc Cert.DFUpIdeal.main_arg0)
      ∧ r.2.mem ((c.tc : Thread Cert.DFUpIdeal.nD Cert.DFUpIdeal.τ).loc Cert.DFUpIdeal.main_arg1) = m ((c.tc : Thread Cert.DFUpIdeal.nD Cert.DFUpIdeal.τ).loc Cert.DFUpIdeal.main_arg1)
      ∧ r.2.mem ((c.tc : Thread Cert.DFUpIdeal.nD Cert.DFUpIdeal.τ).loc Cert.DFUpIdeal.main_arg2) = m ((c.tc : Thread Cert.DFUpIdeal.nD Cert.DFUpIdeal.τ).loc Cert.DFUpIdeal.main_arg2))
      ∧ r.2.sem = fun _ => 0)

def quiescent_DFUpRefIdeal [hDFUpRefIdeal : Cert.DFUpRefIdeal.Facts] : Prop :=
  ∀ (m : (ℓ : Loc Cert.DFUpRefIdeal.nD Cert.DFUpRefIdeal.τ Cert.DFUpRefIdeal.sig) → Buf (Elt Ideal) ℓ) (g : Dev Cert.DFUpRefIdeal.nD → PrngReg), Pre_DFUpRefIdeal m →
    θ_run (Cert.DFUpRefIdeal.defs (F := Ideal)) (onTc (τ := Cert.DFUpRefIdeal.τ) (Cert.DFUpRefIdeal.main (F := Ideal))) ⟨m, fun _ => 0, g⟩ (fun r => (∀ c : Dev Cert.DFUpRefIdeal.nD,
      r.2.mem ((c.tc : Thread Cert.DFUpRefIdeal.nD Cert.DFUpRefIdeal.τ).loc Cert.DFUpRefIdeal.main_arg0) = m ((c.tc : Thread Cert.DFUpRefIdeal.nD Cert.DFUpRefIdeal.τ).loc Cert.DFUpRefIdeal.main_arg0)
      ∧ r.2.mem ((c.tc : Thread Cert.DFUpRefIdeal.nD Cert.DFUpRefIdeal.τ).loc Cert.DFUpRefIdeal.main_arg1) = m ((c.tc : Thread Cert.DFUpRefIdeal.nD Cert.DFUpRefIdeal.τ).loc Cert.DFUpRefIdeal.main_arg1)
      ∧ r.2.mem ((c.tc : Thread Cert.DFUpRefIdeal.nD Cert.DFUpRefIdeal.τ).loc Cert.DFUpRefIdeal.main_arg2) = m ((c.tc : Thread Cert.DFUpRefIdeal.nD Cert.DFUpRefIdeal.τ).loc Cert.DFUpRefIdeal.main_arg2))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_DAttn [hDAttn : Cert.DAttn.Facts] : Prop :=
  ∀ (m : (ℓ : Loc Cert.DAttn.nD Cert.DAttn.τ Cert.DAttn.sig) → Buf (Elt Bits) ℓ) (g : Dev Cert.DAttn.nD → PrngReg), Pre_DAttn m →
    θ_run (Cert.DAttn.defs (F := Bits)) (onTc (τ := Cert.DAttn.τ) (Cert.DAttn.main (F := Bits))) ⟨m, fun _ => 0, g⟩ (fun r => (∀ c : Dev Cert.DAttn.nD,
      r.2.mem ((c.tc : Thread Cert.DAttn.nD Cert.DAttn.τ).loc Cert.DAttn.main_arg0) = m ((c.tc : Thread Cert.DAttn.nD Cert.DAttn.τ).loc Cert.DAttn.main_arg0)
      ∧ r.2.mem ((c.tc : Thread Cert.DAttn.nD Cert.DAttn.τ).loc Cert.DAttn.main_arg1) = m ((c.tc : Thread Cert.DAttn.nD Cert.DAttn.τ).loc Cert.DAttn.main_arg1))
      ∧ r.2.sem = fun _ => 0)

def quiescent_DAttnIdeal [hDAttnIdeal : Cert.DAttnIdeal.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ r.2.sem = fun _ => 0)

def quiescent_DAttnRefIdeal [hDAttnRefIdeal : Cert.DAttnRefIdeal.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1))
      ∧ r.2.sem = fun _ => 0)

def quiescent_DSsm [hDSsm : Cert.DSsm.Facts] : Prop :=
  ∀ (m : (ℓ : Loc Cert.DSsm.nD Cert.DSsm.τ Cert.DSsm.sig) → Buf (Elt Bits) ℓ) (g : Dev Cert.DSsm.nD → PrngReg), Pre_DSsm m →
    θ_run (Cert.DSsm.defs (F := Bits)) (onTc (τ := Cert.DSsm.τ) (Cert.DSsm.main (F := Bits))) ⟨m, fun _ => 0, g⟩ (fun r => (∀ c : Dev Cert.DSsm.nD,
      r.2.mem ((c.tc : Thread Cert.DSsm.nD Cert.DSsm.τ).loc Cert.DSsm.main_arg0) = m ((c.tc : Thread Cert.DSsm.nD Cert.DSsm.τ).loc Cert.DSsm.main_arg0)
      ∧ r.2.mem ((c.tc : Thread Cert.DSsm.nD Cert.DSsm.τ).loc Cert.DSsm.main_arg1) = m ((c.tc : Thread Cert.DSsm.nD Cert.DSsm.τ).loc Cert.DSsm.main_arg1))
      ∧ r.2.sem = fun _ => 0)

def quiescent_DSsmIdeal [hDSsmIdeal : Cert.DSsmIdeal.Facts] : Prop :=
  ∀ (m : (ℓ : Loc Cert.DSsmIdeal.nD Cert.DSsmIdeal.τ Cert.DSsmIdeal.sig) → Buf (Elt Ideal) ℓ) (g : Dev Cert.DSsmIdeal.nD → PrngReg), Pre_DSsmIdeal m →
    θ_run (Cert.DSsmIdeal.defs (F := Ideal)) (onTc (τ := Cert.DSsmIdeal.τ) (Cert.DSsmIdeal.main (F := Ideal))) ⟨m, fun _ => 0, g⟩ (fun r => (∀ c : Dev Cert.DSsmIdeal.nD,
      r.2.mem ((c.tc : Thread Cert.DSsmIdeal.nD Cert.DSsmIdeal.τ).loc Cert.DSsmIdeal.main_arg0) = m ((c.tc : Thread Cert.DSsmIdeal.nD Cert.DSsmIdeal.τ).loc Cert.DSsmIdeal.main_arg0)
      ∧ r.2.mem ((c.tc : Thread Cert.DSsmIdeal.nD Cert.DSsmIdeal.τ).loc Cert.DSsmIdeal.main_arg1) = m ((c.tc : Thread Cert.DSsmIdeal.nD Cert.DSsmIdeal.τ).loc Cert.DSsmIdeal.main_arg1))
      ∧ r.2.sem = fun _ => 0)

def quiescent_DSsmRefIdeal [hDSsmRefIdeal : Cert.DSsmRefIdeal.Facts] : Prop :=
  ∀ (m : (ℓ : Loc Cert.DSsmRefIdeal.nD Cert.DSsmRefIdeal.τ Cert.DSsmRefIdeal.sig) → Buf (Elt Ideal) ℓ) (g : Dev Cert.DSsmRefIdeal.nD → PrngReg), Pre_DSsmRefIdeal m →
    θ_run (Cert.DSsmRefIdeal.defs (F := Ideal)) (onTc (τ := Cert.DSsmRefIdeal.τ) (Cert.DSsmRefIdeal.main (F := Ideal))) ⟨m, fun _ => 0, g⟩ (fun r => (∀ c : Dev Cert.DSsmRefIdeal.nD,
      r.2.mem ((c.tc : Thread Cert.DSsmRefIdeal.nD Cert.DSsmRefIdeal.τ).loc Cert.DSsmRefIdeal.main_arg0) = m ((c.tc : Thread Cert.DSsmRefIdeal.nD Cert.DSsmRefIdeal.τ).loc Cert.DSsmRefIdeal.main_arg0)
      ∧ r.2.mem ((c.tc : Thread Cert.DSsmRefIdeal.nD Cert.DSsmRefIdeal.τ).loc Cert.DSsmRefIdeal.main_arg1) = m ((c.tc : Thread Cert.DSsmRefIdeal.nD Cert.DSsmRefIdeal.τ).loc Cert.DSsmRefIdeal.main_arg1))
      ∧ r.2.sem = fun _ => 0)

def quiescent_DWQ [hDWQ : Cert.DWQ.Facts] : Prop :=
  ∀ (m : (ℓ : Loc Cert.DWQ.nD Cert.DWQ.τ Cert.DWQ.sig) → Buf (Elt Bits) ℓ) (g : Dev Cert.DWQ.nD → PrngReg), Pre_DWQ m →
    θ_run (Cert.DWQ.defs (F := Bits)) (onTc (τ := Cert.DWQ.τ) (Cert.DWQ.main (F := Bits))) ⟨m, fun _ => 0, g⟩ (fun r => (∀ c : Dev Cert.DWQ.nD,
      r.2.mem ((c.tc : Thread Cert.DWQ.nD Cert.DWQ.τ).loc Cert.DWQ.main_arg0) = m ((c.tc : Thread Cert.DWQ.nD Cert.DWQ.τ).loc Cert.DWQ.main_arg0)
      ∧ r.2.mem ((c.tc : Thread Cert.DWQ.nD Cert.DWQ.τ).loc Cert.DWQ.main_arg1) = m ((c.tc : Thread Cert.DWQ.nD Cert.DWQ.τ).loc Cert.DWQ.main_arg1))
      ∧ r.2.sem = fun _ => 0)

def quiescent_DWQIdeal [hDWQIdeal : Cert.DWQIdeal.Facts] : Prop :=
  ∀ (m : (ℓ : Loc Cert.DWQIdeal.nD Cert.DWQIdeal.τ Cert.DWQIdeal.sig) → Buf (Elt Ideal) ℓ) (g : Dev Cert.DWQIdeal.nD → PrngReg), Pre_DWQIdeal m →
    θ_run (Cert.DWQIdeal.defs (F := Ideal)) (onTc (τ := Cert.DWQIdeal.τ) (Cert.DWQIdeal.main (F := Ideal))) ⟨m, fun _ => 0, g⟩ (fun r => (∀ c : Dev Cert.DWQIdeal.nD,
      r.2.mem ((c.tc : Thread Cert.DWQIdeal.nD Cert.DWQIdeal.τ).loc Cert.DWQIdeal.main_arg0) = m ((c.tc : Thread Cert.DWQIdeal.nD Cert.DWQIdeal.τ).loc Cert.DWQIdeal.main_arg0)
      ∧ r.2.mem ((c.tc : Thread Cert.DWQIdeal.nD Cert.DWQIdeal.τ).loc Cert.DWQIdeal.main_arg1) = m ((c.tc : Thread Cert.DWQIdeal.nD Cert.DWQIdeal.τ).loc Cert.DWQIdeal.main_arg1))
      ∧ r.2.sem = fun _ => 0)

def quiescent_DWQRefIdeal [hDWQRefIdeal : Cert.DWQRefIdeal.Facts] : Prop :=
  ∀ (m : (ℓ : Loc Cert.DWQRefIdeal.nD Cert.DWQRefIdeal.τ Cert.DWQRefIdeal.sig) → Buf (Elt Ideal) ℓ) (g : Dev Cert.DWQRefIdeal.nD → PrngReg), Pre_DWQRefIdeal m →
    θ_run (Cert.DWQRefIdeal.defs (F := Ideal)) (onTc (τ := Cert.DWQRefIdeal.τ) (Cert.DWQRefIdeal.main (F := Ideal))) ⟨m, fun _ => 0, g⟩ (fun r => (∀ c : Dev Cert.DWQRefIdeal.nD,
      r.2.mem ((c.tc : Thread Cert.DWQRefIdeal.nD Cert.DWQRefIdeal.τ).loc Cert.DWQRefIdeal.main_arg0) = m ((c.tc : Thread Cert.DWQRefIdeal.nD Cert.DWQRefIdeal.τ).loc Cert.DWQRefIdeal.main_arg0)
      ∧ r.2.mem ((c.tc : Thread Cert.DWQRefIdeal.nD Cert.DWQRefIdeal.τ).loc Cert.DWQRefIdeal.main_arg1) = m ((c.tc : Thread Cert.DWQRefIdeal.nD Cert.DWQRefIdeal.τ).loc Cert.DWQRefIdeal.main_arg1))
      ∧ r.2.sem = fun _ => 0)

def quiescent_DWV [hDWV : Cert.DWV.Facts] : Prop :=
  ∀ (m : (ℓ : Loc Cert.DWV.nD Cert.DWV.τ Cert.DWV.sig) → Buf (Elt Bits) ℓ) (g : Dev Cert.DWV.nD → PrngReg), Pre_DWV m →
    θ_run (Cert.DWV.defs (F := Bits)) (onTc (τ := Cert.DWV.τ) (Cert.DWV.main (F := Bits))) ⟨m, fun _ => 0, g⟩ (fun r => (∀ c : Dev Cert.DWV.nD,
      r.2.mem ((c.tc : Thread Cert.DWV.nD Cert.DWV.τ).loc Cert.DWV.main_arg0) = m ((c.tc : Thread Cert.DWV.nD Cert.DWV.τ).loc Cert.DWV.main_arg0)
      ∧ r.2.mem ((c.tc : Thread Cert.DWV.nD Cert.DWV.τ).loc Cert.DWV.main_arg1) = m ((c.tc : Thread Cert.DWV.nD Cert.DWV.τ).loc Cert.DWV.main_arg1))
      ∧ r.2.sem = fun _ => 0)

def quiescent_DWVIdeal [hDWVIdeal : Cert.DWVIdeal.Facts] : Prop :=
  ∀ (m : (ℓ : Loc Cert.DWVIdeal.nD Cert.DWVIdeal.τ Cert.DWVIdeal.sig) → Buf (Elt Ideal) ℓ) (g : Dev Cert.DWVIdeal.nD → PrngReg), Pre_DWVIdeal m →
    θ_run (Cert.DWVIdeal.defs (F := Ideal)) (onTc (τ := Cert.DWVIdeal.τ) (Cert.DWVIdeal.main (F := Ideal))) ⟨m, fun _ => 0, g⟩ (fun r => (∀ c : Dev Cert.DWVIdeal.nD,
      r.2.mem ((c.tc : Thread Cert.DWVIdeal.nD Cert.DWVIdeal.τ).loc Cert.DWVIdeal.main_arg0) = m ((c.tc : Thread Cert.DWVIdeal.nD Cert.DWVIdeal.τ).loc Cert.DWVIdeal.main_arg0)
      ∧ r.2.mem ((c.tc : Thread Cert.DWVIdeal.nD Cert.DWVIdeal.τ).loc Cert.DWVIdeal.main_arg1) = m ((c.tc : Thread Cert.DWVIdeal.nD Cert.DWVIdeal.τ).loc Cert.DWVIdeal.main_arg1))
      ∧ r.2.sem = fun _ => 0)

def quiescent_DWVRefIdeal [hDWVRefIdeal : Cert.DWVRefIdeal.Facts] : Prop :=
  ∀ (m : (ℓ : Loc Cert.DWVRefIdeal.nD Cert.DWVRefIdeal.τ Cert.DWVRefIdeal.sig) → Buf (Elt Ideal) ℓ) (g : Dev Cert.DWVRefIdeal.nD → PrngReg), Pre_DWVRefIdeal m →
    θ_run (Cert.DWVRefIdeal.defs (F := Ideal)) (onTc (τ := Cert.DWVRefIdeal.τ) (Cert.DWVRefIdeal.main (F := Ideal))) ⟨m, fun _ => 0, g⟩ (fun r => (∀ c : Dev Cert.DWVRefIdeal.nD,
      r.2.mem ((c.tc : Thread Cert.DWVRefIdeal.nD Cert.DWVRefIdeal.τ).loc Cert.DWVRefIdeal.main_arg0) = m ((c.tc : Thread Cert.DWVRefIdeal.nD Cert.DWVRefIdeal.τ).loc Cert.DWVRefIdeal.main_arg0)
      ∧ r.2.mem ((c.tc : Thread Cert.DWVRefIdeal.nD Cert.DWVRefIdeal.τ).loc Cert.DWVRefIdeal.main_arg1) = m ((c.tc : Thread Cert.DWVRefIdeal.nD Cert.DWVRefIdeal.τ).loc Cert.DWVRefIdeal.main_arg1))
      ∧ r.2.sem = fun _ => 0)

def quiescent_DCqN [hDCqN : Cert.DCqN.Facts] : Prop :=
  ∀ (m : (ℓ : Loc Cert.DCqN.nD Cert.DCqN.τ Cert.DCqN.sig) → Buf (Elt Bits) ℓ) (g : Dev Cert.DCqN.nD → PrngReg), Pre_DCqN m →
    θ_run (Cert.DCqN.defs (F := Bits)) (onTc (τ := Cert.DCqN.τ) (Cert.DCqN.main (F := Bits))) ⟨m, fun _ => 0, g⟩ (fun r => (∀ c : Dev Cert.DCqN.nD,
      r.2.mem ((c.tc : Thread Cert.DCqN.nD Cert.DCqN.τ).loc Cert.DCqN.main_arg0) = m ((c.tc : Thread Cert.DCqN.nD Cert.DCqN.τ).loc Cert.DCqN.main_arg0)
      ∧ r.2.mem ((c.tc : Thread Cert.DCqN.nD Cert.DCqN.τ).loc Cert.DCqN.main_arg1) = m ((c.tc : Thread Cert.DCqN.nD Cert.DCqN.τ).loc Cert.DCqN.main_arg1))
      ∧ r.2.sem = fun _ => 0)

def quiescent_DCqNIdeal [hDCqNIdeal : Cert.DCqNIdeal.Facts] : Prop :=
  ∀ (m : (ℓ : Loc Cert.DCqNIdeal.nD Cert.DCqNIdeal.τ Cert.DCqNIdeal.sig) → Buf (Elt Ideal) ℓ) (g : Dev Cert.DCqNIdeal.nD → PrngReg), Pre_DCqNIdeal m →
    θ_run (Cert.DCqNIdeal.defs (F := Ideal)) (onTc (τ := Cert.DCqNIdeal.τ) (Cert.DCqNIdeal.main (F := Ideal))) ⟨m, fun _ => 0, g⟩ (fun r => (∀ c : Dev Cert.DCqNIdeal.nD,
      r.2.mem ((c.tc : Thread Cert.DCqNIdeal.nD Cert.DCqNIdeal.τ).loc Cert.DCqNIdeal.main_arg0) = m ((c.tc : Thread Cert.DCqNIdeal.nD Cert.DCqNIdeal.τ).loc Cert.DCqNIdeal.main_arg0)
      ∧ r.2.mem ((c.tc : Thread Cert.DCqNIdeal.nD Cert.DCqNIdeal.τ).loc Cert.DCqNIdeal.main_arg1) = m ((c.tc : Thread Cert.DCqNIdeal.nD Cert.DCqNIdeal.τ).loc Cert.DCqNIdeal.main_arg1))
      ∧ r.2.sem = fun _ => 0)

def quiescent_DCqNRefIdeal [hDCqNRefIdeal : Cert.DCqNRefIdeal.Facts] : Prop :=
  ∀ (m : (ℓ : Loc Cert.DCqNRefIdeal.nD Cert.DCqNRefIdeal.τ Cert.DCqNRefIdeal.sig) → Buf (Elt Ideal) ℓ) (g : Dev Cert.DCqNRefIdeal.nD → PrngReg), Pre_DCqNRefIdeal m →
    θ_run (Cert.DCqNRefIdeal.defs (F := Ideal)) (onTc (τ := Cert.DCqNRefIdeal.τ) (Cert.DCqNRefIdeal.main (F := Ideal))) ⟨m, fun _ => 0, g⟩ (fun r => (∀ c : Dev Cert.DCqNRefIdeal.nD,
      r.2.mem ((c.tc : Thread Cert.DCqNRefIdeal.nD Cert.DCqNRefIdeal.τ).loc Cert.DCqNRefIdeal.main_arg0) = m ((c.tc : Thread Cert.DCqNRefIdeal.nD Cert.DCqNRefIdeal.τ).loc Cert.DCqNRefIdeal.main_arg0)
      ∧ r.2.mem ((c.tc : Thread Cert.DCqNRefIdeal.nD Cert.DCqNRefIdeal.τ).loc Cert.DCqNRefIdeal.main_arg1) = m ((c.tc : Thread Cert.DCqNRefIdeal.nD Cert.DCqNRefIdeal.τ).loc Cert.DCqNRefIdeal.main_arg1))
      ∧ r.2.sem = fun _ => 0)

def quiescent_DCkvNV [hDCkvNV : Cert.DCkvNV.Facts] : Prop :=
  ∀ (m : (ℓ : Loc Cert.DCkvNV.nD Cert.DCkvNV.τ Cert.DCkvNV.sig) → Buf (Elt Bits) ℓ) (g : Dev Cert.DCkvNV.nD → PrngReg), Pre_DCkvNV m →
    θ_run (Cert.DCkvNV.defs (F := Bits)) (onTc (τ := Cert.DCkvNV.τ) (Cert.DCkvNV.main (F := Bits))) ⟨m, fun _ => 0, g⟩ (fun r => (∀ c : Dev Cert.DCkvNV.nD,
      r.2.mem ((c.tc : Thread Cert.DCkvNV.nD Cert.DCkvNV.τ).loc Cert.DCkvNV.main_arg0) = m ((c.tc : Thread Cert.DCkvNV.nD Cert.DCkvNV.τ).loc Cert.DCkvNV.main_arg0)
      ∧ r.2.mem ((c.tc : Thread Cert.DCkvNV.nD Cert.DCkvNV.τ).loc Cert.DCkvNV.main_arg1) = m ((c.tc : Thread Cert.DCkvNV.nD Cert.DCkvNV.τ).loc Cert.DCkvNV.main_arg1)
      ∧ r.2.mem ((c.tc : Thread Cert.DCkvNV.nD Cert.DCkvNV.τ).loc Cert.DCkvNV.main_arg2) = m ((c.tc : Thread Cert.DCkvNV.nD Cert.DCkvNV.τ).loc Cert.DCkvNV.main_arg2))
      ∧ r.2.sem = fun _ => 0)

def quiescent_DCkvNVIdeal [hDCkvNVIdeal : Cert.DCkvNVIdeal.Facts] : Prop :=
  ∀ (m : (ℓ : Loc Cert.DCkvNVIdeal.nD Cert.DCkvNVIdeal.τ Cert.DCkvNVIdeal.sig) → Buf (Elt Ideal) ℓ) (g : Dev Cert.DCkvNVIdeal.nD → PrngReg), Pre_DCkvNVIdeal m →
    θ_run (Cert.DCkvNVIdeal.defs (F := Ideal)) (onTc (τ := Cert.DCkvNVIdeal.τ) (Cert.DCkvNVIdeal.main (F := Ideal))) ⟨m, fun _ => 0, g⟩ (fun r => (∀ c : Dev Cert.DCkvNVIdeal.nD,
      r.2.mem ((c.tc : Thread Cert.DCkvNVIdeal.nD Cert.DCkvNVIdeal.τ).loc Cert.DCkvNVIdeal.main_arg0) = m ((c.tc : Thread Cert.DCkvNVIdeal.nD Cert.DCkvNVIdeal.τ).loc Cert.DCkvNVIdeal.main_arg0)
      ∧ r.2.mem ((c.tc : Thread Cert.DCkvNVIdeal.nD Cert.DCkvNVIdeal.τ).loc Cert.DCkvNVIdeal.main_arg1) = m ((c.tc : Thread Cert.DCkvNVIdeal.nD Cert.DCkvNVIdeal.τ).loc Cert.DCkvNVIdeal.main_arg1)
      ∧ r.2.mem ((c.tc : Thread Cert.DCkvNVIdeal.nD Cert.DCkvNVIdeal.τ).loc Cert.DCkvNVIdeal.main_arg2) = m ((c.tc : Thread Cert.DCkvNVIdeal.nD Cert.DCkvNVIdeal.τ).loc Cert.DCkvNVIdeal.main_arg2))
      ∧ r.2.sem = fun _ => 0)

def quiescent_DCkvNVRefIdeal [hDCkvNVRefIdeal : Cert.DCkvNVRefIdeal.Facts] : Prop :=
  ∀ (m : (ℓ : Loc Cert.DCkvNVRefIdeal.nD Cert.DCkvNVRefIdeal.τ Cert.DCkvNVRefIdeal.sig) → Buf (Elt Ideal) ℓ) (g : Dev Cert.DCkvNVRefIdeal.nD → PrngReg), Pre_DCkvNVRefIdeal m →
    θ_run (Cert.DCkvNVRefIdeal.defs (F := Ideal)) (onTc (τ := Cert.DCkvNVRefIdeal.τ) (Cert.DCkvNVRefIdeal.main (F := Ideal))) ⟨m, fun _ => 0, g⟩ (fun r => (∀ c : Dev Cert.DCkvNVRefIdeal.nD,
      r.2.mem ((c.tc : Thread Cert.DCkvNVRefIdeal.nD Cert.DCkvNVRefIdeal.τ).loc Cert.DCkvNVRefIdeal.main_arg0) = m ((c.tc : Thread Cert.DCkvNVRefIdeal.nD Cert.DCkvNVRefIdeal.τ).loc Cert.DCkvNVRefIdeal.main_arg0)
      ∧ r.2.mem ((c.tc : Thread Cert.DCkvNVRefIdeal.nD Cert.DCkvNVRefIdeal.τ).loc Cert.DCkvNVRefIdeal.main_arg1) = m ((c.tc : Thread Cert.DCkvNVRefIdeal.nD Cert.DCkvNVRefIdeal.τ).loc Cert.DCkvNVRefIdeal.main_arg1)
      ∧ r.2.mem ((c.tc : Thread Cert.DCkvNVRefIdeal.nD Cert.DCkvNVRefIdeal.τ).loc Cert.DCkvNVRefIdeal.main_arg2) = m ((c.tc : Thread Cert.DCkvNVRefIdeal.nD Cert.DCkvNVRefIdeal.τ).loc Cert.DCkvNVRefIdeal.main_arg2))
      ∧ r.2.sem = fun _ => 0)

def quiescent_DWPle [hDWPle : Cert.DWPle.Facts] : Prop :=
  ∀ (m : (ℓ : Loc Cert.DWPle.nD Cert.DWPle.τ Cert.DWPle.sig) → Buf (Elt Bits) ℓ) (g : Dev Cert.DWPle.nD → PrngReg), Pre_DWPle m →
    θ_run (Cert.DWPle.defs (F := Bits)) (onTc (τ := Cert.DWPle.τ) (Cert.DWPle.main (F := Bits))) ⟨m, fun _ => 0, g⟩ (fun r => (∀ c : Dev Cert.DWPle.nD,
      r.2.mem ((c.tc : Thread Cert.DWPle.nD Cert.DWPle.τ).loc Cert.DWPle.main_arg0) = m ((c.tc : Thread Cert.DWPle.nD Cert.DWPle.τ).loc Cert.DWPle.main_arg0)
      ∧ r.2.mem ((c.tc : Thread Cert.DWPle.nD Cert.DWPle.τ).loc Cert.DWPle.main_arg1) = m ((c.tc : Thread Cert.DWPle.nD Cert.DWPle.τ).loc Cert.DWPle.main_arg1))
      ∧ r.2.sem = fun _ => 0)

def quiescent_DWPleIdeal [hDWPleIdeal : Cert.DWPleIdeal.Facts] : Prop :=
  ∀ (m : (ℓ : Loc Cert.DWPleIdeal.nD Cert.DWPleIdeal.τ Cert.DWPleIdeal.sig) → Buf (Elt Ideal) ℓ) (g : Dev Cert.DWPleIdeal.nD → PrngReg), Pre_DWPleIdeal m →
    θ_run (Cert.DWPleIdeal.defs (F := Ideal)) (onTc (τ := Cert.DWPleIdeal.τ) (Cert.DWPleIdeal.main (F := Ideal))) ⟨m, fun _ => 0, g⟩ (fun r => (∀ c : Dev Cert.DWPleIdeal.nD,
      r.2.mem ((c.tc : Thread Cert.DWPleIdeal.nD Cert.DWPleIdeal.τ).loc Cert.DWPleIdeal.main_arg0) = m ((c.tc : Thread Cert.DWPleIdeal.nD Cert.DWPleIdeal.τ).loc Cert.DWPleIdeal.main_arg0)
      ∧ r.2.mem ((c.tc : Thread Cert.DWPleIdeal.nD Cert.DWPleIdeal.τ).loc Cert.DWPleIdeal.main_arg1) = m ((c.tc : Thread Cert.DWPleIdeal.nD Cert.DWPleIdeal.τ).loc Cert.DWPleIdeal.main_arg1))
      ∧ r.2.sem = fun _ => 0)

def quiescent_DWPleRefIdeal [hDWPleRefIdeal : Cert.DWPleRefIdeal.Facts] : Prop :=
  ∀ (m : (ℓ : Loc Cert.DWPleRefIdeal.nD Cert.DWPleRefIdeal.τ Cert.DWPleRefIdeal.sig) → Buf (Elt Ideal) ℓ) (g : Dev Cert.DWPleRefIdeal.nD → PrngReg), Pre_DWPleRefIdeal m →
    θ_run (Cert.DWPleRefIdeal.defs (F := Ideal)) (onTc (τ := Cert.DWPleRefIdeal.τ) (Cert.DWPleRefIdeal.main (F := Ideal))) ⟨m, fun _ => 0, g⟩ (fun r => (∀ c : Dev Cert.DWPleRefIdeal.nD,
      r.2.mem ((c.tc : Thread Cert.DWPleRefIdeal.nD Cert.DWPleRefIdeal.τ).loc Cert.DWPleRefIdeal.main_arg0) = m ((c.tc : Thread Cert.DWPleRefIdeal.nD Cert.DWPleRefIdeal.τ).loc Cert.DWPleRefIdeal.main_arg0)
      ∧ r.2.mem ((c.tc : Thread Cert.DWPleRefIdeal.nD Cert.DWPleRefIdeal.τ).loc Cert.DWPleRefIdeal.main_arg1) = m ((c.tc : Thread Cert.DWPleRefIdeal.nD Cert.DWPleRefIdeal.τ).loc Cert.DWPleRefIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcRefIdeal [hInXbcRefIdeal : Cert.InXbcRefIdeal.Facts] : Prop :=
  ∀ (m : (ℓ : Loc Cert.InXbcRefIdeal.nD Cert.InXbcRefIdeal.τ Cert.InXbcRefIdeal.sig) → Buf (Elt Ideal) ℓ) (g : Dev Cert.InXbcRefIdeal.nD → PrngReg), Pre_InXbcRefIdeal m →
    θ_run (Cert.InXbcRefIdeal.defs (F := Ideal)) (onTc (τ := Cert.InXbcRefIdeal.τ) (Cert.InXbcRefIdeal.main (F := Ideal))) ⟨m, fun _ => 0, g⟩ (fun r => (∀ c : Dev Cert.InXbcRefIdeal.nD,
      r.2.mem ((c.tc : Thread Cert.InXbcRefIdeal.nD Cert.InXbcRefIdeal.τ).loc Cert.InXbcRefIdeal.main_arg0) = m ((c.tc : Thread Cert.InXbcRefIdeal.nD Cert.InXbcRefIdeal.τ).loc Cert.InXbcRefIdeal.main_arg0)
      ∧ r.2.mem ((c.tc : Thread Cert.InXbcRefIdeal.nD Cert.InXbcRefIdeal.τ).loc Cert.InXbcRefIdeal.main_arg1) = m ((c.tc : Thread Cert.InXbcRefIdeal.nD Cert.InXbcRefIdeal.τ).loc Cert.InXbcRefIdeal.main_arg1))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_SsmO [hSsmO : Cert.SsmO.Facts] : Prop :=
  ∀ (m : (ℓ : Loc Cert.SsmO.nD Cert.SsmO.τ Cert.SsmO.sig) → Buf (Elt Bits) ℓ) (g : Dev Cert.SsmO.nD → PrngReg), Pre_SsmO m →
    θ_run (Cert.SsmO.defs (F := Bits)) (onTc (τ := Cert.SsmO.τ) (Cert.SsmO.main (F := Bits))) ⟨m, fun _ => 0, g⟩ (fun r => (∀ c : Dev Cert.SsmO.nD,
      r.2.mem ((c.tc : Thread Cert.SsmO.nD Cert.SsmO.τ).loc Cert.SsmO.main_arg0) = m ((c.tc : Thread Cert.SsmO.nD Cert.SsmO.τ).loc Cert.SsmO.main_arg0)
      ∧ r.2.mem ((c.tc : Thread Cert.SsmO.nD Cert.SsmO.τ).loc Cert.SsmO.main_arg1) = m ((c.tc : Thread Cert.SsmO.nD Cert.SsmO.τ).loc Cert.SsmO.main_arg1))
      ∧ r.2.sem = fun _ => 0)

def quiescent_SsmOIdeal [hSsmOIdeal : Cert.SsmOIdeal.Facts] : Prop :=
  ∀ (m : (ℓ : Loc Cert.SsmOIdeal.nD Cert.SsmOIdeal.τ Cert.SsmOIdeal.sig) → Buf (Elt Ideal) ℓ) (g : Dev Cert.SsmOIdeal.nD → PrngReg), Pre_SsmOIdeal m →
    θ_run (Cert.SsmOIdeal.defs (F := Ideal)) (onTc (τ := Cert.SsmOIdeal.τ) (Cert.SsmOIdeal.main (F := Ideal))) ⟨m, fun _ => 0, g⟩ (fun r => (∀ c : Dev Cert.SsmOIdeal.nD,
      r.2.mem ((c.tc : Thread Cert.SsmOIdeal.nD Cert.SsmOIdeal.τ).loc Cert.SsmOIdeal.main_arg0) = m ((c.tc : Thread Cert.SsmOIdeal.nD Cert.SsmOIdeal.τ).loc Cert.SsmOIdeal.main_arg0)
      ∧ r.2.mem ((c.tc : Thread Cert.SsmOIdeal.nD Cert.SsmOIdeal.τ).loc Cert.SsmOIdeal.main_arg1) = m ((c.tc : Thread Cert.SsmOIdeal.nD Cert.SsmOIdeal.τ).loc Cert.SsmOIdeal.main_arg1))
      ∧ r.2.sem = fun _ => 0)

def quiescent_SsmORefIdeal [hSsmORefIdeal : Cert.SsmORefIdeal.Facts] : Prop :=
  ∀ (m : (ℓ : Loc Cert.SsmORefIdeal.nD Cert.SsmORefIdeal.τ Cert.SsmORefIdeal.sig) → Buf (Elt Ideal) ℓ) (g : Dev Cert.SsmORefIdeal.nD → PrngReg), Pre_SsmORefIdeal m →
    θ_run (Cert.SsmORefIdeal.defs (F := Ideal)) (onTc (τ := Cert.SsmORefIdeal.τ) (Cert.SsmORefIdeal.main (F := Ideal))) ⟨m, fun _ => 0, g⟩ (fun r => (∀ c : Dev Cert.SsmORefIdeal.nD,
      r.2.mem ((c.tc : Thread Cert.SsmORefIdeal.nD Cert.SsmORefIdeal.τ).loc Cert.SsmORefIdeal.main_arg0) = m ((c.tc : Thread Cert.SsmORefIdeal.nD Cert.SsmORefIdeal.τ).loc Cert.SsmORefIdeal.main_arg0)
      ∧ r.2.mem ((c.tc : Thread Cert.SsmORefIdeal.nD Cert.SsmORefIdeal.τ).loc Cert.SsmORefIdeal.main_arg1) = m ((c.tc : Thread Cert.SsmORefIdeal.nD Cert.SsmORefIdeal.τ).loc Cert.SsmORefIdeal.main_arg1))
      ∧ r.2.sem = fun _ => 0)

def quiescent_InCqkv [hInCqkv : Cert.InCqkv.Facts] : Prop :=
  ∀ (m : (ℓ : Loc Cert.InCqkv.nD Cert.InCqkv.τ Cert.InCqkv.sig) → Buf (Elt Bits) ℓ) (g : Dev Cert.InCqkv.nD → PrngReg), Pre_InCqkv m →
    θ_run (Cert.InCqkv.defs (F := Bits)) (onTc (τ := Cert.InCqkv.τ) (Cert.InCqkv.main (F := Bits))) ⟨m, fun _ => 0, g⟩ (fun r => (∀ c : Dev Cert.InCqkv.nD,
      r.2.mem ((c.tc : Thread Cert.InCqkv.nD Cert.InCqkv.τ).loc Cert.InCqkv.main_arg0) = m ((c.tc : Thread Cert.InCqkv.nD Cert.InCqkv.τ).loc Cert.InCqkv.main_arg0)
      ∧ r.2.mem ((c.tc : Thread Cert.InCqkv.nD Cert.InCqkv.τ).loc Cert.InCqkv.main_arg1) = m ((c.tc : Thread Cert.InCqkv.nD Cert.InCqkv.τ).loc Cert.InCqkv.main_arg1))
      ∧ r.2.sem = fun _ => 0)

def quiescent_InCqkvIdeal [hInCqkvIdeal : Cert.InCqkvIdeal.Facts] : Prop :=
  ∀ (m : (ℓ : Loc Cert.InCqkvIdeal.nD Cert.InCqkvIdeal.τ Cert.InCqkvIdeal.sig) → Buf (Elt Ideal) ℓ) (g : Dev Cert.InCqkvIdeal.nD → PrngReg), Pre_InCqkvIdeal m →
    θ_run (Cert.InCqkvIdeal.defs (F := Ideal)) (onTc (τ := Cert.InCqkvIdeal.τ) (Cert.InCqkvIdeal.main (F := Ideal))) ⟨m, fun _ => 0, g⟩ (fun r => (∀ c : Dev Cert.InCqkvIdeal.nD,
      r.2.mem ((c.tc : Thread Cert.InCqkvIdeal.nD Cert.InCqkvIdeal.τ).loc Cert.InCqkvIdeal.main_arg0) = m ((c.tc : Thread Cert.InCqkvIdeal.nD Cert.InCqkvIdeal.τ).loc Cert.InCqkvIdeal.main_arg0)
      ∧ r.2.mem ((c.tc : Thread Cert.InCqkvIdeal.nD Cert.InCqkvIdeal.τ).loc Cert.InCqkvIdeal.main_arg1) = m ((c.tc : Thread Cert.InCqkvIdeal.nD Cert.InCqkvIdeal.τ).loc Cert.InCqkvIdeal.main_arg1))
      ∧ r.2.sem = fun _ => 0)

def quiescent_InCqkvRefIdeal [hInCqkvRefIdeal : Cert.InCqkvRefIdeal.Facts] : Prop :=
  ∀ (m : (ℓ : Loc Cert.InCqkvRefIdeal.nD Cert.InCqkvRefIdeal.τ Cert.InCqkvRefIdeal.sig) → Buf (Elt Ideal) ℓ) (g : Dev Cert.InCqkvRefIdeal.nD → PrngReg), Pre_InCqkvRefIdeal m →
    θ_run (Cert.InCqkvRefIdeal.defs (F := Ideal)) (onTc (τ := Cert.InCqkvRefIdeal.τ) (Cert.InCqkvRefIdeal.main (F := Ideal))) ⟨m, fun _ => 0, g⟩ (fun r => (∀ c : Dev Cert.InCqkvRefIdeal.nD,
      r.2.mem ((c.tc : Thread Cert.InCqkvRefIdeal.nD Cert.InCqkvRefIdeal.τ).loc Cert.InCqkvRefIdeal.main_arg0) = m ((c.tc : Thread Cert.InCqkvRefIdeal.nD Cert.InCqkvRefIdeal.τ).loc Cert.InCqkvRefIdeal.main_arg0)
      ∧ r.2.mem ((c.tc : Thread Cert.InCqkvRefIdeal.nD Cert.InCqkvRefIdeal.τ).loc Cert.InCqkvRefIdeal.main_arg1) = m ((c.tc : Thread Cert.InCqkvRefIdeal.nD Cert.InCqkvRefIdeal.τ).loc Cert.InCqkvRefIdeal.main_arg1))
      ∧ r.2.sem = fun _ => 0)

def quiescent_InSmall [hInSmall : Cert.InSmall.Facts] : Prop :=
  ∀ (m : (ℓ : Loc Cert.InSmall.nD Cert.InSmall.τ Cert.InSmall.sig) → Buf (Elt Bits) ℓ) (g : Dev Cert.InSmall.nD → PrngReg), Pre_InSmall m →
    θ_run (Cert.InSmall.defs (F := Bits)) (onTc (τ := Cert.InSmall.τ) (Cert.InSmall.main (F := Bits))) ⟨m, fun _ => 0, g⟩ (fun r => (∀ c : Dev Cert.InSmall.nD,
      r.2.mem ((c.tc : Thread Cert.InSmall.nD Cert.InSmall.τ).loc Cert.InSmall.main_arg0) = m ((c.tc : Thread Cert.InSmall.nD Cert.InSmall.τ).loc Cert.InSmall.main_arg0)
      ∧ r.2.mem ((c.tc : Thread Cert.InSmall.nD Cert.InSmall.τ).loc Cert.InSmall.main_arg1) = m ((c.tc : Thread Cert.InSmall.nD Cert.InSmall.τ).loc Cert.InSmall.main_arg1))
      ∧ r.2.sem = fun _ => 0)

def quiescent_InSmallIdeal [hInSmallIdeal : Cert.InSmallIdeal.Facts] : Prop :=
  ∀ (m : (ℓ : Loc Cert.InSmallIdeal.nD Cert.InSmallIdeal.τ Cert.InSmallIdeal.sig) → Buf (Elt Ideal) ℓ) (g : Dev Cert.InSmallIdeal.nD → PrngReg), Pre_InSmallIdeal m →
    θ_run (Cert.InSmallIdeal.defs (F := Ideal)) (onTc (τ := Cert.InSmallIdeal.τ) (Cert.InSmallIdeal.main (F := Ideal))) ⟨m, fun _ => 0, g⟩ (fun r => (∀ c : Dev Cert.InSmallIdeal.nD,
      r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
      ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ r.2.sem = fun _ => 0)

def quiescent_InSmallRefIdeal [hInSmallRefIdeal : Cert.InSmallRefIdeal.Facts] : Prop :=
  ∀ (m : (ℓ : Loc Cert.InSmallRefIdeal.nD Cert.InSmallRefIdeal.τ Cert.InSmallRefIdeal.sig) → Buf (Elt Ideal) ℓ) (g : Dev Cert.InSmallRefIdeal.nD → PrngReg), Pre_InSmallRefIdeal m →
    θ_run (Cert.InSmallRefIdeal.defs (F := Ideal)) (onTc (τ := Cert.InSmallRefIdeal.τ) (Cert.InSmallRefIdeal.main (F := Ideal))) ⟨m, fun _ => 0, g⟩ (fun r => (∀ c : Dev Cert.InSmallRefIdeal.nD,
      r.2.mem ((c.tc : Thread Cert.InSmallRefIdeal.nD Cert.InSmallRefIdeal.τ).loc Cert.InSmallRefIdeal.main_arg0) = m ((c.tc : Thread Cert.InSmallRefIdeal.nD Cert.InSmallRefIdeal.τ).loc Cert.InSmallRefIdeal.main_arg0)
      ∧ r.2.mem ((c.tc : Thread Cert.InSmallRefIdeal.nD Cert.InSmallRefIdeal.τ).loc Cert.InSmallRefIdeal.main_arg1) = m ((c.tc : Thread Cert.InSmallRefIdeal.nD Cert.InSmallRefIdeal.τ).loc Cert.InSmallRefIdeal.main_arg1))
      ∧ r.2.sem = fun _ => 0)

def quiescent_UpQ [hUpQ : Cert.UpQ.Facts] : Prop :=
  ∀ (m : (ℓ : Loc Cert.UpQ.nD Cert.UpQ.τ Cert.UpQ.sig) → Buf (Elt Bits) ℓ) (g : Dev Cert.UpQ.nD → PrngReg), Pre_UpQ m →
    θ_run (Cert.UpQ.defs (F := Bits)) (onTc (τ := Cert.UpQ.τ) (Cert.UpQ.main (F := Bits))) ⟨m, fun _ => 0, g⟩ (fun r => (∀ c : Dev Cert.UpQ.nD,
      r.2.mem ((c.tc : Thread Cert.UpQ.nD Cert.UpQ.τ).loc Cert.UpQ.main_arg0) = m ((c.tc : Thread Cert.UpQ.nD Cert.UpQ.τ).loc Cert.UpQ.main_arg0)
      ∧ r.2.mem ((c.tc : Thread Cert.UpQ.nD Cert.UpQ.τ).loc Cert.UpQ.main_arg1) = m ((c.tc : Thread Cert.UpQ.nD Cert.UpQ.τ).loc Cert.UpQ.main_arg1))
      ∧ r.2.sem = fun _ => 0)

def quiescent_UpQIdeal [hUpQIdeal : Cert.UpQIdeal.Facts] : Prop :=
  ∀ (m : (ℓ : Loc Cert.UpQIdeal.nD Cert.UpQIdeal.τ Cert.UpQIdeal.sig) → Buf (Elt Ideal) ℓ) (g : Dev Cert.UpQIdeal.nD → PrngReg), Pre_UpQIdeal m →
    θ_run (Cert.UpQIdeal.defs (F := Ideal)) (onTc (τ := Cert.UpQIdeal.τ) (Cert.UpQIdeal.main (F := Ideal))) ⟨m, fun _ => 0, g⟩ (fun r => (∀ c : Dev Cert.UpQIdeal.nD,
      r.2.mem ((c.tc : Thread Cert.UpQIdeal.nD Cert.UpQIdeal.τ).loc Cert.UpQIdeal.main_arg0) = m ((c.tc : Thread Cert.UpQIdeal.nD Cert.UpQIdeal.τ).loc Cert.UpQIdeal.main_arg0)
      ∧ r.2.mem ((c.tc : Thread Cert.UpQIdeal.nD Cert.UpQIdeal.τ).loc Cert.UpQIdeal.main_arg1) = m ((c.tc : Thread Cert.UpQIdeal.nD Cert.UpQIdeal.τ).loc Cert.UpQIdeal.main_arg1))
      ∧ r.2.sem = fun _ => 0)

def quiescent_UpQRefIdeal [hUpQRefIdeal : Cert.UpQRefIdeal.Facts] : Prop :=
  ∀ (m : (ℓ : Loc Cert.UpQRefIdeal.nD Cert.UpQRefIdeal.τ Cert.UpQRefIdeal.sig) → Buf (Elt Ideal) ℓ) (g : Dev Cert.UpQRefIdeal.nD → PrngReg), Pre_UpQRefIdeal m →
    θ_run (Cert.UpQRefIdeal.defs (F := Ideal)) (onTc (τ := Cert.UpQRefIdeal.τ) (Cert.UpQRefIdeal.main (F := Ideal))) ⟨m, fun _ => 0, g⟩ (fun r => (∀ c : Dev Cert.UpQRefIdeal.nD,
      r.2.mem ((c.tc : Thread Cert.UpQRefIdeal.nD Cert.UpQRefIdeal.τ).loc Cert.UpQRefIdeal.main_arg0) = m ((c.tc : Thread Cert.UpQRefIdeal.nD Cert.UpQRefIdeal.τ).loc Cert.UpQRefIdeal.main_arg0)
      ∧ r.2.mem ((c.tc : Thread Cert.UpQRefIdeal.nD Cert.UpQRefIdeal.τ).loc Cert.UpQRefIdeal.main_arg1) = m ((c.tc : Thread Cert.UpQRefIdeal.nD Cert.UpQRefIdeal.τ).loc Cert.UpQRefIdeal.main_arg1))
      ∧ r.2.sem = fun _ => 0)

def quiescent_UpV [hUpV : Cert.UpV.Facts] : Prop :=
  ∀ (m : (ℓ : Loc Cert.UpV.nD Cert.UpV.τ Cert.UpV.sig) → Buf (Elt Bits) ℓ) (g : Dev Cert.UpV.nD → PrngReg), Pre_UpV m →
    θ_run (Cert.UpV.defs (F := Bits)) (onTc (τ := Cert.UpV.τ) (Cert.UpV.main (F := Bits))) ⟨m, fun _ => 0, g⟩ (fun r => (∀ c : Dev Cert.UpV.nD,
      r.2.mem ((c.tc : Thread Cert.UpV.nD Cert.UpV.τ).loc Cert.UpV.main_arg0) = m ((c.tc : Thread Cert.UpV.nD Cert.UpV.τ).loc Cert.UpV.main_arg0)
      ∧ r.2.mem ((c.tc : Thread Cert.UpV.nD Cert.UpV.τ).loc Cert.UpV.main_arg1) = m ((c.tc : Thread Cert.UpV.nD Cert.UpV.τ).loc Cert.UpV.main_arg1))
      ∧ r.2.sem = fun _ => 0)

def quiescent_UpVIdeal [hUpVIdeal : Cert.UpVIdeal.Facts] : Prop :=
  ∀ (m : (ℓ : Loc Cert.UpVIdeal.nD Cert.UpVIdeal.τ Cert.UpVIdeal.sig) → Buf (Elt Ideal) ℓ) (g : Dev Cert.UpVIdeal.nD → PrngReg), Pre_UpVIdeal m →
    θ_run (Cert.UpVIdeal.defs (F := Ideal)) (onTc (τ := Cert.UpVIdeal.τ) (Cert.UpVIdeal.main (F := Ideal))) ⟨m, fun _ => 0, g⟩ (fun r => (∀ c : Dev Cert.UpVIdeal.nD,
      r.2.mem ((c.tc : Thread Cert.UpVIdeal.nD Cert.UpVIdeal.τ).loc Cert.UpVIdeal.main_arg0) = m ((c.tc : Thread Cert.UpVIdeal.nD Cert.UpVIdeal.τ).loc Cert.UpVIdeal.main_arg0)
      ∧ r.2.mem ((c.tc : Thread Cert.UpVIdeal.nD Cert.UpVIdeal.τ).loc Cert.UpVIdeal.main_arg1) = m ((c.tc : Thread Cert.UpVIdeal.nD Cert.UpVIdeal.τ).loc Cert.UpVIdeal.main_arg1))
      ∧ r.2.sem = fun _ => 0)

def quiescent_UpVRefIdeal [hUpVRefIdeal : Cert.UpVRefIdeal.Facts] : Prop :=
  ∀ (m : (ℓ : Loc Cert.UpVRefIdeal.nD Cert.UpVRefIdeal.τ Cert.UpVRefIdeal.sig) → Buf (Elt Ideal) ℓ) (g : Dev Cert.UpVRefIdeal.nD → PrngReg), Pre_UpVRefIdeal m →
    θ_run (Cert.UpVRefIdeal.defs (F := Ideal)) (onTc (τ := Cert.UpVRefIdeal.τ) (Cert.UpVRefIdeal.main (F := Ideal))) ⟨m, fun _ => 0, g⟩ (fun r => (∀ c : Dev Cert.UpVRefIdeal.nD,
      r.2.mem ((c.tc : Thread Cert.UpVRefIdeal.nD Cert.UpVRefIdeal.τ).loc Cert.UpVRefIdeal.main_arg0) = m ((c.tc : Thread Cert.UpVRefIdeal.nD Cert.UpVRefIdeal.τ).loc Cert.UpVRefIdeal.main_arg0)
      ∧ r.2.mem ((c.tc : Thread Cert.UpVRefIdeal.nD Cert.UpVRefIdeal.τ).loc Cert.UpVRefIdeal.main_arg1) = m ((c.tc : Thread Cert.UpVRefIdeal.nD Cert.UpVRefIdeal.τ).loc Cert.UpVRefIdeal.main_arg1))
      ∧ r.2.sem = fun _ => 0)

def quiescent_UpVT [hUpVT : Cert.UpVT.Facts] : Prop :=
  ∀ (m : (ℓ : Loc Cert.UpVT.nD Cert.UpVT.τ Cert.UpVT.sig) → Buf (Elt Bits) ℓ) (g : Dev Cert.UpVT.nD → PrngReg), Pre_UpVT m →
    θ_run (Cert.UpVT.defs (F := Bits)) (onTc (τ := Cert.UpVT.τ) (Cert.UpVT.main (F := Bits))) ⟨m, fun _ => 0, g⟩ (fun r => (∀ c : Dev Cert.UpVT.nD,
      r.2.mem ((c.tc : Thread Cert.UpVT.nD Cert.UpVT.τ).loc Cert.UpVT.main_arg0) = m ((c.tc : Thread Cert.UpVT.nD Cert.UpVT.τ).loc Cert.UpVT.main_arg0)
      ∧ r.2.mem ((c.tc : Thread Cert.UpVT.nD Cert.UpVT.τ).loc Cert.UpVT.main_arg1) = m ((c.tc : Thread Cert.UpVT.nD Cert.UpVT.τ).loc Cert.UpVT.main_arg1))
      ∧ r.2.sem = fun _ => 0)

def quiescent_UpVTIdeal [hUpVTIdeal : Cert.UpVTIdeal.Facts] : Prop :=
  ∀ (m : (ℓ : Loc Cert.UpVTIdeal.nD Cert.UpVTIdeal.τ Cert.UpVTIdeal.sig) → Buf (Elt Ideal) ℓ) (g : Dev Cert.UpVTIdeal.nD → PrngReg), Pre_UpVTIdeal m →
    θ_run (Cert.UpVTIdeal.defs (F := Ideal)) (onTc (τ := Cert.UpVTIdeal.τ) (Cert.UpVTIdeal.main (F := Ideal))) ⟨m, fun _ => 0, g⟩ (fun r => (∀ c : Dev Cert.UpVTIdeal.nD,
      r.2.mem ((c.tc : Thread Cert.UpVTIdeal.nD Cert.UpVTIdeal.τ).loc Cert.UpVTIdeal.main_arg0) = m ((c.tc : Thread Cert.UpVTIdeal.nD Cert.UpVTIdeal.τ).loc Cert.UpVTIdeal.main_arg0)
      ∧ r.2.mem ((c.tc : Thread Cert.UpVTIdeal.nD Cert.UpVTIdeal.τ).loc Cert.UpVTIdeal.main_arg1) = m ((c.tc : Thread Cert.UpVTIdeal.nD Cert.UpVTIdeal.τ).loc Cert.UpVTIdeal.main_arg1))
      ∧ r.2.sem = fun _ => 0)

def quiescent_UpVTRefIdeal [hUpVTRefIdeal : Cert.UpVTRefIdeal.Facts] : Prop :=
  ∀ (m : (ℓ : Loc Cert.UpVTRefIdeal.nD Cert.UpVTRefIdeal.τ Cert.UpVTRefIdeal.sig) → Buf (Elt Ideal) ℓ) (g : Dev Cert.UpVTRefIdeal.nD → PrngReg), Pre_UpVTRefIdeal m →
    θ_run (Cert.UpVTRefIdeal.defs (F := Ideal)) (onTc (τ := Cert.UpVTRefIdeal.τ) (Cert.UpVTRefIdeal.main (F := Ideal))) ⟨m, fun _ => 0, g⟩ (fun r => (∀ c : Dev Cert.UpVTRefIdeal.nD,
      r.2.mem ((c.tc : Thread Cert.UpVTRefIdeal.nD Cert.UpVTRefIdeal.τ).loc Cert.UpVTRefIdeal.main_arg0) = m ((c.tc : Thread Cert.UpVTRefIdeal.nD Cert.UpVTRefIdeal.τ).loc Cert.UpVTRefIdeal.main_arg0)
      ∧ r.2.mem ((c.tc : Thread Cert.UpVTRefIdeal.nD Cert.UpVTRefIdeal.τ).loc Cert.UpVTRefIdeal.main_arg1) = m ((c.tc : Thread Cert.UpVTRefIdeal.nD Cert.UpVTRefIdeal.τ).loc Cert.UpVTRefIdeal.main_arg1))
      ∧ r.2.sem = fun _ => 0)

def quiescent_SwiGlu [hSwiGlu : Cert.SwiGlu.Facts] : Prop :=
  ∀ (m : (ℓ : Loc Cert.SwiGlu.nD Cert.SwiGlu.τ Cert.SwiGlu.sig) → Buf (Elt Bits) ℓ) (g : Dev Cert.SwiGlu.nD → PrngReg), Pre_SwiGlu m →
    θ_run (Cert.SwiGlu.defs (F := Bits)) (onTc (τ := Cert.SwiGlu.τ) (Cert.SwiGlu.main (F := Bits))) ⟨m, fun _ => 0, g⟩ (fun r => (∀ c : Dev Cert.SwiGlu.nD,
      r.2.mem ((c.tc : Thread Cert.SwiGlu.nD Cert.SwiGlu.τ).loc Cert.SwiGlu.main_arg0) = m ((c.tc : Thread Cert.SwiGlu.nD Cert.SwiGlu.τ).loc Cert.SwiGlu.main_arg0)
      ∧ r.2.mem ((c.tc : Thread Cert.SwiGlu.nD Cert.SwiGlu.τ).loc Cert.SwiGlu.main_arg1) = m ((c.tc : Thread Cert.SwiGlu.nD Cert.SwiGlu.τ).loc Cert.SwiGlu.main_arg1))
      ∧ r.2.sem = fun _ => 0)

def quiescent_SwiGluIdeal [hSwiGluIdeal : Cert.SwiGluIdeal.Facts] : Prop :=
  ∀ (m : (ℓ : Loc Cert.SwiGluIdeal.nD Cert.SwiGluIdeal.τ Cert.SwiGluIdeal.sig) → Buf (Elt Ideal) ℓ) (g : Dev Cert.SwiGluIdeal.nD → PrngReg), Pre_SwiGluIdeal m →
    θ_run (Cert.SwiGluIdeal.defs (F := Ideal)) (onTc (τ := Cert.SwiGluIdeal.τ) (Cert.SwiGluIdeal.main (F := Ideal))) ⟨m, fun _ => 0, g⟩ (fun r => (∀ c : Dev Cert.SwiGluIdeal.nD,
      r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0)
      ∧ r.2.mem ((c.tc : Thread Cert.SwiGluIdeal.nD Cert.SwiGluIdeal.τ).loc Cert.SwiGluIdeal.main_arg1) = m ((c.tc : Thread Cert.SwiGluIdeal.nD Cert.SwiGluIdeal.τ).loc Cert.SwiGluIdeal.main_arg1))
      ∧ r.2.sem = fun _ => 0)

def quiescent_SwiGluRefIdeal [hSwiGluRefIdeal : Cert.SwiGluRefIdeal.Facts] : Prop :=
  ∀ (m : (ℓ : Loc Cert.SwiGluRefIdeal.nD Cert.SwiGluRefIdeal.τ Cert.SwiGluRefIdeal.sig) → Buf (Elt Ideal) ℓ) (g : Dev Cert.SwiGluRefIdeal.nD → PrngReg), Pre_SwiGluRefIdeal m →
    θ_run (Cert.SwiGluRefIdeal.defs (F := Ideal)) (onTc (τ := Cert.SwiGluRefIdeal.τ) (Cert.SwiGluRefIdeal.main (F := Ideal))) ⟨m, fun _ => 0, g⟩ (fun r => (∀ c : Dev Cert.SwiGluRefIdeal.nD,
      r.2.mem ((c.tc : Thread Cert.SwiGluRefIdeal.nD Cert.SwiGluRefIdeal.τ).loc Cert.SwiGluRefIdeal.main_arg0) = m ((c.tc : Thread Cert.SwiGluRefIdeal.nD Cert.SwiGluRefIdeal.τ).loc Cert.SwiGluRefIdeal.main_arg0)
      ∧ r.2.mem ((c.tc : Thread Cert.SwiGluRefIdeal.nD Cert.SwiGluRefIdeal.τ).loc Cert.SwiGluRefIdeal.main_arg1) = m ((c.tc : Thread Cert.SwiGluRefIdeal.nD Cert.SwiGluRefIdeal.τ).loc Cert.SwiGluRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FlashFwd_FlashFwdIdeal : Prop :=
  True

def algebraic_FlashFwdIdeal_FlashFwdRefIdeal_pre_finite_fwd [hFlashFwdIdeal : Cert.FlashFwdIdeal.Facts] [hFlashFwdRefIdeal : Cert.FlashFwdRefIdeal.Facts] [hPre_finite_fwd : Cert.Pre_finite_fwd.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_finite_fwd m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v0_0)) (v1 : (c : Dev Cert.FlashFwdIdeal.nD) → Buf (Elt Ideal) ((c.tc : Thread Cert.FlashFwdIdeal.nD Cert.FlashFwdIdeal.τ).loc Cert.FlashFwdIdeal.main_v0_1)) (v2 : (c : Dev Cert.FlashFwdIdeal.nD) → Buf (Elt Ideal) ((c.tc : Thread Cert.FlashFwdIdeal.nD Cert.FlashFwdIdeal.τ).loc Cert.FlashFwdIdeal.main_v0_2)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v0_0) = v0 c
          ∧ r.2.mem ((c.tc : Thread Cert.FlashFwdIdeal.nD Cert.FlashFwdIdeal.τ).loc Cert.FlashFwdIdeal.main_v0_1) = v1 c
          ∧ r.2.mem ((c.tc : Thread Cert.FlashFwdIdeal.nD Cert.FlashFwdIdeal.τ).loc Cert.FlashFwdIdeal.main_v0_2) = v2 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v28) = v0 c
          ∧ r.2.mem ((c.tc : Thread Cert.FlashFwdRefIdeal.nD Cert.FlashFwdRefIdeal.τ).loc Cert.FlashFwdRefIdeal.main_v32) = v1 c
          ∧ r.2.mem ((c.tc : Thread Cert.FlashFwdRefIdeal.nD Cert.FlashFwdRefIdeal.τ).loc Cert.FlashFwdRefIdeal.main_v33) = v2 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v6) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1))

def preserves_DU_DUIdeal : Prop :=
  True

def algebraic_DUIdeal_DURefIdeal [hDUIdeal : Cert.DUIdeal.Facts] [hDURefIdeal : Cert.DURefIdeal.Facts] : Prop :=
  ∀ (m : (ℓ : Loc Cert.DUIdeal.nD Cert.DUIdeal.τ Cert.DUIdeal.sig) → Buf (Elt Ideal) ℓ) (g : Dev Cert.DUIdeal.nD → PrngReg)
    (m' : (ℓ : Loc Cert.DURefIdeal.nD Cert.DURefIdeal.τ Cert.DURefIdeal.sig) → Buf (Elt Ideal) ℓ) (g' : Dev Cert.DURefIdeal.nD → PrngReg), Pre_DUIdeal m →
    (∀ c : Dev Cert.DUIdeal.nD,
      m' ((c.tc : Thread Cert.DURefIdeal.nD Cert.DURefIdeal.τ).loc Cert.DURefIdeal.main_arg0) = m ((c.tc : Thread Cert.DUIdeal.nD Cert.DUIdeal.τ).loc Cert.DUIdeal.main_arg0)
      ∧ m' ((c.tc : Thread Cert.DURefIdeal.nD Cert.DURefIdeal.τ).loc Cert.DURefIdeal.main_arg1) = m ((c.tc : Thread Cert.DUIdeal.nD Cert.DUIdeal.τ).loc Cert.DUIdeal.main_arg1)) →
    ∃ (v0 : (c : Dev Cert.DUIdeal.nD) → Buf (Elt Ideal) ((c.tc : Thread Cert.DUIdeal.nD Cert.DUIdeal.τ).loc Cert.DUIdeal.main_v0)),
      θ_run (Cert.DUIdeal.defs (F := Ideal)) (onTc (τ := Cert.DUIdeal.τ) (Cert.DUIdeal.main (F := Ideal))) ⟨m, fun _ => 0, g⟩ (fun r => ∀ c : Dev Cert.DUIdeal.nD,
          r.2.mem ((c.tc : Thread Cert.DUIdeal.nD Cert.DUIdeal.τ).loc Cert.DUIdeal.main_v0) = v0 c
          ∧ r.2.mem ((c.tc : Thread Cert.DUIdeal.nD Cert.DUIdeal.τ).loc Cert.DUIdeal.main_arg0) = m ((c.tc : Thread Cert.DUIdeal.nD Cert.DUIdeal.τ).loc Cert.DUIdeal.main_arg0)
          ∧ r.2.mem ((c.tc : Thread Cert.DUIdeal.nD Cert.DUIdeal.τ).loc Cert.DUIdeal.main_arg1) = m ((c.tc : Thread Cert.DUIdeal.nD Cert.DUIdeal.τ).loc Cert.DUIdeal.main_arg1))
      ∧ θ_run (Cert.DURefIdeal.defs (F := Ideal)) (onTc (τ := Cert.DURefIdeal.τ) (Cert.DURefIdeal.main (F := Ideal))) ⟨m', fun _ => 0, g'⟩ (fun r => ∀ c : Dev Cert.DURefIdeal.nD,
          r.2.mem ((c.tc : Thread Cert.DURefIdeal.nD Cert.DURefIdeal.τ).loc Cert.DURefIdeal.main_v4) = v0 c
          ∧ r.2.mem ((c.tc : Thread Cert.DURefIdeal.nD Cert.DURefIdeal.τ).loc Cert.DURefIdeal.main_arg0) = m' ((c.tc : Thread Cert.DURefIdeal.nD Cert.DURefIdeal.τ).loc Cert.DURefIdeal.main_arg0)
          ∧ r.2.mem ((c.tc : Thread Cert.DURefIdeal.nD Cert.DURefIdeal.τ).loc Cert.DURefIdeal.main_arg1) = m' ((c.tc : Thread Cert.DURefIdeal.nD Cert.DURefIdeal.τ).loc Cert.DURefIdeal.main_arg1))

def preserves_DWGate_DWGateIdeal : Prop :=
  True

def algebraic_DWGateIdeal_DWGateRefIdeal [hDWGateIdeal : Cert.DWGateIdeal.Facts] [hDWGateRefIdeal : Cert.DWGateRefIdeal.Facts] : Prop :=
  ∀ (m : (ℓ : Loc Cert.DWGateIdeal.nD Cert.DWGateIdeal.τ Cert.DWGateIdeal.sig) → Buf (Elt Ideal) ℓ) (g : Dev Cert.DWGateIdeal.nD → PrngReg)
    (m' : (ℓ : Loc Cert.DWGateRefIdeal.nD Cert.DWGateRefIdeal.τ Cert.DWGateRefIdeal.sig) → Buf (Elt Ideal) ℓ) (g' : Dev Cert.DWGateRefIdeal.nD → PrngReg), Pre_DWGateIdeal m →
    (∀ c : Dev Cert.DWGateIdeal.nD,
      m' ((c.tc : Thread Cert.DWGateRefIdeal.nD Cert.DWGateRefIdeal.τ).loc Cert.DWGateRefIdeal.main_arg0) = m ((c.tc : Thread Cert.DWGateIdeal.nD Cert.DWGateIdeal.τ).loc Cert.DWGateIdeal.main_arg0)
      ∧ m' ((c.tc : Thread Cert.DWGateRefIdeal.nD Cert.DWGateRefIdeal.τ).loc Cert.DWGateRefIdeal.main_arg1) = m ((c.tc : Thread Cert.DWGateIdeal.nD Cert.DWGateIdeal.τ).loc Cert.DWGateIdeal.main_arg1)) →
    ∃ (v0 : (c : Dev Cert.DWGateIdeal.nD) → Buf (Elt Ideal) ((c.tc : Thread Cert.DWGateIdeal.nD Cert.DWGateIdeal.τ).loc Cert.DWGateIdeal.main_v0)),
      θ_run (Cert.DWGateIdeal.defs (F := Ideal)) (onTc (τ := Cert.DWGateIdeal.τ) (Cert.DWGateIdeal.main (F := Ideal))) ⟨m, fun _ => 0, g⟩ (fun r => ∀ c : Dev Cert.DWGateIdeal.nD,
          r.2.mem ((c.tc : Thread Cert.DWGateIdeal.nD Cert.DWGateIdeal.τ).loc Cert.DWGateIdeal.main_v0) = v0 c
          ∧ r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
          ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1))
      ∧ θ_run (Cert.DWGateRefIdeal.defs (F := Ideal)) (onTc (τ := Cert.DWGateRefIdeal.τ) (Cert.DWGateRefIdeal.main (F := Ideal))) ⟨m', fun _ => 0, g'⟩ (fun r => ∀ c : Dev Cert.DWGateRefIdeal.nD,
          r.2.mem ((c.tc : Thread Cert.DWGateRefIdeal.nD Cert.DWGateRefIdeal.τ).loc Cert.DWGateRefIdeal.main_v6) = v0 c
          ∧ r.2.mem ((c.tc : Thread Cert.DWGateRefIdeal.nD Cert.DWGateRefIdeal.τ).loc Cert.DWGateRefIdeal.main_arg0) = m' ((c.tc : Thread Cert.DWGateRefIdeal.nD Cert.DWGateRefIdeal.τ).loc Cert.DWGateRefIdeal.main_arg0)
          ∧ r.2.mem ((c.tc : Thread Cert.DWGateRefIdeal.nD Cert.DWGateRefIdeal.τ).loc Cert.DWGateRefIdeal.main_arg1) = m' ((c.tc : Thread Cert.DWGateRefIdeal.nD Cert.DWGateRefIdeal.τ).loc Cert.DWGateRefIdeal.main_arg1))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v6) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v6) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_DWSsmO_DWSsmOIdeal : Prop :=
  True

def algebraic_DWSsmOIdeal_DWSsmORefIdeal [hDWSsmOIdeal : Cert.DWSsmOIdeal.Facts] [hDWSsmORefIdeal : Cert.DWSsmORefIdeal.Facts] : Prop :=
  ∀ (m : (ℓ : Loc Cert.DWSsmOIdeal.nD Cert.DWSsmOIdeal.τ Cert.DWSsmOIdeal.sig) → Buf (Elt Ideal) ℓ) (g : Dev Cert.DWSsmOIdeal.nD → PrngReg)
    (m' : (ℓ : Loc Cert.DWSsmORefIdeal.nD Cert.DWSsmORefIdeal.τ Cert.DWSsmORefIdeal.sig) → Buf (Elt Ideal) ℓ) (g' : Dev Cert.DWSsmORefIdeal.nD → PrngReg), Pre_DWSsmOIdeal m →
    (∀ c : Dev Cert.DWSsmOIdeal.nD,
      m' ((c.tc : Thread Cert.DWSsmORefIdeal.nD Cert.DWSsmORefIdeal.τ).loc Cert.DWSsmORefIdeal.main_arg0) = m ((c.tc : Thread Cert.DWSsmOIdeal.nD Cert.DWSsmOIdeal.τ).loc Cert.DWSsmOIdeal.main_arg0)
      ∧ m' ((c.tc : Thread Cert.DWSsmORefIdeal.nD Cert.DWSsmORefIdeal.τ).loc Cert.DWSsmORefIdeal.main_arg1) = m ((c.tc : Thread Cert.DWSsmOIdeal.nD Cert.DWSsmOIdeal.τ).loc Cert.DWSsmOIdeal.main_arg1)) →
    ∃ (v0 : (c : Dev Cert.DWSsmOIdeal.nD) → Buf (Elt Ideal) ((c.tc : Thread Cert.DWSsmOIdeal.nD Cert.DWSsmOIdeal.τ).loc Cert.DWSsmOIdeal.main_v0)),
      θ_run (Cert.DWSsmOIdeal.defs (F := Ideal)) (onTc (τ := Cert.DWSsmOIdeal.τ) (Cert.DWSsmOIdeal.main (F := Ideal))) ⟨m, fun _ => 0, g⟩ (fun r => ∀ c : Dev Cert.DWSsmOIdeal.nD,
          r.2.mem ((c.tc : Thread Cert.DWSsmOIdeal.nD Cert.DWSsmOIdeal.τ).loc Cert.DWSsmOIdeal.main_v0) = v0 c
          ∧ r.2.mem ((c.tc : Thread Cert.DWSsmOIdeal.nD Cert.DWSsmOIdeal.τ).loc Cert.DWSsmOIdeal.main_arg0) = m ((c.tc : Thread Cert.DWSsmOIdeal.nD Cert.DWSsmOIdeal.τ).loc Cert.DWSsmOIdeal.main_arg0)
          ∧ r.2.mem ((c.tc : Thread Cert.DWSsmOIdeal.nD Cert.DWSsmOIdeal.τ).loc Cert.DWSsmOIdeal.main_arg1) = m ((c.tc : Thread Cert.DWSsmOIdeal.nD Cert.DWSsmOIdeal.τ).loc Cert.DWSsmOIdeal.main_arg1))
      ∧ θ_run (Cert.DWSsmORefIdeal.defs (F := Ideal)) (onTc (τ := Cert.DWSsmORefIdeal.τ) (Cert.DWSsmORefIdeal.main (F := Ideal))) ⟨m', fun _ => 0, g'⟩ (fun r => ∀ c : Dev Cert.DWSsmORefIdeal.nD,
          r.2.mem ((c.tc : Thread Cert.DWSsmORefIdeal.nD Cert.DWSsmORefIdeal.τ).loc Cert.DWSsmORefIdeal.main_v6) = v0 c
          ∧ r.2.mem ((c.tc : Thread Cert.DWSsmORefIdeal.nD Cert.DWSsmORefIdeal.τ).loc Cert.DWSsmORefIdeal.main_arg0) = m' ((c.tc : Thread Cert.DWSsmORefIdeal.nD Cert.DWSsmORefIdeal.τ).loc Cert.DWSsmORefIdeal.main_arg0)
          ∧ r.2.mem ((c.tc : Thread Cert.DWSsmORefIdeal.nD Cert.DWSsmORefIdeal.τ).loc Cert.DWSsmORefIdeal.main_arg1) = m' ((c.tc : Thread Cert.DWSsmORefIdeal.nD Cert.DWSsmORefIdeal.τ).loc Cert.DWSsmORefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DFGate_DFGateIdeal : Prop :=
  True

def algebraic_DFGateIdeal_DFGateRefIdeal [hDFGateIdeal : Cert.DFGateIdeal.Facts] [hDFGateRefIdeal : Cert.DFGateRefIdeal.Facts] : Prop :=
  ∀ (m : (ℓ : Loc Cert.DFGateIdeal.nD Cert.DFGateIdeal.τ Cert.DFGateIdeal.sig) → Buf (Elt Ideal) ℓ) (g : Dev Cert.DFGateIdeal.nD → PrngReg)
    (m' : (ℓ : Loc Cert.DFGateRefIdeal.nD Cert.DFGateRefIdeal.τ Cert.DFGateRefIdeal.sig) → Buf (Elt Ideal) ℓ) (g' : Dev Cert.DFGateRefIdeal.nD → PrngReg), Pre_DFGateIdeal m →
    (∀ c : Dev Cert.DFGateIdeal.nD,
      m' ((c.tc : Thread Cert.DFGateRefIdeal.nD Cert.DFGateRefIdeal.τ).loc Cert.DFGateRefIdeal.main_arg0) = m ((c.tc : Thread Cert.DFGateIdeal.nD Cert.DFGateIdeal.τ).loc Cert.DFGateIdeal.main_arg0)
      ∧ m' ((c.tc : Thread Cert.DFGateRefIdeal.nD Cert.DFGateRefIdeal.τ).loc Cert.DFGateRefIdeal.main_arg1) = m ((c.tc : Thread Cert.DFGateIdeal.nD Cert.DFGateIdeal.τ).loc Cert.DFGateIdeal.main_arg1)) →
    ∃ (v0 : (c : Dev Cert.DFGateIdeal.nD) → Buf (Elt Ideal) ((c.tc : Thread Cert.DFGateIdeal.nD Cert.DFGateIdeal.τ).loc Cert.DFGateIdeal.main_v0)),
      θ_run (Cert.DFGateIdeal.defs (F := Ideal)) (onTc (τ := Cert.DFGateIdeal.τ) (Cert.DFGateIdeal.main (F := Ideal))) ⟨m, fun _ => 0, g⟩ (fun r => ∀ c : Dev Cert.DFGateIdeal.nD,
          r.2.mem ((c.tc : Thread Cert.DFGateIdeal.nD Cert.DFGateIdeal.τ).loc Cert.DFGateIdeal.main_v0) = v0 c
          ∧ r.2.mem ((c.tc : Thread Cert.DFGateIdeal.nD Cert.DFGateIdeal.τ).loc Cert.DFGateIdeal.main_arg0) = m ((c.tc : Thread Cert.DFGateIdeal.nD Cert.DFGateIdeal.τ).loc Cert.DFGateIdeal.main_arg0)
          ∧ r.2.mem ((c.tc : Thread Cert.DFGateIdeal.nD Cert.DFGateIdeal.τ).loc Cert.DFGateIdeal.main_arg1) = m ((c.tc : Thread Cert.DFGateIdeal.nD Cert.DFGateIdeal.τ).loc Cert.DFGateIdeal.main_arg1))
      ∧ θ_run (Cert.DFGateRefIdeal.defs (F := Ideal)) (onTc (τ := Cert.DFGateRefIdeal.τ) (Cert.DFGateRefIdeal.main (F := Ideal))) ⟨m', fun _ => 0, g'⟩ (fun r => ∀ c : Dev Cert.DFGateRefIdeal.nD,
          r.2.mem ((c.tc : Thread Cert.DFGateRefIdeal.nD Cert.DFGateRefIdeal.τ).loc Cert.DFGateRefIdeal.main_v4) = v0 c
          ∧ r.2.mem ((c.tc : Thread Cert.DFGateRefIdeal.nD Cert.DFGateRefIdeal.τ).loc Cert.DFGateRefIdeal.main_arg0) = m' ((c.tc : Thread Cert.DFGateRefIdeal.nD Cert.DFGateRefIdeal.τ).loc Cert.DFGateRefIdeal.main_arg0)
          ∧ r.2.mem ((c.tc : Thread Cert.DFGateRefIdeal.nD Cert.DFGateRefIdeal.τ).loc Cert.DFGateRefIdeal.main_arg1) = m' ((c.tc : Thread Cert.DFGateRefIdeal.nD Cert.DFGateRefIdeal.τ).loc Cert.DFGateRefIdeal.main_arg1))

def preserves_DFUp_DFUpIdeal : Prop :=
  True

def algebraic_DFUpIdeal_DFUpRefIdeal [hDFUpIdeal : Cert.DFUpIdeal.Facts] [hDFUpRefIdeal : Cert.DFUpRefIdeal.Facts] : Prop :=
  ∀ (m : (ℓ : Loc Cert.DFUpIdeal.nD Cert.DFUpIdeal.τ Cert.DFUpIdeal.sig) → Buf (Elt Ideal) ℓ) (g : Dev Cert.DFUpIdeal.nD → PrngReg)
    (m' : (ℓ : Loc Cert.DFUpRefIdeal.nD Cert.DFUpRefIdeal.τ Cert.DFUpRefIdeal.sig) → Buf (Elt Ideal) ℓ) (g' : Dev Cert.DFUpRefIdeal.nD → PrngReg), Pre_DFUpIdeal m →
    (∀ c : Dev Cert.DFUpIdeal.nD,
      m' ((c.tc : Thread Cert.DFUpRefIdeal.nD Cert.DFUpRefIdeal.τ).loc Cert.DFUpRefIdeal.main_arg0) = m ((c.tc : Thread Cert.DFUpIdeal.nD Cert.DFUpIdeal.τ).loc Cert.DFUpIdeal.main_arg0)
      ∧ m' ((c.tc : Thread Cert.DFUpRefIdeal.nD Cert.DFUpRefIdeal.τ).loc Cert.DFUpRefIdeal.main_arg1) = m ((c.tc : Thread Cert.DFUpIdeal.nD Cert.DFUpIdeal.τ).loc Cert.DFUpIdeal.main_arg1)
      ∧ m' ((c.tc : Thread Cert.DFUpRefIdeal.nD Cert.DFUpRefIdeal.τ).loc Cert.DFUpRefIdeal.main_arg2) = m ((c.tc : Thread Cert.DFUpIdeal.nD Cert.DFUpIdeal.τ).loc Cert.DFUpIdeal.main_arg2)) →
    ∃ (v0 : (c : Dev Cert.DFUpIdeal.nD) → Buf (Elt Ideal) ((c.tc : Thread Cert.DFUpIdeal.nD Cert.DFUpIdeal.τ).loc Cert.DFUpIdeal.main_v0)),
      θ_run (Cert.DFUpIdeal.defs (F := Ideal)) (onTc (τ := Cert.DFUpIdeal.τ) (Cert.DFUpIdeal.main (F := Ideal))) ⟨m, fun _ => 0, g⟩ (fun r => ∀ c : Dev Cert.DFUpIdeal.nD,
          r.2.mem ((c.tc : Thread Cert.DFUpIdeal.nD Cert.DFUpIdeal.τ).loc Cert.DFUpIdeal.main_v0) = v0 c
          ∧ r.2.mem ((c.tc : Thread Cert.DFUpIdeal.nD Cert.DFUpIdeal.τ).loc Cert.DFUpIdeal.main_arg0) = m ((c.tc : Thread Cert.DFUpIdeal.nD Cert.DFUpIdeal.τ).loc Cert.DFUpIdeal.main_arg0)
          ∧ r.2.mem ((c.tc : Thread Cert.DFUpIdeal.nD Cert.DFUpIdeal.τ).loc Cert.DFUpIdeal.main_arg1) = m ((c.tc : Thread Cert.DFUpIdeal.nD Cert.DFUpIdeal.τ).loc Cert.DFUpIdeal.main_arg1)
          ∧ r.2.mem ((c.tc : Thread Cert.DFUpIdeal.nD Cert.DFUpIdeal.τ).loc Cert.DFUpIdeal.main_arg2) = m ((c.tc : Thread Cert.DFUpIdeal.nD Cert.DFUpIdeal.τ).loc Cert.DFUpIdeal.main_arg2))
      ∧ θ_run (Cert.DFUpRefIdeal.defs (F := Ideal)) (onTc (τ := Cert.DFUpRefIdeal.τ) (Cert.DFUpRefIdeal.main (F := Ideal))) ⟨m', fun _ => 0, g'⟩ (fun r => ∀ c : Dev Cert.DFUpRefIdeal.nD,
          r.2.mem ((c.tc : Thread Cert.DFUpRefIdeal.nD Cert.DFUpRefIdeal.τ).loc Cert.DFUpRefIdeal.main_v5) = v0 c
          ∧ r.2.mem ((c.tc : Thread Cert.DFUpRefIdeal.nD Cert.DFUpRefIdeal.τ).loc Cert.DFUpRefIdeal.main_arg0) = m' ((c.tc : Thread Cert.DFUpRefIdeal.nD Cert.DFUpRefIdeal.τ).loc Cert.DFUpRefIdeal.main_arg0)
          ∧ r.2.mem ((c.tc : Thread Cert.DFUpRefIdeal.nD Cert.DFUpRefIdeal.τ).loc Cert.DFUpRefIdeal.main_arg1) = m' ((c.tc : Thread Cert.DFUpRefIdeal.nD Cert.DFUpRefIdeal.τ).loc Cert.DFUpRefIdeal.main_arg1)
          ∧ r.2.mem ((c.tc : Thread Cert.DFUpRefIdeal.nD Cert.DFUpRefIdeal.τ).loc Cert.DFUpRefIdeal.main_arg2) = m' ((c.tc : Thread Cert.DFUpRefIdeal.nD Cert.DFUpRefIdeal.τ).loc Cert.DFUpRefIdeal.main_arg2))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v4) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_DAttn_DAttnIdeal : Prop :=
  True

def algebraic_DAttnIdeal_DAttnRefIdeal [hDAttnIdeal : Cert.DAttnIdeal.Facts] [hDAttnRefIdeal : Cert.DAttnRefIdeal.Facts] : Prop :=
  ∀ (m : (ℓ : Loc Cert.DAttnIdeal.nD Cert.DAttnIdeal.τ Cert.DAttnIdeal.sig) → Buf (Elt Ideal) ℓ) (g : Dev Cert.DAttnIdeal.nD → PrngReg)
    (m' : (ℓ : Loc Cert.DAttnRefIdeal.nD Cert.DAttnRefIdeal.τ Cert.DAttnRefIdeal.sig) → Buf (Elt Ideal) ℓ) (g' : Dev Cert.DAttnRefIdeal.nD → PrngReg), Pre_DAttnIdeal m →
    (∀ c : Dev Cert.DAttnIdeal.nD,
      m' ((c.tc : Thread Cert.DAttnRefIdeal.nD Cert.DAttnRefIdeal.τ).loc Cert.DAttnRefIdeal.main_arg0) = m ((c.tc : Thread Cert.DAttnIdeal.nD Cert.DAttnIdeal.τ).loc Cert.DAttnIdeal.main_arg0)
      ∧ m' ((c.tc : Thread Cert.DAttnRefIdeal.nD Cert.DAttnRefIdeal.τ).loc Cert.DAttnRefIdeal.main_arg1) = m ((c.tc : Thread Cert.DAttnIdeal.nD Cert.DAttnIdeal.τ).loc Cert.DAttnIdeal.main_arg1)) →
    ∃ (v0 : (c : Dev Cert.DAttnIdeal.nD) → Buf (Elt Ideal) ((c.tc : Thread Cert.DAttnIdeal.nD Cert.DAttnIdeal.τ).loc Cert.DAttnIdeal.main_v0)),
      θ_run (Cert.DAttnIdeal.defs (F := Ideal)) (onTc (τ := Cert.DAttnIdeal.τ) (Cert.DAttnIdeal.main (F := Ideal))) ⟨m, fun _ => 0, g⟩ (fun r => ∀ c : Dev Cert.DAttnIdeal.nD,
          r.2.mem ((c.tc : Thread Cert.DAttnIdeal.nD Cert.DAttnIdeal.τ).loc Cert.DAttnIdeal.main_v0) = v0 c
          ∧ r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
          ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ θ_run (Cert.DAttnRefIdeal.defs (F := Ideal)) (onTc (τ := Cert.DAttnRefIdeal.τ) (Cert.DAttnRefIdeal.main (F := Ideal))) ⟨m', fun _ => 0, g'⟩ (fun r => ∀ c : Dev Cert.DAttnRefIdeal.nD,
          r.2.mem ((c.tc : Thread Cert.DAttnRefIdeal.nD Cert.DAttnRefIdeal.τ).loc Cert.DAttnRefIdeal.main_v5) = v0 c
          ∧ r.2.mem ((c.tc : Thread Cert.DAttnRefIdeal.nD Cert.DAttnRefIdeal.τ).loc Cert.DAttnRefIdeal.main_arg0) = m' ((c.tc : Thread Cert.DAttnRefIdeal.nD Cert.DAttnRefIdeal.τ).loc Cert.DAttnRefIdeal.main_arg0)
          ∧ r.2.mem ((c.tc : Thread Cert.DAttnRefIdeal.nD Cert.DAttnRefIdeal.τ).loc Cert.DAttnRefIdeal.main_arg1) = m' ((c.tc : Thread Cert.DAttnRefIdeal.nD Cert.DAttnRefIdeal.τ).loc Cert.DAttnRefIdeal.main_arg1))

def preserves_DSsm_DSsmIdeal : Prop :=
  True

def algebraic_DSsmIdeal_DSsmRefIdeal [hDSsmIdeal : Cert.DSsmIdeal.Facts] [hDSsmRefIdeal : Cert.DSsmRefIdeal.Facts] : Prop :=
  ∀ (m : (ℓ : Loc Cert.DSsmIdeal.nD Cert.DSsmIdeal.τ Cert.DSsmIdeal.sig) → Buf (Elt Ideal) ℓ) (g : Dev Cert.DSsmIdeal.nD → PrngReg)
    (m' : (ℓ : Loc Cert.DSsmRefIdeal.nD Cert.DSsmRefIdeal.τ Cert.DSsmRefIdeal.sig) → Buf (Elt Ideal) ℓ) (g' : Dev Cert.DSsmRefIdeal.nD → PrngReg), Pre_DSsmIdeal m →
    (∀ c : Dev Cert.DSsmIdeal.nD,
      m' ((c.tc : Thread Cert.DSsmRefIdeal.nD Cert.DSsmRefIdeal.τ).loc Cert.DSsmRefIdeal.main_arg0) = m ((c.tc : Thread Cert.DSsmIdeal.nD Cert.DSsmIdeal.τ).loc Cert.DSsmIdeal.main_arg0)
      ∧ m' ((c.tc : Thread Cert.DSsmRefIdeal.nD Cert.DSsmRefIdeal.τ).loc Cert.DSsmRefIdeal.main_arg1) = m ((c.tc : Thread Cert.DSsmIdeal.nD Cert.DSsmIdeal.τ).loc Cert.DSsmIdeal.main_arg1)) →
    ∃ (v0 : (c : Dev Cert.DSsmIdeal.nD) → Buf (Elt Ideal) ((c.tc : Thread Cert.DSsmIdeal.nD Cert.DSsmIdeal.τ).loc Cert.DSsmIdeal.main_v0)),
      θ_run (Cert.DSsmIdeal.defs (F := Ideal)) (onTc (τ := Cert.DSsmIdeal.τ) (Cert.DSsmIdeal.main (F := Ideal))) ⟨m, fun _ => 0, g⟩ (fun r => ∀ c : Dev Cert.DSsmIdeal.nD,
          r.2.mem ((c.tc : Thread Cert.DSsmIdeal.nD Cert.DSsmIdeal.τ).loc Cert.DSsmIdeal.main_v0) = v0 c
          ∧ r.2.mem ((c.tc : Thread Cert.DSsmIdeal.nD Cert.DSsmIdeal.τ).loc Cert.DSsmIdeal.main_arg0) = m ((c.tc : Thread Cert.DSsmIdeal.nD Cert.DSsmIdeal.τ).loc Cert.DSsmIdeal.main_arg0)
          ∧ r.2.mem ((c.tc : Thread Cert.DSsmIdeal.nD Cert.DSsmIdeal.τ).loc Cert.DSsmIdeal.main_arg1) = m ((c.tc : Thread Cert.DSsmIdeal.nD Cert.DSsmIdeal.τ).loc Cert.DSsmIdeal.main_arg1))
      ∧ θ_run (Cert.DSsmRefIdeal.defs (F := Ideal)) (onTc (τ := Cert.DSsmRefIdeal.τ) (Cert.DSsmRefIdeal.main (F := Ideal))) ⟨m', fun _ => 0, g'⟩ (fun r => ∀ c : Dev Cert.DSsmRefIdeal.nD,
          r.2.mem ((c.tc : Thread Cert.DSsmRefIdeal.nD Cert.DSsmRefIdeal.τ).loc Cert.DSsmRefIdeal.main_v4) = v0 c
          ∧ r.2.mem ((c.tc : Thread Cert.DSsmRefIdeal.nD Cert.DSsmRefIdeal.τ).loc Cert.DSsmRefIdeal.main_arg0) = m' ((c.tc : Thread Cert.DSsmRefIdeal.nD Cert.DSsmRefIdeal.τ).loc Cert.DSsmRefIdeal.main_arg0)
          ∧ r.2.mem ((c.tc : Thread Cert.DSsmRefIdeal.nD Cert.DSsmRefIdeal.τ).loc Cert.DSsmRefIdeal.main_arg1) = m' ((c.tc : Thread Cert.DSsmRefIdeal.nD Cert.DSsmRefIdeal.τ).loc Cert.DSsmRefIdeal.main_arg1))

def preserves_DWQ_DWQIdeal : Prop :=
  True

def algebraic_DWQIdeal_DWQRefIdeal [hDWQIdeal : Cert.DWQIdeal.Facts] [hDWQRefIdeal : Cert.DWQRefIdeal.Facts] : Prop :=
  ∀ (m : (ℓ : Loc Cert.DWQIdeal.nD Cert.DWQIdeal.τ Cert.DWQIdeal.sig) → Buf (Elt Ideal) ℓ) (g : Dev Cert.DWQIdeal.nD → PrngReg)
    (m' : (ℓ : Loc Cert.DWQRefIdeal.nD Cert.DWQRefIdeal.τ Cert.DWQRefIdeal.sig) → Buf (Elt Ideal) ℓ) (g' : Dev Cert.DWQRefIdeal.nD → PrngReg), Pre_DWQIdeal m →
    (∀ c : Dev Cert.DWQIdeal.nD,
      m' ((c.tc : Thread Cert.DWQRefIdeal.nD Cert.DWQRefIdeal.τ).loc Cert.DWQRefIdeal.main_arg0) = m ((c.tc : Thread Cert.DWQIdeal.nD Cert.DWQIdeal.τ).loc Cert.DWQIdeal.main_arg0)
      ∧ m' ((c.tc : Thread Cert.DWQRefIdeal.nD Cert.DWQRefIdeal.τ).loc Cert.DWQRefIdeal.main_arg1) = m ((c.tc : Thread Cert.DWQIdeal.nD Cert.DWQIdeal.τ).loc Cert.DWQIdeal.main_arg1)) →
    ∃ (v0 : (c : Dev Cert.DWQIdeal.nD) → Buf (Elt Ideal) ((c.tc : Thread Cert.DWQIdeal.nD Cert.DWQIdeal.τ).loc Cert.DWQIdeal.main_v0)),
      θ_run (Cert.DWQIdeal.defs (F := Ideal)) (onTc (τ := Cert.DWQIdeal.τ) (Cert.DWQIdeal.main (F := Ideal))) ⟨m, fun _ => 0, g⟩ (fun r => ∀ c : Dev Cert.DWQIdeal.nD,
          r.2.mem ((c.tc : Thread Cert.DWQIdeal.nD Cert.DWQIdeal.τ).loc Cert.DWQIdeal.main_v0) = v0 c
          ∧ r.2.mem ((c.tc : Thread Cert.DWQIdeal.nD Cert.DWQIdeal.τ).loc Cert.DWQIdeal.main_arg0) = m ((c.tc : Thread Cert.DWQIdeal.nD Cert.DWQIdeal.τ).loc Cert.DWQIdeal.main_arg0)
          ∧ r.2.mem ((c.tc : Thread Cert.DWQIdeal.nD Cert.DWQIdeal.τ).loc Cert.DWQIdeal.main_arg1) = m ((c.tc : Thread Cert.DWQIdeal.nD Cert.DWQIdeal.τ).loc Cert.DWQIdeal.main_arg1))
      ∧ θ_run (Cert.DWQRefIdeal.defs (F := Ideal)) (onTc (τ := Cert.DWQRefIdeal.τ) (Cert.DWQRefIdeal.main (F := Ideal))) ⟨m', fun _ => 0, g'⟩ (fun r => ∀ c : Dev Cert.DWQRefIdeal.nD,
          r.2.mem ((c.tc : Thread Cert.DWQRefIdeal.nD Cert.DWQRefIdeal.τ).loc Cert.DWQRefIdeal.main_v6) = v0 c
          ∧ r.2.mem ((c.tc : Thread Cert.DWQRefIdeal.nD Cert.DWQRefIdeal.τ).loc Cert.DWQRefIdeal.main_arg0) = m' ((c.tc : Thread Cert.DWQRefIdeal.nD Cert.DWQRefIdeal.τ).loc Cert.DWQRefIdeal.main_arg0)
          ∧ r.2.mem ((c.tc : Thread Cert.DWQRefIdeal.nD Cert.DWQRefIdeal.τ).loc Cert.DWQRefIdeal.main_arg1) = m' ((c.tc : Thread Cert.DWQRefIdeal.nD Cert.DWQRefIdeal.τ).loc Cert.DWQRefIdeal.main_arg1))

def preserves_DWV_DWVIdeal : Prop :=
  True

def algebraic_DWVIdeal_DWVRefIdeal [hDWVIdeal : Cert.DWVIdeal.Facts] [hDWVRefIdeal : Cert.DWVRefIdeal.Facts] : Prop :=
  ∀ (m : (ℓ : Loc Cert.DWVIdeal.nD Cert.DWVIdeal.τ Cert.DWVIdeal.sig) → Buf (Elt Ideal) ℓ) (g : Dev Cert.DWVIdeal.nD → PrngReg)
    (m' : (ℓ : Loc Cert.DWVRefIdeal.nD Cert.DWVRefIdeal.τ Cert.DWVRefIdeal.sig) → Buf (Elt Ideal) ℓ) (g' : Dev Cert.DWVRefIdeal.nD → PrngReg), Pre_DWVIdeal m →
    (∀ c : Dev Cert.DWVIdeal.nD,
      m' ((c.tc : Thread Cert.DWVRefIdeal.nD Cert.DWVRefIdeal.τ).loc Cert.DWVRefIdeal.main_arg0) = m ((c.tc : Thread Cert.DWVIdeal.nD Cert.DWVIdeal.τ).loc Cert.DWVIdeal.main_arg0)
      ∧ m' ((c.tc : Thread Cert.DWVRefIdeal.nD Cert.DWVRefIdeal.τ).loc Cert.DWVRefIdeal.main_arg1) = m ((c.tc : Thread Cert.DWVIdeal.nD Cert.DWVIdeal.τ).loc Cert.DWVIdeal.main_arg1)) →
    ∃ (v0 : (c : Dev Cert.DWVIdeal.nD) → Buf (Elt Ideal) ((c.tc : Thread Cert.DWVIdeal.nD Cert.DWVIdeal.τ).loc Cert.DWVIdeal.main_v0)),
      θ_run (Cert.DWVIdeal.defs (F := Ideal)) (onTc (τ := Cert.DWVIdeal.τ) (Cert.DWVIdeal.main (F := Ideal))) ⟨m, fun _ => 0, g⟩ (fun r => ∀ c : Dev Cert.DWVIdeal.nD,
          r.2.mem ((c.tc : Thread Cert.DWVIdeal.nD Cert.DWVIdeal.τ).loc Cert.DWVIdeal.main_v0) = v0 c
          ∧ r.2.mem ((c.tc : Thread Cert.DWVIdeal.nD Cert.DWVIdeal.τ).loc Cert.DWVIdeal.main_arg0) = m ((c.tc : Thread Cert.DWVIdeal.nD Cert.DWVIdeal.τ).loc Cert.DWVIdeal.main_arg0)
          ∧ r.2.mem ((c.tc : Thread Cert.DWVIdeal.nD Cert.DWVIdeal.τ).loc Cert.DWVIdeal.main_arg1) = m ((c.tc : Thread Cert.DWVIdeal.nD Cert.DWVIdeal.τ).loc Cert.DWVIdeal.main_arg1))
      ∧ θ_run (Cert.DWVRefIdeal.defs (F := Ideal)) (onTc (τ := Cert.DWVRefIdeal.τ) (Cert.DWVRefIdeal.main (F := Ideal))) ⟨m', fun _ => 0, g'⟩ (fun r => ∀ c : Dev Cert.DWVRefIdeal.nD,
          r.2.mem ((c.tc : Thread Cert.DWVRefIdeal.nD Cert.DWVRefIdeal.τ).loc Cert.DWVRefIdeal.main_v6) = v0 c
          ∧ r.2.mem ((c.tc : Thread Cert.DWVRefIdeal.nD Cert.DWVRefIdeal.τ).loc Cert.DWVRefIdeal.main_arg0) = m' ((c.tc : Thread Cert.DWVRefIdeal.nD Cert.DWVRefIdeal.τ).loc Cert.DWVRefIdeal.main_arg0)
          ∧ r.2.mem ((c.tc : Thread Cert.DWVRefIdeal.nD Cert.DWVRefIdeal.τ).loc Cert.DWVRefIdeal.main_arg1) = m' ((c.tc : Thread Cert.DWVRefIdeal.nD Cert.DWVRefIdeal.τ).loc Cert.DWVRefIdeal.main_arg1))

def preserves_DCqN_DCqNIdeal : Prop :=
  True

def algebraic_DCqNIdeal_DCqNRefIdeal [hDCqNIdeal : Cert.DCqNIdeal.Facts] [hDCqNRefIdeal : Cert.DCqNRefIdeal.Facts] : Prop :=
  ∀ (m : (ℓ : Loc Cert.DCqNIdeal.nD Cert.DCqNIdeal.τ Cert.DCqNIdeal.sig) → Buf (Elt Ideal) ℓ) (g : Dev Cert.DCqNIdeal.nD → PrngReg)
    (m' : (ℓ : Loc Cert.DCqNRefIdeal.nD Cert.DCqNRefIdeal.τ Cert.DCqNRefIdeal.sig) → Buf (Elt Ideal) ℓ) (g' : Dev Cert.DCqNRefIdeal.nD → PrngReg), Pre_DCqNIdeal m →
    (∀ c : Dev Cert.DCqNIdeal.nD,
      m' ((c.tc : Thread Cert.DCqNRefIdeal.nD Cert.DCqNRefIdeal.τ).loc Cert.DCqNRefIdeal.main_arg0) = m ((c.tc : Thread Cert.DCqNIdeal.nD Cert.DCqNIdeal.τ).loc Cert.DCqNIdeal.main_arg0)
      ∧ m' ((c.tc : Thread Cert.DCqNRefIdeal.nD Cert.DCqNRefIdeal.τ).loc Cert.DCqNRefIdeal.main_arg1) = m ((c.tc : Thread Cert.DCqNIdeal.nD Cert.DCqNIdeal.τ).loc Cert.DCqNIdeal.main_arg1)) →
    ∃ (v0 : (c : Dev Cert.DCqNIdeal.nD) → Buf (Elt Ideal) ((c.tc : Thread Cert.DCqNIdeal.nD Cert.DCqNIdeal.τ).loc Cert.DCqNIdeal.main_v0)),
      θ_run (Cert.DCqNIdeal.defs (F := Ideal)) (onTc (τ := Cert.DCqNIdeal.τ) (Cert.DCqNIdeal.main (F := Ideal))) ⟨m, fun _ => 0, g⟩ (fun r => ∀ c : Dev Cert.DCqNIdeal.nD,
          r.2.mem ((c.tc : Thread Cert.DCqNIdeal.nD Cert.DCqNIdeal.τ).loc Cert.DCqNIdeal.main_v0) = v0 c
          ∧ r.2.mem ((c.tc : Thread Cert.DCqNIdeal.nD Cert.DCqNIdeal.τ).loc Cert.DCqNIdeal.main_arg0) = m ((c.tc : Thread Cert.DCqNIdeal.nD Cert.DCqNIdeal.τ).loc Cert.DCqNIdeal.main_arg0)
          ∧ r.2.mem ((c.tc : Thread Cert.DCqNIdeal.nD Cert.DCqNIdeal.τ).loc Cert.DCqNIdeal.main_arg1) = m ((c.tc : Thread Cert.DCqNIdeal.nD Cert.DCqNIdeal.τ).loc Cert.DCqNIdeal.main_arg1))
      ∧ θ_run (Cert.DCqNRefIdeal.defs (F := Ideal)) (onTc (τ := Cert.DCqNRefIdeal.τ) (Cert.DCqNRefIdeal.main (F := Ideal))) ⟨m', fun _ => 0, g'⟩ (fun r => ∀ c : Dev Cert.DCqNRefIdeal.nD,
          r.2.mem ((c.tc : Thread Cert.DCqNRefIdeal.nD Cert.DCqNRefIdeal.τ).loc Cert.DCqNRefIdeal.main_v4) = v0 c
          ∧ r.2.mem ((c.tc : Thread Cert.DCqNRefIdeal.nD Cert.DCqNRefIdeal.τ).loc Cert.DCqNRefIdeal.main_arg0) = m' ((c.tc : Thread Cert.DCqNRefIdeal.nD Cert.DCqNRefIdeal.τ).loc Cert.DCqNRefIdeal.main_arg0)
          ∧ r.2.mem ((c.tc : Thread Cert.DCqNRefIdeal.nD Cert.DCqNRefIdeal.τ).loc Cert.DCqNRefIdeal.main_arg1) = m' ((c.tc : Thread Cert.DCqNRefIdeal.nD Cert.DCqNRefIdeal.τ).loc Cert.DCqNRefIdeal.main_arg1))

def preserves_DCkvNV_DCkvNVIdeal : Prop :=
  True

def algebraic_DCkvNVIdeal_DCkvNVRefIdeal [hDCkvNVIdeal : Cert.DCkvNVIdeal.Facts] [hDCkvNVRefIdeal : Cert.DCkvNVRefIdeal.Facts] : Prop :=
  ∀ (m : (ℓ : Loc Cert.DCkvNVIdeal.nD Cert.DCkvNVIdeal.τ Cert.DCkvNVIdeal.sig) → Buf (Elt Ideal) ℓ) (g : Dev Cert.DCkvNVIdeal.nD → PrngReg)
    (m' : (ℓ : Loc Cert.DCkvNVRefIdeal.nD Cert.DCkvNVRefIdeal.τ Cert.DCkvNVRefIdeal.sig) → Buf (Elt Ideal) ℓ) (g' : Dev Cert.DCkvNVRefIdeal.nD → PrngReg), Pre_DCkvNVIdeal m →
    (∀ c : Dev Cert.DCkvNVIdeal.nD,
      m' ((c.tc : Thread Cert.DCkvNVRefIdeal.nD Cert.DCkvNVRefIdeal.τ).loc Cert.DCkvNVRefIdeal.main_arg0) = m ((c.tc : Thread Cert.DCkvNVIdeal.nD Cert.DCkvNVIdeal.τ).loc Cert.DCkvNVIdeal.main_arg0)
      ∧ m' ((c.tc : Thread Cert.DCkvNVRefIdeal.nD Cert.DCkvNVRefIdeal.τ).loc Cert.DCkvNVRefIdeal.main_arg1) = m ((c.tc : Thread Cert.DCkvNVIdeal.nD Cert.DCkvNVIdeal.τ).loc Cert.DCkvNVIdeal.main_arg1)
      ∧ m' ((c.tc : Thread Cert.DCkvNVRefIdeal.nD Cert.DCkvNVRefIdeal.τ).loc Cert.DCkvNVRefIdeal.main_arg2) = m ((c.tc : Thread Cert.DCkvNVIdeal.nD Cert.DCkvNVIdeal.τ).loc Cert.DCkvNVIdeal.main_arg2)) →
    ∃ (v0 : (c : Dev Cert.DCkvNVIdeal.nD) → Buf (Elt Ideal) ((c.tc : Thread Cert.DCkvNVIdeal.nD Cert.DCkvNVIdeal.τ).loc Cert.DCkvNVIdeal.main_v0)),
      θ_run (Cert.DCkvNVIdeal.defs (F := Ideal)) (onTc (τ := Cert.DCkvNVIdeal.τ) (Cert.DCkvNVIdeal.main (F := Ideal))) ⟨m, fun _ => 0, g⟩ (fun r => ∀ c : Dev Cert.DCkvNVIdeal.nD,
          r.2.mem ((c.tc : Thread Cert.DCkvNVIdeal.nD Cert.DCkvNVIdeal.τ).loc Cert.DCkvNVIdeal.main_v0) = v0 c
          ∧ r.2.mem ((c.tc : Thread Cert.DCkvNVIdeal.nD Cert.DCkvNVIdeal.τ).loc Cert.DCkvNVIdeal.main_arg0) = m ((c.tc : Thread Cert.DCkvNVIdeal.nD Cert.DCkvNVIdeal.τ).loc Cert.DCkvNVIdeal.main_arg0)
          ∧ r.2.mem ((c.tc : Thread Cert.DCkvNVIdeal.nD Cert.DCkvNVIdeal.τ).loc Cert.DCkvNVIdeal.main_arg1) = m ((c.tc : Thread Cert.DCkvNVIdeal.nD Cert.DCkvNVIdeal.τ).loc Cert.DCkvNVIdeal.main_arg1)
          ∧ r.2.mem ((c.tc : Thread Cert.DCkvNVIdeal.nD Cert.DCkvNVIdeal.τ).loc Cert.DCkvNVIdeal.main_arg2) = m ((c.tc : Thread Cert.DCkvNVIdeal.nD Cert.DCkvNVIdeal.τ).loc Cert.DCkvNVIdeal.main_arg2))
      ∧ θ_run (Cert.DCkvNVRefIdeal.defs (F := Ideal)) (onTc (τ := Cert.DCkvNVRefIdeal.τ) (Cert.DCkvNVRefIdeal.main (F := Ideal))) ⟨m', fun _ => 0, g'⟩ (fun r => ∀ c : Dev Cert.DCkvNVRefIdeal.nD,
          r.2.mem ((c.tc : Thread Cert.DCkvNVRefIdeal.nD Cert.DCkvNVRefIdeal.τ).loc Cert.DCkvNVRefIdeal.main_v5) = v0 c
          ∧ r.2.mem ((c.tc : Thread Cert.DCkvNVRefIdeal.nD Cert.DCkvNVRefIdeal.τ).loc Cert.DCkvNVRefIdeal.main_arg0) = m' ((c.tc : Thread Cert.DCkvNVRefIdeal.nD Cert.DCkvNVRefIdeal.τ).loc Cert.DCkvNVRefIdeal.main_arg0)
          ∧ r.2.mem ((c.tc : Thread Cert.DCkvNVRefIdeal.nD Cert.DCkvNVRefIdeal.τ).loc Cert.DCkvNVRefIdeal.main_arg1) = m' ((c.tc : Thread Cert.DCkvNVRefIdeal.nD Cert.DCkvNVRefIdeal.τ).loc Cert.DCkvNVRefIdeal.main_arg1)
          ∧ r.2.mem ((c.tc : Thread Cert.DCkvNVRefIdeal.nD Cert.DCkvNVRefIdeal.τ).loc Cert.DCkvNVRefIdeal.main_arg2) = m' ((c.tc : Thread Cert.DCkvNVRefIdeal.nD Cert.DCkvNVRefIdeal.τ).loc Cert.DCkvNVRefIdeal.main_arg2))

def preserves_DWPle_DWPleIdeal : Prop :=
  True

def algebraic_DWPleIdeal_DWPleRefIdeal [hDWPleIdeal : Cert.DWPleIdeal.Facts] [hDWPleRefIdeal : Cert.DWPleRefIdeal.Facts] : Prop :=
  ∀ (m : (ℓ : Loc Cert.DWPleIdeal.nD Cert.DWPleIdeal.τ Cert.DWPleIdeal.sig) → Buf (Elt Ideal) ℓ) (g : Dev Cert.DWPleIdeal.nD → PrngReg)
    (m' : (ℓ : Loc Cert.DWPleRefIdeal.nD Cert.DWPleRefIdeal.τ Cert.DWPleRefIdeal.sig) → Buf (Elt Ideal) ℓ) (g' : Dev Cert.DWPleRefIdeal.nD → PrngReg), Pre_DWPleIdeal m →
    (∀ c : Dev Cert.DWPleIdeal.nD,
      m' ((c.tc : Thread Cert.DWPleRefIdeal.nD Cert.DWPleRefIdeal.τ).loc Cert.DWPleRefIdeal.main_arg0) = m ((c.tc : Thread Cert.DWPleIdeal.nD Cert.DWPleIdeal.τ).loc Cert.DWPleIdeal.main_arg0)
      ∧ m' ((c.tc : Thread Cert.DWPleRefIdeal.nD Cert.DWPleRefIdeal.τ).loc Cert.DWPleRefIdeal.main_arg1) = m ((c.tc : Thread Cert.DWPleIdeal.nD Cert.DWPleIdeal.τ).loc Cert.DWPleIdeal.main_arg1)) →
    ∃ (v0 : (c : Dev Cert.DWPleIdeal.nD) → Buf (Elt Ideal) ((c.tc : Thread Cert.DWPleIdeal.nD Cert.DWPleIdeal.τ).loc Cert.DWPleIdeal.main_v0)),
      θ_run (Cert.DWPleIdeal.defs (F := Ideal)) (onTc (τ := Cert.DWPleIdeal.τ) (Cert.DWPleIdeal.main (F := Ideal))) ⟨m, fun _ => 0, g⟩ (fun r => ∀ c : Dev Cert.DWPleIdeal.nD,
          r.2.mem ((c.tc : Thread Cert.DWPleIdeal.nD Cert.DWPleIdeal.τ).loc Cert.DWPleIdeal.main_v0) = v0 c
          ∧ r.2.mem ((c.tc : Thread Cert.DWPleIdeal.nD Cert.DWPleIdeal.τ).loc Cert.DWPleIdeal.main_arg0) = m ((c.tc : Thread Cert.DWPleIdeal.nD Cert.DWPleIdeal.τ).loc Cert.DWPleIdeal.main_arg0)
          ∧ r.2.mem ((c.tc : Thread Cert.DWPleIdeal.nD Cert.DWPleIdeal.τ).loc Cert.DWPleIdeal.main_arg1) = m ((c.tc : Thread Cert.DWPleIdeal.nD Cert.DWPleIdeal.τ).loc Cert.DWPleIdeal.main_arg1))
      ∧ θ_run (Cert.DWPleRefIdeal.defs (F := Ideal)) (onTc (τ := Cert.DWPleRefIdeal.τ) (Cert.DWPleRefIdeal.main (F := Ideal))) ⟨m', fun _ => 0, g'⟩ (fun r => ∀ c : Dev Cert.DWPleRefIdeal.nD,
          r.2.mem ((c.tc : Thread Cert.DWPleRefIdeal.nD Cert.DWPleRefIdeal.τ).loc Cert.DWPleRefIdeal.main_v5) = v0 c
          ∧ r.2.mem ((c.tc : Thread Cert.DWPleRefIdeal.nD Cert.DWPleRefIdeal.τ).loc Cert.DWPleRefIdeal.main_arg0) = m' ((c.tc : Thread Cert.DWPleRefIdeal.nD Cert.DWPleRefIdeal.τ).loc Cert.DWPleRefIdeal.main_arg0)
          ∧ r.2.mem ((c.tc : Thread Cert.DWPleRefIdeal.nD Cert.DWPleRefIdeal.τ).loc Cert.DWPleRefIdeal.main_arg1) = m' ((c.tc : Thread Cert.DWPleRefIdeal.nD Cert.DWPleRefIdeal.τ).loc Cert.DWPleRefIdeal.main_arg1))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v0)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v0) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v2) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InXbc_InXbcIdeal : Prop :=
  True

def algebraic_InXbcIdeal_InXbcRefIdeal [hInXbcIdeal : Cert.InXbcIdeal.Facts] [hInXbcRefIdeal : Cert.InXbcRefIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcRefIdeal.nD Cert.InXbcRefIdeal.τ Cert.InXbcRefIdeal.sig) → Buf (Elt Ideal) ℓ) (g' : Dev Cert.InXbcRefIdeal.nD → PrngReg), Pre_InXbcIdeal m →
    (∀ c : Dev Cert.InXbcIdeal.nD,
      m' ((c.tc : Thread Cert.InXbcRefIdeal.nD Cert.InXbcRefIdeal.τ).loc Cert.InXbcRefIdeal.main_arg0) = m ((c.tc : Thread Cert.InXbcIdeal.nD Cert.InXbcIdeal.τ).loc Cert.InXbcIdeal.main_arg0)
      ∧ m' ((c.tc : Thread Cert.InXbcRefIdeal.nD Cert.InXbcRefIdeal.τ).loc Cert.InXbcRefIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v0)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v0) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcRefIdeal.defs (F := Ideal)) (onTc (τ := Cert.InXbcRefIdeal.τ) (Cert.InXbcRefIdeal.main (F := Ideal))) ⟨m', fun _ => 0, g'⟩ (fun r => ∀ c : Dev Cert.InXbcRefIdeal.nD,
          r.2.mem ((c.tc : Thread Cert.InXbcRefIdeal.nD Cert.InXbcRefIdeal.τ).loc Cert.InXbcRefIdeal.main_v2) = v0 c
          ∧ r.2.mem ((c.tc : Thread Cert.InXbcRefIdeal.nD Cert.InXbcRefIdeal.τ).loc Cert.InXbcRefIdeal.main_arg0) = m' ((c.tc : Thread Cert.InXbcRefIdeal.nD Cert.InXbcRefIdeal.τ).loc Cert.InXbcRefIdeal.main_arg0)
          ∧ r.2.mem ((c.tc : Thread Cert.InXbcRefIdeal.nD Cert.InXbcRefIdeal.τ).loc Cert.InXbcRefIdeal.main_arg1) = m' ((c.tc : Thread Cert.InXbcRefIdeal.nD Cert.InXbcRefIdeal.τ).loc Cert.InXbcRefIdeal.main_arg1))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)) →
    ∃ (v0 : (c : Dev Cert.FfnGateIdeal.nD) → Buf (Elt Ideal) ((c.tc : Thread Cert.FfnGateIdeal.nD Cert.FfnGateIdeal.τ).loc Cert.FfnGateIdeal.main_v0)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v2) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_SsmO_SsmOIdeal : Prop :=
  True

def algebraic_SsmOIdeal_SsmORefIdeal [hSsmOIdeal : Cert.SsmOIdeal.Facts] [hSsmORefIdeal : Cert.SsmORefIdeal.Facts] : Prop :=
  ∀ (m : (ℓ : Loc Cert.SsmOIdeal.nD Cert.SsmOIdeal.τ Cert.SsmOIdeal.sig) → Buf (Elt Ideal) ℓ) (g : Dev Cert.SsmOIdeal.nD → PrngReg)
    (m' : (ℓ : Loc Cert.SsmORefIdeal.nD Cert.SsmORefIdeal.τ Cert.SsmORefIdeal.sig) → Buf (Elt Ideal) ℓ) (g' : Dev Cert.SsmORefIdeal.nD → PrngReg), Pre_SsmOIdeal m →
    (∀ c : Dev Cert.SsmOIdeal.nD,
      m' ((c.tc : Thread Cert.SsmORefIdeal.nD Cert.SsmORefIdeal.τ).loc Cert.SsmORefIdeal.main_arg0) = m ((c.tc : Thread Cert.SsmOIdeal.nD Cert.SsmOIdeal.τ).loc Cert.SsmOIdeal.main_arg0)
      ∧ m' ((c.tc : Thread Cert.SsmORefIdeal.nD Cert.SsmORefIdeal.τ).loc Cert.SsmORefIdeal.main_arg1) = m ((c.tc : Thread Cert.SsmOIdeal.nD Cert.SsmOIdeal.τ).loc Cert.SsmOIdeal.main_arg1)) →
    ∃ (v0 : (c : Dev Cert.SsmOIdeal.nD) → Buf (Elt Ideal) ((c.tc : Thread Cert.SsmOIdeal.nD Cert.SsmOIdeal.τ).loc Cert.SsmOIdeal.main_v0)),
      θ_run (Cert.SsmOIdeal.defs (F := Ideal)) (onTc (τ := Cert.SsmOIdeal.τ) (Cert.SsmOIdeal.main (F := Ideal))) ⟨m, fun _ => 0, g⟩ (fun r => ∀ c : Dev Cert.SsmOIdeal.nD,
          r.2.mem ((c.tc : Thread Cert.SsmOIdeal.nD Cert.SsmOIdeal.τ).loc Cert.SsmOIdeal.main_v0) = v0 c
          ∧ r.2.mem ((c.tc : Thread Cert.SsmOIdeal.nD Cert.SsmOIdeal.τ).loc Cert.SsmOIdeal.main_arg0) = m ((c.tc : Thread Cert.SsmOIdeal.nD Cert.SsmOIdeal.τ).loc Cert.SsmOIdeal.main_arg0)
          ∧ r.2.mem ((c.tc : Thread Cert.SsmOIdeal.nD Cert.SsmOIdeal.τ).loc Cert.SsmOIdeal.main_arg1) = m ((c.tc : Thread Cert.SsmOIdeal.nD Cert.SsmOIdeal.τ).loc Cert.SsmOIdeal.main_arg1))
      ∧ θ_run (Cert.SsmORefIdeal.defs (F := Ideal)) (onTc (τ := Cert.SsmORefIdeal.τ) (Cert.SsmORefIdeal.main (F := Ideal))) ⟨m', fun _ => 0, g'⟩ (fun r => ∀ c : Dev Cert.SsmORefIdeal.nD,
          r.2.mem ((c.tc : Thread Cert.SsmORefIdeal.nD Cert.SsmORefIdeal.τ).loc Cert.SsmORefIdeal.main_v2) = v0 c
          ∧ r.2.mem ((c.tc : Thread Cert.SsmORefIdeal.nD Cert.SsmORefIdeal.τ).loc Cert.SsmORefIdeal.main_arg0) = m' ((c.tc : Thread Cert.SsmORefIdeal.nD Cert.SsmORefIdeal.τ).loc Cert.SsmORefIdeal.main_arg0)
          ∧ r.2.mem ((c.tc : Thread Cert.SsmORefIdeal.nD Cert.SsmORefIdeal.τ).loc Cert.SsmORefIdeal.main_arg1) = m' ((c.tc : Thread Cert.SsmORefIdeal.nD Cert.SsmORefIdeal.τ).loc Cert.SsmORefIdeal.main_arg1))

def preserves_InCqkv_InCqkvIdeal : Prop :=
  True

def algebraic_InCqkvIdeal_InCqkvRefIdeal [hInCqkvIdeal : Cert.InCqkvIdeal.Facts] [hInCqkvRefIdeal : Cert.InCqkvRefIdeal.Facts] : Prop :=
  ∀ (m : (ℓ : Loc Cert.InCqkvIdeal.nD Cert.InCqkvIdeal.τ Cert.InCqkvIdeal.sig) → Buf (Elt Ideal) ℓ) (g : Dev Cert.InCqkvIdeal.nD → PrngReg)
    (m' : (ℓ : Loc Cert.InCqkvRefIdeal.nD Cert.InCqkvRefIdeal.τ Cert.InCqkvRefIdeal.sig) → Buf (Elt Ideal) ℓ) (g' : Dev Cert.InCqkvRefIdeal.nD → PrngReg), Pre_InCqkvIdeal m →
    (∀ c : Dev Cert.InCqkvIdeal.nD,
      m' ((c.tc : Thread Cert.InCqkvRefIdeal.nD Cert.InCqkvRefIdeal.τ).loc Cert.InCqkvRefIdeal.main_arg0) = m ((c.tc : Thread Cert.InCqkvIdeal.nD Cert.InCqkvIdeal.τ).loc Cert.InCqkvIdeal.main_arg0)
      ∧ m' ((c.tc : Thread Cert.InCqkvRefIdeal.nD Cert.InCqkvRefIdeal.τ).loc Cert.InCqkvRefIdeal.main_arg1) = m ((c.tc : Thread Cert.InCqkvIdeal.nD Cert.InCqkvIdeal.τ).loc Cert.InCqkvIdeal.main_arg1)) →
    ∃ (v0 : (c : Dev Cert.InCqkvIdeal.nD) → Buf (Elt Ideal) ((c.tc : Thread Cert.InCqkvIdeal.nD Cert.InCqkvIdeal.τ).loc Cert.InCqkvIdeal.main_v0)),
      θ_run (Cert.InCqkvIdeal.defs (F := Ideal)) (onTc (τ := Cert.InCqkvIdeal.τ) (Cert.InCqkvIdeal.main (F := Ideal))) ⟨m, fun _ => 0, g⟩ (fun r => ∀ c : Dev Cert.InCqkvIdeal.nD,
          r.2.mem ((c.tc : Thread Cert.InCqkvIdeal.nD Cert.InCqkvIdeal.τ).loc Cert.InCqkvIdeal.main_v0) = v0 c
          ∧ r.2.mem ((c.tc : Thread Cert.InCqkvIdeal.nD Cert.InCqkvIdeal.τ).loc Cert.InCqkvIdeal.main_arg0) = m ((c.tc : Thread Cert.InCqkvIdeal.nD Cert.InCqkvIdeal.τ).loc Cert.InCqkvIdeal.main_arg0)
          ∧ r.2.mem ((c.tc : Thread Cert.InCqkvIdeal.nD Cert.InCqkvIdeal.τ).loc Cert.InCqkvIdeal.main_arg1) = m ((c.tc : Thread Cert.InCqkvIdeal.nD Cert.InCqkvIdeal.τ).loc Cert.InCqkvIdeal.main_arg1))
      ∧ θ_run (Cert.InCqkvRefIdeal.defs (F := Ideal)) (onTc (τ := Cert.InCqkvRefIdeal.τ) (Cert.InCqkvRefIdeal.main (F := Ideal))) ⟨m', fun _ => 0, g'⟩ (fun r => ∀ c : Dev Cert.InCqkvRefIdeal.nD,
          r.2.mem ((c.tc : Thread Cert.InCqkvRefIdeal.nD Cert.InCqkvRefIdeal.τ).loc Cert.InCqkvRefIdeal.main_v2) = v0 c
          ∧ r.2.mem ((c.tc : Thread Cert.InCqkvRefIdeal.nD Cert.InCqkvRefIdeal.τ).loc Cert.InCqkvRefIdeal.main_arg0) = m' ((c.tc : Thread Cert.InCqkvRefIdeal.nD Cert.InCqkvRefIdeal.τ).loc Cert.InCqkvRefIdeal.main_arg0)
          ∧ r.2.mem ((c.tc : Thread Cert.InCqkvRefIdeal.nD Cert.InCqkvRefIdeal.τ).loc Cert.InCqkvRefIdeal.main_arg1) = m' ((c.tc : Thread Cert.InCqkvRefIdeal.nD Cert.InCqkvRefIdeal.τ).loc Cert.InCqkvRefIdeal.main_arg1))

def preserves_InSmall_InSmallIdeal : Prop :=
  True

def algebraic_InSmallIdeal_InSmallRefIdeal [hInSmallIdeal : Cert.InSmallIdeal.Facts] [hInSmallRefIdeal : Cert.InSmallRefIdeal.Facts] : Prop :=
  ∀ (m : (ℓ : Loc Cert.InSmallIdeal.nD Cert.InSmallIdeal.τ Cert.InSmallIdeal.sig) → Buf (Elt Ideal) ℓ) (g : Dev Cert.InSmallIdeal.nD → PrngReg)
    (m' : (ℓ : Loc Cert.InSmallRefIdeal.nD Cert.InSmallRefIdeal.τ Cert.InSmallRefIdeal.sig) → Buf (Elt Ideal) ℓ) (g' : Dev Cert.InSmallRefIdeal.nD → PrngReg), Pre_InSmallIdeal m →
    (∀ c : Dev Cert.InSmallIdeal.nD,
      m' ((c.tc : Thread Cert.InSmallRefIdeal.nD Cert.InSmallRefIdeal.τ).loc Cert.InSmallRefIdeal.main_arg0) = m ((c.tc : Thread Cert.InSmallIdeal.nD Cert.InSmallIdeal.τ).loc Cert.InSmallIdeal.main_arg0)
      ∧ m' ((c.tc : Thread Cert.InSmallRefIdeal.nD Cert.InSmallRefIdeal.τ).loc Cert.InSmallRefIdeal.main_arg1) = m ((c.tc : Thread Cert.InSmallIdeal.nD Cert.InSmallIdeal.τ).loc Cert.InSmallIdeal.main_arg1)) →
    ∃ (v0 : (c : Dev Cert.InSmallIdeal.nD) → Buf (Elt Ideal) ((c.tc : Thread Cert.InSmallIdeal.nD Cert.InSmallIdeal.τ).loc Cert.InSmallIdeal.main_v0)),
      θ_run (Cert.InSmallIdeal.defs (F := Ideal)) (onTc (τ := Cert.InSmallIdeal.τ) (Cert.InSmallIdeal.main (F := Ideal))) ⟨m, fun _ => 0, g⟩ (fun r => ∀ c : Dev Cert.InSmallIdeal.nD,
          r.2.mem ((c.tc : Thread Cert.InSmallIdeal.nD Cert.InSmallIdeal.τ).loc Cert.InSmallIdeal.main_v0) = v0 c
          ∧ r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
          ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ θ_run (Cert.InSmallRefIdeal.defs (F := Ideal)) (onTc (τ := Cert.InSmallRefIdeal.τ) (Cert.InSmallRefIdeal.main (F := Ideal))) ⟨m', fun _ => 0, g'⟩ (fun r => ∀ c : Dev Cert.InSmallRefIdeal.nD,
          r.2.mem ((c.tc : Thread Cert.InSmallRefIdeal.nD Cert.InSmallRefIdeal.τ).loc Cert.InSmallRefIdeal.main_v2) = v0 c
          ∧ r.2.mem ((c.tc : Thread Cert.InSmallRefIdeal.nD Cert.InSmallRefIdeal.τ).loc Cert.InSmallRefIdeal.main_arg0) = m' ((c.tc : Thread Cert.InSmallRefIdeal.nD Cert.InSmallRefIdeal.τ).loc Cert.InSmallRefIdeal.main_arg0)
          ∧ r.2.mem ((c.tc : Thread Cert.InSmallRefIdeal.nD Cert.InSmallRefIdeal.τ).loc Cert.InSmallRefIdeal.main_arg1) = m' ((c.tc : Thread Cert.InSmallRefIdeal.nD Cert.InSmallRefIdeal.τ).loc Cert.InSmallRefIdeal.main_arg1))

def preserves_UpQ_UpQIdeal : Prop :=
  True

def algebraic_UpQIdeal_UpQRefIdeal [hUpQIdeal : Cert.UpQIdeal.Facts] [hUpQRefIdeal : Cert.UpQRefIdeal.Facts] : Prop :=
  ∀ (m : (ℓ : Loc Cert.UpQIdeal.nD Cert.UpQIdeal.τ Cert.UpQIdeal.sig) → Buf (Elt Ideal) ℓ) (g : Dev Cert.UpQIdeal.nD → PrngReg)
    (m' : (ℓ : Loc Cert.UpQRefIdeal.nD Cert.UpQRefIdeal.τ Cert.UpQRefIdeal.sig) → Buf (Elt Ideal) ℓ) (g' : Dev Cert.UpQRefIdeal.nD → PrngReg), Pre_UpQIdeal m →
    (∀ c : Dev Cert.UpQIdeal.nD,
      m' ((c.tc : Thread Cert.UpQRefIdeal.nD Cert.UpQRefIdeal.τ).loc Cert.UpQRefIdeal.main_arg0) = m ((c.tc : Thread Cert.UpQIdeal.nD Cert.UpQIdeal.τ).loc Cert.UpQIdeal.main_arg0)
      ∧ m' ((c.tc : Thread Cert.UpQRefIdeal.nD Cert.UpQRefIdeal.τ).loc Cert.UpQRefIdeal.main_arg1) = m ((c.tc : Thread Cert.UpQIdeal.nD Cert.UpQIdeal.τ).loc Cert.UpQIdeal.main_arg1)) →
    ∃ (v0 : (c : Dev Cert.UpQIdeal.nD) → Buf (Elt Ideal) ((c.tc : Thread Cert.UpQIdeal.nD Cert.UpQIdeal.τ).loc Cert.UpQIdeal.main_v0)),
      θ_run (Cert.UpQIdeal.defs (F := Ideal)) (onTc (τ := Cert.UpQIdeal.τ) (Cert.UpQIdeal.main (F := Ideal))) ⟨m, fun _ => 0, g⟩ (fun r => ∀ c : Dev Cert.UpQIdeal.nD,
          r.2.mem ((c.tc : Thread Cert.UpQIdeal.nD Cert.UpQIdeal.τ).loc Cert.UpQIdeal.main_v0) = v0 c
          ∧ r.2.mem ((c.tc : Thread Cert.UpQIdeal.nD Cert.UpQIdeal.τ).loc Cert.UpQIdeal.main_arg0) = m ((c.tc : Thread Cert.UpQIdeal.nD Cert.UpQIdeal.τ).loc Cert.UpQIdeal.main_arg0)
          ∧ r.2.mem ((c.tc : Thread Cert.UpQIdeal.nD Cert.UpQIdeal.τ).loc Cert.UpQIdeal.main_arg1) = m ((c.tc : Thread Cert.UpQIdeal.nD Cert.UpQIdeal.τ).loc Cert.UpQIdeal.main_arg1))
      ∧ θ_run (Cert.UpQRefIdeal.defs (F := Ideal)) (onTc (τ := Cert.UpQRefIdeal.τ) (Cert.UpQRefIdeal.main (F := Ideal))) ⟨m', fun _ => 0, g'⟩ (fun r => ∀ c : Dev Cert.UpQRefIdeal.nD,
          r.2.mem ((c.tc : Thread Cert.UpQRefIdeal.nD Cert.UpQRefIdeal.τ).loc Cert.UpQRefIdeal.main_v2) = v0 c
          ∧ r.2.mem ((c.tc : Thread Cert.UpQRefIdeal.nD Cert.UpQRefIdeal.τ).loc Cert.UpQRefIdeal.main_arg0) = m' ((c.tc : Thread Cert.UpQRefIdeal.nD Cert.UpQRefIdeal.τ).loc Cert.UpQRefIdeal.main_arg0)
          ∧ r.2.mem ((c.tc : Thread Cert.UpQRefIdeal.nD Cert.UpQRefIdeal.τ).loc Cert.UpQRefIdeal.main_arg1) = m' ((c.tc : Thread Cert.UpQRefIdeal.nD Cert.UpQRefIdeal.τ).loc Cert.UpQRefIdeal.main_arg1))

def preserves_UpV_UpVIdeal : Prop :=
  True

def algebraic_UpVIdeal_UpVRefIdeal [hUpVIdeal : Cert.UpVIdeal.Facts] [hUpVRefIdeal : Cert.UpVRefIdeal.Facts] : Prop :=
  ∀ (m : (ℓ : Loc Cert.UpVIdeal.nD Cert.UpVIdeal.τ Cert.UpVIdeal.sig) → Buf (Elt Ideal) ℓ) (g : Dev Cert.UpVIdeal.nD → PrngReg)
    (m' : (ℓ : Loc Cert.UpVRefIdeal.nD Cert.UpVRefIdeal.τ Cert.UpVRefIdeal.sig) → Buf (Elt Ideal) ℓ) (g' : Dev Cert.UpVRefIdeal.nD → PrngReg), Pre_UpVIdeal m →
    (∀ c : Dev Cert.UpVIdeal.nD,
      m' ((c.tc : Thread Cert.UpVRefIdeal.nD Cert.UpVRefIdeal.τ).loc Cert.UpVRefIdeal.main_arg0) = m ((c.tc : Thread Cert.UpVIdeal.nD Cert.UpVIdeal.τ).loc Cert.UpVIdeal.main_arg0)
      ∧ m' ((c.tc : Thread Cert.UpVRefIdeal.nD Cert.UpVRefIdeal.τ).loc Cert.UpVRefIdeal.main_arg1) = m ((c.tc : Thread Cert.UpVIdeal.nD Cert.UpVIdeal.τ).loc Cert.UpVIdeal.main_arg1)) →
    ∃ (v0 : (c : Dev Cert.UpVIdeal.nD) → Buf (Elt Ideal) ((c.tc : Thread Cert.UpVIdeal.nD Cert.UpVIdeal.τ).loc Cert.UpVIdeal.main_v0)),
      θ_run (Cert.UpVIdeal.defs (F := Ideal)) (onTc (τ := Cert.UpVIdeal.τ) (Cert.UpVIdeal.main (F := Ideal))) ⟨m, fun _ => 0, g⟩ (fun r => ∀ c : Dev Cert.UpVIdeal.nD,
          r.2.mem ((c.tc : Thread Cert.UpVIdeal.nD Cert.UpVIdeal.τ).loc Cert.UpVIdeal.main_v0) = v0 c
          ∧ r.2.mem ((c.tc : Thread Cert.UpVIdeal.nD Cert.UpVIdeal.τ).loc Cert.UpVIdeal.main_arg0) = m ((c.tc : Thread Cert.UpVIdeal.nD Cert.UpVIdeal.τ).loc Cert.UpVIdeal.main_arg0)
          ∧ r.2.mem ((c.tc : Thread Cert.UpVIdeal.nD Cert.UpVIdeal.τ).loc Cert.UpVIdeal.main_arg1) = m ((c.tc : Thread Cert.UpVIdeal.nD Cert.UpVIdeal.τ).loc Cert.UpVIdeal.main_arg1))
      ∧ θ_run (Cert.UpVRefIdeal.defs (F := Ideal)) (onTc (τ := Cert.UpVRefIdeal.τ) (Cert.UpVRefIdeal.main (F := Ideal))) ⟨m', fun _ => 0, g'⟩ (fun r => ∀ c : Dev Cert.UpVRefIdeal.nD,
          r.2.mem ((c.tc : Thread Cert.UpVRefIdeal.nD Cert.UpVRefIdeal.τ).loc Cert.UpVRefIdeal.main_v3) = v0 c
          ∧ r.2.mem ((c.tc : Thread Cert.UpVRefIdeal.nD Cert.UpVRefIdeal.τ).loc Cert.UpVRefIdeal.main_arg0) = m' ((c.tc : Thread Cert.UpVRefIdeal.nD Cert.UpVRefIdeal.τ).loc Cert.UpVRefIdeal.main_arg0)
          ∧ r.2.mem ((c.tc : Thread Cert.UpVRefIdeal.nD Cert.UpVRefIdeal.τ).loc Cert.UpVRefIdeal.main_arg1) = m' ((c.tc : Thread Cert.UpVRefIdeal.nD Cert.UpVRefIdeal.τ).loc Cert.UpVRefIdeal.main_arg1))

def preserves_UpVT_UpVTIdeal : Prop :=
  True

def algebraic_UpVTIdeal_UpVTRefIdeal [hUpVTIdeal : Cert.UpVTIdeal.Facts] [hUpVTRefIdeal : Cert.UpVTRefIdeal.Facts] : Prop :=
  ∀ (m : (ℓ : Loc Cert.UpVTIdeal.nD Cert.UpVTIdeal.τ Cert.UpVTIdeal.sig) → Buf (Elt Ideal) ℓ) (g : Dev Cert.UpVTIdeal.nD → PrngReg)
    (m' : (ℓ : Loc Cert.UpVTRefIdeal.nD Cert.UpVTRefIdeal.τ Cert.UpVTRefIdeal.sig) → Buf (Elt Ideal) ℓ) (g' : Dev Cert.UpVTRefIdeal.nD → PrngReg), Pre_UpVTIdeal m →
    (∀ c : Dev Cert.UpVTIdeal.nD,
      m' ((c.tc : Thread Cert.UpVTRefIdeal.nD Cert.UpVTRefIdeal.τ).loc Cert.UpVTRefIdeal.main_arg0) = m ((c.tc : Thread Cert.UpVTIdeal.nD Cert.UpVTIdeal.τ).loc Cert.UpVTIdeal.main_arg0)
      ∧ m' ((c.tc : Thread Cert.UpVTRefIdeal.nD Cert.UpVTRefIdeal.τ).loc Cert.UpVTRefIdeal.main_arg1) = m ((c.tc : Thread Cert.UpVTIdeal.nD Cert.UpVTIdeal.τ).loc Cert.UpVTIdeal.main_arg1)) →
    ∃ (v0 : (c : Dev Cert.UpVTIdeal.nD) → Buf (Elt Ideal) ((c.tc : Thread Cert.UpVTIdeal.nD Cert.UpVTIdeal.τ).loc Cert.UpVTIdeal.main_v0)),
      θ_run (Cert.UpVTIdeal.defs (F := Ideal)) (onTc (τ := Cert.UpVTIdeal.τ) (Cert.UpVTIdeal.main (F := Ideal))) ⟨m, fun _ => 0, g⟩ (fun r => ∀ c : Dev Cert.UpVTIdeal.nD,
          r.2.mem ((c.tc : Thread Cert.UpVTIdeal.nD Cert.UpVTIdeal.τ).loc Cert.UpVTIdeal.main_v0) = v0 c
          ∧ r.2.mem ((c.tc : Thread Cert.UpVTIdeal.nD Cert.UpVTIdeal.τ).loc Cert.UpVTIdeal.main_arg0) = m ((c.tc : Thread Cert.UpVTIdeal.nD Cert.UpVTIdeal.τ).loc Cert.UpVTIdeal.main_arg0)
          ∧ r.2.mem ((c.tc : Thread Cert.UpVTIdeal.nD Cert.UpVTIdeal.τ).loc Cert.UpVTIdeal.main_arg1) = m ((c.tc : Thread Cert.UpVTIdeal.nD Cert.UpVTIdeal.τ).loc Cert.UpVTIdeal.main_arg1))
      ∧ θ_run (Cert.UpVTRefIdeal.defs (F := Ideal)) (onTc (τ := Cert.UpVTRefIdeal.τ) (Cert.UpVTRefIdeal.main (F := Ideal))) ⟨m', fun _ => 0, g'⟩ (fun r => ∀ c : Dev Cert.UpVTRefIdeal.nD,
          r.2.mem ((c.tc : Thread Cert.UpVTRefIdeal.nD Cert.UpVTRefIdeal.τ).loc Cert.UpVTRefIdeal.main_v5) = v0 c
          ∧ r.2.mem ((c.tc : Thread Cert.UpVTRefIdeal.nD Cert.UpVTRefIdeal.τ).loc Cert.UpVTRefIdeal.main_arg0) = m' ((c.tc : Thread Cert.UpVTRefIdeal.nD Cert.UpVTRefIdeal.τ).loc Cert.UpVTRefIdeal.main_arg0)
          ∧ r.2.mem ((c.tc : Thread Cert.UpVTRefIdeal.nD Cert.UpVTRefIdeal.τ).loc Cert.UpVTRefIdeal.main_arg1) = m' ((c.tc : Thread Cert.UpVTRefIdeal.nD Cert.UpVTRefIdeal.τ).loc Cert.UpVTRefIdeal.main_arg1))

def preserves_SwiGlu_SwiGluIdeal : Prop :=
  True

def algebraic_SwiGluIdeal_SwiGluRefIdeal [hSwiGluIdeal : Cert.SwiGluIdeal.Facts] [hSwiGluRefIdeal : Cert.SwiGluRefIdeal.Facts] : Prop :=
  ∀ (m : (ℓ : Loc Cert.SwiGluIdeal.nD Cert.SwiGluIdeal.τ Cert.SwiGluIdeal.sig) → Buf (Elt Ideal) ℓ) (g : Dev Cert.SwiGluIdeal.nD → PrngReg)
    (m' : (ℓ : Loc Cert.SwiGluRefIdeal.nD Cert.SwiGluRefIdeal.τ Cert.SwiGluRefIdeal.sig) → Buf (Elt Ideal) ℓ) (g' : Dev Cert.SwiGluRefIdeal.nD → PrngReg), Pre_SwiGluIdeal m →
    (∀ c : Dev Cert.SwiGluIdeal.nD,
      m' ((c.tc : Thread Cert.SwiGluRefIdeal.nD Cert.SwiGluRefIdeal.τ).loc Cert.SwiGluRefIdeal.main_arg0) = m ((c.tc : Thread Cert.SwiGluIdeal.nD Cert.SwiGluIdeal.τ).loc Cert.SwiGluIdeal.main_arg0)
      ∧ m' ((c.tc : Thread Cert.SwiGluRefIdeal.nD Cert.SwiGluRefIdeal.τ).loc Cert.SwiGluRefIdeal.main_arg1) = m ((c.tc : Thread Cert.SwiGluIdeal.nD Cert.SwiGluIdeal.τ).loc Cert.SwiGluIdeal.main_arg1)) →
    ∃ (v0 : (c : Dev Cert.SwiGluIdeal.nD) → Buf (Elt Ideal) ((c.tc : Thread Cert.SwiGluIdeal.nD Cert.SwiGluIdeal.τ).loc Cert.SwiGluIdeal.main_v0)),
      θ_run (Cert.SwiGluIdeal.defs (F := Ideal)) (onTc (τ := Cert.SwiGluIdeal.τ) (Cert.SwiGluIdeal.main (F := Ideal))) ⟨m, fun _ => 0, g⟩ (fun r => ∀ c : Dev Cert.SwiGluIdeal.nD,
          r.2.mem ((c.tc : Thread Cert.SwiGluIdeal.nD Cert.SwiGluIdeal.τ).loc Cert.SwiGluIdeal.main_v0) = v0 c
          ∧ r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0)
          ∧ r.2.mem ((c.tc : Thread Cert.SwiGluIdeal.nD Cert.SwiGluIdeal.τ).loc Cert.SwiGluIdeal.main_arg1) = m ((c.tc : Thread Cert.SwiGluIdeal.nD Cert.SwiGluIdeal.τ).loc Cert.SwiGluIdeal.main_arg1))
      ∧ θ_run (Cert.SwiGluRefIdeal.defs (F := Ideal)) (onTc (τ := Cert.SwiGluRefIdeal.τ) (Cert.SwiGluRefIdeal.main (F := Ideal))) ⟨m', fun _ => 0, g'⟩ (fun r => ∀ c : Dev Cert.SwiGluRefIdeal.nD,
          r.2.mem ((c.tc : Thread Cert.SwiGluRefIdeal.nD Cert.SwiGluRefIdeal.τ).loc Cert.SwiGluRefIdeal.main_v2) = v0 c
          ∧ r.2.mem ((c.tc : Thread Cert.SwiGluRefIdeal.nD Cert.SwiGluRefIdeal.τ).loc Cert.SwiGluRefIdeal.main_arg0) = m' ((c.tc : Thread Cert.SwiGluRefIdeal.nD Cert.SwiGluRefIdeal.τ).loc Cert.SwiGluRefIdeal.main_arg0)
          ∧ r.2.mem ((c.tc : Thread Cert.SwiGluRefIdeal.nD Cert.SwiGluRefIdeal.τ).loc Cert.SwiGluRefIdeal.main_arg1) = m' ((c.tc : Thread Cert.SwiGluRefIdeal.nD Cert.SwiGluRefIdeal.τ).loc Cert.SwiGluRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v1) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def Claim : Prop :=
  ∃ (hKernel : Cert.Kernel.Facts) (hKernelIdeal : Cert.KernelIdeal.Facts) (hReferenceIdeal : Cert.ReferenceIdeal.Facts) (hFlashFwd : Cert.FlashFwd.Facts) (hFlashFwdIdeal : Cert.FlashFwdIdeal.Facts) (hFlashFwdRefIdeal : Cert.FlashFwdRefIdeal.Facts) (hDWIn : Cert.DWIn.Facts) (hDWInIdeal : Cert.DWInIdeal.Facts) (hDWInRefIdeal : Cert.DWInRefIdeal.Facts) (hDU : Cert.DU.Facts) (hDUIdeal : Cert.DUIdeal.Facts) (hDURefIdeal : Cert.DURefIdeal.Facts) (hDWGate : Cert.DWGate.Facts) (hDWGateIdeal : Cert.DWGateIdeal.Facts) (hDWGateRefIdeal : Cert.DWGateRefIdeal.Facts) (hDWDown : Cert.DWDown.Facts) (hDWDownIdeal : Cert.DWDownIdeal.Facts) (hDWDownRefIdeal : Cert.DWDownRefIdeal.Facts) (hDWOut : Cert.DWOut.Facts) (hDWOutIdeal : Cert.DWOutIdeal.Facts) (hDWOutRefIdeal : Cert.DWOutRefIdeal.Facts) (hDWSsmO : Cert.DWSsmO.Facts) (hDWSsmOIdeal : Cert.DWSsmOIdeal.Facts) (hDWSsmORefIdeal : Cert.DWSsmORefIdeal.Facts) (hDAct : Cert.DAct.Facts) (hDActIdeal : Cert.DActIdeal.Facts) (hDActRefIdeal : Cert.DActRefIdeal.Facts) (hDFGate : Cert.DFGate.Facts) (hDFGateIdeal : Cert.DFGateIdeal.Facts) (hDFGateRefIdeal : Cert.DFGateRefIdeal.Facts) (hDFUp : Cert.DFUp.Facts) (hDFUpIdeal : Cert.DFUpIdeal.Facts) (hDFUpRefIdeal : Cert.DFUpRefIdeal.Facts) (hDMixed : Cert.DMixed.Facts) (hDMixedIdeal : Cert.DMixedIdeal.Facts) (hDMixedRefIdeal : Cert.DMixedRefIdeal.Facts) (hDAttn : Cert.DAttn.Facts) (hDAttnIdeal : Cert.DAttnIdeal.Facts) (hDAttnRefIdeal : Cert.DAttnRefIdeal.Facts) (hDSsm : Cert.DSsm.Facts) (hDSsmIdeal : Cert.DSsmIdeal.Facts) (hDSsmRefIdeal : Cert.DSsmRefIdeal.Facts) (hDWQ : Cert.DWQ.Facts) (hDWQIdeal : Cert.DWQIdeal.Facts) (hDWQRefIdeal : Cert.DWQRefIdeal.Facts) (hDWV : Cert.DWV.Facts) (hDWVIdeal : Cert.DWVIdeal.Facts) (hDWVRefIdeal : Cert.DWVRefIdeal.Facts) (hDCqN : Cert.DCqN.Facts) (hDCqNIdeal : Cert.DCqNIdeal.Facts) (hDCqNRefIdeal : Cert.DCqNRefIdeal.Facts) (hDCkvNV : Cert.DCkvNV.Facts) (hDCkvNVIdeal : Cert.DCkvNVIdeal.Facts) (hDCkvNVRefIdeal : Cert.DCkvNVRefIdeal.Facts) (hDWPle : Cert.DWPle.Facts) (hDWPleIdeal : Cert.DWPleIdeal.Facts) (hDWPleRefIdeal : Cert.DWPleRefIdeal.Facts) (hInZ : Cert.InZ.Facts) (hInZIdeal : Cert.InZIdeal.Facts) (hInZRefIdeal : Cert.InZRefIdeal.Facts) (hInXbc : Cert.InXbc.Facts) (hInXbcIdeal : Cert.InXbcIdeal.Facts) (hInXbcRefIdeal : Cert.InXbcRefIdeal.Facts) (hFfnGate : Cert.FfnGate.Facts) (hFfnGateIdeal : Cert.FfnGateIdeal.Facts) (hFfnGateRefIdeal : Cert.FfnGateRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hSsmO : Cert.SsmO.Facts) (hSsmOIdeal : Cert.SsmOIdeal.Facts) (hSsmORefIdeal : Cert.SsmORefIdeal.Facts) (hInCqkv : Cert.InCqkv.Facts) (hInCqkvIdeal : Cert.InCqkvIdeal.Facts) (hInCqkvRefIdeal : Cert.InCqkvRefIdeal.Facts) (hInSmall : Cert.InSmall.Facts) (hInSmallIdeal : Cert.InSmallIdeal.Facts) (hInSmallRefIdeal : Cert.InSmallRefIdeal.Facts) (hUpQ : Cert.UpQ.Facts) (hUpQIdeal : Cert.UpQIdeal.Facts) (hUpQRefIdeal : Cert.UpQRefIdeal.Facts) (hUpV : Cert.UpV.Facts) (hUpVIdeal : Cert.UpVIdeal.Facts) (hUpVRefIdeal : Cert.UpVRefIdeal.Facts) (hUpVT : Cert.UpVT.Facts) (hUpVTIdeal : Cert.UpVTIdeal.Facts) (hUpVTRefIdeal : Cert.UpVTRefIdeal.Facts) (hSwiGlu : Cert.SwiGlu.Facts) (hSwiGluIdeal : Cert.SwiGluIdeal.Facts) (hSwiGluRefIdeal : Cert.SwiGluRefIdeal.Facts) (hPleProj : Cert.PleProj.Facts) (hPleProjIdeal : Cert.PleProjIdeal.Facts) (hPleProjRefIdeal : Cert.PleProjRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FlashFwd (hFlashFwd := hFlashFwd)
    ∧ quiescent_FlashFwdIdeal (hFlashFwdIdeal := hFlashFwdIdeal)
    ∧ quiescent_FlashFwdIdeal_pre_finite_fwd (hFlashFwdIdeal := hFlashFwdIdeal) (hPre_finite_fwd := hPre_finite_fwd)
    ∧ quiescent_FlashFwdRefIdeal (hFlashFwdRefIdeal := hFlashFwdRefIdeal)
    ∧ quiescent_FlashFwdRefIdeal_pre_finite_fwd (hFlashFwdRefIdeal := hFlashFwdRefIdeal) (hPre_finite_fwd := hPre_finite_fwd)
    ∧ quiescent_DWIn (hDWIn := hDWIn)
    ∧ quiescent_DWInIdeal (hDWInIdeal := hDWInIdeal)
    ∧ quiescent_DWInRefIdeal (hDWInRefIdeal := hDWInRefIdeal)
    ∧ quiescent_DU (hDU := hDU)
    ∧ quiescent_DUIdeal (hDUIdeal := hDUIdeal)
    ∧ quiescent_DURefIdeal (hDURefIdeal := hDURefIdeal)
    ∧ quiescent_DWGate (hDWGate := hDWGate)
    ∧ quiescent_DWGateIdeal (hDWGateIdeal := hDWGateIdeal)
    ∧ quiescent_DWGateRefIdeal (hDWGateRefIdeal := hDWGateRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_DWSsmO (hDWSsmO := hDWSsmO)
    ∧ quiescent_DWSsmOIdeal (hDWSsmOIdeal := hDWSsmOIdeal)
    ∧ quiescent_DWSsmORefIdeal (hDWSsmORefIdeal := hDWSsmORefIdeal)
    ∧ quiescent_DAct (hDAct := hDAct)
    ∧ quiescent_DActIdeal (hDActIdeal := hDActIdeal)
    ∧ quiescent_DActRefIdeal (hDActRefIdeal := hDActRefIdeal)
    ∧ quiescent_DFGate (hDFGate := hDFGate)
    ∧ quiescent_DFGateIdeal (hDFGateIdeal := hDFGateIdeal)
    ∧ quiescent_DFGateRefIdeal (hDFGateRefIdeal := hDFGateRefIdeal)
    ∧ quiescent_DFUp (hDFUp := hDFUp)
    ∧ quiescent_DFUpIdeal (hDFUpIdeal := hDFUpIdeal)
    ∧ quiescent_DFUpRefIdeal (hDFUpRefIdeal := hDFUpRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_DAttn (hDAttn := hDAttn)
    ∧ quiescent_DAttnIdeal (hDAttnIdeal := hDAttnIdeal)
    ∧ quiescent_DAttnRefIdeal (hDAttnRefIdeal := hDAttnRefIdeal)
    ∧ quiescent_DSsm (hDSsm := hDSsm)
    ∧ quiescent_DSsmIdeal (hDSsmIdeal := hDSsmIdeal)
    ∧ quiescent_DSsmRefIdeal (hDSsmRefIdeal := hDSsmRefIdeal)
    ∧ quiescent_DWQ (hDWQ := hDWQ)
    ∧ quiescent_DWQIdeal (hDWQIdeal := hDWQIdeal)
    ∧ quiescent_DWQRefIdeal (hDWQRefIdeal := hDWQRefIdeal)
    ∧ quiescent_DWV (hDWV := hDWV)
    ∧ quiescent_DWVIdeal (hDWVIdeal := hDWVIdeal)
    ∧ quiescent_DWVRefIdeal (hDWVRefIdeal := hDWVRefIdeal)
    ∧ quiescent_DCqN (hDCqN := hDCqN)
    ∧ quiescent_DCqNIdeal (hDCqNIdeal := hDCqNIdeal)
    ∧ quiescent_DCqNRefIdeal (hDCqNRefIdeal := hDCqNRefIdeal)
    ∧ quiescent_DCkvNV (hDCkvNV := hDCkvNV)
    ∧ quiescent_DCkvNVIdeal (hDCkvNVIdeal := hDCkvNVIdeal)
    ∧ quiescent_DCkvNVRefIdeal (hDCkvNVRefIdeal := hDCkvNVRefIdeal)
    ∧ quiescent_DWPle (hDWPle := hDWPle)
    ∧ quiescent_DWPleIdeal (hDWPleIdeal := hDWPleIdeal)
    ∧ quiescent_DWPleRefIdeal (hDWPleRefIdeal := hDWPleRefIdeal)
    ∧ quiescent_InZ (hInZ := hInZ)
    ∧ quiescent_InZIdeal (hInZIdeal := hInZIdeal)
    ∧ quiescent_InZRefIdeal (hInZRefIdeal := hInZRefIdeal)
    ∧ quiescent_InXbc (hInXbc := hInXbc)
    ∧ quiescent_InXbcIdeal (hInXbcIdeal := hInXbcIdeal)
    ∧ quiescent_InXbcRefIdeal (hInXbcRefIdeal := hInXbcRefIdeal)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_SsmO (hSsmO := hSsmO)
    ∧ quiescent_SsmOIdeal (hSsmOIdeal := hSsmOIdeal)
    ∧ quiescent_SsmORefIdeal (hSsmORefIdeal := hSsmORefIdeal)
    ∧ quiescent_InCqkv (hInCqkv := hInCqkv)
    ∧ quiescent_InCqkvIdeal (hInCqkvIdeal := hInCqkvIdeal)
    ∧ quiescent_InCqkvRefIdeal (hInCqkvRefIdeal := hInCqkvRefIdeal)
    ∧ quiescent_InSmall (hInSmall := hInSmall)
    ∧ quiescent_InSmallIdeal (hInSmallIdeal := hInSmallIdeal)
    ∧ quiescent_InSmallRefIdeal (hInSmallRefIdeal := hInSmallRefIdeal)
    ∧ quiescent_UpQ (hUpQ := hUpQ)
    ∧ quiescent_UpQIdeal (hUpQIdeal := hUpQIdeal)
    ∧ quiescent_UpQRefIdeal (hUpQRefIdeal := hUpQRefIdeal)
    ∧ quiescent_UpV (hUpV := hUpV)
    ∧ quiescent_UpVIdeal (hUpVIdeal := hUpVIdeal)
    ∧ quiescent_UpVRefIdeal (hUpVRefIdeal := hUpVRefIdeal)
    ∧ quiescent_UpVT (hUpVT := hUpVT)
    ∧ quiescent_UpVTIdeal (hUpVTIdeal := hUpVTIdeal)
    ∧ quiescent_UpVTRefIdeal (hUpVTRefIdeal := hUpVTRefIdeal)
    ∧ quiescent_SwiGlu (hSwiGlu := hSwiGlu)
    ∧ quiescent_SwiGluIdeal (hSwiGluIdeal := hSwiGluIdeal)
    ∧ quiescent_SwiGluRefIdeal (hSwiGluRefIdeal := hSwiGluRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FlashFwd_FlashFwdIdeal
    ∧ algebraic_FlashFwdIdeal_FlashFwdRefIdeal_pre_finite_fwd (hFlashFwdIdeal := hFlashFwdIdeal) (hFlashFwdRefIdeal := hFlashFwdRefIdeal) (hPre_finite_fwd := hPre_finite_fwd)
    ∧ preserves_DWIn_DWInIdeal
    ∧ algebraic_DWInIdeal_DWInRefIdeal (hDWInIdeal := hDWInIdeal) (hDWInRefIdeal := hDWInRefIdeal)
    ∧ preserves_DU_DUIdeal
    ∧ algebraic_DUIdeal_DURefIdeal (hDUIdeal := hDUIdeal) (hDURefIdeal := hDURefIdeal)
    ∧ preserves_DWGate_DWGateIdeal
    ∧ algebraic_DWGateIdeal_DWGateRefIdeal (hDWGateIdeal := hDWGateIdeal) (hDWGateRefIdeal := hDWGateRefIdeal)
    ∧ preserves_DWDown_DWDownIdeal
    ∧ algebraic_DWDownIdeal_DWDownRefIdeal (hDWDownIdeal := hDWDownIdeal) (hDWDownRefIdeal := hDWDownRefIdeal)
    ∧ preserves_DWOut_DWOutIdeal
    ∧ algebraic_DWOutIdeal_DWOutRefIdeal (hDWOutIdeal := hDWOutIdeal) (hDWOutRefIdeal := hDWOutRefIdeal)
    ∧ preserves_DWSsmO_DWSsmOIdeal
    ∧ algebraic_DWSsmOIdeal_DWSsmORefIdeal (hDWSsmOIdeal := hDWSsmOIdeal) (hDWSsmORefIdeal := hDWSsmORefIdeal)
    ∧ preserves_DAct_DActIdeal
    ∧ algebraic_DActIdeal_DActRefIdeal (hDActIdeal := hDActIdeal) (hDActRefIdeal := hDActRefIdeal)
    ∧ preserves_DFGate_DFGateIdeal
    ∧ algebraic_DFGateIdeal_DFGateRefIdeal (hDFGateIdeal := hDFGateIdeal) (hDFGateRefIdeal := hDFGateRefIdeal)
    ∧ preserves_DFUp_DFUpIdeal
    ∧ algebraic_DFUpIdeal_DFUpRefIdeal (hDFUpIdeal := hDFUpIdeal) (hDFUpRefIdeal := hDFUpRefIdeal)
    ∧ preserves_DMixed_DMixedIdeal
    ∧ algebraic_DMixedIdeal_DMixedRefIdeal (hDMixedIdeal := hDMixedIdeal) (hDMixedRefIdeal := hDMixedRefIdeal)
    ∧ preserves_DAttn_DAttnIdeal
    ∧ algebraic_DAttnIdeal_DAttnRefIdeal (hDAttnIdeal := hDAttnIdeal) (hDAttnRefIdeal := hDAttnRefIdeal)
    ∧ preserves_DSsm_DSsmIdeal
    ∧ algebraic_DSsmIdeal_DSsmRefIdeal (hDSsmIdeal := hDSsmIdeal) (hDSsmRefIdeal := hDSsmRefIdeal)
    ∧ preserves_DWQ_DWQIdeal
    ∧ algebraic_DWQIdeal_DWQRefIdeal (hDWQIdeal := hDWQIdeal) (hDWQRefIdeal := hDWQRefIdeal)
    ∧ preserves_DWV_DWVIdeal
    ∧ algebraic_DWVIdeal_DWVRefIdeal (hDWVIdeal := hDWVIdeal) (hDWVRefIdeal := hDWVRefIdeal)
    ∧ preserves_DCqN_DCqNIdeal
    ∧ algebraic_DCqNIdeal_DCqNRefIdeal (hDCqNIdeal := hDCqNIdeal) (hDCqNRefIdeal := hDCqNRefIdeal)
    ∧ preserves_DCkvNV_DCkvNVIdeal
    ∧ algebraic_DCkvNVIdeal_DCkvNVRefIdeal (hDCkvNVIdeal := hDCkvNVIdeal) (hDCkvNVRefIdeal := hDCkvNVRefIdeal)
    ∧ preserves_DWPle_DWPleIdeal
    ∧ algebraic_DWPleIdeal_DWPleRefIdeal (hDWPleIdeal := hDWPleIdeal) (hDWPleRefIdeal := hDWPleRefIdeal)
    ∧ preserves_InZ_InZIdeal
    ∧ algebraic_InZIdeal_InZRefIdeal (hInZIdeal := hInZIdeal) (hInZRefIdeal := hInZRefIdeal)
    ∧ preserves_InXbc_InXbcIdeal
    ∧ algebraic_InXbcIdeal_InXbcRefIdeal (hInXbcIdeal := hInXbcIdeal) (hInXbcRefIdeal := hInXbcRefIdeal)
    ∧ preserves_FfnGate_FfnGateIdeal
    ∧ algebraic_FfnGateIdeal_FfnGateRefIdeal (hFfnGateIdeal := hFfnGateIdeal) (hFfnGateRefIdeal := hFfnGateRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_SsmO_SsmOIdeal
    ∧ algebraic_SsmOIdeal_SsmORefIdeal (hSsmOIdeal := hSsmOIdeal) (hSsmORefIdeal := hSsmORefIdeal)
    ∧ preserves_InCqkv_InCqkvIdeal
    ∧ algebraic_InCqkvIdeal_InCqkvRefIdeal (hInCqkvIdeal := hInCqkvIdeal) (hInCqkvRefIdeal := hInCqkvRefIdeal)
    ∧ preserves_InSmall_InSmallIdeal
    ∧ algebraic_InSmallIdeal_InSmallRefIdeal (hInSmallIdeal := hInSmallIdeal) (hInSmallRefIdeal := hInSmallRefIdeal)
    ∧ preserves_UpQ_UpQIdeal
    ∧ algebraic_UpQIdeal_UpQRefIdeal (hUpQIdeal := hUpQIdeal) (hUpQRefIdeal := hUpQRefIdeal)
    ∧ preserves_UpV_UpVIdeal
    ∧ algebraic_UpVIdeal_UpVRefIdeal (hUpVIdeal := hUpVIdeal) (hUpVRefIdeal := hUpVRefIdeal)
    ∧ preserves_UpVT_UpVTIdeal
    ∧ algebraic_UpVTIdeal_UpVTRefIdeal (hUpVTIdeal := hUpVTIdeal) (hUpVTRefIdeal := hUpVTRefIdeal)
    ∧ preserves_SwiGlu_SwiGluIdeal
    ∧ algebraic_SwiGluIdeal_SwiGluRefIdeal (hSwiGluIdeal := hSwiGluIdeal) (hSwiGluRefIdeal := hSwiGluRefIdeal)
    ∧ preserves_PleProj_PleProjIdeal
    ∧ algebraic_PleProjIdeal_PleProjRefIdeal (hPleProjIdeal := hPleProjIdeal) (hPleProjRefIdeal := hPleProjRefIdeal)
-- ==== Pre_finite.lean ====
abbrev S8192x16x192 : Shape := ⟨3, ![8192, 16, 192]⟩
abbrev S8192x16x128 : Shape := ⟨3, ![8192, 16, 128]⟩
abbrev S_ : Shape := ⟨0, ![]⟩

class Facts : Prop where
  bcast_S_S8192x16x192 : S_.BroadcastsInDim S8192x16x192 (![] : Fin 0 → Fin S8192x16x192.rank)
  reducesTo_S8192x16x192_S_d0_1_2 : S8192x16x192.ReducesTo [0, 1, 2] S_
  h_S_ : 0 < S_.numel
  bcast_S_S8192x16x128 : S_.BroadcastsInDim S8192x16x128 (![] : Fin 0 → Fin S8192x16x128.rank)
  reducesTo_S8192x16x128_S_d0_1_2 : S8192x16x128.ReducesTo [0, 1, 2] S_

variable [Facts]

def fn_part1 {F : FTy → Type} [FloatOps F] (main_v13 : IVec S_ 1) (main_v16 : IVec S8192x16x128 1) : IVec S_ 1 :=
  let main_c_5 : IVec S_ 1 := constantI S_ 1 1#1
  let main_v17 : IVec S_ 1 := (fun x v => Host.reduce IntOp.andi x v reducesTo_S8192x16x128_S_d0_1_2 h_S_) main_v16 main_c_5
  let main_v18 : IVec S_ 1 := andi main_v13 main_v17
  main_v18

def fn {F : FTy → Type} [FloatOps F] (main_arg0 : FVec F S8192x16x192 .f32) (main_arg1 : FVec F S8192x16x192 .f32) (main_arg2 : FVec F S8192x16x128 .f32) (main_arg3 : FVec F S8192x16x128 .f32) : IVec S_ 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_c : IVec S_ 1 := constantI S_ 1 1#1
  let main_v3 : IVec S_ 1 := (fun x v => Host.reduce IntOp.andi x v reducesTo_S8192x16x192_S_d0_1_2 h_S_) main_v2 main_c
  let main_v4 : FVec F S8192x16x192 .f32 := Host.absf main_arg1
  let main_cst_0 : FVec F S_ .f32 := constant S_ .f32 0x7F800000#32
  let main_v5 : FVec F S8192x16x192 .f32 := broadcastInDim S8192x16x192 ![] bcast_S_S8192x16x192 main_cst_0
  let main_v6 : IVec S8192x16x192 1 := cmpf .olt main_v4 main_v5
  let main_c_1 : IVec S_ 1 := constantI S_ 1 1#1
  let main_v7 : IVec S_ 1 := (fun x v => Host.reduce IntOp.andi x v reducesTo_S8192x16x192_S_d0_1_2 h_S_) main_v6 main_c_1
  let main_v8 : IVec S_ 1 := andi main_v3 main_v7
  let main_v9 : FVec F S8192x16x128 .f32 := Host.absf main_arg2
  let main_cst_2 : FVec F S_ .f32 := constant S_ .f32 0x7F800000#32
  let main_v10 : FVec F S8192x16x128 .f32 := broadcastInDim S8192x16x128 ![] bcast_S_S8192x16x128 main_cst_2
  let main_v11 : IVec S8192x16x128 1 := cmpf .olt main_v9 main_v10
  let main_c_3 : IVec S_ 1 := constantI S_ 1 1#1
  let main_v12 : IVec S_ 1 := (fun x v => Host.reduce IntOp.andi x v reducesTo_S8192x16x128_S_d0_1_2 h_S_) main_v11 main_c_3
  let main_v13 : IVec S_ 1 := andi main_v8 main_v12
  let main_v14 : FVec F S8192x16x128 .f32 := Host.absf main_arg3
  let main_cst_4 : FVec F S_ .f32 := constant S_ .f32 0x7F800000#32
  let main_v15 : FVec F S8192x16x128 .f32 := broadcastInDim S8192x16x128 ![] bcast_S_S8192x16x128 main_cst_4
  let main_v16 : IVec S8192x16x128 1 := cmpf .olt main_v14 main_v15
  fn_part1 (F := F) main_v13 main_v16
-- ==== Pre_finite_fwd.lean ====
abbrev S8192x4096 : Shape := ⟨2, ![8192, 4096]⟩
abbrev S2048x8192 : Shape := ⟨2, ![2048, 8192]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .bf16) (main_arg1 : FVec F S8192x4096 .bf16) (main_arg2 : FVec F S2048x8192 .bf16) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x4096 .f32 := (extf .f32 · bitsLt_bf16_f32) main_arg1
  let main_v6 : FVec F S8192x4096 .f32 := Host.absf main_v5
  let main_cst_0 : FVec F S_ .f32 := constant S_ .f32 0x7F800000#32
  let main_v7 : FVec F S8192x4096 .f32 := broadcastInDim S8192x4096 ![] bcast_S_S8192x4096 main_cst_0
  let main_v8 : IVec S8192x4096 1 := cmpf .olt main_v6 main_v7
  let main_c_1 : IVec S_ 1 := constantI S_ 1 1#1
  let main_v9 : IVec S_ 1 := (fun x v => Host.reduce IntOp.andi x v reducesTo_S8192x4096_S_d0_1 h_S_) main_v8 main_c_1
  let main_v10 : IVec S_ 1 := andi main_v4 main_v9
  main_v10
-- ==== Kernel.lean ====
abbrev S8192x16x192 : Shape := ⟨3, ![8192, 16, 192]⟩
abbrev S8192x16x128 : Shape := ⟨3, ![8192, 16, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x8192x128 : Shape := ⟨3, ![16, 8192, 128]⟩
abbrev S8192x16x256 : Shape := ⟨3, ![8192, 16, 256]⟩
abbrev S8192x4096 : Shape := ⟨2, ![8192, 4096]⟩
abbrev S8192x2048 : Shape := ⟨2, ![8192, 2048]⟩
abbrev S16x1x8192 : Shape := ⟨3, ![16, 1, 8192]⟩
abbrev S8192x256 : Shape := ⟨2, ![8192, 256]⟩
abbrev S512x256 : Shape := ⟨2, ![512, 256]⟩
abbrev S512x128 : Shape := ⟨2, ![512, 128]⟩
abbrev S8192x128 : Shape := ⟨2, ![8192, 128]⟩
abbrev S1x1x8192 : Shape := ⟨3, ![1, 1, 8192]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 64
  | .vmem => 20
  | .smem => 0
  | _ => 0

abbrev bufTy : (tb : Table) → Fin (tcTables nBuf tb) → BufTy
  | .hbm, ⟨0, _⟩ => ⟨S8192x16x192, .f32⟩
  | .hbm, ⟨1, _⟩ => ⟨S8192x16x192, .f32⟩
  | .hbm, ⟨2, _⟩ => ⟨S8192x16x128, .f32⟩
  | .hbm, ⟨3, _⟩ => ⟨S8192x16x128, .f32⟩
  | .hbm, ⟨4, _⟩ => ⟨S16x8192x8192, .f32⟩
  | .hbm, ⟨5, _⟩ => ⟨S_, .f32⟩
  | .hbm, ⟨6, _⟩ => ⟨S16x8192x8192, .f32⟩
  | .hbm, ⟨7, _⟩ => ⟨S16x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S16x8192x8192, .i1⟩
  | .hbm, ⟨18, _⟩ => ⟨S16x8192x8192, .f32⟩
  | .hbm, ⟨19, _⟩ => ⟨S16x8192x8192, .f32⟩
  | .hbm, ⟨20, _⟩ => ⟨S_, .f32⟩
  | .hbm, ⟨21, _⟩ => ⟨S16x8192, .f32⟩
  | .hbm, ⟨22, _⟩ => ⟨S16x8192x1, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192, .f32⟩
  | .hbm, ⟨28, _⟩ => ⟨S16x8192x1, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x1, .f32⟩
  | .hbm, ⟨33, _⟩ => ⟨S16x8192x8192, .f32⟩
  | .hbm, ⟨34, _⟩ => ⟨S16x8192x8192, .f32⟩
  | .hbm, ⟨35, _⟩ => ⟨S16x8192x128, .f32⟩
  | .hbm, ⟨36, _⟩ => ⟨S16x8192x128, .f32⟩
  | .hbm, ⟨37, _⟩ => ⟨S16x8192x128, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S16x8192, .f32⟩
  | .hbm, ⟨42, _⟩ => ⟨S_, .f32⟩
  | .hbm, ⟨43, _⟩ => ⟨S8192x16x192, .f32⟩
  | .hbm, ⟨44, _⟩ => ⟨S8192x16x192, .f32⟩
  | .hbm, ⟨45, _⟩ => ⟨S_, .i32⟩
  | .hbm, ⟨46, _⟩ => ⟨S_, .f32⟩
  | .hbm, ⟨47, _⟩ => ⟨S8192x16x256, .f32⟩
  | .hbm, ⟨48, _⟩ => ⟨S8192x4096, .f32⟩
  | .hbm, ⟨49, _⟩ => ⟨S8192x4096, .bf16⟩
  | .hbm, ⟨50, _⟩ => ⟨S_, .i32⟩
  | .hbm, ⟨51, _⟩ => ⟨S_, .f32⟩
  | .hbm, ⟨52, _⟩ => ⟨S8192x16x256, .f32⟩
  | .hbm, ⟨53, _⟩ => ⟨S8192x4096, .f32⟩
  | .hbm, ⟨54, _⟩ => ⟨S8192x4096, .bf16⟩
  | .hbm, ⟨55, _⟩ => ⟨S8192x2048, .f32⟩
  | .hbm, ⟨56, _⟩ => ⟨S8192x2048, .bf16⟩
  | .hbm, ⟨57, _⟩ => ⟨S8192x2048, .f32⟩
  | .hbm, ⟨58, _⟩ => ⟨S8192x2048, .bf16⟩
  | .hbm, ⟨59, _⟩ => ⟨S16x1x8192, .f32⟩
  | .hbm, ⟨60, _⟩ => ⟨S16x1x8192, .f32⟩
  | .hbm, ⟨61, _⟩ => ⟨S8192x4096, .f32⟩
  | .hbm, ⟨62, _⟩ => ⟨S8192x4096, .f32⟩
  | .hbm, ⟨63, _⟩ => ⟨S8192x2048, .bf16⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S1x1x8192, .f32⟩
  | .local _ .vmem, ⟨9, _⟩ => ⟨S1x1x8192, .f32⟩
  | .local _ .vmem, ⟨10, _⟩ => ⟨S1x1x8192, .f32⟩
  | .local _ .vmem, ⟨11, _⟩ => ⟨S1x1x8192, .f32⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x128, .bf16⟩
  | .local _ .vmem, ⟨17, _⟩ => ⟨S512x128, .bf16⟩
  | .local _ .vmem, ⟨18, _⟩ => ⟨S512x256, .f32⟩
  | .local _ .vmem, ⟨19, _⟩ => ⟨S512x128, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_call1_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_call2_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44_0 : Ref sig .tc := ⟨.hbm, 61, rfl⟩
abbrev main_v44_1 : Ref sig .tc := ⟨.hbm, 62, rfl⟩
abbrev main_v44_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_9 : Index := 0#32
  ![v17.toNat, 0]
def k0_off2 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c0_10 : Index := 0#32
  ![v20.toNat, 0]
def k0_off3 (i : grid0.Coords) : Fin 3 → Nat :=
  let c0_13 : Index := 0#32
  let c0_14 : Index := 0#32
  let arg1 : BitVec 32 := BitVec.ofNat 32 (i 1).val
  let c512_i32 : BitVec 32 := 512#32
  let v15 : BitVec 32 := Scalar.muli arg1 c512_i32
  let v16 : BitVec 32 := v15
  let v29 : Index := Scalar.indexCast v16
  ![0, 0, v29.toNat]
@[reducible] def k0_t1_loop (i : grid0.Coords) : Scf.Loop 32 :=
  let c0_i32_38 : BitVec 32 := 0#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_40 : BitVec 32 := 1#32
  ⟨c0_i32_38, v86, c1_i32_40⟩
def k0_mult2 (i : grid0.Coords) (k0_t1 : Fin (k0_t1_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let c0_i32_74 : BitVec 32 := 0#32
  let v136 : BitVec 32 := Scalar.addi v135 c0_i32_74
  let c512_i32_75 : BitVec 32 := 512#32
  let v137 : BitVec 32 := Scalar.muli v136 c512_i32_75
  v137
def k0_off4 (i : grid0.Coords) (k0_t1 : Fin (k0_t1_loop i).trips) (c0_i32_74 : BitVec 32) : Fin 2 → Nat :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let v136 : BitVec 32 := Scalar.addi v135 c0_i32_74
  let c512_i32_75 : BitVec 32 := 512#32
  let v137 : BitVec 32 := Scalar.muli v136 c512_i32_75
  let v138 : BitVec 32 := v137
  let v139 : Index := Scalar.indexCast v138
  let c0_76 : Index := 0#32
  ![v139.toNat, 0]
def k0_off5 (i : grid0.Coords) (k0_t1 : Fin (k0_t1_loop i).trips) (c0_i32_74 : BitVec 32) : Fin 2 → Nat :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let v136 : BitVec 32 := Scalar.addi v135 c0_i32_74
  let c512_i32_75 : BitVec 32 := 512#32
  let v137 : BitVec 32 := Scalar.muli v136 c512_i32_75
  let v138 : BitVec 32 := v137
  let v142 : Index := Scalar.indexCast v138
  let c0_77 : Index := 0#32
  ![v142.toNat, 0]
def k0_off6 (i : grid0.Coords) (k0_t1 : Fin (k0_t1_loop i).trips) (c0_i32_74 : BitVec 32) : Fin 3 → Nat :=
  let c0_79 : Index := 0#32
  let c0_80 : Index := 0#32
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let v136 : BitVec 32 := Scalar.addi v135 c0_i32_74
  let c512_i32_75 : BitVec 32 := 512#32
  let v137 : BitVec 32 := Scalar.muli v136 c512_i32_75
  let v138 : BitVec 32 := v137
  let v146 : Index := Scalar.indexCast v138
  ![0, 0, v146.toNat]
def k0_mult3 (i : grid0.Coords) (k0_t1 : Fin (k0_t1_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let c1_i32_97 : BitVec 32 := 1#32
  let v180 : BitVec 32 := Scalar.addi v135 c1_i32_97
  let c512_i32_98 : BitVec 32 := 512#32
  let v181 : BitVec 32 := Scalar.muli v180 c512_i32_98
  v181
def k0_mult4 (i : grid0.Coords) (k0_t1 : Fin (k0_t1_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let c2_i32_120 : BitVec 32 := 2#32
  let v224 : BitVec 32 := Scalar.addi v135 c2_i32_120
  let c512_i32_121 : BitVec 32 := 512#32
  let v225 : BitVec 32 := Scalar.muli v224 c512_i32_121
  v225
def k0_mult5 (i : grid0.Coords) (k0_t1 : Fin (k0_t1_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let c3_i32 : BitVec 32 := 3#32
  let v268 : BitVec 32 := Scalar.addi v135 c3_i32
  let c512_i32_143 : BitVec 32 := 512#32
  let v269 : BitVec 32 := Scalar.muli v268 c512_i32_143
  v269
def k0_mult6 (i : grid0.Coords) (k0_t1 : Fin (k0_t1_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let c4_i32_165 : BitVec 32 := 4#32
  let v312 : BitVec 32 := Scalar.addi v135 c4_i32_165
  let c512_i32_166 : BitVec 32 := 512#32
  let v313 : BitVec 32 := Scalar.muli v312 c512_i32_166
  v313
def k0_mult7 (i : grid0.Coords) (k0_t1 : Fin (k0_t1_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let c5_i32 : BitVec 32 := 5#32
  let v356 : BitVec 32 := Scalar.addi v135 c5_i32
  let c512_i32_188 : BitVec 32 := 512#32
  let v357 : BitVec 32 := Scalar.muli v356 c512_i32_188
  v357
def k0_mult8 (i : grid0.Coords) (k0_t1 : Fin (k0_t1_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let c6_i32 : BitVec 32 := 6#32
  let v400 : BitVec 32 := Scalar.addi v135 c6_i32
  let c512_i32_210 : BitVec 32 := 512#32
  let v401 : BitVec 32 := Scalar.muli v400 c512_i32_210
  v401
def k0_mult9 (i : grid0.Coords) (k0_t1 : Fin (k0_t1_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c1_i32_40 : BitVec 32 := 1#32
  let arg13 : BitVec 32 := Scf.iv c0_i32_38 c1_i32_40 k0_t1
  let v134 : BitVec 32 := Scalar.muli c8_i32_73 arg13
  let v135 : BitVec 32 := Scalar.addi v63 v134
  let c7_i32 : BitVec 32 := 7#32
  let v444 : BitVec 32 := Scalar.addi v135 c7_i32
  let c512_i32_232 : BitVec 32 := 512#32
  let v445 : BitVec 32 := Scalar.muli v444 c512_i32_232
  v445
@[reducible] def k0_t2_loop (i : grid0.Coords) : Scf.Loop 32 :=
  let c0_i32_38 : BitVec 32 := 0#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let v83 : BitVec 32 := Scalar.addi c0_i32_38 v82
  let c1_i32_41 : BitVec 32 := 1#32
  ⟨v86, v83, c1_i32_41⟩
def k0_mult10 (i : grid0.Coords) (k0_t2 : Fin (k0_t2_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let c0_i32_74 : BitVec 32 := 0#32
  let v136 : BitVec 32 := Scalar.addi v135 c0_i32_74
  let c512_i32_75 : BitVec 32 := 512#32
  let v137 : BitVec 32 := Scalar.muli v136 c512_i32_75
  v137
def k0_off7 (i : grid0.Coords) (k0_t2 : Fin (k0_t2_loop i).trips) (c0_i32_74 : BitVec 32) : Fin 2 → Nat :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let v136 : BitVec 32 := Scalar.addi v135 c0_i32_74
  let c512_i32_75 : BitVec 32 := 512#32
  let v137 : BitVec 32 := Scalar.muli v136 c512_i32_75
  let v138 : BitVec 32 := v137
  let v139 : Index := Scalar.indexCast v138
  let c0_76 : Index := 0#32
  ![v139.toNat, 0]
def k0_off8 (i : grid0.Coords) (k0_t2 : Fin (k0_t2_loop i).trips) (c0_i32_74 : BitVec 32) : Fin 2 → Nat :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let v136 : BitVec 32 := Scalar.addi v135 c0_i32_74
  let c512_i32_75 : BitVec 32 := 512#32
  let v137 : BitVec 32 := Scalar.muli v136 c512_i32_75
  let v138 : BitVec 32 := v137
  let v142 : Index := Scalar.indexCast v138
  let c0_77 : Index := 0#32
  ![v142.toNat, 0]
def k0_off9 (i : grid0.Coords) (k0_t2 : Fin (k0_t2_loop i).trips) (c0_i32_74 : BitVec 32) : Fin 3 → Nat :=
  let c0_79 : Index := 0#32
  let c0_80 : Index := 0#32
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let v136 : BitVec 32 := Scalar.addi v135 c0_i32_74
  let c512_i32_75 : BitVec 32 := 512#32
  let v137 : BitVec 32 := Scalar.muli v136 c512_i32_75
  let v138 : BitVec 32 := v137
  let v146 : Index := Scalar.indexCast v138
  ![0, 0, v146.toNat]
def k0_mult11 (i : grid0.Coords) (k0_t2 : Fin (k0_t2_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let c1_i32_97 : BitVec 32 := 1#32
  let v180 : BitVec 32 := Scalar.addi v135 c1_i32_97
  let c512_i32_98 : BitVec 32 := 512#32
  let v181 : BitVec 32 := Scalar.muli v180 c512_i32_98
  v181
def k0_mult12 (i : grid0.Coords) (k0_t2 : Fin (k0_t2_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let c2_i32_120 : BitVec 32 := 2#32
  let v224 : BitVec 32 := Scalar.addi v135 c2_i32_120
  let c512_i32_121 : BitVec 32 := 512#32
  let v225 : BitVec 32 := Scalar.muli v224 c512_i32_121
  v225
def k0_mult13 (i : grid0.Coords) (k0_t2 : Fin (k0_t2_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let c3_i32 : BitVec 32 := 3#32
  let v268 : BitVec 32 := Scalar.addi v135 c3_i32
  let c512_i32_143 : BitVec 32 := 512#32
  let v269 : BitVec 32 := Scalar.muli v268 c512_i32_143
  v269
def k0_mult14 (i : grid0.Coords) (k0_t2 : Fin (k0_t2_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let c4_i32_165 : BitVec 32 := 4#32
  let v312 : BitVec 32 := Scalar.addi v135 c4_i32_165
  let c512_i32_166 : BitVec 32 := 512#32
  let v313 : BitVec 32 := Scalar.muli v312 c512_i32_166
  v313
def k0_mult15 (i : grid0.Coords) (k0_t2 : Fin (k0_t2_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let c5_i32 : BitVec 32 := 5#32
  let v356 : BitVec 32 := Scalar.addi v135 c5_i32
  let c512_i32_188 : BitVec 32 := 512#32
  let v357 : BitVec 32 := Scalar.muli v356 c512_i32_188
  v357
def k0_mult16 (i : grid0.Coords) (k0_t2 : Fin (k0_t2_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let c6_i32 : BitVec 32 := 6#32
  let v400 : BitVec 32 := Scalar.addi v135 c6_i32
  let c512_i32_210 : BitVec 32 := 512#32
  let v401 : BitVec 32 := Scalar.muli v400 c512_i32_210
  v401
def k0_mult17 (i : grid0.Coords) (k0_t2 : Fin (k0_t2_loop i).trips) : BitVec 32 :=
  let arg1 : BitVec 32 := BitVec.ofNat 32 (i 1).val
  let c1_i32 : BitVec 32 := 1#32
  let v63 : BitVec 32 := Scalar.addi arg1 c1_i32
  let c8_i32_73 : BitVec 32 := 8#32
  let c0_i32_38 : BitVec 32 := 0#32
  let c16_i32 : BitVec 32 := 16#32
  let v64 : BitVec 32 := Scalar.subi c16_i32 v63
  let c0_i32_31 : BitVec 32 := 0#32
  let v66 : BitVec 1 := Scalar.cmpi .sgt v64 c0_i32_31
  let v67 : BitVec 32 := Scalar.extui v66
  let c0_i32_32 : BitVec 32 := 0#32
  let v68 : BitVec 1 := Scalar.cmpi .slt v64 c0_i32_32
  let v69 : BitVec 32 := Scalar.extui v68
  let v70 : BitVec 32 := Scalar.subi v67 v69
  let c8_i32 : BitVec 32 := 8#32
  let c0_i32_33 : BitVec 32 := 0#32
  let v71 : BitVec 1 := Scalar.cmpi .sgt c8_i32 c0_i32_33
  let v72 : BitVec 32 := Scalar.extui v71
  let c0_i32_34 : BitVec 32 := 0#32
  let v73 : BitVec 1 := Scalar.cmpi .slt c8_i32 c0_i32_34
  let v74 : BitVec 32 := Scalar.extui v73
  let v75 : BitVec 32 := Scalar.subi v72 v74
  let v76 : BitVec 1 := Scalar.cmpi .ne v70 v75
  let v77 : BitVec 32 := Scalar.remsi v64 c8_i32
  let c0_i32_35 : BitVec 32 := 0#32
  let v78 : BitVec 1 := Scalar.cmpi .ne v77 c0_i32_35
  let v79 : BitVec 1 := Scalar.andi v76 v78
  let v65 : BitVec 32 := Scalar.divsi v64 c8_i32
  let c1_i32_36 : BitVec 32 := 1#32
  let v80 : BitVec 32 := Scalar.subi v65 c1_i32_36
  let v81 : BitVec 32 := Scalar.select v79 v80 v65
  let v82 : BitVec 32 := Scalar.subi v81 c0_i32_38
  let c1_i32_39 : BitVec 32 := 1#32
  let v84 : BitVec 32 := Scalar.divsi v82 c1_i32_39
  let v85 : BitVec 32 := Scalar.muli v84 c1_i32_39
  let v86 : BitVec 32 := Scalar.addi c0_i32_38 v85
  let c1_i32_41 : BitVec 32 := 1#32
  let arg13 : BitVec 32 := Scf.iv v86 c1_i32_41 k0_t2
  let v134 : BitVec 32 := Scalar.muli c8_i32_73 arg13
  let v135 : BitVec 32 := Scalar.addi v63 v134
  let c7_i32 : BitVec 32 := 7#32
  let v444 : BitVec 32 := Scalar.addi v135 c7_i32
  let c512_i32_232 : BitVec 32 := 512#32
  let v445 : BitVec 32 := Scalar.muli v444 c512_i32_232
  v445
def k0_cond2 (i : grid0.Coords) : BitVec 1 :=
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c8_i32_42 : BitVec 32 := 8#32
  let c0_i32_43 : BitVec 32 := 0#32
  let v87 : BitVec 1 := Scalar.cmpi .eq c8_i32_42 c0_i32_43
  let c1_i32_44 : BitVec 32 := 1#32
  let v88 : BitVec 32 := Scalar.select v87 c1_i32_44 c8_i32_42
  let v89 : BitVec 32 := Scalar.remsi v64 v88
  let c0_i32_46 : BitVec 32 := 0#32
  let v91 : BitVec 1 := Scalar.cmpi .slt v89 c0_i32_46
  let c0_i32_47 : BitVec 32 := 0#32
  let v92 : BitVec 1 := Scalar.cmpi .slt v88 c0_i32_47
  let v93 : BitVec 1 := Scalar.xori v91 v92
  let c0_i32_45 : BitVec 32 := 0#32
  let v90 : BitVec 1 := Scalar.cmpi .ne v89 c0_i32_45
  let v94 : BitVec 1 := Scalar.andi v93 v90
  let v95 : BitVec 32 := Scalar.addi v89 v88
  let v96 : BitVec 32 := Scalar.select v94 v95 v89
  let c4_i32 : BitVec 32 := 4#32
  let v97 : BitVec 1 := Scalar.cmpi .sge v96 c4_i32
  let v98 : BitVec 32 := Scalar.extui v97
  let c0_i32_48 : BitVec 32 := 0#32
  let v99 : BitVec 1 := Scalar.cmpi .ne v98 c0_i32_48
  v99

def k0_mult18 (i : grid0.Coords) : BitVec 32 :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c8_i32_73 : BitVec 32 := 8#32
  let c0_i32_74 : BitVec 32 := 0#32
  let v134 : BitVec 1 := Scalar.cmpi .eq c8_i32_73 c0_i32_74
  let c1_i32_75 : BitVec 32 := 1#32
  let v135 : BitVec 32 := Scalar.select v134 c1_i32_75 c8_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c0_i32_80 : BitVec 32 := 0#32
  let v145 : BitVec 32 := Scalar.addi v144 c0_i32_80
  let c512_i32_81 : BitVec 32 := 512#32
  let v146 : BitVec 32 := Scalar.muli v145 c512_i32_81
  v146
def k0_off10 (i : grid0.Coords) (c0_i32_80 : BitVec 32) : Fin 2 → Nat :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c8_i32_73 : BitVec 32 := 8#32
  let c0_i32_74 : BitVec 32 := 0#32
  let v134 : BitVec 1 := Scalar.cmpi .eq c8_i32_73 c0_i32_74
  let c1_i32_75 : BitVec 32 := 1#32
  let v135 : BitVec 32 := Scalar.select v134 c1_i32_75 c8_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let v145 : BitVec 32 := Scalar.addi v144 c0_i32_80
  let c512_i32_81 : BitVec 32 := 512#32
  let v146 : BitVec 32 := Scalar.muli v145 c512_i32_81
  let v147 : BitVec 32 := v146
  let v148 : Index := Scalar.indexCast v147
  let c0_82 : Index := 0#32
  ![v148.toNat, 0]
def k0_off11 (i : grid0.Coords) (c0_i32_80 : BitVec 32) : Fin 2 → Nat :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c8_i32_73 : BitVec 32 := 8#32
  let c0_i32_74 : BitVec 32 := 0#32
  let v134 : BitVec 1 := Scalar.cmpi .eq c8_i32_73 c0_i32_74
  let c1_i32_75 : BitVec 32 := 1#32
  let v135 : BitVec 32 := Scalar.select v134 c1_i32_75 c8_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let v145 : BitVec 32 := Scalar.addi v144 c0_i32_80
  let c512_i32_81 : BitVec 32 := 512#32
  let v146 : BitVec 32 := Scalar.muli v145 c512_i32_81
  let v147 : BitVec 32 := v146
  let v151 : Index := Scalar.indexCast v147
  let c0_83 : Index := 0#32
  ![v151.toNat, 0]
def k0_off12 (i : grid0.Coords) (c0_i32_80 : BitVec 32) : Fin 3 → Nat :=
  let c0_85 : Index := 0#32
  let c0_86 : Index := 0#32
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c8_i32_73 : BitVec 32 := 8#32
  let c0_i32_74 : BitVec 32 := 0#32
  let v134 : BitVec 1 := Scalar.cmpi .eq c8_i32_73 c0_i32_74
  let c1_i32_75 : BitVec 32 := 1#32
  let v135 : BitVec 32 := Scalar.select v134 c1_i32_75 c8_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let v145 : BitVec 32 := Scalar.addi v144 c0_i32_80
  let c512_i32_81 : BitVec 32 := 512#32
  let v146 : BitVec 32 := Scalar.muli v145 c512_i32_81
  let v147 : BitVec 32 := v146
  let v155 : Index := Scalar.indexCast v147
  ![0, 0, v155.toNat]
def k0_mult19 (i : grid0.Coords) : BitVec 32 :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c8_i32_73 : BitVec 32 := 8#32
  let c0_i32_74 : BitVec 32 := 0#32
  let v134 : BitVec 1 := Scalar.cmpi .eq c8_i32_73 c0_i32_74
  let c1_i32_75 : BitVec 32 := 1#32
  let v135 : BitVec 32 := Scalar.select v134 c1_i32_75 c8_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c1_i32_103 : BitVec 32 := 1#32
  let v189 : BitVec 32 := Scalar.addi v144 c1_i32_103
  let c512_i32_104 : BitVec 32 := 512#32
  let v190 : BitVec 32 := Scalar.muli v189 c512_i32_104
  v190
def k0_mult20 (i : grid0.Coords) : BitVec 32 :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c8_i32_73 : BitVec 32 := 8#32
  let c0_i32_74 : BitVec 32 := 0#32
  let v134 : BitVec 1 := Scalar.cmpi .eq c8_i32_73 c0_i32_74
  let c1_i32_75 : BitVec 32 := 1#32
  let v135 : BitVec 32 := Scalar.select v134 c1_i32_75 c8_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c2_i32_126 : BitVec 32 := 2#32
  let v233 : BitVec 32 := Scalar.addi v144 c2_i32_126
  let c512_i32_127 : BitVec 32 := 512#32
  let v234 : BitVec 32 := Scalar.muli v233 c512_i32_127
  v234
def k0_mult21 (i : grid0.Coords) : BitVec 32 :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c8_i32_73 : BitVec 32 := 8#32
  let c0_i32_74 : BitVec 32 := 0#32
  let v134 : BitVec 1 := Scalar.cmpi .eq c8_i32_73 c0_i32_74
  let c1_i32_75 : BitVec 32 := 1#32
  let v135 : BitVec 32 := Scalar.select v134 c1_i32_75 c8_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c3_i32 : BitVec 32 := 3#32
  let v277 : BitVec 32 := Scalar.addi v144 c3_i32
  let c512_i32_149 : BitVec 32 := 512#32
  let v278 : BitVec 32 := Scalar.muli v277 c512_i32_149
  v278
def k0_cond3 (i : grid0.Coords) : BitVec 1 :=
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c4_i32_49 : BitVec 32 := 4#32
  let c0_i32_50 : BitVec 32 := 0#32
  let v100 : BitVec 1 := Scalar.cmpi .eq c4_i32_49 c0_i32_50
  let c1_i32_51 : BitVec 32 := 1#32
  let v101 : BitVec 32 := Scalar.select v100 c1_i32_51 c4_i32_49
  let v102 : BitVec 32 := Scalar.remsi v64 v101
  let c0_i32_53 : BitVec 32 := 0#32
  let v104 : BitVec 1 := Scalar.cmpi .slt v102 c0_i32_53
  let c0_i32_54 : BitVec 32 := 0#32
  let v105 : BitVec 1 := Scalar.cmpi .slt v101 c0_i32_54
  let v106 : BitVec 1 := Scalar.xori v104 v105
  let c0_i32_52 : BitVec 32 := 0#32
  let v103 : BitVec 1 := Scalar.cmpi .ne v102 c0_i32_52
  let v107 : BitVec 1 := Scalar.andi v106 v103
  let v108 : BitVec 32 := Scalar.addi v102 v101
  let v109 : BitVec 32 := Scalar.select v107 v108 v102
  let c2_i32 : BitVec 32 := 2#32
  let v110 : BitVec 1 := Scalar.cmpi .sge v109 c2_i32
  let v111 : BitVec 32 := Scalar.extui v110
  let c0_i32_55 : BitVec 32 := 0#32
  let v112 : BitVec 1 := Scalar.cmpi .ne v111 c0_i32_55
  v112

def k0_mult22 (i : grid0.Coords) : BitVec 32 :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c4_i32_73 : BitVec 32 := 4#32
  let c0_i32_74 : BitVec 32 := 0#32
  let v134 : BitVec 1 := Scalar.cmpi .eq c4_i32_73 c0_i32_74
  let c1_i32_75 : BitVec 32 := 1#32
  let v135 : BitVec 32 := Scalar.select v134 c1_i32_75 c4_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c0_i32_80 : BitVec 32 := 0#32
  let v145 : BitVec 32 := Scalar.addi v144 c0_i32_80
  let c512_i32_81 : BitVec 32 := 512#32
  let v146 : BitVec 32 := Scalar.muli v145 c512_i32_81
  v146
def k0_off13 (i : grid0.Coords) (c0_i32_80 : BitVec 32) : Fin 2 → Nat :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c4_i32_73 : BitVec 32 := 4#32
  let c0_i32_74 : BitVec 32 := 0#32
  let v134 : BitVec 1 := Scalar.cmpi .eq c4_i32_73 c0_i32_74
  let c1_i32_75 : BitVec 32 := 1#32
  let v135 : BitVec 32 := Scalar.select v134 c1_i32_75 c4_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let v145 : BitVec 32 := Scalar.addi v144 c0_i32_80
  let c512_i32_81 : BitVec 32 := 512#32
  let v146 : BitVec 32 := Scalar.muli v145 c512_i32_81
  let v147 : BitVec 32 := v146
  let v148 : Index := Scalar.indexCast v147
  let c0_82 : Index := 0#32
  ![v148.toNat, 0]
def k0_off14 (i : grid0.Coords) (c0_i32_80 : BitVec 32) : Fin 2 → Nat :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c4_i32_73 : BitVec 32 := 4#32
  let c0_i32_74 : BitVec 32 := 0#32
  let v134 : BitVec 1 := Scalar.cmpi .eq c4_i32_73 c0_i32_74
  let c1_i32_75 : BitVec 32 := 1#32
  let v135 : BitVec 32 := Scalar.select v134 c1_i32_75 c4_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let v145 : BitVec 32 := Scalar.addi v144 c0_i32_80
  let c512_i32_81 : BitVec 32 := 512#32
  let v146 : BitVec 32 := Scalar.muli v145 c512_i32_81
  let v147 : BitVec 32 := v146
  let v151 : Index := Scalar.indexCast v147
  let c0_83 : Index := 0#32
  ![v151.toNat, 0]
def k0_off15 (i : grid0.Coords) (c0_i32_80 : BitVec 32) : Fin 3 → Nat :=
  let c0_85 : Index := 0#32
  let c0_86 : Index := 0#32
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c4_i32_73 : BitVec 32 := 4#32
  let c0_i32_74 : BitVec 32 := 0#32
  let v134 : BitVec 1 := Scalar.cmpi .eq c4_i32_73 c0_i32_74
  let c1_i32_75 : BitVec 32 := 1#32
  let v135 : BitVec 32 := Scalar.select v134 c1_i32_75 c4_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let v145 : BitVec 32 := Scalar.addi v144 c0_i32_80
  let c512_i32_81 : BitVec 32 := 512#32
  let v146 : BitVec 32 := Scalar.muli v145 c512_i32_81
  let v147 : BitVec 32 := v146
  let v155 : Index := Scalar.indexCast v147
  ![0, 0, v155.toNat]
def k0_mult23 (i : grid0.Coords) : BitVec 32 :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c4_i32_73 : BitVec 32 := 4#32
  let c0_i32_74 : BitVec 32 := 0#32
  let v134 : BitVec 1 := Scalar.cmpi .eq c4_i32_73 c0_i32_74
  let c1_i32_75 : BitVec 32 := 1#32
  let v135 : BitVec 32 := Scalar.select v134 c1_i32_75 c4_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c1_i32_103 : BitVec 32 := 1#32
  let v189 : BitVec 32 := Scalar.addi v144 c1_i32_103
  let c512_i32_104 : BitVec 32 := 512#32
  let v190 : BitVec 32 := Scalar.muli v189 c512_i32_104
  v190
def k0_cond4 (i : grid0.Coords) : BitVec 1 :=
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c2_i32_56 : BitVec 32 := 2#32
  let c0_i32_57 : BitVec 32 := 0#32
  let v113 : BitVec 1 := Scalar.cmpi .eq c2_i32_56 c0_i32_57
  let c1_i32_58 : BitVec 32 := 1#32
  let v114 : BitVec 32 := Scalar.select v113 c1_i32_58 c2_i32_56
  let v115 : BitVec 32 := Scalar.remsi v64 v114
  let c0_i32_60 : BitVec 32 := 0#32
  let v117 : BitVec 1 := Scalar.cmpi .slt v115 c0_i32_60
  let c0_i32_61 : BitVec 32 := 0#32
  let v118 : BitVec 1 := Scalar.cmpi .slt v114 c0_i32_61
  let v119 : BitVec 1 := Scalar.xori v117 v118
  let c0_i32_59 : BitVec 32 := 0#32
  let v116 : BitVec 1 := Scalar.cmpi .ne v115 c0_i32_59
  let v120 : BitVec 1 := Scalar.andi v119 v116
  let v121 : BitVec 32 := Scalar.addi v115 v114
  let v122 : BitVec 32 := Scalar.select v120 v121 v115
  let c1_i32_62 : BitVec 32 := 1#32
  let v123 : BitVec 1 := Scalar.cmpi .sge v122 c1_i32_62
  let v124 : BitVec 32 := Scalar.extui v123
  let c0_i32_63 : BitVec 32 := 0#32
  let v125 : BitVec 1 := Scalar.cmpi .ne v124 c0_i32_63
  v125

def k0_mult24 (i : grid0.Coords) : BitVec 32 :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c2_i32_73 : BitVec 32 := 2#32
  let c0_i32_74 : BitVec 32 := 0#32
  let v134 : BitVec 1 := Scalar.cmpi .eq c2_i32_73 c0_i32_74
  let c1_i32_75 : BitVec 32 := 1#32
  let v135 : BitVec 32 := Scalar.select v134 c1_i32_75 c2_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c0_i32_80 : BitVec 32 := 0#32
  let v145 : BitVec 32 := Scalar.addi v144 c0_i32_80
  let c512_i32_81 : BitVec 32 := 512#32
  let v146 : BitVec 32 := Scalar.muli v145 c512_i32_81
  v146
def k0_off16 (i : grid0.Coords) : Fin 2 → Nat :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c2_i32_73 : BitVec 32 := 2#32
  let c0_i32_74 : BitVec 32 := 0#32
  let v134 : BitVec 1 := Scalar.cmpi .eq c2_i32_73 c0_i32_74
  let c1_i32_75 : BitVec 32 := 1#32
  let v135 : BitVec 32 := Scalar.select v134 c1_i32_75 c2_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c0_i32_80 : BitVec 32 := 0#32
  let v145 : BitVec 32 := Scalar.addi v144 c0_i32_80
  let c512_i32_81 : BitVec 32 := 512#32
  let v146 : BitVec 32 := Scalar.muli v145 c512_i32_81
  let v147 : BitVec 32 := v146
  let v148 : Index := Scalar.indexCast v147
  let c0_82 : Index := 0#32
  ![v148.toNat, 0]
def k0_off17 (i : grid0.Coords) : Fin 2 → Nat :=
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c2_i32_73 : BitVec 32 := 2#32
  let c0_i32_74 : BitVec 32 := 0#32
  let v134 : BitVec 1 := Scalar.cmpi .eq c2_i32_73 c0_i32_74
  let c1_i32_75 : BitVec 32 := 1#32
  let v135 : BitVec 32 := Scalar.select v134 c1_i32_75 c2_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c0_i32_80 : BitVec 32 := 0#32
  let v145 : BitVec 32 := Scalar.addi v144 c0_i32_80
  let c512_i32_81 : BitVec 32 := 512#32
  let v146 : BitVec 32 := Scalar.muli v145 c512_i32_81
  let v147 : BitVec 32 := v146
  let v151 : Index := Scalar.indexCast v147
  let c0_83 : Index := 0#32
  ![v151.toNat, 0]
def k0_off18 (i : grid0.Coords) : Fin 3 → Nat :=
  let c0_85 : Index := 0#32
  let c0_86 : Index := 0#32
  let c16_i32_79 : BitVec 32 := 16#32
  let c16_i32 : BitVec 32 := 16#32
  let arg1 : BitVec 32 := BitVec.ofNat 32 (i 1).val
  let c1_i32 : BitVec 32 := 1#32
  let v63 : BitVec 32 := Scalar.addi arg1 c1_i32
  let v64 : BitVec 32 := Scalar.subi c16_i32 v63
  let c2_i32_73 : BitVec 32 := 2#32
  let c0_i32_74 : BitVec 32 := 0#32
  let v134 : BitVec 1 := Scalar.cmpi .eq c2_i32_73 c0_i32_74
  let c1_i32_75 : BitVec 32 := 1#32
  let v135 : BitVec 32 := Scalar.select v134 c1_i32_75 c2_i32_73
  let v136 : BitVec 32 := Scalar.remsi v64 v135
  let c0_i32_77 : BitVec 32 := 0#32
  let v138 : BitVec 1 := Scalar.cmpi .slt v136 c0_i32_77
  let c0_i32_78 : BitVec 32 := 0#32
  let v139 : BitVec 1 := Scalar.cmpi .slt v135 c0_i32_78
  let v140 : BitVec 1 := Scalar.xori v138 v139
  let c0_i32_76 : BitVec 32 := 0#32
  let v137 : BitVec 1 := Scalar.cmpi .ne v136 c0_i32_76
  let v141 : BitVec 1 := Scalar.andi v140 v137
  let v142 : BitVec 32 := Scalar.addi v136 v135
  let v143 : BitVec 32 := Scalar.select v141 v142 v136
  let v144 : BitVec 32 := Scalar.subi c16_i32_79 v143
  let c0_i32_80 : BitVec 32 := 0#32
  let v145 : BitVec 32 := Scalar.addi v144 c0_i32_80
  let c512_i32_81 : BitVec 32 := 512#32
  let v146 : BitVec 32 := Scalar.muli v145 c512_i32_81
  let v147 : BitVec 32 := v146
  let v155 : Index := Scalar.indexCast v147
  ![0, 0, v155.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x16x192 : Shape := ⟨3, ![8192, 16, 192]⟩
abbrev S8192x16x128 : Shape := ⟨3, ![8192, 16, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x192 : Shape := ⟨3, ![16, 8192, 192]⟩
abbrev S8192x16x256 : Shape := ⟨3, ![8192, 16, 256]⟩
abbrev S8192x4096 : Shape := ⟨2, ![8192, 4096]⟩
abbrev S8192x2048 : Shape := ⟨2, ![8192, 2048]⟩

abbrev nBuf : Space → Nat
  | .hbm => 100
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x192, .f32⟩
  | .hbm, ⟨2, _⟩ => ⟨S8192x16x128, .f32⟩
  | .hbm, ⟨3, _⟩ => ⟨S8192x16x128, .f32⟩
  | .hbm, ⟨4, _⟩ => ⟨S16x8192x8192, .f32⟩
  | .hbm, ⟨5, _⟩ => ⟨S_, .f32⟩
  | .hbm, ⟨6, _⟩ => ⟨S16x8192x8192, .f32⟩
  | .hbm, ⟨7, _⟩ => ⟨S16x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S16x8192x8192, .i1⟩
  | .hbm, ⟨18, _⟩ => ⟨S16x8192x8192, .f32⟩
  | .hbm, ⟨19, _⟩ => ⟨S16x8192x8192, .f32⟩
  | .hbm, ⟨20, _⟩ => ⟨S_, .f32⟩
  | .hbm, ⟨21, _⟩ => ⟨S16x8192x8192, .f32⟩
  | .hbm, ⟨22, _⟩ => ⟨S_, .f32⟩
  | .hbm, ⟨23, _⟩ => ⟨S16x8192, .f32⟩
  | .hbm, ⟨24, _⟩ => ⟨S16x8192x1, .f32⟩
  | .hbm, ⟨25, _⟩ => ⟨S16x8192x8192, .f32⟩
  | .hbm, ⟨26, _⟩ => ⟨S16x8192x8192, .i1⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S_, .f32⟩
  | .hbm, ⟨31, _⟩ => ⟨S16x8192, .f32⟩
  | .hbm, ⟨32, _⟩ => ⟨S16x8192, .f32⟩
  | .hbm, ⟨33, _⟩ => ⟨S_, .f32⟩
  | .hbm, ⟨34, _⟩ => ⟨S16x8192, .f32⟩
  | .hbm, ⟨35, _⟩ => ⟨S16x8192, .i1⟩
  | .hbm, ⟨36, _⟩ => ⟨S_, .f32⟩
  | .hbm, ⟨37, _⟩ => ⟨S16x8192, .f32⟩
  | .hbm, ⟨38, _⟩ => ⟨S16x8192, .i1⟩
  | .hbm, ⟨39, _⟩ => ⟨S_, .f32⟩
  | .hbm, ⟨40, _⟩ => ⟨S16x8192, .f32⟩
  | .hbm, ⟨41, _⟩ => ⟨S_, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .f32⟩
  | .hbm, ⟨46, _⟩ => ⟨S16x8192, .f32⟩
  | .hbm, ⟨47, _⟩ => ⟨S16x8192x1, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S_, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x1, .f32⟩
  | .hbm, ⟨57, _⟩ => ⟨S_, .f32⟩
  | .hbm, ⟨58, _⟩ => ⟨S16x8192x1, .f32⟩
  | .hbm, ⟨59, _⟩ => ⟨S16x8192x1, .f32⟩
  | .hbm, ⟨60, _⟩ => ⟨S16x128x8192, .f32⟩
  | .hbm, ⟨61, _⟩ => ⟨S8192x16x128, .f32⟩
  | .hbm, ⟨62, _⟩ => ⟨S16x128x8192, .f32⟩
  | .hbm, ⟨63, _⟩ => ⟨S16x8192x8192, .f32⟩
  | .hbm, ⟨64, _⟩ => ⟨S16x128x8192, .f32⟩
  | .hbm, ⟨65, _⟩ => ⟨S8192x16x128, .f32⟩
  | .hbm, ⟨66, _⟩ => ⟨S16x8192x8192, .f32⟩
  | .hbm, ⟨67, _⟩ => ⟨S16x8192x8192, .f32⟩
  | .hbm, ⟨68, _⟩ => ⟨S16x8192x8192, .f32⟩
  | .hbm, ⟨69, _⟩ => ⟨S_, .f32⟩
  | .hbm, ⟨70, _⟩ => ⟨S16x8192, .f32⟩
  | .hbm, ⟨71, _⟩ => ⟨S16x8192x1, .f32⟩
  | .hbm, ⟨72, _⟩ => ⟨S16x8192x1, .f32⟩
  | .hbm, ⟨73, _⟩ => ⟨S16x8192x8192, .f32⟩
  | .hbm, ⟨74, _⟩ => ⟨S16x8192x8192, .f32⟩
  | .hbm, ⟨75, _⟩ => ⟨S_, .f32⟩
  | .hbm, ⟨76, _⟩ => ⟨S16x8192, .f32⟩
  | .hbm, ⟨77, _⟩ => ⟨S16x8192x8192, .f32⟩
  | .hbm, ⟨78, _⟩ => ⟨S16x8192x8192, .f32⟩
  | .hbm, ⟨79, _⟩ => ⟨S16x8192x8192, .f32⟩
  | .hbm, ⟨80, _⟩ => ⟨S_, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192x8192, .f32⟩
  | .hbm, ⟨85, _⟩ => ⟨S16x8192x8192, .f32⟩
  | .hbm, ⟨86, _⟩ => ⟨S16x8192x192, .f32⟩
  | .hbm, ⟨87, _⟩ => ⟨S8192x16x192, .f32⟩
  | .hbm, ⟨88, _⟩ => ⟨S16x8192x192, .f32⟩
  | .hbm, ⟨89, _⟩ => ⟨S8192x16x192, .f32⟩
  | .hbm, ⟨90, _⟩ => ⟨S_, .i32⟩
  | .hbm, ⟨91, _⟩ => ⟨S_, .f32⟩
  | .hbm, ⟨92, _⟩ => ⟨S8192x16x256, .f32⟩
  | .hbm, ⟨93, _⟩ => ⟨S8192x4096, .f32⟩
  | .hbm, ⟨94, _⟩ => ⟨S_, .i32⟩
  | .hbm, ⟨95, _⟩ => ⟨S_, .f32⟩
  | .hbm, ⟨96, _⟩ => ⟨S8192x16x256, .f32⟩
  | .hbm, ⟨97, _⟩ => ⟨S8192x4096, .f32⟩
  | .hbm, ⟨98, _⟩ => ⟨S8192x2048, .f32⟩
  | .hbm, ⟨99, _⟩ => ⟨S8192x2048, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_call3_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== FlashFwd.lean ====
abbrev S8192x4096 : Shape := ⟨2, ![8192, 4096]⟩
abbrev S2048x8192 : Shape := ⟨2, ![2048, 8192]⟩
abbrev S8192x2048 : Shape := ⟨2, ![8192, 2048]⟩
abbrev S16x1x8192 : Shape := ⟨3, ![16, 1, 8192]⟩
abbrev S512x256 : Shape := ⟨2, ![512, 256]⟩
abbrev S8192x256 : Shape := ⟨2, ![8192, 256]⟩
abbrev S128x8192 : Shape := ⟨2, ![128, 8192]⟩
abbrev S512x128 : Shape := ⟨2, ![512, 128]⟩
abbrev S1x1x512 : Shape := ⟨3, ![1, 1, 512]⟩
abbrev S1x512 : Shape := ⟨2, ![1, 512]⟩
abbrev S128x512 : Shape := ⟨2, ![128, 512]⟩
abbrev S4096x256 : Shape := ⟨2, ![4096, 256]⟩
abbrev S4096x512 : Shape := ⟨2, ![4096, 512]⟩
abbrev S512 : Shape := ⟨1, ![512]⟩
abbrev S128x4096 : Shape := ⟨2, ![128, 4096]⟩
abbrev S2048x256 : Shape := ⟨2, ![2048, 256]⟩
abbrev S2048x512 : Shape := ⟨2, ![2048, 512]⟩
abbrev S128x2048 : Shape := ⟨2, ![128, 2048]⟩
abbrev S1024x256 : Shape := ⟨2, ![1024, 256]⟩
abbrev S1024x512 : Shape := ⟨2, ![1024, 512]⟩
abbrev S128x1024 : Shape := ⟨2, ![128, 1024]⟩
abbrev S512x512 : Shape := ⟨2, ![512, 512]⟩

abbrev nBuf : Space → Nat
  | .hbm => 6
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S2048x8192, .bf16⟩
  | .hbm, ⟨3, _⟩ => ⟨S8192x2048, .f32⟩
  | .hbm, ⟨4, _⟩ => ⟨S8192x2048, .bf16⟩
  | .hbm, ⟨5, _⟩ => ⟨S16x1x8192, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S128x8192, .bf16⟩
  | .local _ .vmem, ⟨5, _⟩ => ⟨S128x8192, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S1x1x512, .f32⟩
  | .local _ .vmem, ⟨11, _⟩ => ⟨S1x1x512, .f32⟩
  | .local _ .vmem, ⟨12, _⟩ => ⟨S1x512, .f32⟩
  | .local _ .vmem, ⟨13, _⟩ => ⟨S1x512, .f32⟩
  | .local _ .vmem, ⟨14, _⟩ => ⟨S128x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_15 : BitVec 32 := 0#32
  let arg1 : BitVec 32 := BitVec.ofNat 32 (i 1).val
  let c0_i32 : BitVec 32 := 0#32
  let v13 : BitVec 32 := Scalar.subi arg1 c0_i32
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c8_i32 : BitVec 32 := 8#32
  let c0_i32_11 : BitVec 32 := 0#32
  let v20 : BitVec 1 := Scalar.cmpi .sgt c8_i32 c0_i32_11
  let v21 : BitVec 32 := Scalar.extui v20
  let c0_i32_12 : BitVec 32 := 0#32
  let v22 : BitVec 1 := Scalar.cmpi .slt c8_i32 c0_i32_12
  let v23 : BitVec 32 := Scalar.extui v22
  let v24 : BitVec 32 := Scalar.subi v21 v23
  let v25 : BitVec 1 := Scalar.cmpi .ne v19 v24
  let v26 : BitVec 32 := Scalar.remsi v13 c8_i32
  let c0_i32_13 : BitVec 32 := 0#32
  let v27 : BitVec 1 := Scalar.cmpi .ne v26 c0_i32_13
  let v28 : BitVec 1 := Scalar.andi v25 v27
  let v14 : BitVec 32 := Scalar.divsi v13 c8_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_17 : BitVec 32 := 1#32
  ⟨c0_i32_15, v35, c1_i32_17⟩
def k0_mult1 (i : grid0.Coords) (k0_t1 : Fin (k0_t1_loop i).trips) : BitVec 32 :=
  let c0_i32_76 : BitVec 32 := 0#32
  let c8_i32_75 : BitVec 32 := 8#32
  let c0_i32_15 : BitVec 32 := 0#32
  let c1_i32_17 : BitVec 32 := 1#32
  let arg11 : BitVec 32 := Scf.iv c0_i32_15 c1_i32_17 k0_t1
  let v131 : BitVec 32 := Scalar.muli c8_i32_75 arg11
  let v132 : BitVec 32 := Scalar.addi c0_i32_76 v131
  let c512_i32_77 : BitVec 32 := 512#32
  let v133 : BitVec 32 := Scalar.muli v132 c512_i32_77
  v133
def k0_off1 (i : grid0.Coords) (k0_t1 : Fin (k0_t1_loop i).trips) : Fin 2 → Nat :=
  let c0_i32_76 : BitVec 32 := 0#32
  let c8_i32_75 : BitVec 32 := 8#32
  let c0_i32_15 : BitVec 32 := 0#32
  let c1_i32_17 : BitVec 32 := 1#32
  let arg11 : BitVec 32 := Scf.iv c0_i32_15 c1_i32_17 k0_t1
  let v131 : BitVec 32 := Scalar.muli c8_i32_75 arg11
  let v132 : BitVec 32 := Scalar.addi c0_i32_76 v131
  let c512_i32_77 : BitVec 32 := 512#32
  let v133 : BitVec 32 := Scalar.muli v132 c512_i32_77
  let v134 : BitVec 32 := v133
  let v135 : Index := Scalar.indexCast v134
  let c0_78 : Index := 0#32
  ![v135.toNat, 0]
def k0_off2 (i : grid0.Coords) (k0_t1 : Fin (k0_t1_loop i).trips) : Fin 2 → Nat :=
  let c0_90 : Index := 0#32
  let c0_i32_76 : BitVec 32 := 0#32
  let c8_i32_75 : BitVec 32 := 8#32
  let c0_i32_15 : BitVec 32 := 0#32
  let c1_i32_17 : BitVec 32 := 1#32
  let arg11 : BitVec 32 := Scf.iv c0_i32_15 c1_i32_17 k0_t1
  let v131 : BitVec 32 := Scalar.muli c8_i32_75 arg11
  let v132 : BitVec 32 := Scalar.addi c0_i32_76 v131
  let c512_i32_77 : BitVec 32 := 512#32
  let v133 : BitVec 32 := Scalar.muli v132 c512_i32_77
  let v134 : BitVec 32 := v133
  let v158 : Index := Scalar.indexCast v134
  ![0, v158.toNat]
@[reducible] def k0_t2_loop (i : grid0.Coords) : Scf.Loop 32 :=
  let c0_i32_15 : BitVec 32 := 0#32
  let arg1 : BitVec 32 := BitVec.ofNat 32 (i 1).val
  let c0_i32 : BitVec 32 := 0#32
  let v13 : BitVec 32 := Scalar.subi arg1 c0_i32
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c8_i32 : BitVec 32 := 8#32
  let c0_i32_11 : BitVec 32 := 0#32
  let v20 : BitVec 1 := Scalar.cmpi .sgt c8_i32 c0_i32_11
  let v21 : BitVec 32 := Scalar.extui v20
  let c0_i32_12 : BitVec 32 := 0#32
  let v22 : BitVec 1 := Scalar.cmpi .slt c8_i32 c0_i32_12
  let v23 : BitVec 32 := Scalar.extui v22
  let v24 : BitVec 32 := Scalar.subi v21 v23
  let v25 : BitVec 1 := Scalar.cmpi .ne v19 v24
  let v26 : BitVec 32 := Scalar.remsi v13 c8_i32
  let c0_i32_13 : BitVec 32 := 0#32
  let v27 : BitVec 1 := Scalar.cmpi .ne v26 c0_i32_13
  let v28 : BitVec 1 := Scalar.andi v25 v27
  let v14 : BitVec 32 := Scalar.divsi v13 c8_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let v32 : BitVec 32 := Scalar.addi c0_i32_15 v31
  let c1_i32_18 : BitVec 32 := 1#32
  ⟨v35, v32, c1_i32_18⟩
def k0_mult2 (i : grid0.Coords) (k0_t2 : Fin (k0_t2_loop i).trips) : BitVec 32 :=
  let c0_i32_76 : BitVec 32 := 0#32
  let c8_i32_75 : BitVec 32 := 8#32
  let c0_i32_15 : BitVec 32 := 0#32
  let arg1 : BitVec 32 := BitVec.ofNat 32 (i 1).val
  let c0_i32 : BitVec 32 := 0#32
  let v13 : BitVec 32 := Scalar.subi arg1 c0_i32
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c8_i32 : BitVec 32 := 8#32
  let c0_i32_11 : BitVec 32 := 0#32
  let v20 : BitVec 1 := Scalar.cmpi .sgt c8_i32 c0_i32_11
  let v21 : BitVec 32 := Scalar.extui v20
  let c0_i32_12 : BitVec 32 := 0#32
  let v22 : BitVec 1 := Scalar.cmpi .slt c8_i32 c0_i32_12
  let v23 : BitVec 32 := Scalar.extui v22
  let v24 : BitVec 32 := Scalar.subi v21 v23
  let v25 : BitVec 1 := Scalar.cmpi .ne v19 v24
  let v26 : BitVec 32 := Scalar.remsi v13 c8_i32
  let c0_i32_13 : BitVec 32 := 0#32
  let v27 : BitVec 1 := Scalar.cmpi .ne v26 c0_i32_13
  let v28 : BitVec 1 := Scalar.andi v25 v27
  let v14 : BitVec 32 := Scalar.divsi v13 c8_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t2
  let v131 : BitVec 32 := Scalar.muli c8_i32_75 arg11
  let v132 : BitVec 32 := Scalar.addi c0_i32_76 v131
  let c512_i32_77 : BitVec 32 := 512#32
  let v133 : BitVec 32 := Scalar.muli v132 c512_i32_77
  v133
def k0_off3 (i : grid0.Coords) (k0_t2 : Fin (k0_t2_loop i).trips) : Fin 2 → Nat :=
  let c0_i32_76 : BitVec 32 := 0#32
  let c8_i32_75 : BitVec 32 := 8#32
  let c0_i32_15 : BitVec 32 := 0#32
  let arg1 : BitVec 32 := BitVec.ofNat 32 (i 1).val
  let c0_i32 : BitVec 32 := 0#32
  let v13 : BitVec 32 := Scalar.subi arg1 c0_i32
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c8_i32 : BitVec 32 := 8#32
  let c0_i32_11 : BitVec 32 := 0#32
  let v20 : BitVec 1 := Scalar.cmpi .sgt c8_i32 c0_i32_11
  let v21 : BitVec 32 := Scalar.extui v20
  let c0_i32_12 : BitVec 32 := 0#32
  let v22 : BitVec 1 := Scalar.cmpi .slt c8_i32 c0_i32_12
  let v23 : BitVec 32 := Scalar.extui v22
  let v24 : BitVec 32 := Scalar.subi v21 v23
  let v25 : BitVec 1 := Scalar.cmpi .ne v19 v24
  let v26 : BitVec 32 := Scalar.remsi v13 c8_i32
  let c0_i32_13 : BitVec 32 := 0#32
  let v27 : BitVec 1 := Scalar.cmpi .ne v26 c0_i32_13
  let v28 : BitVec 1 := Scalar.andi v25 v27
  let v14 : BitVec 32 := Scalar.divsi v13 c8_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t2
  let v131 : BitVec 32 := Scalar.muli c8_i32_75 arg11
  let v132 : BitVec 32 := Scalar.addi c0_i32_76 v131
  let c512_i32_77 : BitVec 32 := 512#32
  let v133 : BitVec 32 := Scalar.muli v132 c512_i32_77
  let v134 : BitVec 32 := v133
  let v135 : Index := Scalar.indexCast v134
  let c0_78 : Index := 0#32
  ![v135.toNat, 0]
def k0_off4 (i : grid0.Coords) (k0_t2 : Fin (k0_t2_loop i).trips) : Fin 2 → Nat :=
  let c0_90 : Index := 0#32
  let c0_i32_76 : BitVec 32 := 0#32
  let c8_i32_75 : BitVec 32 := 8#32
  let c0_i32_15 : BitVec 32 := 0#32
  let arg1 : BitVec 32 := BitVec.ofNat 32 (i 1).val
  let c0_i32 : BitVec 32 := 0#32
  let v13 : BitVec 32 := Scalar.subi arg1 c0_i32
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c8_i32 : BitVec 32 := 8#32
  let c0_i32_11 : BitVec 32 := 0#32
  let v20 : BitVec 1 := Scalar.cmpi .sgt c8_i32 c0_i32_11
  let v21 : BitVec 32 := Scalar.extui v20
  let c0_i32_12 : BitVec 32 := 0#32
  let v22 : BitVec 1 := Scalar.cmpi .slt c8_i32 c0_i32_12
  let v23 : BitVec 32 := Scalar.extui v22
  let v24 : BitVec 32 := Scalar.subi v21 v23
  let v25 : BitVec 1 := Scalar.cmpi .ne v19 v24
  let v26 : BitVec 32 := Scalar.remsi v13 c8_i32
  let c0_i32_13 : BitVec 32 := 0#32
  let v27 : BitVec 1 := Scalar.cmpi .ne v26 c0_i32_13
  let v28 : BitVec 1 := Scalar.andi v25 v27
  let v14 : BitVec 32 := Scalar.divsi v13 c8_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t2
  let v131 : BitVec 32 := Scalar.muli c8_i32_75 arg11
  let v132 : BitVec 32 := Scalar.addi c0_i32_76 v131
  let c512_i32_77 : BitVec 32 := 512#32
  let v133 : BitVec 32 := Scalar.muli v132 c512_i32_77
  let v134 : BitVec 32 := v133
  let v158 : Index := Scalar.indexCast v134
  ![0, v158.toNat]
def k0_cond1 (i : grid0.Coords) : BitVec 1 :=
  let arg1 : BitVec 32 := BitVec.ofNat 32 (i 1).val
  let c0_i32 : BitVec 32 := 0#32
  let v13 : BitVec 32 := Scalar.subi arg1 c0_i32
  let c8_i32_19 : BitVec 32 := 8#32
  let c0_i32_20 : BitVec 32 := 0#32
  let v36 : BitVec 1 := Scalar.cmpi .eq c8_i32_19 c0_i32_20
  let c1_i32_21 : BitVec 32 := 1#32
  let v37 : BitVec 32 := Scalar.select v36 c1_i32_21 c8_i32_19
  let v38 : BitVec 32 := Scalar.remsi v13 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c4_i32 : BitVec 32 := 4#32
  let v46 : BitVec 1 := Scalar.cmpi .sge v45 c4_i32
  let v47 : BitVec 32 := Scalar.extui v46
  let c0_i32_25 : BitVec 32 := 0#32
  let v48 : BitVec 1 := Scalar.cmpi .ne v47 c0_i32_25
  v48

def k0_mult3 (i : grid0.Coords) : BitVec 32 :=
  let arg1 : BitVec 32 := BitVec.ofNat 32 (i 1).val
  let c0_i32 : BitVec 32 := 0#32
  let v13 : BitVec 32 := Scalar.subi arg1 c0_i32
  let c8_i32_75 : BitVec 32 := 8#32
  let c0_i32_76 : BitVec 32 := 0#32
  let v131 : BitVec 1 := Scalar.cmpi .eq c8_i32_75 c0_i32_76
  let c1_i32_77 : BitVec 32 := 1#32
  let v132 : BitVec 32 := Scalar.select v131 c1_i32_77 c8_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  v142
def k0_off5 (i : grid0.Coords) : Fin 2 → Nat :=
  let arg1 : BitVec 32 := BitVec.ofNat 32 (i 1).val
  let c0_i32 : BitVec 32 := 0#32
  let v13 : BitVec 32 := Scalar.subi arg1 c0_i32
  let c8_i32_75 : BitVec 32 := 8#32
  let c0_i32_76 : BitVec 32 := 0#32
  let v131 : BitVec 1 := Scalar.cmpi .eq c8_i32_75 c0_i32_76
  let c1_i32_77 : BitVec 32 := 1#32
  let v132 : BitVec 32 := Scalar.select v131 c1_i32_77 c8_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  let v143 : BitVec 32 := v142
  let v144 : Index := Scalar.indexCast v143
  let c0_82 : Index := 0#32
  ![v144.toNat, 0]
def k0_off6 (i : grid0.Coords) : Fin 2 → Nat :=
  let c0_94 : Index := 0#32
  let arg1 : BitVec 32 := BitVec.ofNat 32 (i 1).val
  let c0_i32 : BitVec 32 := 0#32
  let v13 : BitVec 32 := Scalar.subi arg1 c0_i32
  let c8_i32_75 : BitVec 32 := 8#32
  let c0_i32_76 : BitVec 32 := 0#32
  let v131 : BitVec 1 := Scalar.cmpi .eq c8_i32_75 c0_i32_76
  let c1_i32_77 : BitVec 32 := 1#32
  let v132 : BitVec 32 := Scalar.select v131 c1_i32_77 c8_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  let v143 : BitVec 32 := v142
  let v167 : Index := Scalar.indexCast v143
  ![0, v167.toNat]
def k0_cond2 (i : grid0.Coords) : BitVec 1 :=
  let arg1 : BitVec 32 := BitVec.ofNat 32 (i 1).val
  let c0_i32 : BitVec 32 := 0#32
  let v13 : BitVec 32 := Scalar.subi arg1 c0_i32
  let c4_i32_26 : BitVec 32 := 4#32
  let c0_i32_27 : BitVec 32 := 0#32
  let v49 : BitVec 1 := Scalar.cmpi .eq c4_i32_26 c0_i32_27
  let c1_i32_28 : BitVec 32 := 1#32
  let v50 : BitVec 32 := Scalar.select v49 c1_i32_28 c4_i32_26
  let v51 : BitVec 32 := Scalar.remsi v13 v50
  let c0_i32_30 : BitVec 32 := 0#32
  let v53 : BitVec 1 := Scalar.cmpi .slt v51 c0_i32_30
  let c0_i32_31 : BitVec 32 := 0#32
  let v54 : BitVec 1 := Scalar.cmpi .slt v50 c0_i32_31
  let v55 : BitVec 1 := Scalar.xori v53 v54
  let c0_i32_29 : BitVec 32 := 0#32
  let v52 : BitVec 1 := Scalar.cmpi .ne v51 c0_i32_29
  let v56 : BitVec 1 := Scalar.andi v55 v52
  let v57 : BitVec 32 := Scalar.addi v51 v50
  let v58 : BitVec 32 := Scalar.select v56 v57 v51
  let c2_i32 : BitVec 32 := 2#32
  let v59 : BitVec 1 := Scalar.cmpi .sge v58 c2_i32
  let v60 : BitVec 32 := Scalar.extui v59
  let c0_i32_32 : BitVec 32 := 0#32
  let v61 : BitVec 1 := Scalar.cmpi .ne v60 c0_i32_32
  v61

def k0_mult4 (i : grid0.Coords) : BitVec 32 :=
  let arg1 : BitVec 32 := BitVec.ofNat 32 (i 1).val
  let c0_i32 : BitVec 32 := 0#32
  let v13 : BitVec 32 := Scalar.subi arg1 c0_i32
  let c4_i32_75 : BitVec 32 := 4#32
  let c0_i32_76 : BitVec 32 := 0#32
  let v131 : BitVec 1 := Scalar.cmpi .eq c4_i32_75 c0_i32_76
  let c1_i32_77 : BitVec 32 := 1#32
  let v132 : BitVec 32 := Scalar.select v131 c1_i32_77 c4_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  v142
def k0_off7 (i : grid0.Coords) : Fin 2 → Nat :=
  let arg1 : BitVec 32 := BitVec.ofNat 32 (i 1).val
  let c0_i32 : BitVec 32 := 0#32
  let v13 : BitVec 32 := Scalar.subi arg1 c0_i32
  let c4_i32_75 : BitVec 32 := 4#32
  let c0_i32_76 : BitVec 32 := 0#32
  let v131 : BitVec 1 := Scalar.cmpi .eq c4_i32_75 c0_i32_76
  let c1_i32_77 : BitVec 32 := 1#32
  let v132 : BitVec 32 := Scalar.select v131 c1_i32_77 c4_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  let v143 : BitVec 32 := v142
  let v144 : Index := Scalar.indexCast v143
  let c0_82 : Index := 0#32
  ![v144.toNat, 0]
def k0_off8 (i : grid0.Coords) : Fin 2 → Nat :=
  let c0_94 : Index := 0#32
  let arg1 : BitVec 32 := BitVec.ofNat 32 (i 1).val
  let c0_i32 : BitVec 32 := 0#32
  let v13 : BitVec 32 := Scalar.subi arg1 c0_i32
  let c4_i32_75 : BitVec 32 := 4#32
  let c0_i32_76 : BitVec 32 := 0#32
  let v131 : BitVec 1 := Scalar.cmpi .eq c4_i32_75 c0_i32_76
  let c1_i32_77 : BitVec 32 := 1#32
  let v132 : BitVec 32 := Scalar.select v131 c1_i32_77 c4_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  let v143 : BitVec 32 := v142
  let v167 : Index := Scalar.indexCast v143
  ![0, v167.toNat]
def k0_cond3 (i : grid0.Coords) : BitVec 1 :=
  let arg1 : BitVec 32 := BitVec.ofNat 32 (i 1).val
  let c0_i32 : BitVec 32 := 0#32
  let v13 : BitVec 32 := Scalar.subi arg1 c0_i32
  let c2_i32_33 : BitVec 32 := 2#32
  let c0_i32_34 : BitVec 32 := 0#32
  let v62 : BitVec 1 := Scalar.cmpi .eq c2_i32_33 c0_i32_34
  let c1_i32_35 : BitVec 32 := 1#32
  let v63 : BitVec 32 := Scalar.select v62 c1_i32_35 c2_i32_33
  let v64 : BitVec 32 := Scalar.remsi v13 v63
  let c0_i32_37 : BitVec 32 := 0#32
  let v66 : BitVec 1 := Scalar.cmpi .slt v64 c0_i32_37
  let c0_i32_38 : BitVec 32 := 0#32
  let v67 : BitVec 1 := Scalar.cmpi .slt v63 c0_i32_38
  let v68 : BitVec 1 := Scalar.xori v66 v67
  let c0_i32_36 : BitVec 32 := 0#32
  let v65 : BitVec 1 := Scalar.cmpi .ne v64 c0_i32_36
  let v69 : BitVec 1 := Scalar.andi v68 v65
  let v70 : BitVec 32 := Scalar.addi v64 v63
  let v71 : BitVec 32 := Scalar.select v69 v70 v64
  let c1_i32_39 : BitVec 32 := 1#32
  let v72 : BitVec 1 := Scalar.cmpi .sge v71 c1_i32_39
  let v73 : BitVec 32 := Scalar.extui v72
  let c0_i32_40 : BitVec 32 := 0#32
  let v74 : BitVec 1 := Scalar.cmpi .ne v73 c0_i32_40
  v74

def k0_mult5 (i : grid0.Coords) : BitVec 32 :=
  let arg1 : BitVec 32 := BitVec.ofNat 32 (i 1).val
  let c0_i32 : BitVec 32 := 0#32
  let v13 : BitVec 32 := Scalar.subi arg1 c0_i32
  let c2_i32_75 : BitVec 32 := 2#32
  let c0_i32_76 : BitVec 32 := 0#32
  let v131 : BitVec 1 := Scalar.cmpi .eq c2_i32_75 c0_i32_76
  let c1_i32_77 : BitVec 32 := 1#32
  let v132 : BitVec 32 := Scalar.select v131 c1_i32_77 c2_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  v142
def k0_off9 (i : grid0.Coords) : Fin 2 → Nat :=
  let arg1 : BitVec 32 := BitVec.ofNat 32 (i 1).val
  let c0_i32 : BitVec 32 := 0#32
  let v13 : BitVec 32 := Scalar.subi arg1 c0_i32
  let c2_i32_75 : BitVec 32 := 2#32
  let c0_i32_76 : BitVec 32 := 0#32
  let v131 : BitVec 1 := Scalar.cmpi .eq c2_i32_75 c0_i32_76
  let c1_i32_77 : BitVec 32 := 1#32
  let v132 : BitVec 32 := Scalar.select v131 c1_i32_77 c2_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  let v143 : BitVec 32 := v142
  let v144 : Index := Scalar.indexCast v143
  let c0_82 : Index := 0#32
  ![v144.toNat, 0]
def k0_off10 (i : grid0.Coords) : Fin 2 → Nat :=
  let c0_94 : Index := 0#32
  let arg1 : BitVec 32 := BitVec.ofNat 32 (i 1).val
  let c0_i32 : BitVec 32 := 0#32
  let v13 : BitVec 32 := Scalar.subi arg1 c0_i32
  let c2_i32_75 : BitVec 32 := 2#32
  let c0_i32_76 : BitVec 32 := 0#32
  let v131 : BitVec 1 := Scalar.cmpi .eq c2_i32_75 c0_i32_76
  let c1_i32_77 : BitVec 32 := 1#32
  let v132 : BitVec 32 := Scalar.select v131 c1_i32_77 c2_i32_75
  let v133 : BitVec 32 := Scalar.remsi v13 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let v141 : BitVec 32 := Scalar.subi arg1 v140
  let c512_i32_81 : BitVec 32 := 512#32
  let v142 : BitVec 32 := Scalar.muli v141 c512_i32_81
  let v143 : BitVec 32 := v142
  let v167 : Index := Scalar.indexCast v143
  ![0, v167.toNat]
def k0_mult6 (i : grid0.Coords) : BitVec 32 :=
  let arg1 : BitVec 32 := BitVec.ofNat 32 (i 1).val
  let c512_i32 : BitVec 32 := 512#32
  let v75 : BitVec 32 := Scalar.muli arg1 c512_i32
  v75
def k0_off11 (i : grid0.Coords) : Fin 2 → Nat :=
  let arg1 : BitVec 32 := BitVec.ofNat 32 (i 1).val
  let c512_i32 : BitVec 32 := 512#32
  let v75 : BitVec 32 := Scalar.muli arg1 c512_i32
  let v76 : BitVec 32 := v75
  let v77 : Index := Scalar.indexCast v76
  let c0_41 : Index := 0#32
  ![v77.toNat, 0]
def k0_off12 (i : grid0.Coords) : Fin 2 → Nat :=
  let c0_54 : Index := 0#32
  let arg1 : BitVec 32 := BitVec.ofNat 32 (i 1).val
  let c512_i32 : BitVec 32 := 512#32
  let v75 : BitVec 32 := Scalar.muli arg1 c512_i32
  let v76 : BitVec 32 := v75
  let v105 : Index := Scalar.indexCast v76
  ![0, v105.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FlashFwdRefIdeal.lean ====
abbrev S8192x4096 : Shape := ⟨2, ![8192, 4096]⟩
abbrev S2048x8192 : Shape := ⟨2, ![2048, 8192]⟩
abbrev S8192x16x256 : Shape := ⟨3, ![8192, 16, 256]⟩
abbrev S16x128x8192 : Shape := ⟨3, ![16, 128, 8192]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S16x8192 : Shape := ⟨2, ![16, 8192]⟩
abbrev S16x8192x1 : Shape := ⟨3, ![16, 8192, 1]⟩
abbrev S8192x16x128 : Shape := ⟨3, ![8192, 16, 128]⟩
abbrev S8192x2048 : Shape := ⟨2, ![8192, 2048]⟩
abbrev S16x1x8192 : Shape := ⟨3, ![16, 1, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S2048x8192, .bf16⟩
  | .hbm, ⟨3, _⟩ => ⟨S8192x4096, .f32⟩
  | .hbm, ⟨4, _⟩ => ⟨S8192x16x256, .f32⟩
  | .hbm, ⟨5, _⟩ => ⟨S8192x4096, .f32⟩
  | .hbm, ⟨6, _⟩ => ⟨S8192x16x256, .f32⟩
  | .hbm, ⟨7, _⟩ => ⟨S2048x8192, .f32⟩
  | .hbm, ⟨8, _⟩ => ⟨S16x128x8192, .f32⟩
  | .hbm, ⟨9, _⟩ => ⟨S16x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S_, .f32⟩
  | .hbm, ⟨18, _⟩ => ⟨S_, .f32⟩
  | .hbm, ⟨19, _⟩ => ⟨S16x8192x8192, .i1⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192, .f32⟩
  | .hbm, ⟨24, _⟩ => ⟨S_, .f32⟩
  | .hbm, ⟨25, _⟩ => ⟨S16x8192, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .f32⟩
  | .hbm, ⟨36, _⟩ => ⟨S16x128x8192, .f32⟩
  | .hbm, ⟨37, _⟩ => ⟨S8192x16x128, .f32⟩
  | .hbm, ⟨38, _⟩ => ⟨S8192x2048, .f32⟩
  | .hbm, ⟨39, _⟩ => ⟨S16x8192x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S8192x2048, .bf16⟩
  | .hbm, ⟨44, _⟩ => ⟨S16x1x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== DWIn.lean ====
abbrev S8192x2048 : Shape := ⟨2, ![8192, 2048]⟩
abbrev S8192x15488 : Shape := ⟨2, ![8192, 15488]⟩
abbrev S2048x15488 : Shape := ⟨2, ![2048, 15488]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x15488, .bf16⟩
  | .hbm, ⟨2, _⟩ => ⟨S2048x15488, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRefIdeal.lean ====
abbrev S8192x2048 : Shape := ⟨2, ![8192, 2048]⟩
abbrev S8192x15488 : Shape := ⟨2, ![8192, 15488]⟩
abbrev S_ : Shape := ⟨0, ![]⟩
abbrev S2048x15488 : Shape := ⟨2, ![2048, 15488]⟩
abbrev S15488x2048 : Shape := ⟨2, ![15488, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x15488, .bf16⟩
  | .hbm, ⟨2, _⟩ => ⟨S8192x2048, .f32⟩
  | .hbm, ⟨3, _⟩ => ⟨S8192x15488, .f32⟩
  | .hbm, ⟨4, _⟩ => ⟨S_, .f32⟩
  | .hbm, ⟨5, _⟩ => ⟨S2048x15488, .f32⟩
  | .hbm, ⟨6, _⟩ => ⟨S8192x15488, .f32⟩
  | .hbm, ⟨7, _⟩ => ⟨S15488x2048, .f32⟩
  | .hbm, ⟨8, _⟩ => ⟨S2048x15488, .f32⟩
  | .hbm, ⟨9, _⟩ => ⟨S2048x15488, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DU.lean ====
abbrev S8192x15488 : Shape := ⟨2, ![8192, 15488]⟩
abbrev S2048x15488 : Shape := ⟨2, ![2048, 15488]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x15488, .bf16⟩
  | .hbm, ⟨1, _⟩ => ⟨S2048x15488, .bf16⟩
  | .hbm, ⟨2, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x15488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DURefIdeal.lean ====
abbrev S8192x15488 : Shape := ⟨2, ![8192, 15488]⟩
abbrev S2048x15488 : Shape := ⟨2, ![2048, 15488]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x15488, .bf16⟩
  | .hbm, ⟨1, _⟩ => ⟨S2048x15488, .bf16⟩
  | .hbm, ⟨2, _⟩ => ⟨S8192x15488, .f32⟩
  | .hbm, ⟨3, _⟩ => ⟨S2048x15488, .f32⟩
  | .hbm, ⟨4, _⟩ => ⟨S_, .f32⟩
  | .hbm, ⟨5, _⟩ => ⟨S8192x2048, .f32⟩
  | .hbm, ⟨6, _⟩ => ⟨S8192x15488, .f32⟩
  | .hbm, ⟨7, _⟩ => ⟨S8192x2048, .f32⟩
  | _, _ => ⟨S8192x15488, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWGate.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWGateRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S8192x5632, .f32⟩
  | .hbm, ⟨4, _⟩ => ⟨S_, .f32⟩
  | .hbm, ⟨5, _⟩ => ⟨S2048x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWDown.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWSsmO.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWSsmORefIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x4096, .f32⟩
  | .hbm, ⟨3, _⟩ => ⟨S8192x2048, .f32⟩
  | .hbm, ⟨4, _⟩ => ⟨S_, .f32⟩
  | .hbm, ⟨5, _⟩ => ⟨S4096x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DAct.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x2048, .f32⟩
  | .hbm, ⟨3, _⟩ => ⟨S5632x2048, .f32⟩
  | .hbm, ⟨4, _⟩ => ⟨S_, .f32⟩
  | .hbm, ⟨5, _⟩ => ⟨S8192x5632, .f32⟩
  | .hbm, ⟨6, _⟩ => ⟨S8192x2048, .f32⟩
  | .hbm, ⟨7, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DFGate.lean ====
abbrev S8192x5632 : Shape := ⟨2, ![8192, 5632]⟩
abbrev S2048x5632 : Shape := ⟨2, ![2048, 5632]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFGateRefIdeal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .f32⟩
  | .hbm, ⟨3, _⟩ => ⟨S2048x5632, .f32⟩
  | .hbm, ⟨4, _⟩ => ⟨S_, .f32⟩
  | .hbm, ⟨5, _⟩ => ⟨S8192x2048, .f32⟩
  | .hbm, ⟨6, _⟩ => ⟨S8192x5632, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DFUp.lean ====
abbrev S8192x5632 : Shape := ⟨2, ![8192, 5632]⟩
abbrev S2048x5632 : Shape := ⟨2, ![2048, 5632]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DFUpRefIdeal.lean ====
abbrev S8192x5632 : Shape := ⟨2, ![8192, 5632]⟩
abbrev S2048x5632 : Shape := ⟨2, ![2048, 5632]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x5632, .f32⟩
  | .hbm, ⟨4, _⟩ => ⟨S2048x5632, .f32⟩
  | .hbm, ⟨5, _⟩ => ⟨S_, .f32⟩
  | .hbm, ⟨6, _⟩ => ⟨S8192x2048, .f32⟩
  | .hbm, ⟨7, _⟩ => ⟨S8192x5632, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DMixed.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DAttn.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAttnRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DSsm.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DSsmRefIdeal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x2048, .f32⟩
  | .hbm, ⟨3, _⟩ => ⟨S4096x2048, .f32⟩
  | .hbm, ⟨4, _⟩ => ⟨S_, .f32⟩
  | .hbm, ⟨5, _⟩ => ⟨S8192x4096, .f32⟩
  | .hbm, ⟨6, _⟩ => ⟨S8192x2048, .f32⟩
  | .hbm, ⟨7, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWQ.lean ====
abbrev S8192x512 : Shape := ⟨2, ![8192, 512]⟩
abbrev S8192x4096 : Shape := ⟨2, ![8192, 4096]⟩
abbrev S512x4096 : Shape := ⟨2, ![512, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S512x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWQRefIdeal.lean ====
abbrev S8192x512 : Shape := ⟨2, ![8192, 512]⟩
abbrev S8192x4096 : Shape := ⟨2, ![8192, 4096]⟩
abbrev S_ : Shape := ⟨0, ![]⟩
abbrev S512x4096 : Shape := ⟨2, ![512, 4096]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x4096, .bf16⟩
  | .hbm, ⟨2, _⟩ => ⟨S8192x512, .f32⟩
  | .hbm, ⟨3, _⟩ => ⟨S8192x4096, .f32⟩
  | .hbm, ⟨4, _⟩ => ⟨S_, .f32⟩
  | .hbm, ⟨5, _⟩ => ⟨S512x4096, .f32⟩
  | .hbm, ⟨6, _⟩ => ⟨S8192x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWV.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWVRefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .f32⟩
  | .hbm, ⟨3, _⟩ => ⟨S8192x2048, .f32⟩
  | .hbm, ⟨4, _⟩ => ⟨S_, .f32⟩
  | .hbm, ⟨5, _⟩ => ⟨S512x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DCqN.lean ====
abbrev S8192x4096 : Shape := ⟨2, ![8192, 4096]⟩
abbrev S512x4096 : Shape := ⟨2, ![512, 4096]⟩
abbrev S8192x512 : Shape := ⟨2, ![8192, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DCqNRefIdeal.lean ====
abbrev S8192x4096 : Shape := ⟨2, ![8192, 4096]⟩
abbrev S512x4096 : Shape := ⟨2, ![512, 4096]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S8192x4096, .f32⟩
  | .hbm, ⟨3, _⟩ => ⟨S512x4096, .f32⟩
  | .hbm, ⟨4, _⟩ => ⟨S_, .f32⟩
  | .hbm, ⟨5, _⟩ => ⟨S8192x512, .f32⟩
  | .hbm, ⟨6, _⟩ => ⟨S8192x4096, .f32⟩
  | .hbm, ⟨7, _⟩ => ⟨S8192x512, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DCkvNV.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .hbm, ⟨3, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DCkvNVRefIdeal.lean ====
abbrev S8192x2048 : Shape := ⟨2, ![8192, 2048]⟩
abbrev S512x2048 : Shape := ⟨2, ![512, 2048]⟩
abbrev S8192x512 : Shape := ⟨2, ![8192, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .hbm, ⟨3, _⟩ => ⟨S8192x2048, .f32⟩
  | .hbm, ⟨4, _⟩ => ⟨S512x2048, .f32⟩
  | .hbm, ⟨5, _⟩ => ⟨S_, .f32⟩
  | .hbm, ⟨6, _⟩ => ⟨S8192x512, .f32⟩
  | .hbm, ⟨7, _⟩ => ⟨S8192x2048, .f32⟩
  | .hbm, ⟨8, _⟩ => ⟨S8192x512, .f32⟩
  | .hbm, ⟨9, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DWPle.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S256x2048, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWPleRefIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S256x2048, .f32⟩
  | .hbm, ⟨5, _⟩ => ⟨S8192x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InZ.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InXbc.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXbcRefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnGate.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGateRefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmO.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmORefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InCqkv.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCqkvRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InSmall.lean ====
abbrev S8192x2048 : Shape := ⟨2, ![8192, 2048]⟩
abbrev S2048x384 : Shape := ⟨2, ![2048, 384]⟩
abbrev S8192x384 : Shape := ⟨2, ![8192, 384]⟩
abbrev S1024x2048 : Shape := ⟨2, ![1024, 2048]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x384, .bf16⟩
  | .hbm, ⟨2, _⟩ => ⟨S8192x384, .f32⟩
  | .local _ .vmem, ⟨0, _⟩ => ⟨S1024x2048, .bf16⟩
  | .local _ .vmem, ⟨1, _⟩ => ⟨S1024x2048, .bf16⟩
  | .local _ .vmem, ⟨2, _⟩ => ⟨S2048x384, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSmallRefIdeal.lean ====
abbrev S8192x2048 : Shape := ⟨2, ![8192, 2048]⟩
abbrev S2048x384 : Shape := ⟨2, ![2048, 384]⟩
abbrev S8192x384 : Shape := ⟨2, ![8192, 384]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x384, .bf16⟩
  | .hbm, ⟨2, _⟩ => ⟨S8192x2048, .f32⟩
  | .hbm, ⟨3, _⟩ => ⟨S2048x384, .f32⟩
  | .hbm, ⟨4, _⟩ => ⟨S8192x384, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpQ.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpQRefIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .bf16⟩
  | .hbm, ⟨2, _⟩ => ⟨S8192x512, .f32⟩
  | .hbm, ⟨3, _⟩ => ⟨S512x4096, .f32⟩
  | .hbm, ⟨4, _⟩ => ⟨S8192x4096, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpV.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpVRefIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x512, .f32⟩
  | .hbm, ⟨3, _⟩ => ⟨S512x2048, .f32⟩
  | .hbm, ⟨4, _⟩ => ⟨S8192x2048, .f32⟩
  | .hbm, ⟨5, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpVT.lean ====
abbrev S2048x512 : Shape := ⟨2, ![2048, 512]⟩
abbrev S8192x512 : Shape := ⟨2, ![8192, 512]⟩
abbrev S2048x8192 : Shape := ⟨2, ![2048, 8192]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S8192x512, .bf16⟩
  | .hbm, ⟨2, _⟩ => ⟨S2048x8192, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpVTRefIdeal.lean ====
abbrev S2048x512 : Shape := ⟨2, ![2048, 512]⟩
abbrev S8192x512 : Shape := ⟨2, ![8192, 512]⟩
abbrev S512x2048 : Shape := ⟨2, ![512, 2048]⟩
abbrev S8192x2048 : Shape := ⟨2, ![8192, 2048]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S8192x512, .bf16⟩
  | .hbm, ⟨2, _⟩ => ⟨S512x2048, .bf16⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x2048, .bf16⟩
  | .hbm, ⟨7, _⟩ => ⟨S2048x8192, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SwiGlu.lean ====
abbrev S8192x5632 : Shape := ⟨2, ![8192, 5632]⟩
abbrev S256x5632 : Shape := ⟨2, ![256, 5632]⟩
abbrev S16x5632 : Shape := ⟨2, ![16, 5632]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .bf16⟩
  | .local _ .vmem, ⟨0, _⟩ => ⟨S256x5632, .f32⟩
  | .local _ .vmem, ⟨1, _⟩ => ⟨S256x5632, .f32⟩
  | .local _ .vmem, ⟨2, _⟩ => ⟨S256x5632, .f32⟩
  | .local _ .vmem, ⟨3, _⟩ => ⟨S256x5632, .f32⟩
  | .local _ .vmem, ⟨4, _⟩ => ⟨S256x5632, .bf16⟩
  | .local _ .vmem, ⟨5, _⟩ => ⟨S256x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32_1 : BitVec 32 := 16#32
  let v1 : BitVec 32 := Scalar.muli arg4 c16_i32_1
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32_1 : BitVec 32 := 16#32
  let v1 : BitVec 32 := Scalar.muli arg4 c16_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwiGluRefIdeal.lean ====
abbrev S8192x5632 : Shape := ⟨2, ![8192, 5632]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S_, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== PleProj.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .bf16⟩
  | .hbm, ⟨2, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .bf16⟩
  | .hbm, ⟨2, _⟩ => ⟨S256x2048, .f32⟩
  | .hbm, ⟨3, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Bwd.HostTerms.lean ====
/- The arrays the host hands to the kernel, as terms of the arguments: scaled and padded queries, padded keys, values,
   output gradients, each row's log-sum and delta. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Bwd

open Cert.KernelIdeal Cert.KernelIdeal.Gen
open Idealize.ShloMosaic Idealize.ShloMosaic.TcCoe Idealize.ShloMosaic.Tactic

abbrev QK : Type := FVec Ideal S8192x16x192 .f32
abbrev VO : Type := FVec Ideal S8192x16x128 .f32

/-- The causal mask: a key not after the query. -/
def hMask : IVec S16x8192x8192 1 :=
  broadcastInDim S16x8192x8192 ![0, 1, 2] bcast_S1x8192x8192_S16x8192x8192_0_1_2
    (broadcastInDim S1x8192x8192 ![1, 2] bcast_S8192x8192_S1x8192x8192_1_2
      (cmpi CmpIPredicate.sle
        (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))

/-- The masked scores. -/
def hScore (q k : QK) : FVec Ideal S16x8192x8192 .f32 :=
  select hMask
    (mulf (Host.dotGeneral dot_S8192x16x192_S8192x16x192_S16x8192x8192_2_2_0_0_1_1 none q k)
      (broadcastInDim S16x8192x8192 ![] bcast_S_S16x8192x8192 (constant S_ .f32 0x3D93CD3A#32)))
    (broadcastInDim S16x8192x8192 ![] bcast_S_S16x8192x8192 (constant S_ .f32 0xFF800000#32))

/-- Each row's largest score. -/
def hMax (q k : QK) : FVec Ideal S16x8192 .f32 :=
  Host.reduce FloatOps.maximumf (hScore q k) (constant S_ .f32 0xFF800000#32) reducesTo_S16x8192x8192_S16x8192_d2 h_S_

/-- A row's number, for every key. -/
def hSpread (x : FVec Ideal S16x8192 .f32) : FVec Ideal S16x8192x8192 .f32 :=
  broadcastInDim S16x8192x8192 ![0, 1, 2] bcast_S16x8192x1_S16x8192x8192_0_1_2 (broadcastInDim S16x8192x1 ![0, 1] bcast_S16x8192_S16x8192x1_0_1 x)

/-- The exponentials of the scores less the row's largest. -/
def hExp (q k : QK) : FVec Ideal S16x8192x8192 .f32 := Host.exp (subf (hScore q k) (hSpread (hMax q k)))

/-- Their sum in each row. -/
def hSum (q k : QK) : FVec Ideal S16x8192 .f32 :=
  Host.reduceAdd (hExp q k) (constant S_ .f32 0x00000000#32) reducesTo_S16x8192x8192_S16x8192_d2 h_S_

/-- The log-sum of each row. -/
def hLse (q k : QK) : FVec Ideal S16x8192 .f32 := addf (hMax q k) (Host.log (hSum q k))

/-- The attention's output. -/
def hOut (q k : QK) (v : VO) : FVec Ideal S16x8192x128 .f32 :=
  Host.dotGeneral dot_S16x8192x8192_S8192x16x128_S16x8192x128_2_0_1_2_0_1 none (Host.divf (hExp q k) (hSpread (hSum q k))) v

/-- Each row's output gradient times its output. -/
def hDelta (q k : QK) (v o : VO) : FVec Ideal S16x8192 .f32 :=
  Host.reduceAdd (mulf (transpose S16x8192x128 [1, 0, 2] o transposes_S8192x16x128_S16x8192x128_1_0_2) (hOut q k v))
    (constant S_ .f32 0x00000000#32) reducesTo_S16x8192x128_S16x8192_d2 h_S_

/-- Padding of each head's columns, and the layout of all heads side by side. -/
def hPad (x : QK) : FVec Ideal S8192x4096 .bf16 :=
  truncf .bf16 (shapeCast S8192x4096
    (pad S8192x16x256 ![0, 0, 0] ![0, 0, 64] ![0, 0, 0] x (sitofp .f32 (constantI S_ 32 0#32)) pads_S8192x16x192_S8192x16x256_000_000_0640 h_S_)
    shapeCasts_S8192x16x256_S8192x4096) bitsLt_bf16_f32

/-- The queries, scaled. -/
def hScaled (q : QK) : QK := mulf q (broadcastInDim S8192x16x192 ![] bcast_S_S8192x16x192 (constant S_ .f32 0x3D93CD3A#32))

/-- All heads of an unpadded array side by side. -/
def hFlat (x : VO) : FVec Ideal S8192x2048 .bf16 :=
  truncf .bf16 (shapeCast S8192x2048 x shapeCasts_S8192x16x128_S8192x2048) bitsLt_bf16_f32

variable (m : (ℓ : Loc nD τ sig) → Buf (Elt Ideal) ℓ) (c : Dev nD)

abbrev aQ : QK := m ((c : Thread nD τ).loc main_arg0)
abbrev aK : QK := m ((c : Thread nD τ).loc main_arg1)
abbrev aV : VO := m ((c : Thread nD τ).loc main_arg2)
abbrev aO : VO := m ((c : Thread nD τ).loc main_arg3)

theorem V_v34 : V m c main_v34 = hPad (hScaled (aQ m c)) := by
  simp only [V, List.flatten_cons, List.flatten_nil, List.append_nil, List.cons_append, List.nil_append]
  after_results_simp
  rfl

theorem V_v37 : V m c main_v37 = hPad (aK m c) := by
  simp only [V, List.flatten_cons, List.flatten_nil, List.append_nil, List.cons_append, List.nil_append]
  after_results_simp
  rfl

theorem V_v39 : V m c main_v39 = hFlat (aV m c) := by
  simp only [V, List.flatten_cons, List.flatten_nil, List.append_nil, List.cons_append, List.nil_append]
  after_results_simp
  rfl

theorem V_v41 : V m c main_v41 = hFlat (aO m c) := by
  simp only [V, List.flatten_cons, List.flatten_nil, List.append_nil, List.cons_append, List.nil_append]
  after_results_simp
  rfl

theorem V_v42 : V m c main_v42 = shapeCast S16x1x8192 (hLse (aQ m c) (aK m c)) shapeCasts_S16x8192_S16x1x8192 := by
  simp only [V, List.flatten_cons, List.flatten_nil, List.append_nil, List.cons_append, List.nil_append]
  after_results_simp
  rfl

theorem V_v43 : V m c main_v43 = shapeCast S16x1x8192 (hDelta (aQ m c) (aK m c) (aV m c) (aO m c)) shapeCasts_S16x8192_S16x1x8192 := by
  simp only [V, List.flatten_cons, List.flatten_nil, List.append_nil, List.cons_append, List.nil_append]
  after_results_simp
  rfl

end Cert.Bwd

end
-- ==== Proof.Bwd.Step.lean ====
/- One step of the backward pass over a pair of blocks: the memory operations of one query block against the key block
   held by the grid point, as a program of its own, and what it leaves in each buffer. -/
module

public import proofs.«01_k».proof.Proof.Gen.KernelIdeal.Frame
public import proofs.«01_k».proof.Proof.Gen.KernelIdeal.Skeleton
public import Idealize.ShloMosaic.Lib.WholeRead
public import Idealize.ShloMosaic.Lib.WritesUnit
public import Idealize.ShloMosaic.Lib.VecWindow
public import Idealize.ShloMosaic.Lib.Pipeline.ValueKit

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `512·b … 512·b + 511` lie inside an array of 8192 rows and 256 columns. -/
theorem inb256 (b : Fin 16) : ∀ a, (![512 * b.val, 0] : Fin 2 → ℕ) a + S512x256.size a ≤ S8192x256.size a := by
  revert b; decide +kernel

/-- Rows `512·b … 512·b + 511` lie inside an array of 8192 rows and 128 columns. -/
theorem inb128 (b : Fin 16) : ∀ a, (![512 * b.val, 0] : Fin 2 → ℕ) a + S512x128.size a ≤ S8192x128.size a := by
  revert b; decide +kernel

/-- Entries `512·b … 512·b + 511` lie inside a row of 8192 entries. -/
theorem inb1 (b : Fin 16) : ∀ a, (![0, 0, 512 * b.val] : Fin 3 → ℕ) a + S1x1x512.size a ≤ S1x1x8192.size a := by
  revert b; decide +kernel

/-- Block `b` of 512 rows of a 256-column array. -/
def rows256 {e : EltTy} (X : Vec F S8192x256 e) (b : Fin 16) : Vec F S512x256 e :=
  fun x => X ((Rect.unit (s := S8192x256) ![512 * b.val, 0] S512x256.size (inb256 b)).toLoadRect.idx x)

/-- Block `b` of 512 rows of a 128-column array. -/
def rows128 {e : EltTy} (X : Vec F S8192x128 e) (b : Fin 16) : Vec F S512x128 e :=
  fun x => X ((Rect.unit (s := S8192x128) ![512 * b.val, 0] S512x128.size (inb128 b)).toLoadRect.idx x)

/-- Block `b` of 512 entries of one row. -/
def cols1 {e : EltTy} (X : Vec F S1x1x8192 e) (b : Fin 16) : Vec F S1x1x512 e :=
  fun x => X ((Rect.unit (s := S1x1x8192) ![0, 0, 512 * b.val] S1x1x512.size (inb1 b)).toLoadRect.idx x)

/-- The array `g` with block `b` of its rows replaced by `w`. -/
def setRows {e : EltTy} (g : Vec F S8192x256 e) (b : Fin 16) (w : Vec F S512x256 e) : Vec F S8192x256 e :=
  fun y => if h : 512 * b.val ≤ (y (0 : Fin 2)).val ∧ (y (0 : Fin 2)).val < 512 * b.val + 512 then
      w (Rect.unitLocal (s := S8192x256) (off := ![512 * b.val, 0]) (size := S512x256.size) y
        (Rect.unit_rows_mem y rfl rfl h))
    else g y

/-- What a step reads besides its accumulators: all queries, all output gradients, the row log-sums and the row deltas. -/
structure Rows (F : FTy → Type) [FloatOps F] where
  Q : Vec F S8192x256 .bf16
  DO : Vec F S8192x128 .bf16
  L : Vec F S1x1x8192 .f32
  D : Vec F S1x1x8192 .f32

/-- The weights of a key block against query block `b`, no entry masked. -/
def free (v12 : FVec F S512x256 .bf16) (q : Vec F S512x256 .bf16) (l : Vec F S1x1x512 .f32) : FVec F S512x512 .f32 :=
  k0_pay159 v12 q l

/-- The state a step works on: the query gradient and the two accumulators. -/
abbrev St (F : FTy → Type) [FloatOps F] := Vec F S8192x256 .f32 × Vec F S512x256 .f32 × Vec F S512x128 .f32

/-- What one step makes of the state: `pr` gives the weights of the pair of blocks. -/
def stepSt (pr : Vec F S512x256 .bf16 → Vec F S1x1x512 .f32 → FVec F S512x512 .f32)
    (v12 : FVec F S512x256 .bf16) (v14 : FVec F S512x128 .bf16) (R : Rows F) (b : Fin 16) (s : St F) : St F :=
  let q := rows256 R.Q b
  let d := k0_pay180 (rows128 R.DO b)
  let p := pr q (cols1 R.L b)
  let dl := cols1 R.D b
  (setRows s.1 b (k0_pay185 v12 v14 d p dl (rows256 s.1 b)),
   k0_pay184 v14 (k0_pay179 q) d p dl s.2.1,
   k0_pay182 d p s.2.2)

/-- The memory operations of one step, in the kernel's order, at given offsets. -/
noncomputable def stepP (pr : Vec F S512x256 .bf16 → Vec F S1x1x512 .f32 → FVec F S512x512 .f32)
    (arg2 : Memref sig .tc .vmem S8192x256 .bf16) (arg5 : Memref sig .tc .vmem S8192x128 .bf16)
    (arg6 arg7 : Memref sig .tc .vmem S1x1x8192 .f32) (arg8 : Memref sig .tc .vmem S8192x256 .f32)
    (arg11 : Memref sig .tc .vmem S512x256 .f32) (arg12 : Memref sig .tc .vmem S512x128 .f32)
    (v12 : FVec F S512x256 .bf16) (v14 : FVec F S512x128 .bf16)
    (o4 o5 : Fin 2 → ℕ) (o6 : Fin 3 → ℕ)
    (h4 : ∀ a, o4 a + S512x256.size a ≤ S8192x256.size a) (h5 : ∀ a, o5 a + S512x128.size a ≤ S8192x128.size a)
    (h6 : ∀ a, o6 a + S1x1x512.size a ≤ S1x1x8192.size a) :
    Prog (TpuEff nD τ sig (Elt F) Λ₀ .tc) PUnit := do
  let q : Vec F S512x256 .bf16 ← Prog.lift (.load arg2 (Rect.unit (s := S8192x256) o4 S512x256.size h4).toLoadRect (View.loadsAt_vmem h_S512x256))
  let d : Vec F S512x128 .bf16 ← Prog.lift (.load arg5 (Rect.unit (s := S8192x128) o5 S512x128.size h5).toLoadRect (View.loadsAt_vmem h_S512x128))
  let l : Vec F S1x1x512 .f32 ← Prog.lift (.load arg6 (Rect.unit (s := S1x1x8192) o6 S1x1x512.size h6).toLoadRect (View.loadsAt_vmem h_S1x1x512))
  let a : Vec F S512x128 .f32 ← Prog.lift (.load arg12 (Rect.unit (s := S512x128) ![0, 0] S512x128.size inb_S512x128_S512x128_0_0).toLoadRect (View.loadsAt_vmem h_S512x128))
  let _a : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay182 (k0_pay180 d) (pr q l) a) Finset.univ (View.stores_vmem_bits_univ h_S512x128 rfl) (.inl rfl))
  let dl : Vec F S1x1x512 .f32 ← Prog.lift (.load arg7 (Rect.unit (s := S1x1x8192) o6 S1x1x512.size h6).toLoadRect (View.loadsAt_vmem h_S1x1x512))
  let k : Vec F S512x256 .f32 ← Prog.lift (.load arg11 (Rect.unit (s := S512x256) ![0, 0] S512x256.size inb_S512x256_S512x256_0_0).toLoadRect (View.loadsAt_vmem h_S512x256))
  let _k : Vec F S512x256 .f32 ← Prog.lift (.load arg11 (Rect.unit (s := S512x256) ![0, 0] S512x256.size inb_S512x256_S512x256_0_0).toLoadRect (View.loadsAt_vmem h_S512x256))
  Prog.lift (.store arg11 (Rect.unit (s := S512x256) ![0, 0] S512x256.size inb_S512x256_S512x256_0_0) (k0_pay184 v14 (k0_pay179 q) (k0_pay180 d) (pr q l) dl k) Finset.univ (View.stores_vmem_bits_univ h_S512x256 rfl) (.inl rfl))
  let g : Vec F S512x256 .f32 ← Prog.lift (.load arg8 (Rect.unit (s := S8192x256) o4 S512x256.size h4).toLoadRect (View.loadsAt_vmem h_S512x256))
  let _g : Vec F S512x256 .f32 ← Prog.lift (.load arg8 (Rect.unit (s := S8192x256) o4 S512x256.size h4).toLoadRect (View.loadsAt_vmem h_S512x256))
  Prog.lift (.store arg8 (Rect.unit (s := S8192x256) o4 S512x256.size h4) (k0_pay185 v12 v14 (k0_pay180 d) (pr q l) dl g) Finset.univ (View.stores_vmem_bits_univ h_S512x256 rfl) (.inl rfl))
  pure ⟨⟩

/-- The buffers a step touches, at their contents. -/
def held (c : Dev nD) (arg2 : Memref sig .tc .vmem S8192x256 .bf16) (arg5 : Memref sig .tc .vmem S8192x128 .bf16)
    (arg6 arg7 : Memref sig .tc .vmem S1x1x8192 .f32) (arg8 : Memref sig .tc .vmem S8192x256 .f32)
    (arg11 : Memref sig .tc .vmem S512x256 .f32) (arg12 : Memref sig .tc .vmem S512x128 .f32)
    (R : Rows F) (s : St F) : sProp 𝕄 :=
  iprop(owns (c : Thread nD τ) arg2 fullShare R.Q ∗ owns (c : Thread nD τ) arg5 fullShare R.DO
    ∗ owns (c : Thread nD τ) arg6 fullShare R.L ∗ owns (c : Thread nD τ) arg7 fullShare R.D
    ∗ owns (c : Thread nD τ) arg8 fullShare s.1 ∗ owns (c : Thread nD τ) arg11 fullShare s.2.1
    ∗ owns (c : Thread nD τ) arg12 fullShare s.2.2)

/-- After a store into block `b` of the rows, the buffer holds `setRows`. -/
theorem read_setRows {m : Memref sig .tc .vmem S8192x256 .f32} (h : m.IsWhole) (g : Vec F S8192x256 .f32) (b : Fin 16)
    (inb : ∀ a, (![512 * b.val, 0] : Fin 2 → ℕ) a + S512x256.size a ≤ S8192x256.size a) (w : Vec F S512x256 .f32) :
    View.read (Elt F) m.view (m.view.writes (Elt F) (h.unread g)
      [⟨Rect.unit (s := S8192x256) ![512 * b.val, 0] S512x256.size inb, w⟩]) = setRows g b w := by
  funext y
  refine (View.read_writes_cons_rows (d := S8192x256.size) m.view (h.unread g) (o := 512 * b.val) (W := 512)
    inb w [] y rfl rfl rfl).trans ?_
  unfold setRows
  split
  · rfl
  · exact congrFun (h.read_unread g) y

/-- One step: from the state `s` to `stepSt … s`, whatever follows. -/
theorem stepP_spec (pr : Vec F S512x256 .bf16 → Vec F S1x1x512 .f32 → FVec F S512x512 .f32) (c : Dev nD)
    (arg2 : Memref sig .tc .vmem S8192x256 .bf16) (harg2 : arg2.IsWhole) (arg5 : Memref sig .tc .vmem S8192x128 .bf16) (harg5 : arg5.IsWhole)
    (arg6 : Memref sig .tc .vmem S1x1x8192 .f32) (harg6 : arg6.IsWhole) (arg7 : Memref sig .tc .vmem S1x1x8192 .f32) (harg7 : arg7.IsWhole)
    (arg8 : Memref sig .tc .vmem S8192x256 .f32) (harg8 : arg8.IsWhole)
    (arg11 : Memref sig .tc .vmem S512x256 .f32) (harg11 : arg11.IsWhole) (arg12 : Memref sig .tc .vmem S512x128 .f32) (harg12 : arg12.IsWhole)
    (v12 : FVec F S512x256 .bf16) (v14 : FVec F S512x128 .bf16)
    (o4 o5 : Fin 2 → ℕ) (o6 : Fin 3 → ℕ)
    (h4 : ∀ a, o4 a + S512x256.size a ≤ S8192x256.size a) (h5 : ∀ a, o5 a + S512x128.size a ≤ S8192x128.size a)
    (h6 : ∀ a, o6 a + S1x1x512.size a ≤ S1x1x8192.size a)
    (b : Fin 16) (e4 : o4 = ![512 * b.val, 0]) (e5 : o5 = ![512 * b.val, 0]) (e6 : o6 = ![0, 0, 512 * b.val])
    (R : Rows F) (s : St F) (E : Set ℕ) (K : PUnit → sProp 𝕄) :
    iprop(held c arg2 arg5 arg6 arg7 arg8 arg11 arg12 R s
        ∗ (held c arg2 arg5 arg6 arg7 arg8 arg11 arg12 R (stepSt pr v12 v14 R b s) -∗ K ⟨⟩))
      ⊢ wp frame (wpE (defs₀ (F := F)) Variants.none c none) E
          (stepP pr arg2 arg5 arg6 arg7 arg8 arg11 arg12 v12 v14 o4 o5 o6 h4 h5 h6) K := by
  subst e4 e5 e6
  unfold stepP held
  unfold owns
  iintro ⟨⟨⟨%f2, %hf2, H2⟩, ⟨%f5, %hf5, H5⟩, ⟨%f6, %hf6, H6⟩, ⟨%f7, %hf7, H7⟩, ⟨%f8, %hf8, H8⟩, ⟨%f11, %hf11, H11⟩, ⟨%f12, %hf12, H12⟩⟩, Hk⟩
  obtain rfl := harg2.eq_unread hf2; obtain rfl := harg5.eq_unread hf5
  obtain rfl := harg6.eq_unread hf6; obtain rfl := harg7.eq_unread hf7
  obtain rfl := harg8.eq_unread hf8; obtain rfl := harg11.eq_unread hf11
  obtain rfl := harg12.eq_unread hf12
  sl_exec
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  have e2 : View.readAt (Elt F) arg2.view (Rect.unit (s := S8192x256) ![512 * b.val, 0] S512x256.size h4).toLoadRect
      (harg2.unread R.Q) = rows256 R.Q b := funext fun x => harg2.readAt_unread R.Q _ x
  have e5 : View.readAt (Elt F) arg5.view (Rect.unit (s := S8192x128) ![512 * b.val, 0] S512x128.size h5).toLoadRect
      (harg5.unread R.DO) = rows128 R.DO b := funext fun x => harg5.readAt_unread R.DO _ x
  have e6 : View.readAt (Elt F) arg6.view (Rect.unit (s := S1x1x8192) ![0, 0, 512 * b.val] S1x1x512.size h6).toLoadRect
      (harg6.unread R.L) = cols1 R.L b := funext fun x => harg6.readAt_unread R.L _ x
  have e7 : View.readAt (Elt F) arg7.view (Rect.unit (s := S1x1x8192) ![0, 0, 512 * b.val] S1x1x512.size h6).toLoadRect
      (harg7.unread R.D) = cols1 R.D b := funext fun x => harg7.readAt_unread R.D _ x
  have e8 : View.readAt (Elt F) arg8.view (Rect.unit (s := S8192x256) ![512 * b.val, 0] S512x256.size h4).toLoadRect
      (harg8.unread s.1) = rows256 s.1 b := funext fun x => harg8.readAt_unread s.1 _ x
  isplitl [H8]
  · iexists _; isplitr; swap; · iexact H8
    ipureintro
    rw [e2, e5, e6, e7, e8]
    exact read_setRows harg8 s.1 b h4 _
  isplitl [H11]
  · iexists _; isplitr; swap; · iexact H11
    ipureintro
    rw [View.read_writes_full (s := S512x256), View.readAt_full (s := S512x256), hf11, e2, e5, e6, e7]
    rfl
  iexists _; isplitr; swap; · iexact H12
  ipureintro
  rw [View.read_writes_full (s := S512x128), View.readAt_full (s := S512x128), hf12, e2, e5, e6]
  rfl

end Cert.Bwd

end
-- ==== Proof.Bwd.Shape.lean ====
/- The kernel's body is: clearing the accumulators, the masked step, the steps of the query blocks after it, and the
   stores of the accumulators. -/
module

public import proofs.«01_k».proof.Proof.Bwd.Step
public import Idealize.ShloMosaic.Lib.Pipeline.TableIdle

@[expose] public section

set_option maxRecDepth 65536

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Eight steps: one trip of the loop over query blocks. -/
noncomputable def tripP (i : grid0.Coords) (arg2 : Memref sig .tc .vmem S8192x256 .bf16) (arg5 : Memref sig .tc .vmem S8192x128 .bf16)
    (arg6 arg7 : Memref sig .tc .vmem S1x1x8192 .f32) (arg8 : Memref sig .tc .vmem S8192x256 .f32)
    (arg11 : Memref sig .tc .vmem S512x256 .f32) (arg12 : Memref sig .tc .vmem S512x128 .f32)
    (v12 : FVec F S512x256 .bf16) (v14 : FVec F S512x128 .bf16) (t : Fin (k0_t1_loop i).trips) : Prog (TpuEff nD τ sig (Elt F) Λ₀ .tc) PUnit := do
  stepP (free v12) arg2 arg5 arg6 arg7 arg8 arg11 arg12 v12 v14 (k0_off4 i t 0#32) (k0_off5 i t 0#32) (k0_off6 i t 0#32) (k0_off4_inb i t 0) (k0_off5_inb i t 0) (k0_off6_inb i t 0)
  stepP (free v12) arg2 arg5 arg6 arg7 arg8 arg11 arg12 v12 v14 (k0_off4 i t 1#32) (k0_off5 i t 1#32) (k0_off6 i t 1#32) (k0_off4_inb i t 1) (k0_off5_inb i t 1) (k0_off6_inb i t 1)
  stepP (free v12) arg2 arg5 arg6 arg7 arg8 arg11 arg12 v12 v14 (k0_off4 i t 2#32) (k0_off5 i t 2#32) (k0_off6 i t 2#32) (k0_off4_inb i t 2) (k0_off5_inb i t 2) (k0_off6_inb i t 2)
  stepP (free v12) arg2 arg5 arg6 arg7 arg8 arg11 arg12 v12 v14 (k0_off4 i t 3#32) (k0_off5 i t 3#32) (k0_off6 i t 3#32) (k0_off4_inb i t 3) (k0_off5_inb i t 3) (k0_off6_inb i t 3)
  stepP (free v12) arg2 arg5 arg6 arg7 arg8 arg11 arg12 v12 v14 (k0_off4 i t 4#32) (k0_off5 i t 4#32) (k0_off6 i t 4#32) (k0_off4_inb i t 4) (k0_off5_inb i t 4) (k0_off6_inb i t 4)
  stepP (free v12) arg2 arg5 arg6 arg7 arg8 arg11 arg12 v12 v14 (k0_off4 i t 5#32) (k0_off5 i t 5#32) (k0_off6 i t 5#32) (k0_off4_inb i t 5) (k0_off5_inb i t 5) (k0_off6_inb i t 5)
  stepP (free v12) arg2 arg5 arg6 arg7 arg8 arg11 arg12 v12 v14 (k0_off4 i t 6#32) (k0_off5 i t 6#32) (k0_off6 i t 6#32) (k0_off4_inb i t 6) (k0_off5_inb i t 6) (k0_off6_inb i t 6)
  stepP (free v12) arg2 arg5 arg6 arg7 arg8 arg11 arg12 v12 v14 (k0_off4 i t 7#32) (k0_off5 i t 7#32) (k0_off6 i t 7#32) (k0_off4_inb i t 7) (k0_off5_inb i t 7) (k0_off6_inb i t 7)
  pure ⟨⟩

/-- Four steps, when the number of query blocks left has that bit. -/
noncomputable def fourP (i : grid0.Coords) (arg2 : Memref sig .tc .vmem S8192x256 .bf16) (arg5 : Memref sig .tc .vmem S8192x128 .bf16)
    (arg6 arg7 : Memref sig .tc .vmem S1x1x8192 .f32) (arg8 : Memref sig .tc .vmem S8192x256 .f32)
    (arg11 : Memref sig .tc .vmem S512x256 .f32) (arg12 : Memref sig .tc .vmem S512x128 .f32)
    (v12 : FVec F S512x256 .bf16) (v14 : FVec F S512x128 .bf16) : Prog (TpuEff nD τ sig (Elt F) Λ₀ .tc) PUnit := do
  if h : k0_cond2 i = 1#1 then do
    stepP (free v12) arg2 arg5 arg6 arg7 arg8 arg11 arg12 v12 v14 (k0_off10 i 0#32) (k0_off11 i 0#32) (k0_off12 i 0#32) (k0_off10_inb i h 0) (k0_off11_inb i h 0) (k0_off12_inb i h 0)
    stepP (free v12) arg2 arg5 arg6 arg7 arg8 arg11 arg12 v12 v14 (k0_off10 i 1#32) (k0_off11 i 1#32) (k0_off12 i 1#32) (k0_off10_inb i h 1) (k0_off11_inb i h 1) (k0_off12_inb i h 1)
    stepP (free v12) arg2 arg5 arg6 arg7 arg8 arg11 arg12 v12 v14 (k0_off10 i 2#32) (k0_off11 i 2#32) (k0_off12 i 2#32) (k0_off10_inb i h 2) (k0_off11_inb i h 2) (k0_off12_inb i h 2)
    stepP (free v12) arg2 arg5 arg6 arg7 arg8 arg11 arg12 v12 v14 (k0_off10 i 3#32) (k0_off11 i 3#32) (k0_off12 i 3#32) (k0_off10_inb i h 3) (k0_off11_inb i h 3) (k0_off12_inb i h 3)
    pure ⟨⟩
  else do
    pure ⟨⟩

/-- Two steps, when the number of query blocks left has that bit. -/
noncomputable def twoP (i : grid0.Coords) (arg2 : Memref sig .tc .vmem S8192x256 .bf16) (arg5 : Memref sig .tc .vmem S8192x128 .bf16)
    (arg6 arg7 : Memref sig .tc .vmem S1x1x8192 .f32) (arg8 : Memref sig .tc .vmem S8192x256 .f32)
    (arg11 : Memref sig .tc .vmem S512x256 .f32) (arg12 : Memref sig .tc .vmem S512x128 .f32)
    (v12 : FVec F S512x256 .bf16) (v14 : FVec F S512x128 .bf16) : Prog (TpuEff nD τ sig (Elt F) Λ₀ .tc) PUnit := do
  if h : k0_cond3 i = 1#1 then do
    stepP (free v12) arg2 arg5 arg6 arg7 arg8 arg11 arg12 v12 v14 (k0_off13 i 0#32) (k0_off14 i 0#32) (k0_off15 i 0#32) (k0_off13_inb i h 0) (k0_off14_inb i h 0) (k0_off15_inb i h 0)
    stepP (free v12) arg2 arg5 arg6 arg7 arg8 arg11 arg12 v12 v14 (k0_off13 i 1#32) (k0_off14 i 1#32) (k0_off15 i 1#32) (k0_off13_inb i h 1) (k0_off14_inb i h 1) (k0_off15_inb i h 1)
    pure ⟨⟩
  else do
    pure ⟨⟩

/-- One step, when the number of query blocks left is odd. -/
noncomputable def oneP (i : grid0.Coords) (arg2 : Memref sig .tc .vmem S8192x256 .bf16) (arg5 : Memref sig .tc .vmem S8192x128 .bf16)
    (arg6 arg7 : Memref sig .tc .vmem S1x1x8192 .f32) (arg8 : Memref sig .tc .vmem S8192x256 .f32)
    (arg11 : Memref sig .tc .vmem S512x256 .f32) (arg12 : Memref sig .tc .vmem S512x128 .f32)
    (v12 : FVec F S512x256 .bf16) (v14 : FVec F S512x128 .bf16) : Prog (TpuEff nD τ sig (Elt F) Λ₀ .tc) PUnit := do
  if h : k0_cond4 i = 1#1 then do
    stepP (free v12) arg2 arg5 arg6 arg7 arg8 arg11 arg12 v12 v14 (k0_off16 i) (k0_off17 i) (k0_off18 i) (k0_off16_inb i h) (k0_off17_inb i h) (k0_off18_inb i h)
    pure ⟨⟩
  else do
    pure ⟨⟩

/-- Whether the grid point is the first of its head. -/
abbrev isFirst (i : grid0.Coords) : Prop :=
  Scalar.cmpi .ne (Scalar.extui (Scalar.cmpi .eq (BitVec.ofNat 32 (i 1).val) 0#32) : BitVec 32) 0#32 = 1#1

/-- Whether the grid point is the last of its head. -/
abbrev isLast (i : grid0.Coords) : Prop :=
  Scalar.cmpi .ne (Scalar.extui (Scalar.cmpi .eq (BitVec.ofNat 32 (i 1).val) 15#32) : BitVec 32) 0#32 = 1#1

/-- At the first key block the query gradient is cleared. -/
noncomputable def clearP (i : grid0.Coords) (arg8 : Memref sig .tc .vmem S8192x256 .f32) : Prog (TpuEff nD τ sig (Elt F) Λ₀ .tc) PUnit := do
  if h : isFirst i then do
    let _g : Vec F S8192x256 .f32 ← Prog.lift (.load arg8 (Rect.unit (s := S8192x256) ![0, 0] S8192x256.size inb_S8192x256_S8192x256_0_0).toLoadRect (View.loadsAt_vmem h_S8192x256))
    Prog.lift (.store arg8 (Rect.unit (s := S8192x256) ![0, 0] S8192x256.size inb_S8192x256_S8192x256_0_0) (k0_pay174 (F := F)) Finset.univ (View.stores_vmem_bits_univ h_S8192x256 rfl) (.inl rfl))
    pure ⟨⟩
  else do
    pure ⟨⟩

/-- The accumulators are cleared and the key and value blocks are read. -/
noncomputable def headP (arg3 : Memref sig .tc .vmem S512x256 .bf16) (arg4 : Memref sig .tc .vmem S512x128 .bf16)
    (arg11 : Memref sig .tc .vmem S512x256 .f32) (arg12 : Memref sig .tc .vmem S512x128 .f32) :
    Prog (TpuEff nD τ sig (Elt F) Λ₀ .tc) (Vec F S512x256 .bf16 × Vec F S512x128 .bf16) := do
  let _v : Vec F S512x256 .f32 ← Prog.lift (.load arg11 (Rect.unit (s := S512x256) ![0, 0] S512x256.size inb_S512x256_S512x256_0_0).toLoadRect (View.loadsAt_vmem h_S512x256))
  Prog.lift (.store arg11 (Rect.unit (s := S512x256) ![0, 0] S512x256.size inb_S512x256_S512x256_0_0) (k0_pay175 (F := F)) Finset.univ (View.stores_vmem_bits_univ h_S512x256 rfl) (.inl rfl))
  let _w : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay176 (F := F)) Finset.univ (View.stores_vmem_bits_univ h_S512x128 rfl) (.inl rfl))
  let k : Vec F S512x256 .bf16 ← Prog.lift (.load arg3 (Rect.unit (s := S512x256) ![0, 0] S512x256.size inb_S512x256_S512x256_0_0).toLoadRect (View.loadsAt_vmem h_S512x256))
  let v : Vec F S512x128 .bf16 ← Prog.lift (.load arg4 (Rect.unit (s := S512x128) ![0, 0] S512x128.size inb_S512x128_S512x128_0_0).toLoadRect (View.loadsAt_vmem h_S512x128))
  pure (k, v)

/-- The accumulators are stored as the key block's and the value block's gradients. -/
noncomputable def outP (arg9 : Memref sig .tc .vmem S512x256 .f32) (arg10 : Memref sig .tc .vmem S512x128 .bf16) (harg10 : arg10.IsWhole)
    (arg11 : Memref sig .tc .vmem S512x256 .f32) (arg12 : Memref sig .tc .vmem S512x128 .f32) : Prog (TpuEff nD τ sig (Elt F) Λ₀ .tc) PUnit := do
  let v126 : Vec F S512x256 .f32 ← Prog.lift (.load arg11 (Rect.unit (s := S512x256) ![0, 0] S512x256.size inb_S512x256_S512x256_0_0).toLoadRect (View.loadsAt_vmem h_S512x256))
  let _v : Vec F S512x256 .f32 ← Prog.lift (.load arg9 (Rect.unit (s := S512x256) ![0, 0] S512x256.size inb_S512x256_S512x256_0_0).toLoadRect (View.loadsAt_vmem h_S512x256))
  Prog.lift (.store arg9 (Rect.unit (s := S512x256) ![0, 0] S512x256.size inb_S512x256_S512x256_0_0) v126 Finset.univ (View.stores_vmem_bits_univ h_S512x256 rfl) (.inl rfl))
  let v128 : Vec F S512x128 .f32 ← Prog.lift (.load arg12 (Rect.unit (s := S512x128) ![0, 0] S512x128.size inb_S512x128_S512x128_0_0).toLoadRect (View.loadsAt_vmem h_S512x128))
  let _w : Vec F S512x128 .bf16 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) (k0_pay8 v128) Finset.univ (View.stores_vmem h_S512x128 (harg10.storeExact_slice rfl _ packedbf16_S512x128_S512x128_0_0) (fun _ => rfl)) (.inl rfl))

/-- At the last key block the query gradient is scaled. -/
noncomputable def scaleP (i : grid0.Coords) (arg8 : Memref sig .tc .vmem S8192x256 .f32) : Prog (TpuEff nD τ sig (Elt F) Λ₀ .tc) PUnit := do
  if h : isLast i then do
    let v134 : Vec F S8192x256 .f32 ← Prog.lift (.load arg8 (Rect.unit (s := S8192x256) ![0, 0] S8192x256.size inb_S8192x256_S8192x256_0_0).toLoadRect (View.loadsAt_vmem h_S8192x256))
    let _g : Vec F S8192x256 .f32 ← Prog.lift (.load arg8 (Rect.unit (s := S8192x256) ![0, 0] S8192x256.size inb_S8192x256_S8192x256_0_0).toLoadRect (View.loadsAt_vmem h_S8192x256))
    Prog.lift (.store arg8 (Rect.unit (s := S8192x256) ![0, 0] S8192x256.size inb_S8192x256_S8192x256_0_0) (k0_pay9 v134) Finset.univ (View.stores_vmem_bits_univ h_S8192x256 rfl) (.inl rfl))
    pure ⟨⟩
  else do
    pure ⟨⟩

/-- One trip of the loop over eight query blocks is eight steps. -/
theorem t1_body_eq (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole)
    (v12 : FVec F S512x256 .bf16) (v14 : FVec F S512x128 .bf16) (v63 v64 c8 v65 v70 c0 : BitVec 32) (t : Fin (k0_t1_loop i).trips) :
    k0_t1_body (F := F) i arg2 harg2 arg3 harg3 arg4 harg4 arg5 harg5 arg6 harg6 arg7 harg7 arg8 harg8 arg9 harg9 arg10 harg10 arg11 harg11 arg12 harg12 v12 v14 v63 v64 c8 v65 v70 c0 t () = tripP i arg2 arg5 arg6 arg7 arg8 arg11 arg12 v12 v14 t := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  rfl

/-- The loop over the trips after the last whole group of eight makes no trip. -/
theorem t2_trips : ∀ i : grid0.Coords, (k0_t2_loop i).trips = 0 := by decide +kernel

/-- What follows a branch follows each arm. -/
theorem dite_bind {α β : Type} {c : Prop} [Decidable c] (A : c → Prog (TpuEff nD τ sig (Elt F) Λ₀ .tc) α)
    (B : ¬c → Prog (TpuEff nD τ sig (Elt F) Λ₀ .tc) α) (k : α → Prog (TpuEff nD τ sig (Elt F) Λ₀ .tc) β) :
    (dite c A B >>= k) = dite c (fun h => A h >>= k) (fun h => B h >>= k) := by
  split <;> rfl

/-- The whole body, from its pieces. -/
theorem body_eq (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole) :
    cc0_flash_bwd (F := F) i arg2 harg2 arg3 harg3 arg4 harg4 arg5 harg5 arg6 harg6 arg7 harg7 arg8 harg8 arg9 harg9 arg10 harg10 arg11 harg11 arg12 harg12 = (do
      clearP i arg8
      let kv ← headP arg3 arg4 arg11 arg12
      stepP (k0_pay181 kv.1) arg2 arg5 arg6 arg7 arg8 arg11 arg12 (k0_pay177 kv.1) (k0_pay178 kv.2) (k0_off1 i) (k0_off2 i) (k0_off3 i)
        (k0_off1_inb i) (k0_off2_inb i) (k0_off3_inb i)
      Scf.Loop.for (k0_t1_loop i) (k0_t1_ok i) ⟨⟩ (fun t _ => tripP i arg2 arg5 arg6 arg7 arg8 arg11 arg12 (k0_pay177 kv.1) (k0_pay178 kv.2) t)
      fourP i arg2 arg5 arg6 arg7 arg8 arg11 arg12 (k0_pay177 kv.1) (k0_pay178 kv.2)
      twoP i arg2 arg5 arg6 arg7 arg8 arg11 arg12 (k0_pay177 kv.1) (k0_pay178 kv.2)
      oneP i arg2 arg5 arg6 arg7 arg8 arg11 arg12 (k0_pay177 kv.1) (k0_pay178 kv.2)
      outP arg9 arg10 harg10 arg11 arg12
      scaleP i arg8) := by
  rw [cc0_flash_bwd_eq_skeleton]
  unfold cc0_flash_bwd_skel
  rw [k0_part27_eq_skeleton, k0_part28_eq_skeleton, k0_part29_eq_skeleton]
  unfold k0_part27_skel k0_part28_skel k0_part29_skel
  simp only [bind_assoc, pure_bind, dite_bind, Scf.for_trips0_bind _ _ (t2_trips i)]
  unfold clearP headP stepP outP fourP twoP oneP scaleP
  simp only [bind_assoc, pure_bind, dite_bind]
  rfl

end Cert.Bwd

end
-- ==== Proof.Bwd.Runs.lean ====
/- What the kernel's body does at one grid point: the program pieces run one after another, each from the state the one
   before left. -/
module

public import proofs.«01_k».proof.Proof.Bwd.Shape

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- From `P` the program `p` runs, on core `c`, to the value `a` and `Q`. -/
def Runs {α : Type} (c : Dev nD) (P : sProp 𝕄) (p : Prog (TpuEff nD τ sig (Elt F) Λ₀ .tc) α) (a : α) (Q : sProp 𝕄) : Prop :=
  ∀ (E : Set ℕ) (K : α → sProp 𝕄), iprop(P ∗ (Q -∗ K a)) ⊢ wp frame (wpE (defs₀ (F := F)) Variants.none c none) E p K

/-- Two programs in sequence. -/
theorem Runs.bind {α β : Type} {c : Dev nD} {P Q R : sProp 𝕄} {p : Prog (TpuEff nD τ sig (Elt F) Λ₀ .tc) α}
    {k : α → Prog (TpuEff nD τ sig (Elt F) Λ₀ .tc) β} {a : α} {b : β} (h1 : Runs c P p a Q) (h2 : Runs c Q (k a) b R) :
    Runs c P (p >>= k) b R := fun E K => by
  rw [wp_bind]
  refine BIBase.Entails.trans ?_ (h1 E _)
  iintro ⟨HP, Hk⟩
  isplitl [HP]
  · iexact HP
  iintro HQ
  iapply (h2 E K)
  isplitl [HQ]
  · iexact HQ
  iexact Hk

/-- Nothing runs. -/
theorem Runs.ret {α : Type} {c : Dev nD} {P : sProp 𝕄} (a : α) :
    Runs (F := F) c P (pure a) a P := fun E K => by
  iintro ⟨HP, Hk⟩
  sl_step
  iapply Hk
  iexact HP

/-- What is not touched stays. -/
theorem Runs.frame {α : Type} {c : Dev nD} {P Q X : sProp 𝕄} {p : Prog (TpuEff nD τ sig (Elt F) Λ₀ .tc) α} {a : α}
    (h : Runs c P p a Q) : Runs c iprop(P ∗ X) p a iprop(Q ∗ X) := fun E K => by
  iintro ⟨⟨HP, HX⟩, Hk⟩
  iapply (h E K)
  isplitl [HP]
  · iexact HP
  iintro HQ
  iapply Hk
  isplitl [HQ]
  · iexact HQ
  iexact HX

/-- Number `n` as a block. -/
def blk (n : ℕ) : Fin 16 := ⟨n % 16, Nat.mod_lt _ (by decide)⟩

/-- The steps of the blocks `lo, …, lo + n - 1`, none masked. -/
def runSt (v12 : FVec F S512x256 .bf16) (v14 : FVec F S512x128 .bf16) (R : Rows F) (lo n : ℕ) (s : St F) : St F :=
  (List.range' lo n).foldl (fun s b => stepSt (free v12) v12 v14 R (blk b) s) s

/-- Blocks `lo …` and then the blocks from where these stopped. -/
theorem runSt_add (v12 : FVec F S512x256 .bf16) (v14 : FVec F S512x128 .bf16) (R : Rows F) (lo m lo' n : ℕ) (h : lo' = lo + m) (s : St F) :
    runSt v12 v14 R lo' n (runSt v12 v14 R lo m s) = runSt v12 v14 R lo (m + n) s := by
  subst h
  unfold runSt
  rw [← List.foldl_append, List.range'_append_1]

theorem t1_trips : ∀ i : grid0.Coords, (k0_t1_loop i).trips = (15 - (i 1).val) / 8 := by decide +kernel
theorem cond2_iff : ∀ i : grid0.Coords, k0_cond2 i = 1#1 ↔ (15 - (i 1).val) / 4 % 2 = 1 := by decide +kernel
theorem cond3_iff : ∀ i : grid0.Coords, k0_cond3 i = 1#1 ↔ (15 - (i 1).val) / 2 % 2 = 1 := by decide +kernel
theorem cond4_iff : ∀ i : grid0.Coords, k0_cond4 i = 1#1 ↔ (15 - (i 1).val) % 2 = 1 := by decide +kernel
theorem first_iff : ∀ i : grid0.Coords, isFirst i ↔ (i 1).val = 0 := by decide +kernel
theorem last_iff : ∀ i : grid0.Coords, isLast i ↔ (i 1).val = 15 := by decide +kernel
theorem off1_blk : ∀ i : grid0.Coords, k0_off1 i = ![512 * (blk (i 1).val).val, 0] := by decide +kernel
theorem off2_blk : ∀ i : grid0.Coords, k0_off2 i = ![512 * (blk (i 1).val).val, 0] := by decide +kernel
theorem off3_blk : ∀ i : grid0.Coords, k0_off3 i = ![0, 0, 512 * (blk (i 1).val).val] := by decide +kernel
theorem off4_blk : ∀ (i : grid0.Coords) (t : Fin (k0_t1_loop i).trips) (r : Fin 8),
    k0_off4 i t (BitVec.ofNat 32 r.val) = ![512 * (blk ((i 1).val + 1 + r.val)).val, 0] := by decide +kernel
theorem off5_blk : ∀ (i : grid0.Coords) (t : Fin (k0_t1_loop i).trips) (r : Fin 8),
    k0_off5 i t (BitVec.ofNat 32 r.val) = ![512 * (blk ((i 1).val + 1 + r.val)).val, 0] := by decide +kernel
theorem off6_blk : ∀ (i : grid0.Coords) (t : Fin (k0_t1_loop i).trips) (r : Fin 8),
    k0_off6 i t (BitVec.ofNat 32 r.val) = ![0, 0, 512 * (blk ((i 1).val + 1 + r.val)).val] := by decide +kernel
theorem off10_blk : ∀ (i : grid0.Coords), k0_cond2 i = 1#1 → ∀ (r : Fin 4),
    k0_off10 i (BitVec.ofNat 32 r.val) = ![512 * (blk (16 - (15 - (i 1).val) % 8 + r.val)).val, 0] := by decide +kernel
theorem off11_blk : ∀ (i : grid0.Coords), k0_cond2 i = 1#1 → ∀ (r : Fin 4),
    k0_off11 i (BitVec.ofNat 32 r.val) = ![512 * (blk (16 - (15 - (i 1).val) % 8 + r.val)).val, 0] := by decide +kernel
theorem off12_blk : ∀ (i : grid0.Coords), k0_cond2 i = 1#1 → ∀ (r : Fin 4),
    k0_off12 i (BitVec.ofNat 32 r.val) = ![0, 0, 512 * (blk (16 - (15 - (i 1).val) % 8 + r.val)).val] := by decide +kernel
theorem off13_blk : ∀ (i : grid0.Coords), k0_cond3 i = 1#1 → ∀ (r : Fin 2),
    k0_off13 i (BitVec.ofNat 32 r.val) = ![512 * (blk (16 - (15 - (i 1).val) % 4 + r.val)).val, 0] := by decide +kernel
theorem off14_blk : ∀ (i : grid0.Coords), k0_cond3 i = 1#1 → ∀ (r : Fin 2),
    k0_off14 i (BitVec.ofNat 32 r.val) = ![512 * (blk (16 - (15 - (i 1).val) % 4 + r.val)).val, 0] := by decide +kernel
theorem off15_blk : ∀ (i : grid0.Coords), k0_cond3 i = 1#1 → ∀ (r : Fin 2),
    k0_off15 i (BitVec.ofNat 32 r.val) = ![0, 0, 512 * (blk (16 - (15 - (i 1).val) % 4 + r.val)).val] := by decide +kernel
theorem off16_blk : ∀ (i : grid0.Coords), k0_cond4 i = 1#1 →
    k0_off16 i = ![512 * (blk (16 - (15 - (i 1).val) % 2)).val, 0] := by decide +kernel
theorem off17_blk : ∀ (i : grid0.Coords), k0_cond4 i = 1#1 →
    k0_off17 i = ![512 * (blk (16 - (15 - (i 1).val) % 2)).val, 0] := by decide +kernel
theorem off18_blk : ∀ (i : grid0.Coords), k0_cond4 i = 1#1 →
    k0_off18 i = ![0, 0, 512 * (blk (16 - (15 - (i 1).val) % 2)).val] := by decide +kernel

/-- One step as a run. -/
theorem stepP_runs (pr : Vec F S512x256 .bf16 → Vec F S1x1x512 .f32 → FVec F S512x512 .f32) (c : Dev nD)
    (arg2 : Memref sig .tc .vmem S8192x256 .bf16) (arg5 : Memref sig .tc .vmem S8192x128 .bf16)
    (arg6 arg7 : Memref sig .tc .vmem S1x1x8192 .f32) (arg8 : Memref sig .tc .vmem S8192x256 .f32)
    (arg11 : Memref sig .tc .vmem S512x256 .f32) (arg12 : Memref sig .tc .vmem S512x128 .f32) (harg2 : arg2.IsWhole) (harg5 : arg5.IsWhole) (harg6 : arg6.IsWhole) (harg7 : arg7.IsWhole) (harg8 : arg8.IsWhole)
    (harg11 : arg11.IsWhole) (harg12 : arg12.IsWhole)
    (v12 : FVec F S512x256 .bf16) (v14 : FVec F S512x128 .bf16) (o4 o5 : Fin 2 → ℕ) (o6 : Fin 3 → ℕ)
    (h4 : ∀ a, o4 a + S512x256.size a ≤ S8192x256.size a) (h5 : ∀ a, o5 a + S512x128.size a ≤ S8192x128.size a)
    (h6 : ∀ a, o6 a + S1x1x512.size a ≤ S1x1x8192.size a)
    (b : Fin 16) (e4 : o4 = ![512 * b.val, 0]) (e5 : o5 = ![512 * b.val, 0]) (e6 : o6 = ![0, 0, 512 * b.val])
    (R : Rows F) (s : St F) :
    Runs c (held c arg2 arg5 arg6 arg7 arg8 arg11 arg12 R s) (stepP pr arg2 arg5 arg6 arg7 arg8 arg11 arg12 v12 v14 o4 o5 o6 h4 h5 h6) ⟨⟩
      (held c arg2 arg5 arg6 arg7 arg8 arg11 arg12 R (stepSt pr v12 v14 R b s)) := fun E K =>
  stepP_spec pr c arg2 harg2 arg5 harg5 arg6 harg6 arg7 harg7 arg8 harg8 arg11 harg11 arg12 harg12 v12 v14 o4 o5 o6
    h4 h5 h6 b e4 e5 e6 R s E K

section
variable (c : Dev nD) (i : grid0.Coords) (arg2 : Memref sig .tc .vmem S8192x256 .bf16) (arg5 : Memref sig .tc .vmem S8192x128 .bf16)
    (arg6 arg7 : Memref sig .tc .vmem S1x1x8192 .f32) (arg8 : Memref sig .tc .vmem S8192x256 .f32)
    (arg11 : Memref sig .tc .vmem S512x256 .f32) (arg12 : Memref sig .tc .vmem S512x128 .f32)
    (harg2 : arg2.IsWhole) (harg5 : arg5.IsWhole) (harg6 : arg6.IsWhole) (harg7 : arg7.IsWhole) (harg8 : arg8.IsWhole)
    (harg11 : arg11.IsWhole) (harg12 : arg12.IsWhole) (v12 : FVec F S512x256 .bf16) (v14 : FVec F S512x128 .bf16) (R : Rows F) (s : St F)

include harg2 harg5 harg6 harg7 harg8 harg11 harg12

/-- One trip: the eight blocks after the key block's own. -/
theorem trip_runs (t : Fin (k0_t1_loop i).trips) :
    Runs c (held c arg2 arg5 arg6 arg7 arg8 arg11 arg12 R s) (tripP i arg2 arg5 arg6 arg7 arg8 arg11 arg12 v12 v14 t) ⟨⟩
      (held c arg2 arg5 arg6 arg7 arg8 arg11 arg12 R (runSt v12 v14 R ((i 1).val + 1) 8 s)) := by
  unfold tripP
  refine Runs.bind (stepP_runs (free v12) c arg2 arg5 arg6 arg7 arg8 arg11 arg12 harg2 harg5 harg6 harg7 harg8 harg11 harg12 v12 v14 _ _ _ _ _ _ (blk ((i 1).val + 1 + 0))
    (off4_blk i t 0) (off5_blk i t 0) (off6_blk i t 0) R _) ?_
  refine Runs.bind (stepP_runs (free v12) c arg2 arg5 arg6 arg7 arg8 arg11 arg12 harg2 harg5 harg6 harg7 harg8 harg11 harg12 v12 v14 _ _ _ _ _ _ (blk ((i 1).val + 1 + 1))
    (off4_blk i t 1) (off5_blk i t 1) (off6_blk i t 1) R _) ?_
  refine Runs.bind (stepP_runs (free v12) c arg2 arg5 arg6 arg7 arg8 arg11 arg12 harg2 harg5 harg6 harg7 harg8 harg11 harg12 v12 v14 _ _ _ _ _ _ (blk ((i 1).val + 1 + 2))
    (off4_blk i t 2) (off5_blk i t 2) (off6_blk i t 2) R _) ?_
  refine Runs.bind (stepP_runs (free v12) c arg2 arg5 arg6 arg7 arg8 arg11 arg12 harg2 harg5 harg6 harg7 harg8 harg11 harg12 v12 v14 _ _ _ _ _ _ (blk ((i 1).val + 1 + 3))
    (off4_blk i t 3) (off5_blk i t 3) (off6_blk i t 3) R _) ?_
  refine Runs.bind (stepP_runs (free v12) c arg2 arg5 arg6 arg7 arg8 arg11 arg12 harg2 harg5 harg6 harg7 harg8 harg11 harg12 v12 v14 _ _ _ _ _ _ (blk ((i 1).val + 1 + 4))
    (off4_blk i t 4) (off5_blk i t 4) (off6_blk i t 4) R _) ?_
  refine Runs.bind (stepP_runs (free v12) c arg2 arg5 arg6 arg7 arg8 arg11 arg12 harg2 harg5 harg6 harg7 harg8 harg11 harg12 v12 v14 _ _ _ _ _ _ (blk ((i 1).val + 1 + 5))
    (off4_blk i t 5) (off5_blk i t 5) (off6_blk i t 5) R _) ?_
  refine Runs.bind (stepP_runs (free v12) c arg2 arg5 arg6 arg7 arg8 arg11 arg12 harg2 harg5 harg6 harg7 harg8 harg11 harg12 v12 v14 _ _ _ _ _ _ (blk ((i 1).val + 1 + 6))
    (off4_blk i t 6) (off5_blk i t 6) (off6_blk i t 6) R _) ?_
  refine Runs.bind (stepP_runs (free v12) c arg2 arg5 arg6 arg7 arg8 arg11 arg12 harg2 harg5 harg6 harg7 harg8 harg11 harg12 v12 v14 _ _ _ _ _ _ (blk ((i 1).val + 1 + 7))
    (off4_blk i t 7) (off5_blk i t 7) (off6_blk i t 7) R _) ?_
  exact Runs.ret _

/-- The loop: eight blocks if there are as many, else none. -/
theorem loop_runs :
    Runs c (held c arg2 arg5 arg6 arg7 arg8 arg11 arg12 R s) (Scf.Loop.for (k0_t1_loop i) (k0_t1_ok i) ⟨⟩ (fun t _ => tripP i arg2 arg5 arg6 arg7 arg8 arg11 arg12 v12 v14 t)) ⟨⟩
      (held c arg2 arg5 arg6 arg7 arg8 arg11 arg12 R (runSt v12 v14 R ((i 1).val + 1) (8 * ((15 - (i 1).val) / 8)) s)) := by
  have hj : (i 1).val < 16 := (i 1).isLt
  have ht := t1_trips i
  rcases (by omega : (15 - (i 1).val) / 8 = 0 ∨ (15 - (i 1).val) / 8 = 1) with h | h
  · rw [h] at ht ⊢
    rw [Scf.for_trips0 _ _ ht]
    exact Runs.ret _
  · rw [h] at ht ⊢
    rw [Scf.for_trips1 _ _ ht]
    refine Runs.bind (trip_runs c i arg2 arg5 arg6 arg7 arg8 arg11 arg12 harg2 harg5 harg6 harg7 harg8 harg11 harg12 v12 v14 R s _) ?_
    exact Runs.ret _

/-- Four blocks if that bit of the count is set, else none. -/
theorem four_runs :
    Runs c (held c arg2 arg5 arg6 arg7 arg8 arg11 arg12 R s) (fourP i arg2 arg5 arg6 arg7 arg8 arg11 arg12 v12 v14) ⟨⟩
      (held c arg2 arg5 arg6 arg7 arg8 arg11 arg12 R (runSt v12 v14 R (16 - (15 - (i 1).val) % 8) (4 * ((15 - (i 1).val) / 4 % 2)) s)) := by
  unfold fourP
  split
  · rename_i h
    rw [(cond2_iff i).mp h]
    refine Runs.bind (stepP_runs (free v12) c arg2 arg5 arg6 arg7 arg8 arg11 arg12 harg2 harg5 harg6 harg7 harg8 harg11 harg12 v12 v14 _ _ _ _ _ _ (blk (16 - (15 - (i 1).val) % 8 + 0))
      (off10_blk i h 0) (off11_blk i h 0) (off12_blk i h 0) R _) ?_
    refine Runs.bind (stepP_runs (free v12) c arg2 arg5 arg6 arg7 arg8 arg11 arg12 harg2 harg5 harg6 harg7 harg8 harg11 harg12 v12 v14 _ _ _ _ _ _ (blk (16 - (15 - (i 1).val) % 8 + 1))
      (off10_blk i h 1) (off11_blk i h 1) (off12_blk i h 1) R _) ?_
    refine Runs.bind (stepP_runs (free v12) c arg2 arg5 arg6 arg7 arg8 arg11 arg12 harg2 harg5 harg6 harg7 harg8 harg11 harg12 v12 v14 _ _ _ _ _ _ (blk (16 - (15 - (i 1).val) % 8 + 2))
      (off10_blk i h 2) (off11_blk i h 2) (off12_blk i h 2) R _) ?_
    refine Runs.bind (stepP_runs (free v12) c arg2 arg5 arg6 arg7 arg8 arg11 arg12 harg2 harg5 harg6 harg7 harg8 harg11 harg12 v12 v14 _ _ _ _ _ _ (blk (16 - (15 - (i 1).val) % 8 + 3))
      (off10_blk i h 3) (off11_blk i h 3) (off12_blk i h 3) R _) ?_
    exact Runs.ret _
  · rename_i h
    rw [show (15 - (i 1).val) / 4 % 2 = 0 by have := mt (cond2_iff i).mpr h; omega]
    exact Runs.ret _

/-- Two blocks if that bit of the count is set, else none. -/
theorem two_runs :
    Runs c (held c arg2 arg5 arg6 arg7 arg8 arg11 arg12 R s) (twoP i arg2 arg5 arg6 arg7 arg8 arg11 arg12 v12 v14) ⟨⟩
      (held c arg2 arg5 arg6 arg7 arg8 arg11 arg12 R (runSt v12 v14 R (16 - (15 - (i 1).val) % 4) (2 * ((15 - (i 1).val) / 2 % 2)) s)) := by
  unfold twoP
  split
  · rename_i h
    rw [(cond3_iff i).mp h]
    refine Runs.bind (stepP_runs (free v12) c arg2 arg5 arg6 arg7 arg8 arg11 arg12 harg2 harg5 harg6 harg7 harg8 harg11 harg12 v12 v14 _ _ _ _ _ _ (blk (16 - (15 - (i 1).val) % 4 + 0))
      (off13_blk i h 0) (off14_blk i h 0) (off15_blk i h 0) R _) ?_
    refine Runs.bind (stepP_runs (free v12) c arg2 arg5 arg6 arg7 arg8 arg11 arg12 harg2 harg5 harg6 harg7 harg8 harg11 harg12 v12 v14 _ _ _ _ _ _ (blk (16 - (15 - (i 1).val) % 4 + 1))
      (off13_blk i h 1) (off14_blk i h 1) (off15_blk i h 1) R _) ?_
    exact Runs.ret _
  · rename_i h
    rw [show (15 - (i 1).val) / 2 % 2 = 0 by have := mt (cond3_iff i).mpr h; omega]
    exact Runs.ret _

/-- One block if the count is odd, else none. -/
theorem one_runs :
    Runs c (held c arg2 arg5 arg6 arg7 arg8 arg11 arg12 R s) (oneP i arg2 arg5 arg6 arg7 arg8 arg11 arg12 v12 v14) ⟨⟩
      (held c arg2 arg5 arg6 arg7 arg8 arg11 arg12 R (runSt v12 v14 R (16 - (15 - (i 1).val) % 2) ((15 - (i 1).val) % 2) s)) := by
  unfold oneP
  split
  · rename_i h
    have e := (cond4_iff i).mp h
    rw [e]
    refine Runs.bind (stepP_runs (free v12) c arg2 arg5 arg6 arg7 arg8 arg11 arg12 harg2 harg5 harg6 harg7 harg8 harg11 harg12 v12 v14 _ _ _ _ _ _ (blk (16 - 1))
      ((off16_blk i h).trans (by rw [e])) ((off17_blk i h).trans (by rw [e])) ((off18_blk i h).trans (by rw [e])) R _) ?_
    exact Runs.ret _
  · rename_i h
    rw [show (15 - (i 1).val) % 2 = 0 by have := mt (cond4_iff i).mpr h; omega]
    exact Runs.ret _

end

end Cert.Bwd

end
-- ==== Proof.Bwd.Body.lean ====
/- What the kernel's body leaves at one grid point. -/
module

public import proofs.«01_k».proof.Proof.Bwd.Runs

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state from which the steps of a grid point start: the query gradient so far (zero at a head's first key block),
    the accumulators at zero. -/
def startSt (i : grid0.Coords) (g : Vec F S8192x256 .f32) : St F :=
  (if (i 1).val = 0 then k0_pay174 else g, k0_pay175, k0_pay176)

/-- The state after all steps of a grid point: the key block's own query block, masked, and those after it. -/
def endSt (i : grid0.Coords) (k : Vec F S512x256 .bf16) (v : Vec F S512x128 .bf16) (R : Rows F) (g : Vec F S8192x256 .f32) : St F :=
  runSt (k0_pay177 k) (k0_pay178 v) R ((i 1).val + 1) (15 - (i 1).val)
    (stepSt (k0_pay181 k) (k0_pay177 k) (k0_pay178 v) R (blk (i 1).val) (startSt i g))

/-- The query gradient a grid point leaves: scaled at a head's last key block. -/
def dqOut (i : grid0.Coords) (k : Vec F S512x256 .bf16) (v : Vec F S512x128 .bf16) (R : Rows F) (g : Vec F S8192x256 .f32) :
    Vec F S8192x256 .f32 :=
  if (i 1).val = 15 then k0_pay9 (endSt i k v R g).1 else (endSt i k v R g).1

/-- Clearing the query gradient at a head's first key block. -/
theorem clear_runs (c : Dev nD) (i : grid0.Coords) (arg8 : Memref sig .tc .vmem S8192x256 .f32) (harg8 : arg8.IsWhole)
    (g : Vec F S8192x256 .f32) :
    Runs c (owns (c : Thread nD τ) arg8 fullShare g) (clearP i arg8) ⟨⟩
      (owns (c : Thread nD τ) arg8 fullShare (if (i 1).val = 0 then k0_pay174 else g)) := by
  unfold clearP
  split
  · rename_i h
    rw [if_pos ((first_iff i).mp h)]
    intro E K
    unfold owns
    iintro ⟨⟨%f8, %hf8, H8⟩, Hk⟩
    sl_exec
    sl_step
    iapply Hk
    iexists _; isplitr; swap; · iexact H8
    ipureintro
    rw [View.read_writes_full (s := S8192x256)]
  · rename_i h
    rw [if_neg (mt (first_iff i).mpr h)]
    exact Runs.ret _

/-- Scaling the query gradient at a head's last key block. -/
theorem scale_runs (c : Dev nD) (i : grid0.Coords) (arg8 : Memref sig .tc .vmem S8192x256 .f32) (harg8 : arg8.IsWhole)
    (g : Vec F S8192x256 .f32) :
    Runs c (owns (c : Thread nD τ) arg8 fullShare g) (scaleP i arg8) ⟨⟩
      (owns (c : Thread nD τ) arg8 fullShare (if (i 1).val = 15 then k0_pay9 g else g)) := by
  unfold scaleP
  split
  · rename_i h
    rw [if_pos ((last_iff i).mp h)]
    intro E K
    unfold owns
    iintro ⟨⟨%f8, %hf8, H8⟩, Hk⟩
    sl_exec
    sl_step
    iapply Hk
    iexists _; isplitr; swap; · iexact H8
    ipureintro
    rw [View.read_writes_full (s := S8192x256), View.readAt_full (s := S8192x256), hf8]
  · rename_i h
    rw [if_neg (mt (last_iff i).mpr h)]
    exact Runs.ret _

/-- Clearing the accumulators and reading the key and value blocks. -/
theorem head_runs (c : Dev nD) (arg3 : Memref sig .tc .vmem S512x256 .bf16) (arg4 : Memref sig .tc .vmem S512x128 .bf16)
    (arg11 : Memref sig .tc .vmem S512x256 .f32) (arg12 : Memref sig .tc .vmem S512x128 .f32)
    (k : Vec F S512x256 .bf16) (v : Vec F S512x128 .bf16) :
    Runs c iprop(owns (c : Thread nD τ) arg3 fullShare k ∗ owns (c : Thread nD τ) arg4 fullShare v
        ∗ (∃ d, owns (c : Thread nD τ) arg11 fullShare d) ∗ (∃ d, owns (c : Thread nD τ) arg12 fullShare d))
      (headP arg3 arg4 arg11 arg12) (k, v)
      iprop(owns (c : Thread nD τ) arg3 fullShare k ∗ owns (c : Thread nD τ) arg4 fullShare v
        ∗ owns (c : Thread nD τ) arg11 fullShare (k0_pay175 (F := F)) ∗ owns (c : Thread nD τ) arg12 fullShare (k0_pay176 (F := F))) := by
  intro E K
  unfold headP owns
  iintro ⟨⟨⟨%f3, %hf3, H3⟩, ⟨%f4, %hf4, H4⟩, ⟨%d11, %f11, -, H11⟩, ⟨%d12, %f12, -, H12⟩⟩, Hk⟩
  sl_exec
  rw [View.readAt_full (s := S512x256), View.readAt_full (s := S512x128), hf3, hf4]
  sl_step
  iapply Hk
  isplitl [H3]
  · iexists _; isplitr; swap; · iexact H3
    ipureintro; exact hf3
  isplitl [H4]
  · iexists _; isplitr; swap; · iexact H4
    ipureintro; exact hf4
  isplitl [H11]
  · iexists _; isplitr; swap; · iexact H11
    ipureintro
    rw [View.read_writes_full (s := S512x256)]
  iexists _; isplitr; swap; · iexact H12
  ipureintro
  rw [View.read_writes_full (s := S512x128)]

/-- Storing the accumulators as the key block's and the value block's gradients. -/
theorem out_runs (c : Dev nD) (arg9 : Memref sig .tc .vmem S512x256 .f32) (arg10 : Memref sig .tc .vmem S512x128 .bf16) (harg10 : arg10.IsWhole)
    (arg11 : Memref sig .tc .vmem S512x256 .f32) (arg12 : Memref sig .tc .vmem S512x128 .f32)
    (a : Vec F S512x256 .f32) (b : Vec F S512x128 .f32) :
    Runs c iprop((∃ d, owns (c : Thread nD τ) arg9 fullShare d) ∗ (∃ d, owns (c : Thread nD τ) arg10 fullShare d)
        ∗ owns (c : Thread nD τ) arg11 fullShare a ∗ owns (c : Thread nD τ) arg12 fullShare b)
      (outP arg9 arg10 harg10 arg11 arg12) ⟨⟩
      iprop(owns (c : Thread nD τ) arg9 fullShare a ∗ owns (c : Thread nD τ) arg10 fullShare (k0_pay8 b)
        ∗ owns (c : Thread nD τ) arg11 fullShare a ∗ owns (c : Thread nD τ) arg12 fullShare b) := by
  intro E K
  unfold outP owns
  iintro ⟨⟨⟨%d9, %f9, -, H9⟩, ⟨%d10, %f10, -, H10⟩, ⟨%f11, %hf11, H11⟩, ⟨%f12, %hf12, H12⟩⟩, Hk⟩
  sl_exec
  sl_step
  iapply Hk
  isplitl [H9]
  · iexists _; isplitr; swap; · iexact H9
    ipureintro
    rw [View.read_writes_full (s := S512x256), View.readAt_full (s := S512x256), hf11]
  isplitl [H10]
  · iexists _; isplitr; swap; · iexact H10
    ipureintro
    rw [View.read_writes_full (s := S512x128), View.readAt_full (s := S512x128), hf12]
  isplitl [H11]
  · iexists _; isplitr; swap; · iexact H11
    ipureintro; exact hf11
  iexists _; isplitr; swap; · iexact H12
  ipureintro; exact hf12

/-- Resources in another order. -/
theorem Runs.conv {α : Type} {c : Dev nD} {P P' Q Q' : sProp 𝕄} {p : Prog (TpuEff nD τ sig (Elt F) Λ₀ .tc) α} {a : α}
    (h : Runs c P p a Q) (hP : P' ⊢ P) (hQ : Q ⊢ Q') : Runs c P' p a Q' := fun E K => by
  refine BIBase.Entails.trans ?_ (h E K)
  iintro ⟨HP, Hk⟩
  isplitl [HP]
  · iapply hP; iexact HP
  iintro HQ
  iapply Hk
  iapply hQ
  iexact HQ

/-- All steps of a grid point. -/
theorem steps_runs (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole)
    (k : Vec F S512x256 .bf16) (v : Vec F S512x128 .bf16) (R : Rows F) (s : St F) :
    Runs c (held c arg2 arg5 arg6 arg7 arg8 arg11 arg12 R s) (do
      stepP (k0_pay181 k) arg2 arg5 arg6 arg7 arg8 arg11 arg12 (k0_pay177 k) (k0_pay178 v) (k0_off1 i) (k0_off2 i) (k0_off3 i)
        (k0_off1_inb i) (k0_off2_inb i) (k0_off3_inb i)
      Scf.Loop.for (k0_t1_loop i) (k0_t1_ok i) ⟨⟩ (fun t _ => tripP i arg2 arg5 arg6 arg7 arg8 arg11 arg12 (k0_pay177 k) (k0_pay178 v) t)
      fourP i arg2 arg5 arg6 arg7 arg8 arg11 arg12 (k0_pay177 k) (k0_pay178 v)
      twoP i arg2 arg5 arg6 arg7 arg8 arg11 arg12 (k0_pay177 k) (k0_pay178 v)
      oneP i arg2 arg5 arg6 arg7 arg8 arg11 arg12 (k0_pay177 k) (k0_pay178 v)) ⟨⟩
      (held c arg2 arg5 arg6 arg7 arg8 arg11 arg12 R (runSt (k0_pay177 k) (k0_pay178 v) R ((i 1).val + 1) (15 - (i 1).val)
        (stepSt (k0_pay181 k) (k0_pay177 k) (k0_pay178 v) R (blk (i 1).val) s))) := by
  have hj : (i 1).val < 16 := (i 1).isLt
  refine Runs.bind (stepP_runs _ c arg2 arg5 arg6 arg7 arg8 arg11 arg12 harg2 harg5 harg6 harg7 harg8 harg11 harg12 _ _ _ _ _ _ _ _ _ (off1_blk i) (off2_blk i) (off3_blk i) R s) ?_
  refine Runs.bind (loop_runs c i arg2 arg5 arg6 arg7 arg8 arg11 arg12 harg2 harg5 harg6 harg7 harg8 harg11 harg12 _ _ R _) ?_
  refine Runs.bind (four_runs c i arg2 arg5 arg6 arg7 arg8 arg11 arg12 harg2 harg5 harg6 harg7 harg8 harg11 harg12 _ _ R _) ?_
  refine Runs.bind (two_runs c i arg2 arg5 arg6 arg7 arg8 arg11 arg12 harg2 harg5 harg6 harg7 harg8 harg11 harg12 _ _ R _) ?_
  have h := one_runs c i arg2 arg5 arg6 arg7 arg8 arg11 arg12 harg2 harg5 harg6 harg7 harg8 harg11 harg12 (k0_pay177 k) (k0_pay178 v) R
    (runSt (k0_pay177 k) (k0_pay178 v) R (16 - (15 - (i 1).val) % 4) (2 * ((15 - (i 1).val) / 2 % 2))
    (runSt (k0_pay177 k) (k0_pay178 v) R (16 - (15 - (i 1).val) % 8) (4 * ((15 - (i 1).val) / 4 % 2))
    (runSt (k0_pay177 k) (k0_pay178 v) R ((i 1).val + 1) (8 * ((15 - (i 1).val) / 8))
    (stepSt (k0_pay181 k) (k0_pay177 k) (k0_pay178 v) R (blk (i 1).val) s))))
  rw [runSt_add _ _ _ ((i 1).val + 1) _ (16 - (15 - (i 1).val) % 8) _ (by omega),
    runSt_add _ _ _ ((i 1).val + 1) _ (16 - (15 - (i 1).val) % 4) _ (by omega),
    runSt_add _ _ _ ((i 1).val + 1) _ (16 - (15 - (i 1).val) % 2) _ (by omega),
    show 8 * ((15 - (i 1).val) / 8) + 4 * ((15 - (i 1).val) / 4 % 2) + 2 * ((15 - (i 1).val) / 2 % 2) + (15 - (i 1).val) % 2
      = 15 - (i 1).val by omega] at h
  rw [runSt_add _ _ _ ((i 1).val + 1) _ (16 - (15 - (i 1).val) % 8) _ (by omega),
    runSt_add _ _ _ ((i 1).val + 1) _ (16 - (15 - (i 1).val) % 4) _ (by omega)]
  exact h

/-- The whole body at a grid point. -/
theorem body_runs (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S1x1x8192 .f32) (harg6 : arg6.IsWhole) (arg7 : Memref sig .tc .vmem S1x1x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole)
    (k : Vec F S512x256 .bf16) (v : Vec F S512x128 .bf16) (R : Rows F) (g : Vec F S8192x256 .f32) :
    Runs c iprop(owns (c : Thread nD τ) arg2 fullShare R.Q ∗ owns (c : Thread nD τ) arg3 fullShare k
        ∗ owns (c : Thread nD τ) arg4 fullShare v ∗ owns (c : Thread nD τ) arg5 fullShare R.DO
        ∗ owns (c : Thread nD τ) arg6 fullShare R.L ∗ owns (c : Thread nD τ) arg7 fullShare R.D
        ∗ owns (c : Thread nD τ) arg8 fullShare g ∗ (∃ d, owns (c : Thread nD τ) arg9 fullShare d)
        ∗ (∃ d, owns (c : Thread nD τ) arg10 fullShare d)
        ∗ (∃ d, owns (c : Thread nD τ) arg11 fullShare d) ∗ (∃ d, owns (c : Thread nD τ) arg12 fullShare d))
      (cc0_flash_bwd (F := F) i arg2 harg2 arg3 harg3 arg4 harg4 arg5 harg5 arg6 harg6 arg7 harg7 arg8 harg8 arg9 harg9 arg10 harg10 arg11 harg11 arg12 harg12) ⟨⟩
      iprop(owns (c : Thread nD τ) arg2 fullShare R.Q ∗ owns (c : Thread nD τ) arg3 fullShare k
        ∗ owns (c : Thread nD τ) arg4 fullShare v ∗ owns (c : Thread nD τ) arg5 fullShare R.DO
        ∗ owns (c : Thread nD τ) arg6 fullShare R.L ∗ owns (c : Thread nD τ) arg7 fullShare R.D
        ∗ owns (c : Thread nD τ) arg8 fullShare (dqOut i k v R g)
        ∗ owns (c : Thread nD τ) arg9 fullShare (endSt i k v R g).2.1
        ∗ owns (c : Thread nD τ) arg10 fullShare (k0_pay8 (endSt i k v R g).2.2)
        ∗ (∃ d, owns (c : Thread nD τ) arg11 fullShare d) ∗ (∃ d, owns (c : Thread nD τ) arg12 fullShare d)) := by
  rw [body_eq]
  have e : ∀ (kv : Vec F S512x256 .bf16 × Vec F S512x128 .bf16), (do
      stepP (k0_pay181 kv.1) arg2 arg5 arg6 arg7 arg8 arg11 arg12 (k0_pay177 kv.1) (k0_pay178 kv.2) (k0_off1 i) (k0_off2 i) (k0_off3 i)
        (k0_off1_inb i) (k0_off2_inb i) (k0_off3_inb i)
      Scf.Loop.for (k0_t1_loop i) (k0_t1_ok i) ⟨⟩ (fun t _ => tripP i arg2 arg5 arg6 arg7 arg8 arg11 arg12 (k0_pay177 kv.1) (k0_pay178 kv.2) t)
      fourP i arg2 arg5 arg6 arg7 arg8 arg11 arg12 (k0_pay177 kv.1) (k0_pay178 kv.2)
      twoP i arg2 arg5 arg6 arg7 arg8 arg11 arg12 (k0_pay177 kv.1) (k0_pay178 kv.2)
      oneP i arg2 arg5 arg6 arg7 arg8 arg11 arg12 (k0_pay177 kv.1) (k0_pay178 kv.2)
      outP arg9 arg10 harg10 arg11 arg12
      scaleP i arg8) = ((do
      stepP (k0_pay181 kv.1) arg2 arg5 arg6 arg7 arg8 arg11 arg12 (k0_pay177 kv.1) (k0_pay178 kv.2) (k0_off1 i) (k0_off2 i) (k0_off3 i)
        (k0_off1_inb i) (k0_off2_inb i) (k0_off3_inb i)
      Scf.Loop.for (k0_t1_loop i) (k0_t1_ok i) ⟨⟩ (fun t _ => tripP i arg2 arg5 arg6 arg7 arg8 arg11 arg12 (k0_pay177 kv.1) (k0_pay178 kv.2) t)
      fourP i arg2 arg5 arg6 arg7 arg8 arg11 arg12 (k0_pay177 kv.1) (k0_pay178 kv.2)
      twoP i arg2 arg5 arg6 arg7 arg8 arg11 arg12 (k0_pay177 kv.1) (k0_pay178 kv.2)
      oneP i arg2 arg5 arg6 arg7 arg8 arg11 arg12 (k0_pay177 kv.1) (k0_pay178 kv.2)) >>= fun _ => (do
      outP arg9 arg10 harg10 arg11 arg12
      scaleP i arg8)) := fun kv => by simp only [bind_assoc]
  simp only [e]
  refine Runs.bind (Q := iprop(owns (c : Thread nD τ) arg8 fullShare (if (i 1).val = 0 then k0_pay174 else g)
      ∗ owns (c : Thread nD τ) arg2 fullShare R.Q ∗ owns (c : Thread nD τ) arg3 fullShare k
        ∗ owns (c : Thread nD τ) arg4 fullShare v ∗ owns (c : Thread nD τ) arg5 fullShare R.DO
        ∗ owns (c : Thread nD τ) arg6 fullShare R.L ∗ owns (c : Thread nD τ) arg7 fullShare R.D
        ∗ (∃ d, owns (c : Thread nD τ) arg9 fullShare d)
        ∗ (∃ d, owns (c : Thread nD τ) arg10 fullShare d)
        ∗ (∃ d, owns (c : Thread nD τ) arg11 fullShare d) ∗ (∃ d, owns (c : Thread nD τ) arg12 fullShare d)))
    (Runs.conv (Runs.frame (clear_runs c i arg8 harg8 g)) ?_ .rfl) ?_
  · iintro ⟨H2, H3, H4, H5, H6, H7, H8, H9, H10, H11, H12⟩
    iframe
  refine Runs.bind (Q := iprop((owns (c : Thread nD τ) arg3 fullShare k ∗ owns (c : Thread nD τ) arg4 fullShare v
        ∗ owns (c : Thread nD τ) arg11 fullShare (k0_pay175 (F := F)) ∗ owns (c : Thread nD τ) arg12 fullShare (k0_pay176 (F := F)))
      ∗ owns (c : Thread nD τ) arg8 fullShare (if (i 1).val = 0 then k0_pay174 else g)
      ∗ owns (c : Thread nD τ) arg2 fullShare R.Q ∗ owns (c : Thread nD τ) arg5 fullShare R.DO
        ∗ owns (c : Thread nD τ) arg6 fullShare R.L ∗ owns (c : Thread nD τ) arg7 fullShare R.D
        ∗ (∃ d, owns (c : Thread nD τ) arg9 fullShare d)
        ∗ (∃ d, owns (c : Thread nD τ) arg10 fullShare d)))
    (Runs.conv (Runs.frame (head_runs c arg3 arg4 arg11 arg12 k v)) ?_ .rfl) ?_
  · iintro ⟨H8, H2, H3, H4, H5, H6, H7, H9, H10, H11, H12⟩
    iframe
  refine Runs.bind (Q := iprop(held c arg2 arg5 arg6 arg7 arg8 arg11 arg12 R (endSt i k v R g) ∗ (owns (c : Thread nD τ) arg3 fullShare k ∗ owns (c : Thread nD τ) arg4 fullShare v
        ∗ (∃ d, owns (c : Thread nD τ) arg9 fullShare d)
        ∗ (∃ d, owns (c : Thread nD τ) arg10 fullShare d))))
    (Runs.conv (Runs.frame (steps_runs c i arg2 harg2 arg3 harg3 arg4 harg4 arg5 harg5 arg6 harg6 arg7 harg7 arg8 harg8 arg9 harg9 arg10 harg10 arg11 harg11 arg12 harg12 k v R (startSt i g))) ?_ .rfl) ?_
  · unfold held startSt
    iintro ⟨⟨H3, H4, H11, H12⟩, H8, H2, H5, H6, H7, H9, H10⟩
    iframe
  refine Runs.bind (Q := iprop((owns (c : Thread nD τ) arg9 fullShare (endSt i k v R g).2.1
        ∗ owns (c : Thread nD τ) arg10 fullShare (k0_pay8 (endSt i k v R g).2.2)
        ∗ owns (c : Thread nD τ) arg11 fullShare (endSt i k v R g).2.1 ∗ owns (c : Thread nD τ) arg12 fullShare (endSt i k v R g).2.2)
      ∗ owns (c : Thread nD τ) arg8 fullShare (endSt i k v R g).1
      ∗ owns (c : Thread nD τ) arg2 fullShare R.Q ∗ owns (c : Thread nD τ) arg3 fullShare k
        ∗ owns (c : Thread nD τ) arg4 fullShare v ∗ owns (c : Thread nD τ) arg5 fullShare R.DO
        ∗ owns (c : Thread nD τ) arg6 fullShare R.L ∗ owns (c : Thread nD τ) arg7 fullShare R.D))
    (Runs.conv (Runs.frame (out_runs c arg9 arg10 harg10 arg11 arg12 (endSt i k v R g).2.1 (endSt i k v R g).2.2)) ?_ .rfl) ?_
  · unfold held
    iintro ⟨⟨H2, H5, H6, H7, H8, H11, H12⟩, H3, H4, H9, H10⟩
    iframe
  refine Runs.conv (Runs.frame (X := iprop(owns (c : Thread nD τ) arg9 fullShare (endSt i k v R g).2.1
        ∗ owns (c : Thread nD τ) arg10 fullShare (k0_pay8 (endSt i k v R g).2.2)
        ∗ owns (c : Thread nD τ) arg11 fullShare (endSt i k v R g).2.1 ∗ owns (c : Thread nD τ) arg12 fullShare (endSt i k v R g).2.2
      ∗ owns (c : Thread nD τ) arg2 fullShare R.Q ∗ owns (c : Thread nD τ) arg3 fullShare k
        ∗ owns (c : Thread nD τ) arg4 fullShare v ∗ owns (c : Thread nD τ) arg5 fullShare R.DO
        ∗ owns (c : Thread nD τ) arg6 fullShare R.L ∗ owns (c : Thread nD τ) arg7 fullShare R.D))
      (scale_runs c i arg8 harg8 (endSt i k v R g).1)) ?_ ?_
  · iintro ⟨⟨H9, H10, H11, H12⟩, H8, H2, H3, H4, H5, H6, H7⟩
    iframe
  · unfold dqOut
    iintro ⟨H8, H9, H10, H11, H12, H2, H3, H4, H5, H6, H7⟩
    iframe
    isplitl [H11]
    · iexists _; iexact H11
    iexists _; iexact H12

end Cert.Bwd

end
-- ==== Proof.Bwd.Blocks.lean ====
/- The body's arrays over the reals: what one step, and then all steps of a grid point, make of finite data. -/
module

public import proofs.«01_k».proof.Proof.Bwd.Body
public import Idealize.ShloMosaic.Lib.Pipeline.ValueKit
public import Idealize.ShloMosaic.Lib.Pointwise
public import Idealize.ShloMosaic.Lib.Claim

@[expose] public section

set_option maxRecDepth 16384

noncomputable section

namespace Cert.Bwd

open Cert.KernelIdeal Cert.KernelIdeal.Gen
open Idealize.ShloMosaic Idealize.ShloMosaic.TcCoe Idealize.ShloMosaic.Tactic

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale the kernel multiplies by, a real number. -/
def scl : ℝ := (Ideal.ofBits .f32 0x3D93CD3A#32).toReal

theorem ofBits_scl : Ideal.ofBits .f32 0x3D93CD3A#32 = ((scl : ℝ) : EReal) := by
  refine (EReal.coe_toReal ?_ ?_).symm <;> simp [Ideal.ofBits, Ideal.ieee, -EReal.coe_mul] <;> rw [← EReal.coe_mul]

theorem ofBits_bot : Ideal.ofBits .f32 0xFF800000#32 = ⊥ := by simp [Ideal.ofBits, Ideal.ieee]

/-- Row `x` of block `b`. -/
def row (b : Fin 16) (x : Fin 512) : Fin 8192 := ⟨512 * b.val + x.val, by omega⟩

theorem rows256_apply {e : EltTy} (X : Vec Ideal S8192x256 e) (b : Fin 16) (x : Fin 512) (d : Fin 256) :
    rows256 X b (ix2 x d) = X (ix2 (row b x) d) := by
  unfold rows256
  refine congrArg X (funext fun a => Fin.ext ?_)
  match a with
  | ⟨0, _⟩ => show 512 * b.val + 1 * x.val = 512 * b.val + x.val; omega
  | ⟨1, _⟩ => show 0 + 1 * d.val = d.val; omega

theorem rows128_apply {e : EltTy} (X : Vec Ideal S8192x128 e) (b : Fin 16) (x : Fin 512) (d : Fin 128) :
    rows128 X b (ix2 x d) = X (ix2 (row b x) d) := by
  unfold rows128
  refine congrArg X (funext fun a => Fin.ext ?_)
  match a with
  | ⟨0, _⟩ => show 512 * b.val + 1 * x.val = 512 * b.val + x.val; omega
  | ⟨1, _⟩ => show 0 + 1 * d.val = d.val; omega

theorem cols1_apply {e : EltTy} (X : Vec Ideal S1x1x8192 e) (b : Fin 16) (x : Fin 512) :
    cols1 X b (ix3 0 0 x) = X (ix3 0 0 (row b x)) := by
  unfold cols1
  refine congrArg X (funext fun a => Fin.ext ?_)
  match a with
  | ⟨0, _⟩ => show 0 + 1 * 0 = 0; omega
  | ⟨1, _⟩ => show 0 + 1 * 0 = 0; omega
  | ⟨2, _⟩ => show 512 * b.val + 1 * x.val = 512 * b.val + x.val; omega

theorem setRows_in (g : Vec Ideal S8192x256 .f32) (b : Fin 16) (w : Vec Ideal S512x256 .f32) (x : Fin 512) (d : Fin 256) :
    setRows g b w (ix2 (row b x) d) = w (ix2 x d) := by
  unfold setRows
  refine (dif_pos (show 512 * b.val ≤ (row b x).val ∧ (row b x).val < 512 * b.val + 512 by unfold row; simp only; omega)).trans ?_
  refine congrArg w (funext fun a => Fin.ext ?_)
  match a with
  | ⟨0, _⟩ => show 512 * b.val + x.val - 512 * b.val = x.val; omega
  | ⟨1, _⟩ => show d.val - 0 = d.val; omega

theorem setRows_out (g : Vec Ideal S8192x256 .f32) (b : Fin 16) (w : Vec Ideal S512x256 .f32) (r : Fin 8192) (d : Fin 256)
    (h : ¬ (512 * b.val ≤ r.val ∧ r.val < 512 * b.val + 512)) :
    setRows g b w (ix2 r d) = g (ix2 r d) := by
  unfold setRows; exact dif_neg h

/-- What one head and one key block bring to the kernel, over the reals: the key block's number, keys, values, and for
    all rows of the head queries, output gradients, log-sums and deltas. -/
structure Data where
  j : ℕ
  k : Fin 512 → Fin 256 → ℝ
  v : Fin 512 → Fin 128 → ℝ
  Q : Fin 8192 → Fin 256 → ℝ
  O : Fin 8192 → Fin 128 → ℝ
  L : Fin 8192 → ℝ
  D : Fin 8192 → ℝ

/-- The weight of key `κ` of the block in row `r`: zero before the key. -/
def Data.w (X : Data) (κ : Fin 512) (r : Fin 8192) : ℝ :=
  if 512 * X.j + κ.val ≤ r.val then Real.exp (∑ d, X.k κ d * X.Q r d - X.L r) else 0

/-- The gradient of the score of key `κ` in row `r`. -/
def Data.ds (X : Data) (κ : Fin 512) (r : Fin 8192) : ℝ := X.w κ r * (∑ d, X.v κ d * X.O r d - X.D r)

/-- The arrays in use hold the real data. -/
structure Holds (X : Data) (v12 : FVec Ideal S512x256 .bf16) (v14 : FVec Ideal S512x128 .bf16) (R : Rows Ideal) : Prop where
  k : ∀ κ d, v12 (ix2 κ d) = ((X.k κ d : ℝ) : EReal)
  v : ∀ κ d, v14 (ix2 κ d) = ((X.v κ d : ℝ) : EReal)
  Q : ∀ r d, R.Q (ix2 r d) = ((X.Q r d : ℝ) : EReal)
  O : ∀ r d, R.DO (ix2 r d) = ((X.O r d : ℝ) : EReal)
  L : ∀ r, R.L (ix3 0 0 r) = ((X.L r : ℝ) : EReal)
  D : ∀ r, R.D (ix3 0 0 r) = ((X.D r : ℝ) : EReal)

/-- The state holds the real arrays `a` (query gradient), `b` (key gradient) and `c` (value gradient). -/
structure IsSt (s : St Ideal) (a : Fin 8192 → Fin 256 → ℝ) (b : Fin 512 → Fin 256 → ℝ) (c : Fin 512 → Fin 128 → ℝ) : Prop where
  dq : ∀ r d, s.1 (ix2 r d) = ((a r d : ℝ) : EReal)
  dk : ∀ κ d, s.2.1 (ix2 κ d) = ((b κ d : ℝ) : EReal)
  dv : ∀ κ d, s.2.2 (ix2 κ d) = ((c κ d : ℝ) : EReal)

/-! ## The weights -/

theorem pay159_apply (k : Vec Ideal S512x256 .bf16) (q : Vec Ideal S512x256 .bf16) (l : Vec Ideal S1x1x512 .f32) (κ x : Fin 512) :
    k0_pay159 (F := Ideal) k q l (ix2 κ x)
      = Ideal.exp (∑ d : Fin 256, k (ix2 κ d) * q (ix2 x d) - l (ix3 0 0 x)) := by
  pointwise [k0_pay159, k0_pay157]

theorem pay181_apply (k : Vec Ideal S512x256 .bf16) (q : Vec Ideal S512x256 .bf16) (l : Vec Ideal S1x1x512 .f32) (κ x : Fin 512) :
    k0_pay181 (F := Ideal) k q l (ix2 κ x)
      = Ideal.exp ((if κ.val ≤ x.val then ∑ d : Fin 256, k (ix2 κ d) * q (ix2 x d) else ⊥) - l (ix3 0 0 x)) := by
  have h : IntOp.cmpi CmpIPredicate.sle (BitVec.ofNat 32 κ.val) (BitVec.ofNat 32 x.val) = if κ.val ≤ x.val then 1#1 else 0#1 := by
    have := κ.isLt; have := x.isLt
    word_cmp
    by_cases h : κ.val ≤ x.val <;> simp [h]
  pointwise [k0_pay181, k0_pay177, k0_pay179]
  rw [h, ofBits_bot]
  split <;> simp [Scalar.select]

theorem free_apply {X : Data} {v12 : FVec Ideal S512x256 .bf16} {v14 : FVec Ideal S512x128 .bf16} {R : Rows Ideal} (H : Holds X v12 v14 R)
    (b : Fin 16) (hb : X.j < b.val) (κ x : Fin 512) :
    free v12 (rows256 R.Q b) (cols1 R.L b) (ix2 κ x) = ((X.w κ (row b x) : ℝ) : EReal) := by
  unfold free
  rw [pay159_apply]
  simp only [rows256_apply, cols1_apply, H.k, H.Q, H.L, ← EReal.coe_mul, ← coe_sum, ← EReal.coe_sub, Ideal.exp_coe]
  rw [Data.w, if_pos (by unfold row; simp only; omega)]

theorem diag_apply {X : Data} {k : Vec Ideal S512x256 .bf16} {v14 : FVec Ideal S512x128 .bf16} {R : Rows Ideal} (H : Holds X (k0_pay177 k) v14 R)
    (b : Fin 16) (hb : b.val = X.j) (κ x : Fin 512) :
    k0_pay181 k (rows256 R.Q b) (cols1 R.L b) (ix2 κ x) = ((X.w κ (row b x) : ℝ) : EReal) := by
  have hk : ∀ κ d, k (ix2 κ d) = ((X.k κ d : ℝ) : EReal) := fun κ d => by
    rw [← H.k κ d]; unfold k0_pay177; pointwise
  rw [pay181_apply]
  simp only [rows256_apply, cols1_apply, hk, H.Q, H.L, ← EReal.coe_mul, ← coe_sum]
  unfold Data.w
  by_cases h : κ.val ≤ x.val
  · rw [if_pos h, if_pos (by unfold row; simp only; omega), ← EReal.coe_sub, Ideal.exp_coe]
  · rw [if_neg h, if_neg (by unfold row; simp only; omega), EReal.bot_sub, Ideal.exp_bot, EReal.coe_zero]

/-! ## One step -/

theorem pay182_apply (d : Vec Ideal S512x128 .bf16) (p : Vec Ideal S512x512 .f32) (a : Vec Ideal S512x128 .f32) (κ : Fin 512) (e : Fin 128) :
    k0_pay182 (F := Ideal) d p a (ix2 κ e) = a (ix2 κ e) + ∑ x, p (ix2 κ x) * d (ix2 x e) := by
  pointwise [k0_pay182]

theorem pay183_apply (v d : Vec Ideal S512x128 .bf16) (p : Vec Ideal S512x512 .f32) (l : Vec Ideal S1x1x512 .f32) (κ x : Fin 512) :
    k0_pay183 (F := Ideal) v d p l (ix2 κ x) = p (ix2 κ x) * (∑ e, v (ix2 κ e) * d (ix2 x e) - l (ix3 0 0 x)) := by
  pointwise [k0_pay183]

theorem pay184_apply (v : Vec Ideal S512x128 .bf16) (q : Vec Ideal S512x256 .bf16) (d : Vec Ideal S512x128 .bf16) (p : Vec Ideal S512x512 .f32) (l : Vec Ideal S1x1x512 .f32)
    (a : Vec Ideal S512x256 .f32) (κ : Fin 512) (e : Fin 256) :
    k0_pay184 (F := Ideal) v q d p l a (ix2 κ e) = a (ix2 κ e) + ∑ x, k0_pay183 (F := Ideal) v d p l (ix2 κ x) * q (ix2 x e) := by
  pointwise [k0_pay184]

theorem pay185_apply (k : Vec Ideal S512x256 .bf16) (v d : Vec Ideal S512x128 .bf16) (p : Vec Ideal S512x512 .f32) (l : Vec Ideal S1x1x512 .f32)
    (g : Vec Ideal S512x256 .f32) (x : Fin 512) (e : Fin 256) :
    k0_pay185 (F := Ideal) k v d p l g (ix2 x e) = g (ix2 x e) + ∑ κ, k0_pay183 (F := Ideal) v d p l (ix2 κ x) * k (ix2 κ e) := by
  pointwise [k0_pay185]

theorem pay179_apply (q : Vec Ideal S512x256 .bf16) (x : Fin 512) (e : Fin 256) : k0_pay179 (F := Ideal) q (ix2 x e) = q (ix2 x e) := by
  pointwise [k0_pay179]

theorem pay180_apply (d : Vec Ideal S512x128 .bf16) (x : Fin 512) (e : Fin 128) : k0_pay180 (F := Ideal) d (ix2 x e) = d (ix2 x e) := by
  pointwise [k0_pay180]

/-- One step on real data: block `b`'s rows of the query gradient, and both accumulators, gain the block's terms. -/
theorem step_real {X : Data} {v12 : FVec Ideal S512x256 .bf16} {v14 : FVec Ideal S512x128 .bf16} {R : Rows Ideal} (H : Holds X v12 v14 R)
    (pr : Vec Ideal S512x256 .bf16 → Vec Ideal S1x1x512 .f32 → FVec Ideal S512x512 .f32) (b : Fin 16)
    (hpr : ∀ κ x, pr (rows256 R.Q b) (cols1 R.L b) (ix2 κ x) = ((X.w κ (row b x) : ℝ) : EReal))
    {s : St Ideal} {a : Fin 8192 → Fin 256 → ℝ} {bk : Fin 512 → Fin 256 → ℝ} {c : Fin 512 → Fin 128 → ℝ} (hs : IsSt s a bk c) :
    IsSt (stepSt pr v12 v14 R b s)
      (fun r d => if 512 * b.val ≤ r.val ∧ r.val < 512 * b.val + 512 then a r d + ∑ κ, X.ds κ r * X.k κ d else a r d)
      (fun κ d => bk κ d + ∑ x, X.ds κ (row b x) * X.Q (row b x) d)
      (fun κ d => c κ d + ∑ x, X.w κ (row b x) * X.O (row b x) d) := by
  have hds : ∀ κ x, k0_pay183 (F := Ideal) v14 (k0_pay180 (rows128 R.DO b)) (pr (rows256 R.Q b) (cols1 R.L b)) (cols1 R.D b) (ix2 κ x)
      = ((X.ds κ (row b x) : ℝ) : EReal) := fun κ x => by
    rw [pay183_apply]
    simp only [hpr, pay180_apply, rows128_apply, cols1_apply, H.v, H.O, H.D, ← EReal.coe_mul, ← coe_sum, ← EReal.coe_sub]
    rfl
  refine ⟨fun r d => ?_, fun κ d => ?_, fun κ d => ?_⟩
  · show setRows s.1 b _ (ix2 r d) = _
    by_cases h : 512 * b.val ≤ r.val ∧ r.val < 512 * b.val + 512
    · obtain ⟨x, rfl⟩ : ∃ x : Fin 512, r = row b x := ⟨⟨r.val - 512 * b.val, by omega⟩, Fin.ext (by unfold row; simp only; omega)⟩
      rw [setRows_in, if_pos h, pay185_apply]
      simp only [hds, rows256_apply, hs.dq, H.k, ← EReal.coe_mul, ← coe_sum, ← EReal.coe_add]
    · rw [setRows_out _ _ _ _ _ h, if_neg h, hs.dq]
  · show k0_pay184 _ _ _ _ _ _ (ix2 κ d) = _
    rw [pay184_apply]
    simp only [hds, pay179_apply, rows256_apply, hs.dk, H.Q, ← EReal.coe_mul, ← coe_sum, ← EReal.coe_add]
  · show k0_pay182 _ _ _ (ix2 κ d) = _
    rw [pay182_apply]
    simp only [hpr, pay180_apply, rows128_apply, hs.dv, H.O, ← EReal.coe_mul, ← coe_sum, ← EReal.coe_add]

/-! ## All steps of a grid point -/

/-- The sum of `f` over the rows of the first `n` blocks. -/
def part (n : ℕ) (f : Fin 8192 → ℝ) : ℝ := ∑ b : Fin 16, if b.val < n then ∑ x, f (row b x) else 0

theorem part_zero (n : ℕ) (f : Fin 8192 → ℝ) (h : ∀ r : Fin 8192, r.val < 512 * n → f r = 0) : part n f = 0 := by
  unfold part
  refine Finset.sum_eq_zero fun b _ => ?_
  split
  · rename_i hb
    exact Finset.sum_eq_zero fun x _ => h _ (by unfold row; simp only; omega)
  · rfl

theorem part_succ (b : Fin 16) (f : Fin 8192 → ℝ) : part (b.val + 1) f = part b.val f + ∑ x, f (row b x) := by
  unfold part
  rw [← Finset.add_sum_erase _ _ (Finset.mem_univ b), ← Finset.add_sum_erase (a := b) Finset.univ (fun c : Fin 16 => if c.val < b.val then ∑ x, f (row c x) else 0) (Finset.mem_univ b),
    if_pos (Nat.lt_succ_self _), if_neg (lt_irrefl _), zero_add, add_comm]
  congr 1
  refine Finset.sum_congr rfl fun c hc => ?_
  have hne : c.val ≠ b.val := fun e => (Finset.mem_erase.mp hc).1 (Fin.ext e)
  by_cases h : c.val < b.val
  · rw [if_pos h, if_pos (by omega)]
  · rw [if_neg h, if_neg (by omega)]

/-- A sum over all rows, block by block. -/
theorem sum_rows {M : Type} [AddCommMonoid M] (f : Fin 8192 → M) : ∑ b : Fin 16, ∑ x : Fin 512, f (row b x) = ∑ r, f r := by
  rw [← Fintype.sum_prod_type' (fun b x => f (row b x))]
  refine Fintype.sum_equiv (finProdFinEquiv : Fin 16 × Fin 512 ≃ Fin (16 * 512)) _ _ fun p => congrArg f (Fin.ext ?_)
  show 512 * p.1.val + p.2.val = p.2.val + 512 * p.1.val
  omega

theorem part_all (f : Fin 8192 → ℝ) : part 16 f = ∑ r, f r := by
  unfold part
  rw [← sum_rows]
  exact Finset.sum_congr rfl fun b _ => if_pos b.isLt

/-- The state once the blocks before `n` are done, `a` the query gradient at the start. -/
def Done (X : Data) (a : Fin 8192 → Fin 256 → ℝ) (n : ℕ) (s : St Ideal) : Prop :=
  IsSt s (fun r d => if r.val < 512 * n then a r d + ∑ κ, X.ds κ r * X.k κ d else a r d)
    (fun κ d => part n fun r => X.ds κ r * X.Q r d)
    (fun κ d => part n fun r => X.w κ r * X.O r d)

theorem Data.w_zero (X : Data) (κ : Fin 512) (r : Fin 8192) (h : r.val < 512 * X.j) : X.w κ r = 0 := by
  unfold Data.w; exact if_neg (by omega)

theorem Data.ds_zero (X : Data) (κ : Fin 512) (r : Fin 8192) (h : r.val < 512 * X.j) : X.ds κ r = 0 := by
  unfold Data.ds; rw [X.w_zero κ r h, zero_mul]

theorem IsSt.congr {s : St Ideal} {a a' : Fin 8192 → Fin 256 → ℝ} {b b' : Fin 512 → Fin 256 → ℝ} {c c' : Fin 512 → Fin 128 → ℝ}
    (h : IsSt s a b c) (ha : ∀ r d, a r d = a' r d) (hb : ∀ κ d, b κ d = b' κ d) (hc : ∀ κ d, c κ d = c' κ d) : IsSt s a' b' c' :=
  ⟨fun r d => by rw [h.dq, ha], fun r d => by rw [h.dk, hb], fun r d => by rw [h.dv, hc]⟩

theorem done_start (X : Data) (a : Fin 8192 → Fin 256 → ℝ) (s : St Ideal) (h : IsSt s a (fun _ _ => 0) (fun _ _ => 0)) :
    Done X a X.j s := by
  refine h.congr (fun r d => ?_) (fun κ d => ?_) (fun κ d => ?_)
  · split
    · rename_i hr
      rw [Finset.sum_eq_zero fun κ _ => by rw [X.ds_zero κ r hr, zero_mul], add_zero]
    · rfl
  · exact (part_zero _ _ fun r hr => by rw [X.ds_zero κ r hr, zero_mul]).symm
  · exact (part_zero _ _ fun r hr => by rw [X.w_zero κ r hr, zero_mul]).symm

theorem done_step {X : Data} {v12 : FVec Ideal S512x256 .bf16} {v14 : FVec Ideal S512x128 .bf16} {R : Rows Ideal} (H : Holds X v12 v14 R)
    (pr : Vec Ideal S512x256 .bf16 → Vec Ideal S1x1x512 .f32 → FVec Ideal S512x512 .f32) (b : Fin 16)
    (hpr : ∀ κ x, pr (rows256 R.Q b) (cols1 R.L b) (ix2 κ x) = ((X.w κ (row b x) : ℝ) : EReal))
    {a : Fin 8192 → Fin 256 → ℝ} {s : St Ideal} (hs : Done X a b.val s) : Done X a (b.val + 1) (stepSt pr v12 v14 R b s) := by
  refine (step_real H pr b hpr hs).congr (fun r d => ?_) (fun κ d => ?_) (fun κ d => ?_)
  · by_cases h : 512 * b.val ≤ r.val ∧ r.val < 512 * b.val + 512
    · rw [if_pos h, if_neg (by omega), if_pos (by omega)]
    · rw [if_neg h]
      by_cases h' : r.val < 512 * b.val
      · rw [if_pos h', if_pos (by omega)]
      · rw [if_neg h', if_neg (by omega)]
  · exact (part_succ b _).symm
  · exact (part_succ b _).symm

theorem done_run {X : Data} {v12 : FVec Ideal S512x256 .bf16} {v14 : FVec Ideal S512x128 .bf16} {R : Rows Ideal} (H : Holds X v12 v14 R)
    {a : Fin 8192 → Fin 256 → ℝ} (n : ℕ) : ∀ (lo : ℕ) (s : St Ideal), X.j < lo → lo + n ≤ 16 → Done X a lo s →
      Done X a (lo + n) (runSt v12 v14 R lo n s) := by
  induction n with
  | zero => intro lo s _ _ hs; exact hs
  | succ n ih =>
    intro lo s hlo hn hs
    have e : runSt v12 v14 R lo (n + 1) s = runSt v12 v14 R (lo + 1) n (stepSt (free v12) v12 v14 R (blk lo) s) := by
      unfold runSt; rw [List.range'_succ]; rfl
    have hb : (blk lo).val = lo := by unfold blk; simp only; omega
    rw [e, show lo + (n + 1) = lo + 1 + n by omega]
    refine ih (lo + 1) _ (by omega) (by omega) ?_
    have h := done_step H (free v12) (blk lo) (fun κ x => free_apply H (blk lo) (by omega) κ x) (a := a) (s := s) (by rw [hb]; exact hs)
    rwa [hb] at h

/-- All steps of a grid point on real data: the query gradient gains every row's term, the accumulators hold the key and
    value gradients. -/
theorem endSt_real (i : grid0.Coords) {X : Data} (hj : X.j = (i 1).val) {k : Vec Ideal S512x256 .bf16} {v : Vec Ideal S512x128 .bf16} {R : Rows Ideal}
    (H : Holds X (k0_pay177 k) (k0_pay178 v) R) {g : Vec Ideal S8192x256 .f32} {a : Fin 8192 → Fin 256 → ℝ}
    (hg : (i 1).val ≠ 0 → ∀ r d, g (ix2 r d) = ((a r d : ℝ) : EReal)) (h0 : (i 1).val = 0 → ∀ r d, a r d = 0) :
    IsSt (endSt i k v R g) (fun r d => a r d + ∑ κ, X.ds κ r * X.k κ d)
      (fun κ d => ∑ r, X.ds κ r * X.Q r d) (fun κ d => ∑ r, X.w κ r * X.O r d) := by
  have hi : (i 1).val < 16 := (i 1).isLt
  have hb : (blk (i 1).val).val = (i 1).val := by unfold blk; simp only; omega
  have hstart : IsSt (startSt i g) a (fun _ _ => 0) (fun _ _ => 0) := by
    refine ⟨fun r d => ?_, fun κ d => ?_, fun κ d => ?_⟩
    · show (if (i 1).val = 0 then (k0_pay174 : FVec Ideal S8192x256 .f32) else g) (ix2 r d) = _
      by_cases h : (i 1).val = 0
      · rw [if_pos h, h0 h]; pointwise [k0_pay174]; rfl
      · rw [if_neg h, hg h]
    · show k0_pay175 (F := Ideal) (ix2 κ d) = _
      pointwise [k0_pay175]; rfl
    · show k0_pay176 (F := Ideal) (ix2 κ d) = _
      pointwise [k0_pay176]; rfl
  have h1 : Done X a ((i 1).val + 1) (stepSt (k0_pay181 k) (k0_pay177 k) (k0_pay178 v) R (blk (i 1).val) (startSt i g)) := by
    have h := done_step H (k0_pay181 k) (blk (i 1).val) (fun κ x => diag_apply H (blk (i 1).val) (by rw [hb, hj]) κ x) (a := a) (s := startSt i g)
      (by rw [hb, ← hj]; exact done_start X a _ hstart)
    rwa [hb] at h
  have h2 := done_run H (a := a) (15 - (i 1).val) ((i 1).val + 1) _ (by omega) (by omega) h1
  rw [show (i 1).val + 1 + (15 - (i 1).val) = 16 by omega] at h2
  exact h2.congr (fun r d => if_pos (by omega)) (fun κ d => part_all _) (fun κ d => part_all _)

end Cert.Bwd

end
-- ==== Proof.Bwd.Frame.lean ====
/- The pipeline of the kernel: what its windows hold point by point, and the run of the whole program. -/
module

public import proofs.«01_k».proof.Proof.Bwd.Body
public import proofs.«01_k».proof.Proof.Gen.KernelIdeal.Frame
public import Idealize.ShloMosaic.Lib.Claim

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of point `t`'s head: queries, incoming gradients, row sums and row deltas. -/
def rowsAt (c : Dev nD) (t : Fin cfg0.N) : Rows F :=
  ⟨iblk m c 0 t, iblk m c 3 t, iblk m c 4 t, iblk m c 5 t⟩

/-- The state after the steps of point `t`, from the query gradient `g`. -/
def endAt (c : Dev nD) (t : Fin cfg0.N) (g : Vec F S8192x256 .f32) : St F :=
  endSt (grid0.coords t) (iblk m c 1 t) (iblk m c 2 t) (rowsAt m c t) g

/-- The query gradient point `t` leaves, from `g`. -/
def dqStep (c : Dev nD) (t : Fin cfg0.N) (g : Vec F S8192x256 .f32) : Vec F S8192x256 .f32 :=
  dqOut (grid0.coords t) (iblk m c 1 t) (iblk m c 2 t) (rowsAt m c t) g

/-- The query gradient in its buffer before the `n`-th point. -/
def dqBefore (c : Dev nD) : (n : ℕ) → n ≤ cfg0.N → Vec F S8192x256 .f32
  | 0, _ => k0_pay174
  | n + 1, h => dqStep m c ⟨n, h⟩ (dqBefore c n (Nat.le_of_succ_le h))

/-- The query gradient in its buffer when point `t` begins. -/
def dqIn (c : Dev nD) (t : Fin cfg0.N) : Vec F S8192x256 .f32 := dqBefore m c t.val (Nat.le_of_lt t.isLt)

/-- The pipeline's proof data: every input window at its block, the query gradient as accumulated, the key and value
    gradients as the point's steps leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqStep m c t (dqIn m c t)
    | ⟨7, _⟩ => (endAt m c t (dqIn m c t)).2.1
    | ⟨8, _⟩ => k0_pay8 (endAt m c t (dqIn m c t)).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dqStep m c t (dqIn m c t) := by dsimp only [dats]
theorem after7 (c : Dev nD) (t : Fin cfg0.N) : (dats m 0 c).after 7 t = (endAt m c t (dqIn m c t)).2.1 := by dsimp only [dats]
theorem after8 (c : Dev nD) (t : Fin cfg0.N) : (dats m 0 c).after 8 t = k0_pay8 (endAt m c t (dqIn m c t)).2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The key-block coordinate of a point. -/
theorem coord1 (t : Fin cfg0.N) : (grid0.coords t 1).val = t.val % 16 := by
  have h : (grid0.coords t 1).val = t.val / 1 % 16 := Pipeline.Grid.coords_val t 1 (by decide) rfl
  rw [h, Nat.div_one]

/-- The head coordinate of a point. -/
theorem coord0 (t : Fin cfg0.N) : (grid0.coords t 0).val = t.val / 16 := by
  have h : (grid0.coords t 0).val = t.val / 16 % 16 := Pipeline.Grid.coords_val t 0 (by decide) rfl
  have hN : t.val < 256 := lt_of_lt_of_eq t.isLt N_0
  rw [h, Nat.mod_eq_of_lt (by omega)]

/-- At a head's first key block the query gradient found does not matter. -/
theorem startSt_first (i : grid0.Coords) (h : (i 1).val = 0) (g g' : Vec F S8192x256 .f32) : startSt i g = startSt i g' := by
  unfold startSt; rw [if_pos h, if_pos h]

theorem endAt_first (c : Dev nD) (t : Fin cfg0.N) (h : t.val % 16 = 0) (g g' : Vec F S8192x256 .f32) :
    endAt m c t g = endAt m c t g' := by
  unfold endAt endSt; rw [startSt_first _ ((coord1 t).trans h) g g']

theorem dqStep_first (c : Dev nD) (t : Fin cfg0.N) (h : t.val % 16 = 0) (g g' : Vec F S8192x256 .f32) :
    dqStep m c t g = dqStep m c t g' := by
  unfold dqStep dqOut endSt; rw [startSt_first _ ((coord1 t).trans h) g g']

/-- Past a head's first key block the query gradient's buffer holds what the point before left. -/
theorem before6 (c : Dev nD) (t : Fin cfg0.N) (h : t.val % 16 ≠ 0) (d) : (dats m 0 c).before 6 t d = dqIn m c t := by
  have ht : t.val ≠ 0 := fun e => h (by rw [e])
  rw [(dats m 0 c).before_out_kept 6 rfl t ht (by
      rw [← Bool.not_eq_true]; intro e
      have := (flush0_6 _).mp e
      simp only at this; omega) (fun _ => rfl) (fun _ _ => rfl) d, after6]
  obtain ⟨n, hn⟩ := t
  cases n with
  | zero => exact absurd rfl ht
  | succ n => rfl

/-- Window 0's current staging buffer at point `t`. -/
abbrev ms0 (t : Fin cfg0.N) : Memref sig .tc .vmem S8192x256 .bf16 := win0_0.stage (cfg0.slots t 0)
abbrev hs0 (t : Fin cfg0.N) : (ms0 t).IsWhole := hstage0_0 ((cfg0.slots t 0).cast nbuf0_0)
/-- Window 1's current staging buffer at point `t`. -/
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
/-- Window 2's current staging buffer at point `t`. -/
abbrev ms2 (t : Fin cfg0.N) : Memref sig .tc .vmem S512x128 .bf16 := win0_2.stage (cfg0.slots t 2)
abbrev hs2 (t : Fin cfg0.N) : (ms2 t).IsWhole := hstage0_2 ((cfg0.slots t 2).cast nbuf0_2)
/-- Window 3's current staging buffer at point `t`. -/
abbrev ms3 (t : Fin cfg0.N) : Memref sig .tc .vmem S8192x128 .bf16 := win0_3.stage (cfg0.slots t 3)
abbrev hs3 (t : Fin cfg0.N) : (ms3 t).IsWhole := hstage0_3 ((cfg0.slots t 3).cast nbuf0_3)
/-- Window 4's current staging buffer at point `t`. -/
abbrev ms4 (t : Fin cfg0.N) : Memref sig .tc .vmem S1x1x8192 .f32 := win0_4.stage (cfg0.slots t 4)
abbrev hs4 (t : Fin cfg0.N) : (ms4 t).IsWhole := hstage0_4 ((cfg0.slots t 4).cast nbuf0_4)
/-- Window 5's current staging buffer at point `t`. -/
abbrev ms5 (t : Fin cfg0.N) : Memref sig .tc .vmem S1x1x8192 .f32 := win0_5.stage (cfg0.slots t 5)
abbrev hs5 (t : Fin cfg0.N) : (ms5 t).IsWhole := hstage0_5 ((cfg0.slots t 5).cast nbuf0_5)
/-- Window 6's current staging buffer at point `t`. -/
abbrev ms6 (t : Fin cfg0.N) : Memref sig .tc .vmem S8192x256 .f32 := win0_6.stage (cfg0.slots t 6)
abbrev hs6 (t : Fin cfg0.N) : (ms6 t).IsWhole := hstage0_6 ((cfg0.slots t 6).cast nbuf0_6)
/-- Window 7's current staging buffer at point `t`. -/
abbrev ms7 (t : Fin cfg0.N) : Memref sig .tc .vmem S512x256 .f32 := win0_7.stage (cfg0.slots t 7)
abbrev hs7 (t : Fin cfg0.N) : (ms7 t).IsWhole := hstage0_7 ((cfg0.slots t 7).cast nbuf0_7)
/-- Window 8's current staging buffer at point `t`. -/
abbrev ms8 (t : Fin cfg0.N) : Memref sig .tc .vmem S512x128 .bf16 := win0_8.stage (cfg0.slots t 8)
abbrev hs8 (t : Fin cfg0.N) : (ms8 t).IsWhole := hstage0_8 ((cfg0.slots t 8).cast nbuf0_8)

/-- The two accumulators of the key and value gradients. -/
abbrev accK : Memref sig .tc .vmem S512x256 .f32 := Memref.whole cc0_scratch0
abbrev accV : Memref sig .tc .vmem S512x128 .f32 := Memref.whole cc0_scratch1

/-- The pipeline's invariant: the two accumulators at some contents, and the generator register. -/
theorem Phi_eq (c : Dev nD) :
    (Pipeline.ΦA spec0 c : sProp 𝕄)
      = iprop(iprop((∃ d, owns (c : Thread nD τ) accK fullShare d) ∗ (∃ d, owns (c : Thread nD τ) accV fullShare d)) ∗ (∃ r, prngReg c r)) := by
  unfold Pipeline.ΦA; rw [scopedRest0_eq]; simp only [accK, accV, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1000000 in
/-- The body at any point, whatever query gradient `g` its buffer holds, as long as the point leaves what the proof data says. -/
theorem sound_at (c : Dev nD) (t : Fin cfg0.N) (g : Vec F S8192x256 .f32) (hg : dqStep m c t g = dqStep m c t (dqIn m c t))
    (he : endAt m c t g = endAt m c t (dqIn m c t)) (K : PUnit → sProp 𝕄) :
    iprop((owns (c : Thread nD τ) (ms0 t) fullShare (iblk m c 0 t) ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ owns (c : Thread nD τ) (ms4 t) fullShare (iblk m c 4 t) ∗ owns (c : Thread nD τ) (ms5 t) fullShare (iblk m c 5 t)
        ∗ owns (c : Thread nD τ) (ms6 t) fullShare g ∗ (∃ d, owns (c : Thread nD τ) (ms7 t) fullShare d)
        ∗ (∃ d, owns (c : Thread nD τ) (ms8 t) fullShare d)
        ∗ (∃ d, owns (c : Thread nD τ) accK fullShare d) ∗ (∃ d, owns (c : Thread nD τ) accV fullShare d))
      ∗ (iprop(owns (c : Thread nD τ) (ms0 t) fullShare (iblk m c 0 t) ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ owns (c : Thread nD τ) (ms4 t) fullShare (iblk m c 4 t) ∗ owns (c : Thread nD τ) (ms5 t) fullShare (iblk m c 5 t)
        ∗ owns (c : Thread nD τ) (ms6 t) fullShare (dqStep m c t (dqIn m c t))
        ∗ owns (c : Thread nD τ) (ms7 t) fullShare (endAt m c t (dqIn m c t)).2.1
        ∗ owns (c : Thread nD τ) (ms8 t) fullShare (k0_pay8 (endAt m c t (dqIn m c t)).2.2)
        ∗ (∃ d, owns (c : Thread nD τ) accK fullShare d) ∗ (∃ d, owns (c : Thread nD τ) accV fullShare d)) -∗ K ⟨⟩))
      ⊢ wp frame (wpE (defs₀ (F := F)) Variants.none c none) Set.univ (bodyAt0 t) K := by
  have h := body_runs c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) accK (Memref.isWhole_whole _) accV (Memref.isWhole_whole _)
    (iblk m c 1 t) (iblk m c 2 t) (rowsAt m c t) g Set.univ K
  rw [show dqOut (grid0.coords t) (iblk m c 1 t) (iblk m c 2 t) (rowsAt m c t) g = dqStep m c t (dqIn m c t) from hg,
    show endSt (grid0.coords t) (iblk m c 1 t) (iblk m c 2 t) (rowsAt m c t) g = endAt m c t (dqIn m c t) from he] at h
  exact h

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, Phi_eq]
  iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hg : dqStep m c t ((dats m 0 c).before 6 t d6) = dqStep m c t (dqIn m c t)
      ∧ endAt m c t ((dats m 0 c).before 6 t d6) = endAt m c t (dqIn m c t) := by
    by_cases h : t.val % 16 = 0
    · exact ⟨dqStep_first m c t h _ _, endAt_first m c t h _ _⟩
    · rw [before6 m c t h d6]; exact ⟨rfl, rfl⟩
  iapply (sound_at m c t ((dats m 0 c).before 6 t d6) hg.1 hg.2 _)
  isplitl [H0 H1 H2 H3 H4 H5 H6 H7 H8 HA HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HA]; · iexact HA
    iexact HB
  iintro ⟨H0, H1, H2, H3, H4, H5, H6, H7, H8, HA, HB⟩
  isplitl [HA HB Hg]
  · isplitl [HA HB]
    · isplitl [HA]; · iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, over any float values: it terminates, the arrays end as the proof data says, every
    counter at zero. -/
theorem run_main : θ_run defs (onTc (τ := τ) (main (F := F))) ⟨m, fun _ => 0, ρ⟩
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, over any float values: the program terminates, its arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Bwd

end
-- ==== Proof.Bwd.Chain.lean ====
/- The arrays of the kernel over the reals: the query gradient accumulated over a head's key blocks, and the three results
   read at an index. -/
module

public import proofs.«01_k».proof.Proof.Bwd.Blocks
public import proofs.«01_k».proof.Proof.Bwd.Frame

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.ShloMosaic.Pipeline (Dat Cfg Window)

/-- What one head brings to the kernel, over the reals: keys, values, queries, output gradients, log-sums and deltas. -/
structure Head where
  k : Fin 8192 → Fin 256 → ℝ
  v : Fin 8192 → Fin 128 → ℝ
  Q : Fin 8192 → Fin 256 → ℝ
  O : Fin 8192 → Fin 128 → ℝ
  L : Fin 8192 → ℝ
  D : Fin 8192 → ℝ

/-- Key block `b` of a head. -/
def Head.at (X : Head) (b : Fin 16) : Data :=
  ⟨b.val, fun κ => X.k (row b κ), fun κ => X.v (row b κ), X.Q, X.O, X.L, X.D⟩

/-- The weight of key `κ` in row `r`. -/
def Head.w (X : Head) (κ r : Fin 8192) : ℝ :=
  if κ.val ≤ r.val then Real.exp (∑ d, X.k κ d * X.Q r d - X.L r) else 0

/-- The gradient of the score of key `κ` in row `r`. -/
def Head.ds (X : Head) (κ r : Fin 8192) : ℝ := X.w κ r * (∑ d, X.v κ d * X.O r d - X.D r)

variable (m : (ℓ : Loc nD τ sig) → Buf (Elt Ideal) ℓ)

/-- Where each window's block lies at each point. -/
theorem idx : ∀ t : Fin cfg0.N,
    (win0_0.index t 0 = 0 ∧ win0_0.index t 1 = t.val / 16) ∧
    (win0_1.index t 0 = t.val % 16 ∧ win0_1.index t 1 = t.val / 16) ∧
    (win0_2.index t 0 = t.val % 16 ∧ win0_2.index t 1 = t.val / 16) ∧
    (win0_3.index t 0 = 0 ∧ win0_3.index t 1 = t.val / 16) ∧
    (win0_4.index t 0 = t.val / 16 ∧ win0_4.index t 1 = 0 ∧ win0_4.index t 2 = 0) ∧
    (win0_5.index t 0 = t.val / 16 ∧ win0_5.index t 1 = 0 ∧ win0_5.index t 2 = 0) ∧
    (win0_6.index t 0 = 0 ∧ win0_6.index t 1 = t.val / 16) ∧
    (win0_7.index t 0 = t.val % 16 ∧ win0_7.index t 1 = t.val / 16) ∧
    (win0_8.index t 0 = t.val % 16 ∧ win0_8.index t 1 = t.val / 16) :=
  (by decide +kernel : ∀ t : Fin grid0.N,
    (win0_0.index t 0 = 0 ∧ win0_0.index t 1 = t.val / 16) ∧
    (win0_1.index t 0 = t.val % 16 ∧ win0_1.index t 1 = t.val / 16) ∧
    (win0_2.index t 0 = t.val % 16 ∧ win0_2.index t 1 = t.val / 16) ∧
    (win0_3.index t 0 = 0 ∧ win0_3.index t 1 = t.val / 16) ∧
    (win0_4.index t 0 = t.val / 16 ∧ win0_4.index t 1 = 0 ∧ win0_4.index t 2 = 0) ∧
    (win0_5.index t 0 = t.val / 16 ∧ win0_5.index t 1 = 0 ∧ win0_5.index t 2 = 0) ∧
    (win0_6.index t 0 = 0 ∧ win0_6.index t 1 = t.val / 16) ∧
    (win0_7.index t 0 = t.val % 16 ∧ win0_7.index t 1 = t.val / 16) ∧
    (win0_8.index t 0 = t.val % 16 ∧ win0_8.index t 1 = t.val / 16))

/-- The head of a point. -/
def hd (t : Fin cfg0.N) : Fin 16 := ⟨t.val / 16, by have hN : t.val < 256 := lt_of_lt_of_eq t.isLt N_0; omega⟩

/-- The key block of a point. -/
def kb (t : Fin cfg0.N) : Fin 16 := ⟨t.val % 16, Nat.mod_lt _ (by decide)⟩

/-- Column `d` of head `h` in an array of 256 columns per head. -/
def col256 (h : Fin 16) (d : Fin 256) : Fin 4096 := ⟨256 * h.val + d.val, by omega⟩

/-- Column `d` of head `h` in an array of 128 columns per head. -/
def col128 (h : Fin 16) (d : Fin 128) : Fin 2048 := ⟨128 * h.val + d.val, by omega⟩

theorem blkRead0 (A : Vec Ideal S8192x4096 .bf16) (t : Fin cfg0.N) (r : Fin 8192) (d : Fin 256) :
    ((cfg0.win 0).blk t).view.read (Elt Ideal) A (ix2 r d) = A (ix2 r (col256 (hd t) d)) := by
  blk_ext [idx t, col256, hd]

theorem iblk0 (c : Dev nD) (t : Fin cfg0.N) (r : Fin 8192) (d : Fin 256) :
    iblk m c 0 t (ix2 r d) = V m c main_v34 (ix2 r (col256 (hd t) d)) :=
  blkRead0 (V m c main_v34) t r d

theorem blkRead1 (A : Vec Ideal S8192x4096 .bf16) (t : Fin cfg0.N) (r : Fin 512) (d : Fin 256) :
    ((cfg0.win 1).blk t).view.read (Elt Ideal) A (ix2 r d) = A (ix2 (row (kb t) r) (col256 (hd t) d)) := by
  blk_ext [idx t, col256, hd, row, kb]

theorem iblk1 (c : Dev nD) (t : Fin cfg0.N) (r : Fin 512) (d : Fin 256) :
    iblk m c 1 t (ix2 r d) = V m c main_v37 (ix2 (row (kb t) r) (col256 (hd t) d)) :=
  blkRead1 (V m c main_v37) t r d

theorem blkRead2 (A : Vec Ideal S8192x2048 .bf16) (t : Fin cfg0.N) (r : Fin 512) (d : Fin 128) :
    ((cfg0.win 2).blk t).view.read (Elt Ideal) A (ix2 r d) = A (ix2 (row (kb t) r) (col128 (hd t) d)) := by
  blk_ext [idx t, col128, hd, row, kb]

theorem iblk2 (c : Dev nD) (t : Fin cfg0.N) (r : Fin 512) (d : Fin 128) :
    iblk m c 2 t (ix2 r d) = V m c main_v39 (ix2 (row (kb t) r) (col128 (hd t) d)) :=
  blkRead2 (V m c main_v39) t r d

theorem blkRead3 (A : Vec Ideal S8192x2048 .bf16) (t : Fin cfg0.N) (r : Fin 8192) (d : Fin 128) :
    ((cfg0.win 3).blk t).view.read (Elt Ideal) A (ix2 r d) = A (ix2 r (col128 (hd t) d)) := by
  blk_ext [idx t, col128, hd]

theorem iblk3 (c : Dev nD) (t : Fin cfg0.N) (r : Fin 8192) (d : Fin 128) :
    iblk m c 3 t (ix2 r d) = V m c main_v41 (ix2 r (col128 (hd t) d)) :=
  blkRead3 (V m c main_v41) t r d

theorem blkRead4 (A : Vec Ideal S16x1x8192 .f32) (t : Fin cfg0.N) (r : Fin 8192) :
    ((cfg0.win 4).blk t).view.read (Elt Ideal) A (ix3 0 0 r) = A (ix3 (hd t) 0 r) := by
  blk_ext [idx t, hd]

theorem iblk4 (c : Dev nD) (t : Fin cfg0.N) (r : Fin 8192) :
    iblk m c 4 t (ix3 0 0 r) = V m c main_v42 (ix3 (hd t) 0 r) :=
  blkRead4 (V m c main_v42) t r

theorem blkRead5 (A : Vec Ideal S16x1x8192 .f32) (t : Fin cfg0.N) (r : Fin 8192) :
    ((cfg0.win 5).blk t).view.read (Elt Ideal) A (ix3 0 0 r) = A (ix3 (hd t) 0 r) := by
  blk_ext [idx t, hd]

theorem iblk5 (c : Dev nD) (t : Fin cfg0.N) (r : Fin 8192) :
    iblk m c 5 t (ix3 0 0 r) = V m c main_v43 (ix3 (hd t) 0 r) :=
  blkRead5 (V m c main_v43) t r

/-- The region's arrays hold real data, head by head. -/
structure Hosts (c : Dev nD) (H : Fin 16 → Head) : Prop where
  Q : ∀ h r d, V m c main_v34 (ix2 r (col256 h d)) = (((H h).Q r d : ℝ) : EReal)
  k : ∀ h r d, V m c main_v37 (ix2 r (col256 h d)) = (((H h).k r d : ℝ) : EReal)
  v : ∀ h r d, V m c main_v39 (ix2 r (col128 h d)) = (((H h).v r d : ℝ) : EReal)
  O : ∀ h r d, V m c main_v41 (ix2 r (col128 h d)) = (((H h).O r d : ℝ) : EReal)
  L : ∀ h r, V m c main_v42 (ix3 h 0 r) = (((H h).L r : ℝ) : EReal)
  D : ∀ h r, V m c main_v43 (ix3 h 0 r) = (((H h).D r : ℝ) : EReal)

variable {m}

theorem pay177_apply (k : Vec Ideal S512x256 .bf16) (κ : Fin 512) (d : Fin 256) : k0_pay177 (F := Ideal) k (ix2 κ d) = k (ix2 κ d) := by
  pointwise [k0_pay177]

theorem pay178_apply (v : Vec Ideal S512x128 .bf16) (κ : Fin 512) (d : Fin 128) : k0_pay178 (F := Ideal) v (ix2 κ d) = v (ix2 κ d) := by
  pointwise [k0_pay178]

set_option maxHeartbeats 1000000 in
theorem Hosts.holds {c : Dev nD} {H : Fin 16 → Head} (hH : Hosts m c H) (t : Fin cfg0.N) :
    Holds ((H (hd t)).at (kb t)) (k0_pay177 (iblk m c 1 t)) (k0_pay178 (iblk m c 2 t)) (rowsAt m c t) := by
  refine ⟨fun κ d => ?_, fun κ d => ?_, fun r d => ?_, fun r d => ?_, fun r => ?_, fun r => ?_⟩
  · exact (pay177_apply _ κ d).trans ((iblk1 m c t κ d).trans (hH.k _ _ d))
  · exact (pay178_apply _ κ d).trans ((iblk2 m c t κ d).trans (hH.v _ _ d))
  · show iblk m c 0 t (ix2 r d) = _; rw [iblk0, hH.Q]; rfl
  · show iblk m c 3 t (ix2 r d) = _; rw [iblk3, hH.O]; rfl
  · show iblk m c 4 t (ix3 0 0 r) = _; rw [iblk4, hH.L]; rfl
  · show iblk m c 5 t (ix3 0 0 r) = _; rw [iblk5, hH.D]; rfl

/-- The query gradient once the first `n` key blocks of a head are done. -/
def dqPart (X : Head) (n : ℕ) (r : Fin 8192) (d : Fin 256) : ℝ := part n fun κ => X.ds κ r * X.k κ d

/-- The steps of a point on real data, from the query gradient of the key blocks before. -/
theorem endAt_real {c : Dev nD} {H : Fin 16 → Head} (hH : Hosts m c H) (t : Fin cfg0.N) (g : Vec Ideal S8192x256 .f32)
    (hg : t.val % 16 ≠ 0 → ∀ r d, g (ix2 r d) = ((dqPart (H (hd t)) (t.val % 16) r d : ℝ) : EReal)) :
    IsSt (endAt m c t g) (fun r d => dqPart (H (hd t)) (t.val % 16 + 1) r d)
      (fun κ d => ∑ r, (H (hd t)).ds (row (kb t) κ) r * (H (hd t)).Q r d)
      (fun κ d => ∑ r, (H (hd t)).w (row (kb t) κ) r * (H (hd t)).O r d) := by
  have e := coord1 t
  refine (endSt_real (grid0.coords t) (X := (H (hd t)).at (kb t)) e.symm (hH.holds t) (g := g) (a := dqPart (H (hd t)) (t.val % 16))
    (fun h => hg (by rwa [e] at h)) (fun h r d => ?_)).congr (fun r d => ?_) (fun κ d => rfl) (fun κ d => rfl)
  · rw [e] at h; rw [h]; exact part_zero 0 _ fun r hr => absurd hr (by omega)
  · exact (part_succ (kb t) _).symm

theorem dqIn_real {c : Dev nD} {H : Fin 16 → Head} (hH : Hosts m c H) (n : ℕ) (hn : n < cfg0.N) (h0 : n % 16 ≠ 0) (r : Fin 8192) (d : Fin 256) :
    dqIn m c ⟨n, hn⟩ (ix2 r d) = ((dqPart (H (hd ⟨n, hn⟩)) (n % 16) r d : ℝ) : EReal) := by
  induction n generalizing r d with
  | zero => exact absurd rfl h0
  | succ n ih =>
    have hn' : n < cfg0.N := Nat.lt_of_succ_lt hn
    show dqStep m c ⟨n, hn'⟩ (dqIn m c ⟨n, hn'⟩) (ix2 r d) = _
    unfold dqStep dqOut
    have e : ((grid0.coords ⟨n, hn'⟩) 1).val = n % 16 := coord1 ⟨n, hn'⟩
    rw [if_neg (by rw [e]; omega)]
    have hh : hd ⟨n + 1, hn⟩ = hd ⟨n, hn'⟩ := Fin.ext (by unfold hd; simp only; omega)
    rw [hh, show (n + 1) % 16 = n % 16 + 1 by omega]
    exact (endAt_real hH ⟨n, hn'⟩ _ fun h r d => ih hn' h r d).dq r d

/-- The state a point leaves. -/
theorem endAt_dqIn {c : Dev nD} {H : Fin 16 → Head} (hH : Hosts m c H) (t : Fin cfg0.N) :
    IsSt (endAt m c t (dqIn m c t)) (fun r d => dqPart (H (hd t)) (t.val % 16 + 1) r d)
      (fun κ d => ∑ r, (H (hd t)).ds (row (kb t) κ) r * (H (hd t)).Q r d)
      (fun κ d => ∑ r, (H (hd t)).w (row (kb t) κ) r * (H (hd t)).O r d) :=
  endAt_real hH t _ fun h r d => dqIn_real hH t.val t.isLt h r d

theorem pay9_apply (g : Vec Ideal S8192x256 .f32) (r : Fin 8192) (d : Fin 256) :
    k0_pay9 (F := Ideal) g (ix2 r d) = g (ix2 r d) * Ideal.ofBits .f32 0x3D93CD3A#32 := by
  pointwise [k0_pay9]

theorem pay8_apply (g : Vec Ideal S512x128 .f32) (r : Fin 512) (d : Fin 128) :
    k0_pay8 (F := Ideal) g (ix2 r d) = g (ix2 r d) := by
  pointwise [k0_pay8]

/-- What a head's last point leaves of the query gradient: the sum over all keys, scaled. -/
theorem dqStep_last {c : Dev nD} {H : Fin 16 → Head} (hH : Hosts m c H) (t : Fin cfg0.N) (h : t.val % 16 = 15) (r : Fin 8192) (d : Fin 256) :
    dqStep m c t (dqIn m c t) (ix2 r d) = (((∑ κ, (H (hd t)).ds κ r * (H (hd t)).k κ d) * scl : ℝ) : EReal) := by
  have hs := (endAt_dqIn hH t).dq r d
  unfold endAt at hs
  unfold dqStep dqOut
  rw [if_pos ((coord1 t).trans h), pay9_apply, hs, ofBits_scl, ← EReal.coe_mul, h]
  unfold dqPart
  rw [part_all]

/-- The head of a column of the wide arrays. -/
def hOf256 (x : Fin 4096) : Fin 16 := ⟨x.val / 256, by omega⟩
def dOf256 (x : Fin 4096) : Fin 256 := ⟨x.val % 256, by omega⟩
def hOf128 (x : Fin 2048) : Fin 16 := ⟨x.val / 128, by omega⟩
def dOf128 (x : Fin 2048) : Fin 128 := ⟨x.val % 128, by omega⟩

theorem hOf256_col (h : Fin 16) (d : Fin 256) : hOf256 (col256 h d) = h := Fin.ext (by unfold hOf256 col256; simp only; omega)
theorem dOf256_col (h : Fin 16) (d : Fin 256) : dOf256 (col256 h d) = d := Fin.ext (by unfold dOf256 col256; simp only; omega)
theorem hOf128_col (h : Fin 16) (d : Fin 128) : hOf128 (col128 h d) = h := Fin.ext (by unfold hOf128 col128; simp only; omega)
theorem dOf128_col (h : Fin 16) (d : Fin 128) : dOf128 (col128 h d) = d := Fin.ext (by unfold dOf128 col128; simp only; omega)

/-- The query gradient of all heads, in the kernel's layout. -/
def dqAll (H : Fin 16 → Head) (r : Fin 8192) (x : Fin 4096) : ℝ :=
  (∑ κ, (H (hOf256 x)).ds κ r * (H (hOf256 x)).k κ (dOf256 x)) * scl

/-- The key gradient of all heads, in the kernel's layout. -/
def dkAll (H : Fin 16 → Head) (κ : Fin 8192) (x : Fin 4096) : ℝ :=
  ∑ r, (H (hOf256 x)).ds κ r * (H (hOf256 x)).Q r (dOf256 x)

/-- The value gradient of all heads, in the kernel's layout. -/
def dvAll (H : Fin 16 → Head) (κ : Fin 8192) (x : Fin 2048) : ℝ :=
  ∑ r, (H (hOf128 x)).w κ r * (H (hOf128 x)).O r (dOf128 x)

/-- The query gradient the kernel writes. -/
theorem dq_array {c : Dev nD} {H : Fin 16 → Head} (hH : Hosts m c H) :
    (dats m 0 c).arrAt 6 cfg0.N = fun y : S8192x4096.Idx => ((dqAll H (y 0) (y 1) : ℝ) : EReal) := by
  refine (dats m 0 c).arrAt_eq_of_covers 6 _ (by decide +kernel) fun t hf y => ?_
  blk_simp
  rw [after6]
  idx_vars y
  have e : ((View.whole main_v44_0).slice (win0_6.rect t)).emb (ix2 y0 y1) = ix2 y0 (col256 (hd t) y1) := by
    blk_ext [idx t, col256, hd]
  rw [e, dqStep_last hH t ((flush0_6 t).mp hf)]
  show _ = ((dqAll H y0 (col256 (hd t) y1) : ℝ) : EReal)
  unfold dqAll
  rw [hOf256_col, dOf256_col]

/-- The key gradient the kernel writes. -/
theorem dk_array {c : Dev nD} {H : Fin 16 → Head} (hH : Hosts m c H) :
    (dats m 0 c).arrAt 7 cfg0.N = fun y : S8192x4096.Idx => ((dkAll H (y 0) (y 1) : ℝ) : EReal) := by
  refine (dats m 0 c).arrAt_eq_of_covers 7 _ (by decide +kernel) fun t hf y => ?_
  blk_simp
  rw [after7]
  idx_vars y
  have e : ((View.whole main_v44_1).slice (win0_7.rect t)).emb (ix2 y0 y1) = ix2 (row (kb t) y0) (col256 (hd t) y1) := by
    blk_ext [idx t, col256, hd, row, kb]
  rw [e, (endAt_dqIn hH t).dk]
  show _ = ((dkAll H (row (kb t) y0) (col256 (hd t) y1) : ℝ) : EReal)
  unfold dkAll
  rw [hOf256_col, dOf256_col]

/-- The value gradient the kernel writes. -/
theorem dv_array {c : Dev nD} {H : Fin 16 → Head} (hH : Hosts m c H) :
    (dats m 0 c).arrAt 8 cfg0.N = fun y : S8192x2048.Idx => ((dvAll H (y 0) (y 1) : ℝ) : EReal) := by
  refine (dats m 0 c).arrAt_eq_of_covers 8 _ (by decide +kernel) fun t hf y => ?_
  blk_simp
  rw [after8]
  idx_vars y
  have e : ((View.whole main_v44_2).slice (win0_8.rect t)).emb (ix2 y0 y1) = ix2 (row (kb t) y0) (col128 (hd t) y1) := by
    blk_ext [idx t, col128, hd, row, kb]
  rw [e, pay8_apply, (endAt_dqIn hH t).dv]
  show _ = ((dvAll H (row (kb t) y0) (col128 (hd t) y1) : ℝ) : EReal)
  unfold dvAll
  rw [hOf128_col, dOf128_col]

end Cert.Bwd

end
-- ==== Proof.Bwd.Softmax.lean ====
/- The derivative of the causal softmax attention over the reals: the kernel's form of the gradients and the reference's. -/
module

public import proofs.«01_k».proof.Proof.Bwd.Chain

@[expose] public section

set_option maxRecDepth 16384

noncomputable section

namespace Cert.Bwd

/-- The arguments as reals, and a real number for each row (its largest score). -/
structure Inp where
  q : Fin 8192 → Fin 16 → Fin 192 → ℝ
  k : Fin 8192 → Fin 16 → Fin 192 → ℝ
  v : Fin 8192 → Fin 16 → Fin 128 → ℝ
  o : Fin 8192 → Fin 16 → Fin 128 → ℝ
  M : Fin 16 → Fin 8192 → ℝ

namespace Inp
variable (X : Inp) (h : Fin 16) (a b : Fin 8192)

/-- The score of query `a` and key `b`. -/
def s : ℝ := (∑ d, X.q a h d * X.k b h d) * scl

/-- Its exponential, less the row's number; zero for a key after the query. -/
def e : ℝ := if b.val ≤ a.val then Real.exp (X.s h a b - X.M h a) else 0

/-- The sum of a row's exponentials. -/
def l : ℝ := ∑ b, X.e h a b

/-- The attention's weight. -/
def p : ℝ := X.e h a b / X.l h a

/-- The gradient of the weight. -/
def dp : ℝ := ∑ d, X.v b h d * X.o a h d

/-- The output gradient times the output, of a row. -/
def δ : ℝ := ∑ d, X.o a h d * ∑ b, X.p h a b * X.v b h d

/-- The gradient of the score, before the scale. -/
def g : ℝ := X.p h a b * (X.dp h a b - X.δ h a)

theorem l_pos : 0 < X.l h a := by
  unfold l
  refine Finset.sum_pos' (fun b _ => ?_) ⟨a, Finset.mem_univ a, ?_⟩
  · unfold e; split
    · exact (Real.exp_pos _).le
    · exact le_rfl
  · unfold e; rw [if_pos le_rfl]; exact Real.exp_pos _

theorem l_ne : X.l h a ≠ 0 := (X.l_pos h a).ne'

/-- The weight by the log-sum. -/
theorem p_eq : (if b.val ≤ a.val then Real.exp (X.s h a b - (X.M h a + Real.log (X.l h a))) else 0) = X.p h a b := by
  unfold p e
  split
  · rw [← sub_sub, Real.exp_sub _ (Real.log _), Real.exp_log (X.l_pos h a)]
  · rw [zero_div]

theorem p_zero (hb : ¬ b.val ≤ a.val) : X.p h a b = 0 := by
  unfold p e; rw [if_neg hb, zero_div]

/-- The row's delta as the weighted sum of the weights' gradients. -/
theorem δ_eq : X.δ h a = ∑ b, X.p h a b * X.dp h a b := by
  unfold δ dp
  simp only [Finset.mul_sum]
  rw [Finset.sum_comm]
  refine Finset.sum_congr rfl fun b _ => Finset.sum_congr rfl fun d _ => ?_
  ring

/-- The derivative of the quotient, term by term, is the kernel's form. -/
theorem g_eq : (X.dp h a b / X.l h a + -∑ b', X.dp h a b' * (1 / (X.l h a * X.l h a)) * X.e h a b') * X.e h a b = X.g h a b := by
  unfold g
  rw [δ_eq]
  have hl := X.l_ne h a
  have e1 : ∑ b', X.dp h a b' * (1 / (X.l h a * X.l h a)) * X.e h a b' = (∑ b', X.p h a b' * X.dp h a b') / X.l h a := by
    rw [Finset.sum_div]
    refine Finset.sum_congr rfl fun b' _ => ?_
    unfold p
    field_simp
  rw [e1]
  unfold p
  field_simp
  ring

/-- The query gradient of the attention. -/
def dq (d : Fin 192) : ℝ := ∑ b, X.g h a b * scl * X.k b h d

/-- The key gradient of the attention. -/
def dk (d : Fin 192) : ℝ := ∑ a, X.g h a b * scl * X.q a h d

/-- The value gradient of the attention. -/
def dv (d : Fin 128) : ℝ := ∑ a, X.o a h d * X.p h a b

/-- A head as the kernel takes it: scaled queries, and queries and keys padded with zero columns. -/
def head : Head where
  k r d := if hd : d.val < 192 then X.k r h ⟨d.val, hd⟩ else 0
  v r d := X.v r h d
  Q r d := if hd : d.val < 192 then X.q r h ⟨d.val, hd⟩ * scl else 0
  O r d := X.o r h d
  L r := X.M h r + Real.log (X.l h r)
  D r := X.δ h r

/-- A sum over padded columns. -/
theorem sum_pad (f : Fin 192 → ℝ) : (∑ d : Fin 256, if hd : d.val < 192 then f ⟨d.val, hd⟩ else 0) = ∑ d, f d := by
  rw [show (∑ d : Fin 256, if hd : d.val < 192 then f ⟨d.val, hd⟩ else 0)
    = ∑ d : Fin (192 + 64), if hd : d.val < 192 then f ⟨d.val, hd⟩ else 0 from rfl, Fin.sum_univ_add]
  have e1 : (∑ i : Fin 192, if hd : (Fin.castAdd 64 i).val < 192 then f ⟨(Fin.castAdd 64 i).val, hd⟩ else 0) = ∑ d, f d :=
    Finset.sum_congr rfl fun i _ => dif_pos i.isLt
  have e2 : (∑ i : Fin 64, if hd : (Fin.natAdd 192 i).val < 192 then f ⟨(Fin.natAdd 192 i).val, hd⟩ else 0) = 0 :=
    Finset.sum_eq_zero fun i _ => dif_neg (by simp)
  rw [e1, e2, add_zero]

theorem head_score : ∑ d, (X.head h).k b d * (X.head h).Q a d = X.s h a b := by
  unfold s
  rw [Finset.sum_mul, ← sum_pad]
  refine Finset.sum_congr rfl fun d _ => ?_
  unfold head
  by_cases hd : d.val < 192
  · simp only [dif_pos hd]; ring
  · simp only [dif_neg hd, zero_mul]

theorem head_w : (X.head h).w b a = X.p h a b := by
  unfold Head.w
  rw [head_score, ← p_eq]
  rfl

theorem head_ds : (X.head h).ds b a = X.g h a b := by
  unfold Head.ds
  rw [head_w]
  rfl

theorem dq_all (x : Fin 4096) : dqAll X.head a x = if hd : (dOf256 x).val < 192 then X.dq (hOf256 x) a ⟨_, hd⟩ else 0 := by
  unfold dqAll
  simp only [head_ds]
  by_cases hd : (dOf256 x).val < 192
  · rw [dif_pos hd]
    unfold dq
    rw [Finset.sum_mul]
    refine Finset.sum_congr rfl fun b _ => ?_
    unfold head
    simp only [dif_pos hd]
    ring
  · rw [dif_neg hd, Finset.sum_eq_zero, zero_mul]
    intro b _
    unfold head
    simp only [dif_neg hd, mul_zero]

theorem dk_all (x : Fin 4096) : dkAll X.head b x = if hd : (dOf256 x).val < 192 then X.dk (hOf256 x) b ⟨_, hd⟩ else 0 := by
  unfold dkAll
  simp only [head_ds]
  by_cases hd : (dOf256 x).val < 192
  · rw [dif_pos hd]
    unfold dk
    refine Finset.sum_congr rfl fun b _ => ?_
    unfold head
    simp only [dif_pos hd]
    ring
  · rw [dif_neg hd, Finset.sum_eq_zero]
    intro b _
    unfold head
    simp only [dif_neg hd, mul_zero]

theorem dv_all (x : Fin 2048) : dvAll X.head b x = X.dv (hOf128 x) b (dOf128 x) := by
  unfold dvAll dv
  refine Finset.sum_congr rfl fun a _ => ?_
  rw [head_w, mul_comm]
  rfl

end Inp

end Cert.Bwd

end
-- ==== Proof.Bwd.HostVals.lean ====
/- The host's arrays on finite arguments: every entry is the real number the softmax calculus names. -/
module

public import proofs.«01_k».proof.Proof.Bwd.HostTerms
public import proofs.«01_k».proof.Proof.Bwd.Softmax

@[expose] public section

set_option maxRecDepth 16384

noncomputable section

namespace Cert.Bwd

open Cert.KernelIdeal Cert.KernelIdeal.Gen
open Idealize.ShloMosaic Idealize.ShloMosaic.TcCoe Idealize.ShloMosaic.Tactic

/-- The four arguments hold the reals of `X`, and `X.M` is each row's largest score. -/
structure IsInp (X : Inp) (q k : QK) (v o : VO) : Prop where
  hq : ∀ a h d, q (ix3 a h d) = ((X.q a h d : ℝ) : EReal)
  hk : ∀ a h d, k (ix3 a h d) = ((X.k a h d : ℝ) : EReal)
  hv : ∀ a h d, v (ix3 a h d) = ((X.v a h d : ℝ) : EReal)
  ho : ∀ a h d, o (ix3 a h d) = ((X.o a h d : ℝ) : EReal)
  hM : ∀ h a, hMax q k (ix2 h a) = ((X.M h a : ℝ) : EReal)

theorem causal (a b : Fin 8192) :
    IntOp.cmpi CmpIPredicate.sle (BitVec.ofNat 32 b.val) (BitVec.ofNat 32 a.val) = if b.val ≤ a.val then 1#1 else 0#1 := by
  have := a.isLt; have := b.isLt
  word_cmp
  by_cases h : b.val ≤ a.val <;> simp [h]

theorem hScore_raw (q k : QK) (h : Fin 16) (a b : Fin 8192) : hScore q k (ix3 h a b) =
    Scalar.select (IntOp.cmpi CmpIPredicate.sle (BitVec.ofNat 32 b.val) (BitVec.ofNat 32 a.val))
      ((∑ d, q (ix3 a h d) * k (ix3 b h d)) * Ideal.ofBits .f32 0x3D93CD3A#32) (Ideal.ofBits .f32 0xFF800000#32) := by
  pointwise [hScore, hMask]

theorem hSpread_apply (x : FVec Ideal S16x8192 .f32) (h : Fin 16) (a b : Fin 8192) : hSpread x (ix3 h a b) = x (ix2 h a) := by
  pointwise [hSpread]

theorem hMax_raw (q k : QK) (h : Fin 16) (a : Fin 8192) :
    hMax q k (ix2 h a) = Finset.fold max (Ideal.ofBits .f32 0xFF800000#32) (fun b => hScore q k (ix3 h a b)) Finset.univ := by
  pointwise [hMax]

theorem exp_sub_apply (x y : FVec Ideal S16x8192x8192 .f32) (i : S16x8192x8192.Idx) : Host.exp (subf x y) i = Ideal.exp (x i - y i) := rfl

theorem add_log_apply (x y : FVec Ideal S16x8192 .f32) (i : S16x8192.Idx) : addf x (Host.log y) i = x i + Ideal.log (y i) := rfl

theorem hExp_raw (q k : QK) (h : Fin 16) (a b : Fin 8192) : hExp q k (ix3 h a b) = Ideal.exp (hScore q k (ix3 h a b) - hMax q k (ix2 h a)) := by
  unfold hExp
  rw [exp_sub_apply, hSpread_apply]

theorem hSum_raw (q k : QK) (h : Fin 16) (a : Fin 8192) : hSum q k (ix2 h a) = ∑ b, hExp q k (ix3 h a b) := by
  pointwise [hSum]

theorem hOut_raw (q k : QK) (v : VO) (h : Fin 16) (a : Fin 8192) (d : Fin 128) :
    hOut q k v (ix3 h a d) = ∑ b, Ideal.div (hExp q k (ix3 h a b)) (hSum q k (ix2 h a)) * v (ix3 b h d) := by
  pointwise [hOut, hSpread]

theorem hDelta_raw (q k : QK) (v o : VO) (h : Fin 16) (a : Fin 8192) :
    hDelta q k v o (ix2 h a) = ∑ d, o (ix3 a h d) * hOut q k v (ix3 h a d) := by
  pointwise [hDelta]

theorem hPad_raw (x : QK) (a : Fin 8192) (y : Fin 4096) : hPad x (ix2 a y) =
    if hd : y.val / 256 < 16 ∧ y.val % 256 < 192 then x (ix3 a ⟨y.val / 256, hd.1⟩ ⟨y.val % 256, hd.2⟩) else FloatOps.sitofp .f32 0#32 := by
  pointwise [hPad]

theorem hScaled_raw (x : QK) (a : Fin 8192) (h : Fin 16) (d : Fin 192) : hScaled x (ix3 a h d) = x (ix3 a h d) * Ideal.ofBits .f32 0x3D93CD3A#32 := by
  pointwise [hScaled]

theorem hFlat_raw (x : VO) (a : Fin 8192) (y : Fin 2048) : hFlat x (ix2 a y) =
    x (ix3 a ⟨y.val / 128, by omega⟩ ⟨y.val % 128, by omega⟩) := by
  pointwise [hFlat]

theorem hRow_raw (x : FVec Ideal S16x8192 .f32) (h : Fin 16) (a : Fin 8192) :
    shapeCast S16x1x8192 x shapeCasts_S16x8192_S16x1x8192 (ix3 h 0 a) = x (ix2 h a) := by
  pointwise

theorem sitofp_zero : (FloatOps.sitofp .f32 0#32 : Ideal .f32) = ((0 : ℝ) : EReal) := by
  show (((((0#32 : BitVec 32).toInt : ℤ) : ℝ)) : EReal) = _
  simp

/-- A row's largest score is a real number: the row has a key, and every score is a real or minus infinity. -/
theorem exists_max (q k : QK) (qr kr : Fin 8192 → Fin 16 → Fin 192 → ℝ) (hq : ∀ a h d, q (ix3 a h d) = ((qr a h d : ℝ) : EReal))
    (hk : ∀ a h d, k (ix3 a h d) = ((kr a h d : ℝ) : EReal)) : ∃ M : Fin 16 → Fin 8192 → ℝ, ∀ h a, hMax q k (ix2 h a) = ((M h a : ℝ) : EReal) := by
  have hs : ∀ h a b, hScore q k (ix3 h a b) = if b.val ≤ a.val then (((∑ d, qr a h d * kr b h d) * scl : ℝ) : EReal) else ⊥ := fun h a b => by
    rw [hScore_raw, causal, ofBits_scl, ofBits_bot]
    simp only [hq, hk, ← EReal.coe_mul, ← coe_sum]
    split <;> simp [Scalar.select]
  refine ⟨fun h a => (hMax q k (ix2 h a)).toReal, fun h a => (EReal.coe_toReal (ne_of_lt ?_) (ne_of_gt ?_)).symm⟩
  · rw [hMax_raw, Finset.fold_max_lt]
    refine ⟨by rw [ofBits_bot]; exact bot_lt_top, fun b _ => ?_⟩
    rw [hs]; split
    · exact EReal.coe_lt_top _
    · exact bot_lt_top
  · refine lt_of_lt_of_le (EReal.bot_lt_coe ((∑ d, qr a h d * kr a h d) * scl)) ?_
    rw [hMax_raw, Finset.le_fold_max]
    exact Or.inr ⟨a, Finset.mem_univ a, by rw [hs, if_pos le_rfl]⟩

variable {X : Inp} {q k : QK} {v o : VO} (hX : IsInp X q k v o)

namespace IsInp
include hX

theorem score (h : Fin 16) (a b : Fin 8192) : hScore q k (ix3 h a b) = if b.val ≤ a.val then ((X.s h a b : ℝ) : EReal) else ⊥ := by
  rw [hScore_raw, causal, ofBits_scl, ofBits_bot]
  simp only [hX.hq, hX.hk, ← EReal.coe_mul, ← coe_sum]
  split <;> simp [Scalar.select, Inp.s]

theorem exp (h : Fin 16) (a b : Fin 8192) : hExp q k (ix3 h a b) = ((X.e h a b : ℝ) : EReal) := by
  rw [hExp_raw, hX.score, hX.hM]
  unfold Inp.e
  split
  · rw [← EReal.coe_sub, Ideal.exp_coe]
  · rw [EReal.bot_sub, Ideal.exp_bot, EReal.coe_zero]

theorem sum (h : Fin 16) (a : Fin 8192) : hSum q k (ix2 h a) = ((X.l h a : ℝ) : EReal) := by
  rw [hSum_raw]
  simp only [hX.exp, ← coe_sum]
  rfl

theorem lse (h : Fin 16) (a : Fin 8192) : hLse q k (ix2 h a) = ((X.M h a + Real.log (X.l h a) : ℝ) : EReal) := by
  unfold hLse
  rw [add_log_apply, hX.hM, hX.sum, Ideal.log_coe, if_neg (not_le.mpr (X.l_pos h a)), ← EReal.coe_add]

theorem prob (h : Fin 16) (a b : Fin 8192) : Ideal.div ((X.e h a b : ℝ) : EReal) ((X.l h a : ℝ) : EReal) = ((X.p h a b : ℝ) : EReal) := by
  rw [Ideal.div_coe (X.l_ne h a), ← EReal.coe_mul]
  unfold Inp.p
  rw [mul_one_div]

theorem delta (h : Fin 16) (a : Fin 8192) : hDelta q k v o (ix2 h a) = ((X.δ h a : ℝ) : EReal) := by
  rw [hDelta_raw]
  simp only [hOut_raw, hX.exp, hX.sum, hX.prob, hX.hv, hX.ho, ← EReal.coe_mul, ← coe_sum]
  rfl

end IsInp

theorem hPad_col (x : QK) (a : Fin 8192) (h : Fin 16) (d : Fin 256) : hPad x (ix2 a (col256 h d)) =
    if hd : d.val < 192 then x (ix3 a h ⟨d.val, hd⟩) else ((0 : ℝ) : EReal) := by
  have e1 : (col256 h d).val / 256 = h.val := by unfold col256; simp only; omega
  have e2 : (col256 h d).val % 256 = d.val := by unfold col256; simp only; omega
  rw [hPad_raw]
  by_cases hd : d.val < 192
  · rw [dif_pos (by rw [e1, e2]; exact ⟨h.isLt, hd⟩), dif_pos hd]
    exact congrArg x (by congr 1 <;> exact Fin.ext (by assumption))
  · rw [dif_neg (by rw [e1, e2]; exact fun hh => hd hh.2), dif_neg hd, sitofp_zero]

theorem hFlat_col (x : VO) (a : Fin 8192) (h : Fin 16) (d : Fin 128) : hFlat x (ix2 a (col128 h d)) = x (ix3 a h d) := by
  have e1 : (col128 h d).val / 128 = h.val := by unfold col128; simp only; omega
  have e2 : (col128 h d).val % 128 = d.val := by unfold col128; simp only; omega
  rw [hFlat_raw]
  exact congrArg x (by congr 1 <;> exact Fin.ext (by assumption))

/-- The region's arrays hold the heads of `X`. -/
theorem hosts (m : (ℓ : Loc nD τ sig) → Buf (Elt Ideal) ℓ) (c : Dev nD) {X : Inp} (hX : IsInp X (aQ m c) (aK m c) (aV m c) (aO m c)) :
    Hosts m c X.head := by
  refine ⟨fun h r d => ?_, fun h r d => ?_, fun h r d => ?_, fun h r d => ?_, fun h r => ?_, fun h r => ?_⟩
  · rw [V_v34, hPad_col]
    unfold Inp.head
    simp only [hScaled_raw, hX.hq, ofBits_scl, ← EReal.coe_mul]
    split <;> rfl
  · rw [V_v37, hPad_col]
    unfold Inp.head
    simp only [hX.hk]
    split <;> rfl
  · rw [V_v39, hFlat_col, hX.hv]; rfl
  · rw [V_v41, hFlat_col, hX.ho]; rfl
  · rw [V_v42, hRow_raw, hX.lse]; rfl
  · rw [V_v43, hRow_raw, hX.delta]; rfl

end Cert.Bwd

end
-- ==== Proof.Bwd.RefVals.lean ====
/- The reference's three results on finite arguments, as real numbers. -/
module

public import proofs.«01_k».proof.Proof.Bwd.HostVals
public import proofs.«01_k».proof.Proof.Gen.ReferenceIdeal.Read

@[expose] public section

set_option maxRecDepth 16384

noncomputable section

namespace Cert.Bwd

open Cert.ReferenceIdeal Cert.ReferenceIdeal.Gen Cert.ReferenceIdeal.Read
open Idealize.ShloMosaic Idealize.ShloMosaic.TcCoe Idealize.ShloMosaic.Tactic

theorem r10_0 (q k : QK) : val_main_v10_0 (F := Ideal) q k = hScore q k := rfl

theorem r11 (q k : QK) : val_main_v11 (F := Ideal) q k = hMax q k := rfl

theorem max_bot_apply (x : FVec Ideal S16x8192 .f32) :
    maximumf (broadcastInDim S16x8192 ![] bcast_S_S16x8192 (constant S_ .f32 0xFF800000#32)) x = x := by
  funext i
  show max (Ideal.ofBits .f32 0xFF800000#32) (x i) = x i
  rw [ofBits_bot, bot_sup_eq]

theorem r18 (q k : QK) : val_main_v18 (F := Ideal) q k = hMax q k := by
  unfold val_main_v18
  rw [r11]
  exact max_bot_apply _

/-- The reference's exponentials are the host's. -/
theorem r31 (q k : QK) : val_main_v31 (F := Ideal) q k = hExp q k := by
  unfold val_main_v31 val_main_v30 val_main_v29 val_main_v28
  rw [r10_0, r18]
  rfl

theorem r32 (q k : QK) : val_main_v32 (F := Ideal) q k = hSum q k := by
  unfold val_main_v32
  rw [r31]
  rfl

theorem r35_raw (q k : QK) (h : Fin 16) (a b : Fin 8192) :
    val_main_v35 (F := Ideal) q k (ix3 h a b) = Ideal.div (val_main_v31 (F := Ideal) q k (ix3 h a b)) (val_main_v32 (F := Ideal) q k (ix2 h a)) := by
  pointwise [val_main_v35, val_main_v34, val_main_v33]

theorem r42_raw (v o : VO) (h : Fin 16) (a b : Fin 8192) :
    val_main_v42 (F := Ideal) v o (ix3 h a b) = ∑ x, o (ix3 a h x) * v (ix3 b h x) := by
  pointwise [val_main_v42, val_main_v41]

theorem r44_raw (q k : QK) (o : VO) (h : Fin 16) (b : Fin 8192) (d : Fin 128) :
    val_main_v44 (F := Ideal) q k o (ix3 b h d) = ∑ x, o (ix3 x h d) * val_main_v35 (F := Ideal) q k (ix3 h x b) := by
  pointwise [val_main_v44, val_main_v43, val_main_v41]

theorem r47_raw (q k : QK) (v o : VO) (h : Fin 16) (a b : Fin 8192) :
    val_main_v47 (F := Ideal) q k v o (ix3 h a b)
      = val_main_v42 (F := Ideal) v o (ix3 h a b)
          * Ideal.div 1 (val_main_v32 (F := Ideal) q k (ix2 h a) * val_main_v32 (F := Ideal) q k (ix2 h a)) * val_main_v31 (F := Ideal) q k (ix3 h a b) := by
  pointwise [val_main_v47, val_main_v46, val_main_v45, val_main_v38, val_main_v37, val_main_v36, val_main_v33, val_main_cst_10]

theorem r53_raw (q k : QK) (v o : VO) (h : Fin 16) (a : Fin 8192) :
    val_main_v53 (F := Ideal) q k v o (ix2 h a) = ∑ _x : Fin 1, -∑ b, val_main_v47 (F := Ideal) q k v o (ix3 h a b) := by
  pointwise [val_main_v53, val_main_cst_12, val_main_v50, val_main_v49, val_main_v48, val_main_cst_11]

theorem r59_raw (q k : QK) (v o : VO) (h : Fin 16) (a b : Fin 8192) :
    val_main_v59 (F := Ideal) q k v o (ix3 h a b)
      = Scalar.select (IntOp.cmpi CmpIPredicate.sle (BitVec.ofNat 32 b.val) (BitVec.ofNat 32 a.val))
          ((Ideal.div (val_main_v42 (F := Ideal) v o (ix3 h a b)) (val_main_v32 (F := Ideal) q k (ix2 h a)) + val_main_v53 (F := Ideal) q k v o (ix2 h a))
            * val_main_v31 (F := Ideal) q k (ix3 h a b) * Ideal.ofBits .f32 0x3D93CD3A#32) 0 := by
  pointwise [val_main_v59, val_main_v58, val_main_cst_13, val_main_v57, val_main_call1_v0, val_main_call1_cst, val_main_v56, val_main_v55,
    val_main_v54, val_main_v52, val_main_v51, val_main_v33, val_main_v10_1, val_main_v9, val_main_v8, val_main_v7, val_main_v6, val_main_v5,
    val_main_v4, val_main_v3]

theorem r63_raw (q k : QK) (v o : VO) (h : Fin 16) (a : Fin 8192) (d : Fin 192) :
    val_main_v63 (F := Ideal) q k v o (ix3 a h d) = ∑ b, val_main_v59 (F := Ideal) q k v o (ix3 h a b) * k (ix3 b h d) := by
  pointwise [val_main_v63, val_main_v62]

theorem r61_raw (q k : QK) (v o : VO) (h : Fin 16) (b : Fin 8192) (d : Fin 192) :
    val_main_v61 (F := Ideal) q k v o (ix3 b h d) = ∑ a, val_main_v59 (F := Ideal) q k v o (ix3 h a b) * q (ix3 a h d) := by
  pointwise [val_main_v61, val_main_v60]

theorem r65_raw (q k : QK) (v o : VO) (a : Fin 8192) (y : Fin 4096) :
    val_main_v65 (F := Ideal) q k v o (ix2 a y) = if hd : y.val / 256 < 16 ∧ y.val % 256 < 192 then
      val_main_v63 (F := Ideal) q k v o (ix3 a ⟨y.val / 256, hd.1⟩ ⟨y.val % 256, hd.2⟩) else (FloatOps.sitofp (F := Ideal) .f32 0#32 : EReal) := by
  pointwise [val_main_v65, val_main_v64, val_main_call2_v0, val_main_c]

theorem r67_raw (q k : QK) (v o : VO) (a : Fin 8192) (y : Fin 4096) :
    val_main_v67 (F := Ideal) q k v o (ix2 a y) = if hd : y.val / 256 < 16 ∧ y.val % 256 < 192 then
      val_main_v61 (F := Ideal) q k v o (ix3 a ⟨y.val / 256, hd.1⟩ ⟨y.val % 256, hd.2⟩) else (FloatOps.sitofp (F := Ideal) .f32 0#32 : EReal) := by
  pointwise [val_main_v67, val_main_v66, val_main_call3_v0, val_main_c_14]

theorem r69_raw (q k : QK) (o : VO) (a : Fin 8192) (y : Fin 2048) :
    val_main_v69 (F := Ideal) q k o (ix2 a y) = val_main_v44 (F := Ideal) q k o (ix3 a ⟨y.val / 128, by omega⟩ ⟨y.val % 128, by omega⟩) := by
  pointwise [val_main_v69, val_main_v68]

variable {X : Inp} {q k : QK} {v o : VO} (hX : IsInp X q k v o)

namespace IsInp
include hX

theorem ref_p (h : Fin 16) (a b : Fin 8192) : val_main_v35 (F := Ideal) q k (ix3 h a b) = ((X.p h a b : ℝ) : EReal) := by
  rw [r35_raw, r31, r32, hX.exp, hX.sum, hX.prob]

theorem ref_dp (h : Fin 16) (a b : Fin 8192) : val_main_v42 (F := Ideal) v o (ix3 h a b) = ((X.dp h a b : ℝ) : EReal) := by
  rw [r42_raw]
  simp only [hX.ho, hX.hv, ← EReal.coe_mul, ← coe_sum]
  unfold Inp.dp
  exact congrArg _ (Finset.sum_congr rfl fun d _ => mul_comm _ _)

theorem ref_sum (h : Fin 16) (a : Fin 8192) :
    val_main_v53 (F := Ideal) q k v o (ix2 h a) = ((-∑ b, X.dp h a b * (1 / (X.l h a * X.l h a)) * X.e h a b : ℝ) : EReal) := by
  rw [r53_raw, Fin.sum_univ_one]
  simp only [r47_raw, r31, r32, hX.exp, hX.sum, hX.ref_dp, ← EReal.coe_mul, Ideal.div_coe (mul_ne_zero (X.l_ne h a) (X.l_ne h a)), one_mul, ← coe_sum,
    ← EReal.coe_neg]

/-- The gradient of the scaled score. -/
theorem ref_g (h : Fin 16) (a b : Fin 8192) : val_main_v59 (F := Ideal) q k v o (ix3 h a b) = ((X.g h a b * scl : ℝ) : EReal) := by
  rw [r59_raw, causal, ofBits_scl, r31, r32, hX.exp, hX.sum, hX.ref_dp, hX.ref_sum, Ideal.div_coe (X.l_ne h a), ← EReal.coe_mul, ← EReal.coe_add,
    ← EReal.coe_mul, ← EReal.coe_mul, mul_one_div, X.g_eq]
  by_cases hb : b.val ≤ a.val
  · rw [if_pos hb]; simp [Scalar.select]
  · rw [if_neg hb]
    have e : X.g h a b = 0 := by unfold Inp.g; rw [X.p_zero h a b hb, zero_mul]
    simp [Scalar.select, e]

theorem ref_dq (h : Fin 16) (a : Fin 8192) (d : Fin 192) : val_main_v63 (F := Ideal) q k v o (ix3 a h d) = ((X.dq h a d : ℝ) : EReal) := by
  rw [r63_raw]
  simp only [hX.ref_g, hX.hk, ← EReal.coe_mul, ← coe_sum]
  rfl

theorem ref_dk (h : Fin 16) (b : Fin 8192) (d : Fin 192) : val_main_v61 (F := Ideal) q k v o (ix3 b h d) = ((X.dk h b d : ℝ) : EReal) := by
  rw [r61_raw]
  simp only [hX.ref_g, hX.hq, ← EReal.coe_mul, ← coe_sum]
  rfl

theorem ref_dv (h : Fin 16) (b : Fin 8192) (d : Fin 128) : val_main_v44 (F := Ideal) q k o (ix3 b h d) = ((X.dv h b d : ℝ) : EReal) := by
  rw [r44_raw]
  simp only [hX.ref_p, hX.ho, ← EReal.coe_mul, ← coe_sum]
  rfl

/-- The reference's query gradient is the kernel's. -/
theorem ref_out0 (y : S8192x4096.Idx) : val_main_v65 (F := Ideal) q k v o y = ((dqAll X.head (y 0) (y 1) : ℝ) : EReal) := by
  idx_vars y
  show _ = ((dqAll X.head y0 y1 : ℝ) : EReal)
  rw [r65_raw, X.dq_all]
  by_cases hd : y1.val % 256 < 192
  · rw [dif_pos ⟨by omega, hd⟩, hX.ref_dq, dif_pos (show (dOf256 y1).val < 192 from hd)]
    rfl
  · rw [dif_neg (fun hh => hd hh.2), dif_neg (show ¬ (dOf256 y1).val < 192 from hd), sitofp_zero]

/-- The reference's key gradient is the kernel's. -/
theorem ref_out1 (y : S8192x4096.Idx) : val_main_v67 (F := Ideal) q k v o y = ((dkAll X.head (y 0) (y 1) : ℝ) : EReal) := by
  idx_vars y
  show _ = ((dkAll X.head y0 y1 : ℝ) : EReal)
  rw [r67_raw, X.dk_all]
  by_cases hd : y1.val % 256 < 192
  · rw [dif_pos ⟨by omega, hd⟩, hX.ref_dk, dif_pos (show (dOf256 y1).val < 192 from hd)]
    rfl
  · rw [dif_neg (fun hh => hd hh.2), dif_neg (show ¬ (dOf256 y1).val < 192 from hd), sitofp_zero]

/-- The reference's value gradient is the kernel's. -/
theorem ref_out2 (y : S8192x2048.Idx) : val_main_v69 (F := Ideal) q k o y = ((dvAll X.head (y 0) (y 1) : ℝ) : EReal) := by
  idx_vars y
  show _ = ((dvAll X.head y0 y1 : ℝ) : EReal)
  rw [r69_raw, X.dv_all, hX.ref_dv]
  rfl

end IsInp

end Cert.Bwd

end
-- ==== Proof.Bwd.Finite.lean ====
/- The precondition read back: every entry of the four arguments is a real number. -/
module

public import proofs.«01_k».proof.Pre_finite
public import Idealize.ShloMosaic.PureOps.Ideal
public import Idealize.ShloMosaic.Lib.ReduceAll
public import Idealize.ShloMosaic.Lib.Decide

@[expose] public section

noncomputable section

namespace Cert.Pre_finite.Gen

open Idealize.ShloMosaic

theorem bcast_qk : S_.BroadcastsInDim S8192x16x192 (![] : Fin 0 → Fin S8192x16x192.rank) := by decide
theorem all_qk : S8192x16x192.ReducesTo [0, 1, 2] S_ := by decide
theorem pos_S : 0 < S_.numel := by decide
theorem bcast_vo : S_.BroadcastsInDim S8192x16x128 (![] : Fin 0 → Fin S8192x16x128.rank) := by decide
theorem all_vo : S8192x16x128.ReducesTo [0, 1, 2] S_ := by decide

/-- The side conditions the precondition states. -/
instance facts : Facts := ⟨bcast_qk, all_qk, pos_S, bcast_vo, all_vo⟩

/-- An extended real whose absolute value is below infinity is a real number. -/
theorem real_of_lt (x : Ideal .f32) (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  refine ⟨EReal.toReal x, (EReal.coe_toReal (ne_of_lt hlt.1) fun e => ?_).symm⟩
  rw [e] at hlt
  simp at hlt

/-- Arguments that meet the precondition have real entries. -/
theorem real_of_fn (a0 a1 : FVec Ideal S8192x16x192 .f32) (a2 a3 : FVec Ideal S8192x16x128 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  haveI : Subsingleton S_.Idx := ⟨fun x y => funext fun d => d.elim0⟩
  have h0 := congrFun h (Shape.Idx.first pos_S)
  obtain ⟨h1, e3⟩ := IntOp.andi_eq_one.1 h0
  obtain ⟨h2, e2⟩ := IntOp.andi_eq_one.1 h1
  obtain ⟨e0, e1⟩ := IntOp.andi_eq_one.1 h2
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

end Cert.Pre_finite.Gen

end
-- ==== Proof.Bwd.Value.lean ====
/- The kernel and the reference end with equal results on finite arguments. -/
module

public import proofs.«01_k».proof.Proof.Bwd.RefVals
public import proofs.«01_k».proof.Proof.Bwd.Finite
public import proofs.«01_k».proof.Proof.Gen.ReferenceIdeal.Run

@[expose] public section

noncomputable section

namespace Cert.Bwd

open Cert.KernelIdeal Cert.KernelIdeal.Gen
open Idealize.ShloMosaic Idealize.ShloMosaic.TcCoe Idealize.SL.Sem Idealize.ShloMosaic.Tactic

variable (m : (ℓ : Loc nD τ sig) → Buf (Elt Ideal) ℓ) (ρ : Dev nD → PrngReg)

/-- Finite arguments, as real arrays with the score rows' maxima. -/
theorem exists_inp (q k : QK) (v o : VO) (h : Cert.Pre_finite.fn (F := Ideal) q k v o = fun _ => 1#1) : ∃ X : Inp, IsInp X q k v o := by
  obtain ⟨hq, hk, hv, ho⟩ := Cert.Pre_finite.Gen.real_of_fn q k v o h
  choose qr hq using hq
  choose kr hk using hk
  choose vr hv using hv
  choose or ho using ho
  obtain ⟨M, hM⟩ := exists_max q k (fun a h d => qr (ix3 a h d)) (fun a h d => kr (ix3 a h d)) (fun a h d => hq _) (fun a h d => hk _)
  exact ⟨⟨fun a h d => qr (ix3 a h d), fun a h d => kr (ix3 a h d), fun a h d => vr (ix3 a h d), fun a h d => or (ix3 a h d), M⟩,
    ⟨fun a h d => hq _, fun a h d => hk _, fun a h d => hv _, fun a h d => ho _, hM⟩⟩

/-- The kernel's run, its three results by what the arrays hold at the end. -/
theorem run_values : θ_run (defs (F := Ideal)) (onTc (τ := τ) (main (F := Ideal))) ⟨m, fun _ => 0, ρ⟩ (fun r => ∀ c : Dev nD,
      r.2.mem ((c.tc : Thread nD τ).loc main_v44_0) = (dats m 0 c).arrAt 6 cfg0.N
      ∧ r.2.mem ((c.tc : Thread nD τ).loc main_v44_1) = (dats m 0 c).arrAt 7 cfg0.N
      ∧ r.2.mem ((c.tc : Thread nD τ).loc main_v44_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 6, (h.1.1 c).1 7, (h.1.1 c).1 8, h.2.1 c⟩) (θ_run_and (run_main m ρ) (frame m ρ))

end Cert.Bwd

end
-- ==== Proof.Bwd.Bits.lean ====
/- The program read at bits is the idealized program's text: the run proved of the one is the run of the other. -/
module

public import proofs.«01_k».proof.Defs
public import proofs.«01_k».proof.Proof.Gen.Kernel
public import proofs.«01_k».proof.Proof.Bwd.Frame

@[expose] public section
noncomputable section
namespace Cert.Bwd

open Idealize.ShloMosaic Idealize.ShloMosaic.TcCoe Idealize.SL.Sem

set_option maxHeartbeats 2000000 in
/-- The two kernel functions have one text. -/
theorem kernel_eq : Cert.Kernel.cc0_flash_bwd (F := Bits) = Cert.KernelIdeal.cc0_flash_bwd (F := Bits) := rfl

set_option maxHeartbeats 2000000 in
/-- The two body tables run one function. -/
theorem table_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rw [kernel_eq]; rfl

set_option maxHeartbeats 2000000 in
/-- The two host programs have one text. -/
theorem main_eq_bits : Cert.Kernel.main (F := Bits) = Cert.KernelIdeal.main (F := Bits) := rfl

set_option maxHeartbeats 2000000 in
/-- The frame of the program over bits, from the run over any float values. -/
theorem frame_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  unfold Cert.Kernel.defs
  rw [table_eq, main_eq_bits]
  exact frame (F := Bits) m ρ

end Cert.Bwd

end
-- ==== Proof.Fwd.Online.lean ====
/- The softmax of one row taken block of keys by block of keys, over the reals: a running shift, the sum of the
   exponentials and the weighted sums, rescaled whenever the shift changes. -/
module

public import Idealize.ShloMosaic.PureOps.Ideal

@[expose] public section

noncomputable section

namespace Cert.Fwd

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem mul_sum_coe {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

/-- One row: the score of each key, and the columns of the values. -/
structure Row where
  s : ℕ → ℝ
  v : Fin 128 → ℕ → EReal
  r : ℕ

namespace Row
variable (X : Row)

/-- The weight of a key under the shift `M`; zero past the row's own key. -/
def w (M : ℝ) (n : ℕ) : ℝ := if n ≤ X.r then Real.exp (X.s n - M) else 0

/-- The score of a key as the softmax reads it: minus infinity past the row's own key. -/
def score (n : ℕ) : EReal := if n ≤ X.r then (X.s n : EReal) else ⊥

theorem exp_score (M : ℝ) (n : ℕ) : Ideal.exp (X.score n - (M : EReal)) = ((X.w M n : ℝ) : EReal) := by
  unfold score w
  split
  · rw [← EReal.coe_sub, Ideal.exp_coe]
  · rw [EReal.bot_sub, Ideal.exp_bot, EReal.coe_zero]

theorem w_shift (M M' : ℝ) (n : ℕ) : Real.exp (M - M') * X.w M n = X.w M' n := by
  unfold w
  split
  · rw [← Real.exp_add]; congr 1; ring
  · rw [mul_zero]

/-- The three running values hold the keys below `n`: nothing at first, then everything under some real shift. -/
def Holds (n : ℕ) (m l : EReal) (a : Fin 128 → EReal) : Prop :=
  (n = 0 ∧ m = ⊥ ∧ l = 0 ∧ ∀ d, a d = 0) ∨
  ∃ M : ℝ, m = (M : EReal) ∧ l = ((∑ i ∈ Finset.range n, X.w M i : ℝ) : EReal)
    ∧ ∀ d, a d = ∑ i ∈ Finset.range n, ((X.w M i : ℝ) : EReal) * X.v d i

/-- The largest of finitely many scores, one of them real. -/
theorem fold_real {W : ℕ} (e : Fin W → EReal) (h : ∀ x, e x ≠ ⊤) (x : Fin W) (hx : e x ≠ ⊥) :
    ∃ M : ℝ, Finset.fold max ⊥ e Finset.univ = (M : EReal) := by
  refine ⟨_, (EReal.coe_toReal (ne_of_lt ?_) (ne_of_gt ?_)).symm⟩
  · rw [Finset.fold_max_lt]
    exact ⟨bot_lt_top, fun y _ => lt_top_iff_ne_top.mpr (h y)⟩
  · refine lt_of_lt_of_le (bot_lt_iff_ne_bot.mpr hx) ?_
    rw [Finset.le_fold_max]
    exact Or.inr ⟨x, Finset.mem_univ x, le_rfl⟩

theorem score_ne_top (n : ℕ) : X.score n ≠ ⊤ := by
  unfold score; split
  · exact EReal.coe_ne_top _
  · exact bot_ne_top

theorem score_ne_bot (n : ℕ) (h : n ≤ X.r) : X.score n ≠ ⊥ := by
  unfold score; rw [if_pos h]; exact EReal.coe_ne_bot _

/-- A block of `W` keys more. -/
theorem Holds.step {X : Row} {n : ℕ} {m l : EReal} {a : Fin 128 → EReal} (H : X.Holds n m l a) (hn : n ≤ X.r) {W : ℕ} (hW : 0 < W)
    (e : Fin W → EReal) (he : ∀ x, e x = X.score (n + x.val)) (v : Fin 128 → Fin W → EReal)
    (hv : ∀ d x, v d x = X.v d (n + x.val)) (m' l' : EReal) (a' : Fin 128 → EReal)
    (hm : m' = max m (Finset.fold max ⊥ e Finset.univ)) (hl : l' = Ideal.exp (m - m') * l + ∑ x, Ideal.exp (e x - m'))
    (ha : ∀ d, a' d = Ideal.exp (m - m') * a d + ∑ x, v d x * Ideal.exp (e x - m')) : X.Holds (n + W) m' l' a' := by
  obtain ⟨R, hR⟩ := fold_real e (fun x => by rw [he]; exact X.score_ne_top _) ⟨0, hW⟩
    (by rw [he]; exact X.score_ne_bot _ hn)
  have hm' : ∃ M' : ℝ, m' = (M' : EReal) := by
    rcases H with ⟨-, rfl, -, -⟩ | ⟨M, rfl, -, -⟩
    · exact ⟨R, by rw [hm, hR, max_eq_right bot_le]⟩
    · exact ⟨max M R, by rw [hm, hR, EReal.coe_strictMono.monotone.map_max]⟩
  obtain ⟨M', rfl⟩ := hm'
  simp only [he, X.exp_score] at hl ha
  refine Or.inr ⟨M', rfl, ?_, fun d => ?_⟩
  · rw [hl, Finset.sum_range_add, EReal.coe_add, ← coe_sum, Fin.sum_univ_eq_sum_range (fun x => X.w M' (n + x))]
    congr 1
    rcases H with ⟨rfl, -, rfl, -⟩ | ⟨M, rfl, rfl, -⟩
    · simp
    · rw [← EReal.coe_sub, Ideal.exp_coe, ← EReal.coe_mul, Finset.mul_sum]
      simp only [X.w_shift]
  · rw [ha, Finset.sum_range_add]
    simp only [hv]
    rw [Fin.sum_univ_eq_sum_range (fun x => X.v d (n + x) * ((X.w M' (n + x) : ℝ) : EReal))]
    congr 1
    · rcases H with ⟨rfl, -, -, h0⟩ | ⟨M, rfl, -, h0⟩
      · simp [h0]
      · rw [h0, ← EReal.coe_sub, Ideal.exp_coe, mul_sum_coe _ (Real.exp_pos _).le]
        simp only [← mul_assoc, ← EReal.coe_mul, X.w_shift]
    · exact Finset.sum_congr rfl fun x _ => mul_comm _ _

/-- The sum of a row's exponentials. -/
def E (N : ℕ) : ℝ := ∑ i ∈ Finset.range N, X.w 0 i

/-- The attention's output in one column. -/
def out (N : ℕ) (d : Fin 128) : EReal := ∑ i ∈ Finset.range N, ((X.w 0 i / X.E N : ℝ) : EReal) * X.v d i

theorem w_zero (M : ℝ) (n : ℕ) : X.w M n = Real.exp (-M) * X.w 0 n := by
  rw [← X.w_shift 0 M n, zero_sub]

theorem sum_pos (N : ℕ) (hN : X.r < N) (M : ℝ) : 0 < ∑ i ∈ Finset.range N, X.w M i := by
  refine Finset.sum_pos' (fun b _ => ?_) ⟨X.r, Finset.mem_range.mpr hN, ?_⟩
  · unfold w; split
    · exact (Real.exp_pos _).le
    · exact le_rfl
  · unfold w; rw [if_pos le_rfl]; exact Real.exp_pos _

theorem log_sum (N : ℕ) (hN : X.r < N) (M : ℝ) : M + Real.log (∑ i ∈ Finset.range N, X.w M i) = Real.log (X.E N) := by
  have h := X.sum_pos N hN 0
  simp only [X.w_zero M]
  rw [← Finset.mul_sum, Real.log_mul (Real.exp_pos _).ne' h.ne', Real.log_exp]
  unfold E
  ring

theorem quotient (N : ℕ) (M : ℝ) (n : ℕ) :
    1 / (∑ i ∈ Finset.range N, X.w M i) * X.w M n = X.w 0 n / X.E N := by
  simp only [X.w_zero M]
  rw [← Finset.mul_sum, one_div_mul_eq_div, mul_div_mul_left _ _ (Real.exp_pos _).ne']
  rfl

/-- Keys past the row's own do not count. -/
theorem sum_extend (f : ℕ → ℝ) (M : ℝ) (N N' : ℕ) (h : N ≤ N') (hN : X.r < N) :
    ∑ i ∈ Finset.range N, X.w M i * f i = ∑ i ∈ Finset.range N', X.w M i * f i := by
  refine Finset.sum_subset (Finset.range_mono h) fun i _ hi => ?_
  have : ¬ i ≤ X.r := by rw [Finset.mem_range] at hi; omega
  unfold w
  rw [if_neg this, zero_mul]

theorem E_extend (N N' : ℕ) (h : N ≤ N') (hN : X.r < N) : X.E N = X.E N' := by
  have := X.sum_extend (fun _ => 1) 0 N N' h hN
  unfold E
  simpa only [mul_one] using this

theorem out_extend (N N' : ℕ) (h : N ≤ N') (hN : X.r < N) (d : Fin 128) : X.out N d = X.out N' d := by
  unfold out
  rw [X.E_extend N N' h hN]
  refine Finset.sum_subset (Finset.range_mono h) fun i _ hi => ?_
  have : ¬ i ≤ X.r := by rw [Finset.mem_range] at hi; omega
  unfold w
  rw [if_neg this, zero_div, EReal.coe_zero, zero_mul]

/-- The end of the blocks: the weighted sums over the sum of the exponentials are the output. -/
theorem Holds.out {X : Row} {n : ℕ} {m l : EReal} {a : Fin 128 → EReal} (H : X.Holds n m l a) (hn : X.r < n) (N : ℕ) (hN : n ≤ N)
    (d : Fin 128) : Ideal.div (a d) l = X.out N d := by
  rcases H with ⟨rfl, -, -, -⟩ | ⟨M, rfl, rfl, h⟩
  · exact absurd hn (Nat.not_lt_zero _)
  · rw [h, Ideal.div_coe (X.sum_pos n hn M).ne', mul_comm, mul_sum_coe _ (one_div_pos.mpr (X.sum_pos n hn M)).le,
      ← X.out_extend n N hN hn]
    simp only [← mul_assoc, ← EReal.coe_mul, X.quotient]
    rfl

/-- The shift and the logarithm of the sum are the logarithm of the sum of exponentials. -/
theorem Holds.lse {X : Row} {n : ℕ} {m l : EReal} {a : Fin 128 → EReal} (H : X.Holds n m l a) (hn : X.r < n) (N : ℕ) (hN : n ≤ N) :
    m + Ideal.log l = ((Real.log (X.E N) : ℝ) : EReal) := by
  rcases H with ⟨rfl, -, -, -⟩ | ⟨M, rfl, rfl, -⟩
  · exact absurd hn (Nat.not_lt_zero _)
  · rw [Ideal.log_coe, if_neg (not_le.mpr (X.sum_pos n hn M)), ← EReal.coe_add, X.log_sum n hn, X.E_extend n N hN hn]

end Row

end Cert.Fwd

end
-- ==== Proof.Fwd.Steps.lean ====
/- One block of keys through the forward attention's body: the three running arrays after it, for any number of keys. -/
module

public import proofs.«01_k».proof.Proof.Fwd.Online
public import proofs.«01_k».proof.Proof.Gen.FlashFwdIdeal.Skeleton
public import Idealize.ShloMosaic.Lib.Pipeline.ValueKit
public import Idealize.ShloMosaic.Lib.Pointwise
public import Idealize.ShloMosaic.Lib.MatmulPlain
public import Idealize.ShloMosaic.Lib.ValueLayout
public import Idealize.ShloMosaic.Lib.WordCmp

@[expose] public section

set_option maxRecDepth 16384

noncomputable section

namespace Cert.Fwd

open Cert.FlashFwdIdeal Cert.FlashFwdIdeal.Gen
open Idealize.ShloMosaic Idealize.ShloMosaic.TcCoe Idealize.ShloMosaic.Tactic

/-- The running arrays: the largest score, the sum of the exponentials, the weighted sums of the values. -/
abbrev St : Type := Vec Ideal S1x512 .f32 × Vec Ideal S1x512 .f32 × Vec Ideal S128x512 .f32

variable {W : ℕ}

/-- The facts about the shapes of `W` keys that the operations ask for. -/
structure Fits (W : ℕ) : Prop where
  red : Shape.Reduces ⟨2, ![W, 512]⟩ [0] S512
  bc : S1x512.Broadcasts ⟨2, ![W, 512]⟩

/-- The scores of `W` keys against the block's queries. -/
def scores (q : Vec Ideal S512x256 .bf16) (k : Vec Ideal ⟨2, ![W, 256]⟩ .bf16) : FVec Ideal ⟨2, ![W, 512]⟩ .f32 :=
  matmul (φ₁ := .bf16) (φ₂ := .bf16) (DotDims.transposedRhs W 256 512) none k q (constant ⟨2, ![W, 512]⟩ .f32 0x00000000#32)

/-- The largest score so far. -/
def top (h : Fits W) (s : FVec Ideal ⟨2, ![W, 512]⟩ .f32) (m : Vec Ideal S1x512 .f32) : FVec Ideal S1x512 .f32 :=
  maximumf m (shapeCast S1x512 (multiReduction .maximumf [0] S512 s 0xFF800000#32 h.red (.inl rfl) rfl) shapeCasts_S512_S1x512)

/-- The factor the earlier sums shrink by. -/
def fade (h : Fits W) (s : FVec Ideal ⟨2, ![W, 512]⟩ .f32) (m : Vec Ideal S1x512 .f32) : FVec Ideal S1x512 .f32 :=
  exp (subf m (top h s m))

/-- The exponentials of the scores under the new shift. -/
def weights (h : Fits W) (s : FVec Ideal ⟨2, ![W, 512]⟩ .f32) (m : Vec Ideal S1x512 .f32) : FVec Ideal ⟨2, ![W, 512]⟩ .f32 :=
  exp (subf s (broadcastTo ⟨2, ![W, 512]⟩ (top h s m) h.bc))

/-- The running arrays after the block. -/
def step (h : Fits W) (s : FVec Ideal ⟨2, ![W, 512]⟩ .f32) (v : Vec Ideal ⟨2, ![128, W]⟩ .bf16) (σ : St) : St :=
  (shapeCast S1x512 (top h s σ.1) shapeCasts_S1x512_S1x512,
   shapeCast S1x512 (addf (mulf (fade h s σ.1) σ.2.1)
     (shapeCast S1x512 (multiReduction .add [0] S512 (weights h s σ.1) 0x00000000#32 h.red (.inl rfl) rfl) shapeCasts_S512_S1x512))
     shapeCasts_S1x512_S1x512,
   shapeCast S128x512 (addf (mulf (broadcastTo S128x512 (fade h s σ.1) broadcasts_S1x512_S128x512) σ.2.2)
     (matmul (φ₁ := .bf16) (φ₂ := .bf16) (DotDims.plain 128 W 512) none v (truncf .bf16 (weights h s σ.1) bitsLt_bf16_f32) (constant S128x512 .f32 0x00000000#32)))
     shapeCasts_S128x512_S128x512)

/-- The running arrays at the start. -/
def start : St := (k0_pay39 (F := Ideal), k0_pay40 (F := Ideal), k0_pay41 (F := Ideal))

/-! ## The body's own blocks are this step -/

theorem fits4096 : Fits 4096 := ⟨reduces_S4096x512_S512, broadcasts_S1x512_S4096x512⟩
theorem fits2048 : Fits 2048 := ⟨reduces_S2048x512_S512, broadcasts_S1x512_S2048x512⟩
theorem fits1024 : Fits 1024 := ⟨reduces_S1024x512_S512, broadcasts_S1x512_S1024x512⟩
theorem fits512 : Fits 512 := ⟨reduces_S512x512_S512, broadcasts_S1x512_S512x512⟩

theorem step4096 (q : Vec Ideal S512x256 .bf16) (k : Vec Ideal S4096x256 .bf16) (v : Vec Ideal S128x4096 .bf16) (σ : St) :
    (k0_pay42 (k0_pay7 q k σ.1), k0_pay10 q k σ.1 σ.2.1, k0_pay11 q k σ.1 σ.2.2 v) = step fits4096 (scores q k) v σ := rfl

theorem step2048 (q : Vec Ideal S512x256 .bf16) (k : Vec Ideal S2048x256 .bf16) (v : Vec Ideal S128x2048 .bf16) (σ : St) :
    (k0_pay45 (k0_pay19 q k σ.1), k0_pay22 q k σ.1 σ.2.1, k0_pay44 (k0_pay23 q k σ.1 σ.2.2) v (k0_pay24 q k σ.1))
      = step fits2048 (scores q k) v σ := rfl

theorem step1024 (q : Vec Ideal S512x256 .bf16) (k : Vec Ideal S1024x256 .bf16) (v : Vec Ideal S128x1024 .bf16) (σ : St) :
    (k0_pay47 (k0_pay26 q k σ.1), k0_pay29 q k σ.1 σ.2.1, k0_pay46 (k0_pay30 q k σ.1 σ.2.2) v (k0_pay31 q k σ.1))
      = step fits1024 (scores q k) v σ := rfl

theorem step512 (q : Vec Ideal S512x256 .bf16) (k : Vec Ideal S512x256 .bf16) (v : Vec Ideal S128x512 .bf16) (σ : St) :
    (k0_pay49 (k0_pay33 q k σ.1), k0_pay36 q k σ.1 σ.2.1, k0_pay48 (k0_pay37 q k σ.1 σ.2.2) v (k0_pay38 q k σ.1))
      = step fits512 (scores q k) v σ := rfl

theorem stepDiag (q : Vec Ideal S512x256 .bf16) (k : Vec Ideal S512x256 .bf16) (v : Vec Ideal S128x512 .bf16) (σ : St) :
    (k0_pay2 (k0_pay51 q k σ.1), k0_pay54 q k σ.1 σ.2.1, k0_pay1 (k0_pay53 q k σ.1) (k0_pay55 q k σ.1 σ.2.2) v)
      = step fits512 (k0_pay50 q k) v σ := rfl

/-! ## The step at an index -/

/-- A row copied down `a` rows. -/
theorem spread_apply {a : ℕ} (v : FVec Ideal S1x512 .f32) (h : S1x512.Broadcasts ⟨2, ![a, 512]⟩) (p : Fin a) (c : Fin 512) :
    broadcastTo ⟨2, ![a, 512]⟩ v h (ix2 p c) = v (ix2 0 c) := ValueIdx.broadcastTo_1b_ab_apply v h p c

/-- Products of rows with rows. -/
theorem rows_apply {M K N : ℕ} (x : FVec Ideal ⟨2, ![M, K]⟩ .bf16) (y : FVec Ideal ⟨2, ![N, K]⟩ .bf16) (r : Fin M) (c : Fin N) :
    FloatOps.matmul (F := Ideal) (φ₁ := .bf16) (φ₂ := .bf16) (DotDims.transposedRhs M K N) none x y
      (constant ⟨2, ![M, N]⟩ .f32 0x00000000#32) (ix2 r c) = ∑ k : Fin K, x (ix2 r k) * y (ix2 c k) := by
  refine (Ideal.matmul_transposedRhs_apply none x y _ r c).trans ?_
  show Ideal.ofBits .f32 0x00000000#32 + _ = _
  rw [Ideal.ofBits_zero_f32, zero_add]
  rfl

/-- Products of rows with columns. -/
theorem cols_apply {M K N : ℕ} (x : FVec Ideal ⟨2, ![M, K]⟩ .bf16) (y : FVec Ideal ⟨2, ![K, N]⟩ .bf16) (r : Fin M) (c : Fin N) :
    FloatOps.matmul (F := Ideal) (φ₁ := .bf16) (φ₂ := .bf16) (DotDims.plain M K N) none x y
      (constant ⟨2, ![M, N]⟩ .f32 0x00000000#32) (ix2 r c) = ∑ k : Fin K, x (ix2 r k) * y (ix2 k c) := by
  refine (Ideal.matmul_plain_apply none x y _ r c).trans ?_
  show Ideal.ofBits .f32 0x00000000#32 + _ = _
  rw [Ideal.ofBits_zero_f32, zero_add]
  rfl

theorem scores_apply (q : Vec Ideal S512x256 .bf16) (k : Vec Ideal ⟨2, ![W, 256]⟩ .bf16) (x : Fin W) (c : Fin 512) :
    scores q k (ix2 x c) = ∑ d : Fin 256, k (ix2 x d) * q (ix2 c d) := by
  unfold scores
  exact rows_apply k q x c

theorem masked_apply (q k : Vec Ideal S512x256 .bf16) (x c : Fin 512) :
    k0_pay50 (F := Ideal) q k (ix2 x c) = if x.val ≤ c.val then ∑ d : Fin 256, k (ix2 x d) * q (ix2 c d) else ⊥ := by
  have h : IntOp.cmpi CmpIPredicate.sle (BitVec.ofNat 32 x.val) (BitVec.ofNat 32 c.val) = if x.val ≤ c.val then 1#1 else 0#1 := by
    have := x.isLt; have := c.isLt
    word_cmp
    by_cases h : x.val ≤ c.val <;> simp [h]
  have hb : Ideal.ofBits .f32 0xFF800000#32 = ⊥ := by simp [Ideal.ofBits, Ideal.ieee]
  pointwise [k0_pay50]
  rw [h, hb]
  split <;> simp [Scalar.select]

/-- The one-row array a row of numbers is cast to. -/
theorem cast_apply (y : FVec Ideal S512 .f32) (c : Fin 512) :
    shapeCast S1x512 y shapeCasts_S512_S1x512 (ix2 0 c) = y (ix1 c) := by
  pointwise

theorem lift_red (h : Fits W) (c : Fin 512) (x : Fin W) : h.red.lift (ix1 c) x = ix2 x c := by
  funext a
  apply Fin.ext
  match a with
  | ⟨0, _⟩ => rfl
  | ⟨1, _⟩ => rfl

theorem top_apply (h : Fits W) (s : FVec Ideal ⟨2, ![W, 512]⟩ .f32) (m : Vec Ideal S1x512 .f32) (c : Fin 512) :
    top h s m (ix2 0 c) = max (m (ix2 0 c)) (Finset.fold max ⊥ (fun x => s (ix2 x c)) Finset.univ) := by
  have hb : Ideal.ofBits .f32 0xFF800000#32 = ⊥ := by simp [Ideal.ofBits, Ideal.ieee]
  show max _ (shapeCast S1x512 _ _ (ix2 0 c)) = _
  rw [cast_apply]
  refine (congrArg (max (m (ix2 0 c))) (Ideal.multiReduction_maximumf_single s _ h.red (.inl rfl) rfl (ix1 c))).trans ?_
  show max _ (Finset.fold max (Ideal.ofBits .f32 0xFF800000#32) _ _) = _
  rw [hb]
  exact congrArg (fun f : Fin W → EReal => max (m (ix2 0 c)) (Finset.fold max ⊥ f Finset.univ)) (funext fun x => congrArg s (lift_red h c x))

theorem weights_apply (h : Fits W) (s : FVec Ideal ⟨2, ![W, 512]⟩ .f32) (m : Vec Ideal S1x512 .f32) (x : Fin W) (c : Fin 512) :
    weights h s m (ix2 x c) = Ideal.exp (s (ix2 x c) - top h s m (ix2 0 c)) := by
  show Ideal.exp (s (ix2 x c) - broadcastTo _ _ _ (ix2 x c)) = _
  rw [spread_apply]

theorem sum_apply (h : Fits W) (s : FVec Ideal ⟨2, ![W, 512]⟩ .f32) (c : Fin 512) :
    shapeCast S1x512 (multiReduction .add [0] S512 s 0x00000000#32 h.red (.inl rfl) rfl) shapeCasts_S512_S1x512 (ix2 0 c)
      = ∑ x : Fin W, s (ix2 x c) := by
  rw [cast_apply]
  refine (Ideal.multiReduction_add_single s _ h.red (.inl rfl) rfl (ix1 c)).trans ?_
  exact Finset.sum_congr rfl fun x _ => congrArg s (lift_red h c x)

/-- The running values of query `c`. -/
def Holds (X : Fin 512 → Row) (n : ℕ) (σ : St) : Prop :=
  ∀ c, (X c).Holds n (σ.1 (ix2 0 c)) (σ.2.1 (ix2 0 c)) fun d => σ.2.2 (ix2 d c)

theorem holds_start (X : Fin 512 → Row) : Holds X 0 start := by
  intro c
  refine Or.inl ⟨rfl, ?_, ?_, fun d => ?_⟩
  · show k0_pay39 (F := Ideal) (ix2 0 c) = _
    pointwise [k0_pay39]
    simp [Ideal.ofBits, Ideal.ieee]
  · show k0_pay40 (F := Ideal) (ix2 0 c) = _
    pointwise [k0_pay40]
  · show k0_pay41 (F := Ideal) (ix2 d c) = _
    pointwise [k0_pay41]

/-- A block of `W` keys more, for every query of the block. -/
theorem holds_step (h : Fits W) (hW : 0 < W) {X : Fin 512 → Row} {n : ℕ} {σ : St} (H : Holds X n σ) (hn : ∀ c, n ≤ (X c).r)
    (s : FVec Ideal ⟨2, ![W, 512]⟩ .f32) (v : Vec Ideal ⟨2, ![128, W]⟩ .bf16)
    (hs : ∀ x c, s (ix2 x c) = (X c).score (n + x.val)) (hv : ∀ d x c, v (ix2 d x) = (X c).v d (n + x.val)) :
    Holds X (n + W) (step h s v σ) := by
  intro c
  refine (H c).step (hn c) hW (fun x => s (ix2 x c)) (fun x => hs x c) (fun d x => v (ix2 d x)) (fun d x => hv d x c) _ _ _
    ?_ ?_ fun d => ?_
  · show shapeCast S1x512 (top h s σ.1) shapeCasts_S1x512_S1x512 (ix2 0 c) = _
    rw [shapeCast_self, top_apply]
  · unfold step
    simp only [shapeCast_self]
    show Ideal.exp (_ - top h s σ.1 (ix2 0 c)) * _ + shapeCast S1x512 _ _ (ix2 0 c) = _
    rw [sum_apply h]
    simp only [weights_apply]
  · unfold step
    simp only [shapeCast_self]
    show broadcastTo S128x512 (fade h s σ.1) broadcasts_S1x512_S128x512 (ix2 d c) * σ.2.2 (ix2 d c)
      + FloatOps.matmul (F := Ideal) (φ₁ := .bf16) (φ₂ := .bf16) (DotDims.plain 128 W 512) none v (weights h s σ.1)
        (constant S128x512 .f32 0x00000000#32) (ix2 d c) = _
    rw [spread_apply, cols_apply]
    simp only [weights_apply]
    rfl

end Cert.Fwd

end
-- ==== Proof.Fwd.Body.lean ====
module

public import proofs.«01_k».proof.Proof.Fwd.Steps
public import proofs.«01_k».proof.Proof.Gen.FlashFwdIdeal.Frame
public import Idealize.ShloMosaic.Lib.VecWindow

/-!
# What one grid point of the forward pass computes

The generated frame gives what a grid point stores as expressions over the lists of stores its two
loops make. Here the loops are run: the first, over chunks of eight key blocks, makes one trip at
most, the second none; and what the point stores is written as steps over chunks of keys, in the
terms of `Steps`.
-/

@[expose] public section

set_option maxRecDepth 16384

noncomputable section

namespace Cert.Fwd

open Cert.FlashFwdIdeal Cert.FlashFwdIdeal.Gen
open Idealize.ShloMosaic Idealize.ShloMosaic.TcCoe Idealize.ShloMosaic.Tactic

/-- A load of a whole row is the row. -/
theorem ld_row (X : Vec Ideal S1x512 .f32) :
    View.ld (S := S1x512) (Val := Elt Ideal) (e' := .f32) X
      (Rect.unit ![0, 0] ![1, 512] inb_S1x512_S1x512_0_0) = X :=
  View.ld_unit_lit' (S := S1x512) (off := ![0, 0]) _ X (by decide)

/-- A load of the whole accumulator is the accumulator. -/
theorem ld_acc (X : Vec Ideal S128x512 .f32) :
    View.ld (S := S128x512) (Val := Elt Ideal) (e' := .f32) X
      (Rect.unit ![0, 0] ![128, 512] inb_S128x512_S128x512_0_0) = X :=
  View.ld_unit_lit' (S := S128x512) (off := ![0, 0]) _ X (by decide)

section Loops

variable (c : Dev nD) (i : grid0.Coords)
    {arg2 : Memref sig .tc .vmem S512x256 .bf16} {harg2 : arg2.IsWhole}
    {arg3 : Memref sig .tc .vmem S8192x256 .bf16} {harg3 : arg3.IsWhole}
    {arg4 : Memref sig .tc .vmem S128x8192 .bf16} {harg4 : arg4.IsWhole}
    {arg5 : Memref sig .tc .vmem S512x128 .f32} {harg5 : arg5.IsWhole}
    {arg6 : Memref sig .tc .vmem S512x128 .bf16} {harg6 : arg6.IsWhole}
    {arg7 : Memref sig .tc .vmem S1x1x512 .f32} {harg7 : arg7.IsWhole}
    {arg8 : Memref sig .tc .vmem S1x512 .f32} {harg8 : arg8.IsWhole}
    {arg9 : Memref sig .tc .vmem S1x512 .f32} {harg9 : arg9.IsWhole}
    {arg10 : Memref sig .tc .vmem S128x512 .f32} {harg10 : arg10.IsWhole}
    {w1 w13 w15 w31 w16 w35 : BitVec 32}
    (q : Vec Ideal S512x256 .bf16) (K : Vec Ideal S8192x256 .bf16) (V : Vec Ideal S128x8192 .bf16)

/-- The chunk of eight blocks of keys a trip of the first loop reads. -/
def keys8 (k : Fin (k0_t1_loop i).trips) : Vec Ideal S4096x256 .bf16 :=
  View.ld K (Rect.unit (s := S8192x256) (k0_off1 i k) S4096x256.size (k0_off1_inb i k))

/-- The values of the chunk. -/
def vals8 (k : Fin (k0_t1_loop i).trips) : Vec Ideal S128x4096 .bf16 :=
  View.ld V (Rect.unit (s := S128x8192) (k0_off2 i k) S128x4096.size (k0_off2_inb i k))

/-- A trip of the first loop is a step over its chunk. -/
theorem trip8 (k : Fin (k0_t1_loop i).trips) (f8 : BufTy.Contents (Elt Ideal) arg8.view.ty)
    (f9 : BufTy.Contents (Elt Ideal) arg9.view.ty) (f10 : BufTy.Contents (Elt Ideal) arg10.view.ty)
    (P) (hP : P = tripL_k0_t1 (F := Ideal) Variants.none c none i arg2 harg2 arg3 harg3 arg4 harg4 arg5
      harg5 arg6 harg6 arg7 harg7 arg8 harg8 arg9 harg9 arg10 harg10 w1 q w13 w15 w31 w16
      (harg3.unread K) (harg4.unread V) k f8 f9 f10) :
    (arg8.view.read (Elt Ideal) (arg8.view.writes (Elt Ideal) f8 P.1),
      arg9.view.read (Elt Ideal) (arg9.view.writes (Elt Ideal) f9 P.2.1),
      arg10.view.read (Elt Ideal) (arg10.view.writes (Elt Ideal) f10 P.2.2))
    = step fits4096 (scores q (keys8 i K k)) (vals8 i V k)
        (arg8.view.read (Elt Ideal) f8, arg9.view.read (Elt Ideal) f9, arg10.view.read (Elt Ideal) f10) := by
  subst hP
  unfold tripL_k0_t1 trip_k0_t1
  dsimp only
  sl_unfold_words
  have e8 (f w) := View.read_writes_full (Val := Elt Ideal) arg8.view f (off := ![0, 0])
    inb_S1x512_S1x512_0_0 w []
  have e9 (f w) := View.read_writes_full (Val := Elt Ideal) arg9.view f (off := ![0, 0])
    inb_S1x512_S1x512_0_0 w []
  have e10 (f w) := View.read_writes_full (Val := Elt Ideal) arg10.view f (off := ![0, 0])
    inb_S128x512_S128x512_0_0 w []
  refine (congrArg₂ Prod.mk (e8 _ _) (congrArg₂ Prod.mk (e9 _ _) (e10 _ _))).trans ?_
  rw [← step4096]
  simp only [View.readAt_eq_ld, harg3.read_unread, harg4.read_unread, ld_row, ld_acc]
  rfl

/-- What the first loop, of one trip at most, makes of the running state. -/
def after8 (σ : St) : St :=
  if h : 0 < (k0_t1_loop i).trips then
    step fits4096 (scores q (keys8 i K ⟨0, h⟩)) (vals8 i V ⟨0, h⟩) σ
  else σ

/-- The first loop, run. -/
theorem loop8 (h1 : (k0_t1_loop i).trips ≤ 1) (n : ℕ) (hn : n = (k0_t1_loop i).trips)
    (G8 : BufTy.Contents (Elt Ideal) arg8.view.ty) (G9 : BufTy.Contents (Elt Ideal) arg9.view.ty)
    (G10 : BufTy.Contents (Elt Ideal) arg10.view.ty)
    (P) (hP : P = pb_k0_t1 (F := Ideal) Variants.none c none i arg2 harg2 arg3 harg3 arg4 harg4 arg5
      harg5 arg6 harg6 arg7 harg7 arg8 harg8 arg9 harg9 arg10 harg10 w1 q w13 w15 w31 w16
      (harg3.unread K) (harg4.unread V) G8 G9 G10 n) :
    (arg8.view.read (Elt Ideal) (arg8.view.writes (Elt Ideal) G8 P.1),
      arg9.view.read (Elt Ideal) (arg9.view.writes (Elt Ideal) G9 P.2.1),
      arg10.view.read (Elt Ideal) (arg10.view.writes (Elt Ideal) G10 P.2.2))
    = after8 i q K V
        (arg8.view.read (Elt Ideal) G8, arg9.view.read (Elt Ideal) G9, arg10.view.read (Elt Ideal) G10) := by
  subst hP
  unfold after8
  split
  · next h =>
    obtain rfl : n = (⟨0, h⟩ : Fin (k0_t1_loop i).trips).val + 1 := by simp only; omega
    rw [pb_k0_t1_succ]
    simp only [View.writes_append]
    exact trip8 c i q K V ⟨0, h⟩ G8 G9 G10 _ rfl
  · next h =>
    obtain rfl : n = 0 := by omega
    rfl

/-- The lists of stores of the two loops, the second of no trip, over the stores that start the
    running state, read back. -/
theorem after_loops (h1 : (k0_t1_loop i).trips ≤ 1) {n₁ n₂ : ℕ} (hn₁ : n₁ = (k0_t1_loop i).trips)
    (hn₂ : n₂ = 0) (G8 G9 G10) (P₁ P₂)
    (hP₂ : P₂ = pb_k0_t2 (F := Ideal) Variants.none c none i arg2 harg2 arg3 harg3 arg4 harg4 arg5
      harg5 arg6 harg6 arg7 harg7 scM0_0 (Memref.isWhole_whole cc0_scratch0) scM0_1
      (Memref.isWhole_whole cc0_scratch1) scM0_2 (Memref.isWhole_whole cc0_scratch2)
      w1 q w13 w15 w31 w16 w35 (harg3.unread K) (harg4.unread V) G8 G9 G10 n₂)
    (hP₁ : P₁ = pb_k0_t1 (F := Ideal) Variants.none c none i arg2 harg2 arg3 harg3 arg4 harg4 arg5
      harg5 arg6 harg6 arg7 harg7 scM0_0 (Memref.isWhole_whole cc0_scratch0) scM0_1
      (Memref.isWhole_whole cc0_scratch1) scM0_2 (Memref.isWhole_whole cc0_scratch2)
      w1 q w13 w15 w31 w16 (harg3.unread K) (harg4.unread V)
      ((View.whole cc0_scratch0).writes (Elt Ideal) (View.whole cc0_scratch0).junk
        [⟨Rect.unit ![0, 0] ![1, 512] inb_S1x512_S1x512_0_0, k0_pay39 (F := Ideal)⟩])
      ((View.whole cc0_scratch1).writes (Elt Ideal) (View.whole cc0_scratch1).junk
        [⟨Rect.unit ![0, 0] ![1, 512] inb_S1x512_S1x512_0_0, k0_pay40 (F := Ideal)⟩])
      ((View.whole cc0_scratch2).writes (Elt Ideal) (View.whole cc0_scratch2).junk
        [⟨Rect.unit ![0, 0] ![128, 512] inb_S128x512_S128x512_0_0, k0_pay41 (F := Ideal)⟩]) n₁) :
    (View.whole cc0_scratch0).readCov (Val := Elt Ideal)
        (P₂.1 ++ (P₁.1 ++ [⟨Rect.unit ![0, 0] ![1, 512] inb_S1x512_S1x512_0_0, k0_pay39 (F := Ideal)⟩]))
        (Rect.unit ![0, 0] ![1, 512] inb_S1x512_S1x512_0_0).toLoadRect = (after8 i q K V start).1
    ∧ (View.whole cc0_scratch1).readCov (Val := Elt Ideal)
        (P₂.2.1 ++ (P₁.2.1 ++ [⟨Rect.unit ![0, 0] ![1, 512] inb_S1x512_S1x512_0_0, k0_pay40 (F := Ideal)⟩]))
        (Rect.unit ![0, 0] ![1, 512] inb_S1x512_S1x512_0_0).toLoadRect = (after8 i q K V start).2.1
    ∧ (View.whole cc0_scratch2).readCov (Val := Elt Ideal)
        (P₂.2.2 ++ (P₁.2.2 ++ [⟨Rect.unit ![0, 0] ![128, 512] inb_S128x512_S128x512_0_0, k0_pay41 (F := Ideal)⟩]))
        (Rect.unit ![0, 0] ![128, 512] inb_S128x512_S128x512_0_0).toLoadRect
      = (after8 i q K V start).2.2 := by
  subst hn₂
  obtain rfl : P₂ = ([], [], []) := hP₂
  have := loop8 c i q K V h1 n₁ hn₁ _ _ _ P₁ hP₁
  simp only [List.nil_append, View.readCov, View.writes_append, View.readAt_eq_ld, ld_row, ld_acc]
  rw [← show _ = after8 i q K V start from this.trans (congrArg (after8 i q K V) <| congrArg₂ Prod.mk
    (View.read_writes_full (Val := Elt Ideal) (View.whole cc0_scratch0) _ (off := ![0, 0])
      inb_S1x512_S1x512_0_0 _ [])
    (congrArg₂ Prod.mk
      (View.read_writes_full (Val := Elt Ideal) (View.whole cc0_scratch1) _ (off := ![0, 0])
        inb_S1x512_S1x512_0_0 _ [])
      (View.read_writes_full (Val := Elt Ideal) (View.whole cc0_scratch2) _ (off := ![0, 0])
        inb_S128x512_S128x512_0_0 _ [])))]
  exact ⟨rfl, rfl, rfl⟩

/-- The step over four blocks of keys, at a grid point that makes it. -/
def with4 (h : k0_cond1 i = 1#1) (σ : St) : St :=
  step fits2048
    (scores q (View.ld K (Rect.unit (s := S8192x256) (k0_off5 i) S2048x256.size (k0_off5_inb i h))))
    (View.ld V (Rect.unit (s := S128x8192) (k0_off6 i) S128x2048.size (k0_off6_inb i h))) σ

/-- The step over two blocks of keys. -/
def with2 (h : k0_cond2 i = 1#1) (σ : St) : St :=
  step fits1024
    (scores q (View.ld K (Rect.unit (s := S8192x256) (k0_off7 i) S1024x256.size (k0_off7_inb i h))))
    (View.ld V (Rect.unit (s := S128x8192) (k0_off8 i) S128x1024.size (k0_off8_inb i h))) σ

/-- The step over one block of keys. -/
def with1 (h : k0_cond3 i = 1#1) (σ : St) : St :=
  step fits512
    (scores q (View.ld K (Rect.unit (s := S8192x256) (k0_off9 i) S512x256.size (k0_off9_inb i h))))
    (View.ld V (Rect.unit (s := S128x8192) (k0_off10 i) S128x512.size (k0_off10_inb i h))) σ

/-- The step over the block of keys on the diagonal, masked. -/
def withDiag (σ : St) : St :=
  step fits512
    (k0_pay50 q (View.ld K (Rect.unit (s := S8192x256) (k0_off11 i) S512x256.size (k0_off11_inb i))))
    (View.ld V (Rect.unit (s := S128x8192) (k0_off12 i) S128x512.size (k0_off12_inb i))) σ

/-- The running state at the end of a grid point. -/
def chain : St :=
  let σ₁ := after8 i q K V start
  let σ₂ := if h : k0_cond1 i = 1#1 then with4 i q K V h σ₁ else σ₁
  let σ₃ := if h : k0_cond2 i = 1#1 then with2 i q K V h σ₂ else σ₂
  let σ₄ := if h : k0_cond3 i = 1#1 then with1 i q K V h σ₃ else σ₃
  withDiag i q K V σ₄

end Loops

theorem trips1 : ∀ t : Fin grid0.N, (k0_t1_loop (grid0.coords t)).trips = t.val % 16 / 8 := by
  decide +kernel

theorem trips2 : ∀ t : Fin grid0.N, (k0_t2_loop (grid0.coords t)).trips = 0 := by decide +kernel

variable (m : (ℓ : Loc nD τ sig) → Buf (Elt Ideal) ℓ)

/-- What a grid point stores, from the running state at its end. -/
def outs (σ : St) : Vec Ideal S512x128 .f32 × Vec Ideal S512x128 .bf16 × Vec Ideal S1x1x512 .f32 :=
  (k0_pay3 σ.2.2 σ.2.1, k0_pay4 σ.2.2 σ.2.1, k0_pay5 σ.1 σ.2.1)

set_option maxHeartbeats 2000000 in
/-- What a grid point stores is read off the running state at its end. -/
theorem outs_at (c : Dev nD) (t : Fin cfg0.N) :
    outsAt0 m c t.val t.isLt
      = outs (chain (grid0.coords t) (iblk m c 0 t) (iblk m c 1 t) (iblk m c 2 t)) := by
  have L := fun w13 w31 w35 n₁ n₂ hn₁ hn₂ G8 G9 G10 =>
    after_loops (w1 := BitVec.ofNat 32 (grid0.coords t 1).val) (w13 := w13) (w15 := 0#32)
      (w31 := w31) (w16 := 1#32) (w35 := w35) c (grid0.coords t)
      (arg2 := ms0_0 t) (harg2 := hs0_0 t) (arg3 := ms0_1 t) (harg3 := hs0_1 t)
      (arg4 := ms0_2 t) (harg4 := hs0_2 t) (arg5 := ms0_3 t) (harg5 := hs0_3 t)
      (arg6 := ms0_4 t) (harg6 := hs0_4 t) (arg7 := ms0_5 t) (harg7 := hs0_5 t)
      (iblk m c 0 t) (iblk m c 1 t) (iblk m c 2 t) (by have := trips1 t; omega)
      (n₁ := n₁) (n₂ := n₂) hn₁ hn₂ G8 G9 G10 _ _ rfl rfl
  by_cases h0 : t.val % 8 = 4 ∨ t.val % 8 = 5 ∨ t.val % 8 = 6 ∨ t.val % 8 = 7
  all_goals by_cases h1 : t.val % 4 = 2 ∨ t.val % 4 = 3
  all_goals by_cases h2 : t.val % 2 = 1
  all_goals
    simp only [chain, hcond0_0 t, hcond0_1 t, hcond0_2 t, h0, h1, h2, dite_true, dite_false]
    first
      | rw [outsAt0_A m c t h0 h1 h2] | rw [outsAt0_B m c t h0 h1 h2]
      | rw [outsAt0_C m c t h0 h1 h2] | rw [outsAt0_D m c t h0 h1 h2]
      | rw [outsAt0_E m c t h0 h1 h2] | rw [outsAt0_F m c t h0 h1 h2]
      | rw [outsAt0_G m c t h0 h1 h2] | rw [outsAt0_H m c t h0 h1 h2]
    generalize after8 (grid0.coords t) (iblk m c 0 t) (iblk m c 1 t) (iblk m c 2 t) start = σ at L ⊢
    simp only [outs, withDiag, with1, with2, with4, ← stepDiag, ← step512, ← step1024, ← step2048]
    refine congrArg₂ Prod.mk ?_ (congrArg₂ Prod.mk ?_ ?_)
    all_goals
      frame_out
      first
        | rw [(L _ _ _ _ _ ?_ ?_ _ _ _).1, (L _ _ _ _ _ ?_ ?_ _ _ _).2.1,
            (L _ _ _ _ _ ?_ ?_ _ _ _).2.2]
        | rw [(L _ _ _ _ _ ?_ ?_ _ _ _).1, (L _ _ _ _ _ ?_ ?_ _ _ _).2.1]
    all_goals first | exact rfl | exact trips2 t

end Cert.Fwd

end
-- ==== Proof.Fwd.Run.lean ====
module

public import proofs.«01_k».proof.Proof.Fwd.Body

/-!
# The running state of a grid point

At a grid point that handles the queries of block `i` the steps take the keys in order: whole runs of
eight blocks, then four, two and one, then the block on the diagonal. After the last the running
state holds the keys up to the end of block `i`.
-/

@[expose] public section

set_option maxRecDepth 16384

noncomputable section

namespace Cert.Fwd

open Cert.FlashFwdIdeal Cert.FlashFwdIdeal.Gen
open Idealize.ShloMosaic Idealize.ShloMosaic.TcCoe Idealize.ShloMosaic.Tactic

/-- Where the steps of a grid point read their keys and values. -/
theorem offs : ∀ t : Fin grid0.N,
    ((∀ k, (k0_off1 (grid0.coords t) k) 0 = 0 ∧ (k0_off1 (grid0.coords t) k) 1 = 0) ∧
      (∀ k, (k0_off2 (grid0.coords t) k) 0 = 0 ∧ (k0_off2 (grid0.coords t) k) 1 = 0)) ∧
    ((k0_off5 (grid0.coords t) 0 = 512 * (t.val % 16 / 8 * 8) ∧ k0_off5 (grid0.coords t) 1 = 0) ∧
      (k0_off6 (grid0.coords t) 0 = 0 ∧ k0_off6 (grid0.coords t) 1 = 512 * (t.val % 16 / 8 * 8))) ∧
    ((k0_off7 (grid0.coords t) 0 = 512 * (t.val % 16 / 4 * 4) ∧ k0_off7 (grid0.coords t) 1 = 0) ∧
      (k0_off8 (grid0.coords t) 0 = 0 ∧ k0_off8 (grid0.coords t) 1 = 512 * (t.val % 16 / 4 * 4))) ∧
    ((k0_off9 (grid0.coords t) 0 = 512 * (t.val % 16 / 2 * 2) ∧ k0_off9 (grid0.coords t) 1 = 0) ∧
      (k0_off10 (grid0.coords t) 0 = 0 ∧ k0_off10 (grid0.coords t) 1 = 512 * (t.val % 16 / 2 * 2))) ∧
    ((k0_off11 (grid0.coords t) 0 = 512 * (t.val % 16) ∧ k0_off11 (grid0.coords t) 1 = 0) ∧
      (k0_off12 (grid0.coords t) 0 = 0 ∧ k0_off12 (grid0.coords t) 1 = 512 * (t.val % 16))) := by
  decide +kernel

/-- Every entry is a real number. -/
def AllReal {ι : Type} (f : ι → EReal) : Prop := ∀ x, f x = ((f x).toReal : EReal)

section

variable (i : ℕ) (q : Vec Ideal S512x256 .bf16) (K : Vec Ideal S8192x256 .bf16) (V : Vec Ideal S128x8192 .bf16)

/-- The row of a query of block `i`. -/
def rowOf (c : Fin 512) : Row where
  s n := ∑ d : Fin 256, (K (ix2 ⟨n % 8192, Nat.mod_lt _ (by decide)⟩ d)).toReal * (q (ix2 c d)).toReal
  v d n := V (ix2 d ⟨n % 8192, Nat.mod_lt _ (by decide)⟩)
  r := 512 * i + c.val

variable {q K V} (hq : AllReal q) (hK : AllReal K)

include hq hK in
theorem dot_real (n : ℕ) (hn : n < 8192) (c : Fin 512) :
    ∑ d : Fin 256, (K (ix2 ⟨n, hn⟩ d) : EReal) * q (ix2 c d) = (((rowOf i q K V c).s n : ℝ) : EReal) := by
  unfold rowOf
  dsimp only
  rw [coe_sum]
  refine Finset.sum_congr rfl fun d _ => ?_
  rw [EReal.coe_mul, ← hq, ← hK]
  congr 4
  exact (Nat.mod_eq_of_lt hn).symm

theorem val_at (n : ℕ) (hn : n < 8192) (c : Fin 512) (d : Fin 128) :
    (V (ix2 d ⟨n, hn⟩) : EReal) = (rowOf i q K V c).v d n :=
  congrArg (fun x => V (ix2 d x)) (Fin.ext (Nat.mod_eq_of_lt hn).symm)

variable {W n : ℕ} {off : Fin S8192x256.rank → ℕ} {offV : Fin S128x8192.rank → ℕ}
  (inb : ∀ a, off a + (![W, 256] : Fin 2 → ℕ) a ≤ S8192x256.size a)
  (inbV : ∀ a, offV a + (![128, W] : Fin 2 → ℕ) a ≤ S128x8192.size a)

theorem key_apply (h0 : off 0 = n) (h1 : off 1 = 0) (x : Fin W) (hn : n + x.val < 8192) (d : Fin 256) :
    (View.ld (Val := Elt Ideal) (e' := .bf16) K (Rect.unit (s := S8192x256) off ![W, 256] inb) (ix2 x d) : EReal)
      = K (ix2 ⟨n + x.val, hn⟩ d) := by
  refine View.ld_unit_apply_of K off _ inb _ _ fun a => ?_
  match a with
  | 0 => exact congrArg (· + x.val) h0.symm
  | 1 => exact ((congrArg (· + d.val) h1).trans (Nat.zero_add _)).symm

theorem value_apply (h0 : offV 0 = 0) (h1 : offV 1 = n) (x : Fin W) (hn : n + x.val < 8192) (d : Fin 128) :
    (View.ld (Val := Elt Ideal) (e' := .bf16) V (Rect.unit (s := S128x8192) offV ![128, W] inbV) (ix2 d x) : EReal)
      = V (ix2 d ⟨n + x.val, hn⟩) := by
  refine View.ld_unit_apply_of V offV _ inbV _ _ fun a => ?_
  match a with
  | 0 => exact ((congrArg (· + d.val) h0).trans (Nat.zero_add _)).symm
  | 1 => exact congrArg (· + x.val) h1.symm

include hq hK in
/-- A step over keys before block `i`. -/
theorem holds_chunk (h : Fits W) (hW : 0 < W) {σ : St} (hi : i < 16) (hn : n + W ≤ 512 * i)
    (H : Holds (rowOf i q K V) n σ) (o : off 0 = n ∧ off 1 = 0) (oV : offV 0 = 0 ∧ offV 1 = n) :
    Holds (rowOf i q K V) (n + W)
      (step h (scores q (View.ld K (Rect.unit (s := S8192x256) off ![W, 256] inb)))
        (View.ld V (Rect.unit (s := S128x8192) offV ![128, W] inbV)) σ) := by
  refine holds_step h hW H (fun c => ?_) _ _ (fun x c => ?_) fun d x c => ?_
  · show n ≤ 512 * i + c.val
    omega
  · have hx : n + x.val < 8192 := by omega
    have hr : n + x.val ≤ (rowOf i q K V c).r := show _ ≤ 512 * i + c.val by omega
    rw [scores_apply, Row.score, if_pos hr, ← dot_real i hq hK _ hx]
    exact Finset.sum_congr rfl fun d _ => congrArg (· * _) (key_apply inb o.1 o.2 x hx d)
  · have hx : n + x.val < 8192 := by omega
    rw [← val_at i _ hx]
    exact value_apply inbV oV.1 oV.2 x hx d

include hq hK in
/-- The step over the block of keys on the diagonal. -/
theorem holds_diag {inb : ∀ a, off a + (![512, 256] : Fin 2 → ℕ) a ≤ S8192x256.size a}
    {inbV : ∀ a, offV a + (![128, 512] : Fin 2 → ℕ) a ≤ S128x8192.size a} {σ : St} (hi : i < 16)
    (H : Holds (rowOf i q K V) (512 * i) σ) (o : off 0 = 512 * i ∧ off 1 = 0)
    (oV : offV 0 = 0 ∧ offV 1 = 512 * i) :
    Holds (rowOf i q K V) (512 * i + 512)
      (step fits512 (k0_pay50 q (View.ld K (Rect.unit (s := S8192x256) off ![512, 256] inb)))
        (View.ld V (Rect.unit (s := S128x8192) offV ![128, 512] inbV)) σ) := by
  refine holds_step fits512 (by decide) H (fun c => Nat.le_add_right _ _) _ _ (fun x c => ?_) fun d x c => ?_
  · have hx : 512 * i + x.val < 8192 := by omega
    rw [masked_apply, Row.score, ← dot_real i hq hK _ hx]
    refine if_congr (show _ ↔ _ ≤ 512 * i + c.val by omega) ?_ rfl
    exact Finset.sum_congr rfl fun d _ => congrArg (· * _) (key_apply inb o.1 o.2 x hx d)
  · have hx : 512 * i + x.val < 8192 := by omega
    rw [← val_at i _ hx]
    exact value_apply inbV oV.1 oV.2 x hx d

end

/-- At the end of a grid point the running state holds every key up to the end of its block. -/
theorem holds_chain (t : Fin grid0.N) {q : Vec Ideal S512x256 .bf16} {K : Vec Ideal S8192x256 .bf16}
    {V : Vec Ideal S128x8192 .bf16} (hq : AllReal q) (hK : AllReal K) :
    Holds (rowOf (t.val % 16) q K V) (512 * (t.val % 16) + 512) (chain (grid0.coords t) q K V) := by
  obtain ⟨o8, o4, o2, o1, od⟩ := offs t
  have hi : t.val % 16 < 16 := Nat.mod_lt _ (by decide)
  generalize ht : t.val % 16 = i at *
  have H₁ : Holds (rowOf i q K V) (512 * (i / 8 * 8)) (after8 (grid0.coords t) q K V start) := by
    unfold after8
    have n1 := trips1 t
    split
    · next h =>
      have e : 512 * (i / 8 * 8) = 0 + 4096 := by omega
      rw [e]
      exact holds_chunk i hq hK _ _ fits4096 (by decide) hi (by omega) (holds_start _) (o8.1 _) (o8.2 _)
    · next h =>
      have e : 512 * (i / 8 * 8) = 0 := by omega
      rw [e]
      exact holds_start _
  unfold chain
  dsimp only
  generalize after8 (grid0.coords t) q K V start = σ₁ at H₁ ⊢
  have H₂ : Holds (rowOf i q K V) (512 * (i / 4 * 4))
      (if h : k0_cond1 (grid0.coords t) = 1#1 then with4 (grid0.coords t) q K V h σ₁ else σ₁) := by
    split
    · next h =>
      have h' := (hcond0_0 t).mp h
      have e : 512 * (i / 4 * 4) = 512 * (i / 8 * 8) + 2048 := by omega
      rw [e]
      exact holds_chunk i hq hK _ _ fits2048 (by decide) hi (by omega) H₁ o4.1 o4.2
    · next h =>
      have h' := mt (hcond0_0 t).mpr h
      have e : 512 * (i / 4 * 4) = 512 * (i / 8 * 8) := by omega
      rw [e]
      exact H₁
  generalize (if h : k0_cond1 (grid0.coords t) = 1#1 then with4 (grid0.coords t) q K V h σ₁ else σ₁) = σ₂ at H₂ ⊢
  have H₃ : Holds (rowOf i q K V) (512 * (i / 2 * 2))
      (if h : k0_cond2 (grid0.coords t) = 1#1 then with2 (grid0.coords t) q K V h σ₂ else σ₂) := by
    split
    · next h =>
      have h' := (hcond0_1 t).mp h
      have e : 512 * (i / 2 * 2) = 512 * (i / 4 * 4) + 1024 := by omega
      rw [e]
      exact holds_chunk i hq hK _ _ fits1024 (by decide) hi (by omega) H₂ o2.1 o2.2
    · next h =>
      have h' := mt (hcond0_1 t).mpr h
      have e : 512 * (i / 2 * 2) = 512 * (i / 4 * 4) := by omega
      rw [e]
      exact H₂
  generalize (if h : k0_cond2 (grid0.coords t) = 1#1 then with2 (grid0.coords t) q K V h σ₂ else σ₂) = σ₃ at H₃ ⊢
  have H₄ : Holds (rowOf i q K V) (512 * i)
      (if h : k0_cond3 (grid0.coords t) = 1#1 then with1 (grid0.coords t) q K V h σ₃ else σ₃) := by
    split
    · next h =>
      have h' := (hcond0_2 t).mp h
      have e : 512 * i = 512 * (i / 2 * 2) + 512 := by omega
      rw [e]
      exact holds_chunk i hq hK _ _ fits512 (by decide) hi (by omega) H₃ o1.1 o1.2
    · next h =>
      have h' := mt (hcond0_2 t).mpr h
      have e : 512 * i = 512 * (i / 2 * 2) := by omega
      rw [e]
      exact H₃
  exact holds_diag i hq hK hi H₄ od.1 od.2

end Cert.Fwd

end
-- ==== Proof.Fwd.RefVals.lean ====
/- The reference's results of the attention call on finite queries and keys: the weighted sums of the values, and the
   logarithm of the sum of the exponentials, of each row of each head. -/
module

public import proofs.«01_k».proof.Proof.Fwd.Run
public import proofs.«01_k».proof.Proof.Bwd.HostVals
public import proofs.«01_k».proof.Proof.Gen.FlashFwdRefIdeal.Read

@[expose] public section

set_option maxRecDepth 16384

noncomputable section

namespace Cert.Fwd

open Cert.FlashFwdRefIdeal Cert.FlashFwdRefIdeal.Gen Cert.FlashFwdRefIdeal.Read
open Idealize.ShloMosaic Idealize.ShloMosaic.TcCoe Idealize.ShloMosaic.Tactic

/-- Column `d` of head `h` in an array of 256 columns per head. -/
def col256 (h : Fin 16) (d : Fin 256) : Fin 4096 := ⟨h.val * 256 + d.val, by omega⟩

/-- Row `d` of head `h` in an array of 128 rows per head. -/
def row128 (h : Fin 16) (d : Fin 128) : Fin 2048 := ⟨h.val * 128 + d.val, by omega⟩

/-- Query `a` of head `h`. -/
def headRow (q k : Vec Ideal S8192x4096 .bf16) (v : Vec Ideal S2048x8192 .bf16) (h : Fin 16) (a : Fin 8192) : Row where
  s n := ∑ d : Fin 256, (k (ix2 ⟨n % 8192, Nat.mod_lt _ (by decide)⟩ (col256 h d))).toReal * (q (ix2 a (col256 h d))).toReal
  v d n := v (ix2 (row128 h d) ⟨n % 8192, Nat.mod_lt _ (by decide)⟩)
  r := a.val

variable (q k : Vec Ideal S8192x4096 .bf16) (v : Vec Ideal S2048x8192 .bf16)

theorem r14_raw (h : Fin 16) (a b : Fin 8192) : val_main_v14 (F := Ideal) q k (ix3 h a b) =
    Scalar.select (IntOp.cmpi CmpIPredicate.sle (BitVec.ofNat 32 b.val) (BitVec.ofNat 32 a.val))
      (∑ d, q (ix2 a (col256 h d)) * k (ix2 b (col256 h d))) (Ideal.ofBits .f32 0xFF800000#32) := by
  pointwise [val_main_v14, val_main_v6, val_main_v3, val_main_v2, val_main_v1, val_main_v0, val_main_call0_v2, val_main_call0_v1,
    val_main_v13, val_main_v12, val_main_v11, val_main_v10, val_main_v9, val_main_v8, val_main_v7, col256]
  rfl

theorem r15_raw (h : Fin 16) (a : Fin 8192) : val_main_v15 (F := Ideal) q k (ix2 h a) =
    Finset.fold max (Ideal.ofBits .f32 0xFF800000#32) (fun b => val_main_v14 (F := Ideal) q k (ix3 h a b)) Finset.univ := by
  pointwise [val_main_v15, val_main_cst_0]

theorem max_bot (x : Ideal .f32) : FloatOps.maximumf (FloatOps.ofBits .f32 0xFF800000#32) x = x := by
  show max (Ideal.ofBits .f32 0xFF800000#32) x = x
  rw [Cert.Bwd.ofBits_bot, bot_sup_eq]

theorem r17 (i : S16x8192.Idx) : val_main_v17 (F := Ideal) q k i = val_main_v15 (F := Ideal) q k i := by
  rw [val_main_v17_apply, val_main_v16_apply, val_main_cst_1_apply, max_bot]

theorem r19_raw (h : Fin 16) (a b : Fin 8192) : val_main_v19 (F := Ideal) q k (ix3 h a b) = val_main_v17 (F := Ideal) q k (ix2 h a) := by
  unfold val_main_v19 val_main_v18
  generalize val_main_v17 (F := Ideal) q k = y
  pointwise

theorem r21_raw (h : Fin 16) (a b : Fin 8192) : val_main_v21 (F := Ideal) q k (ix3 h a b) =
    Ideal.exp (val_main_v14 (F := Ideal) q k (ix3 h a b) - val_main_v15 (F := Ideal) q k (ix2 h a)) := by
  rw [← r17, ← r19_raw q k h a b, val_main_v21_apply, val_main_v20_apply]
  rfl

theorem r22_raw (h : Fin 16) (a : Fin 8192) : val_main_v22 (F := Ideal) q k (ix2 h a) =
    ∑ b, val_main_v21 (F := Ideal) q k (ix3 h a b) := by
  unfold val_main_v22
  generalize val_main_v21 (F := Ideal) q k = y
  pointwise [val_main_cst_2]

theorem r24_raw (h : Fin 16) (a b : Fin 8192) : val_main_v24 (F := Ideal) q k (ix3 h a b) = val_main_v22 (F := Ideal) q k (ix2 h a) := by
  unfold val_main_v24 val_main_v23
  generalize val_main_v22 (F := Ideal) q k = y
  pointwise

theorem r25_raw (h : Fin 16) (a b : Fin 8192) : val_main_v25 (F := Ideal) q k (ix3 h a b) =
    Ideal.div (val_main_v21 (F := Ideal) q k (ix3 h a b)) (val_main_v22 (F := Ideal) q k (ix2 h a)) := by
  rw [← r24_raw q k h a b, val_main_v25_apply]
  rfl

theorem r28_raw (a : Fin 8192) (h : Fin 16) (d : Fin 128) : val_main_v28 (F := Ideal) q k v (ix2 a (row128 h d)) =
    ∑ b, v (ix2 (row128 h d) b) * val_main_v25 (F := Ideal) q k (ix3 h a b) := by
  unfold val_main_v28 val_main_v27 val_main_v26
  generalize val_main_v25 (F := Ideal) q k = y
  pointwise [val_main_v5, val_main_v4, row128]

theorem r30_raw (h : Fin 16) (a : Fin 8192) : val_main_v30 (F := Ideal) q k (ix2 h a) =
    ∑ b, val_main_v29 (F := Ideal) q k (ix3 h a b) := by
  unfold val_main_v30
  generalize val_main_v29 (F := Ideal) q k = y
  pointwise [val_main_cst_3]

theorem r33_raw (h : Fin 16) (a : Fin 8192) : val_main_v33 (F := Ideal) q k (ix3 h 0 a) =
    Ideal.log (∑ b, Ideal.exp (val_main_v14 (F := Ideal) q k (ix3 h a b))) := by
  have e : val_main_v33 (F := Ideal) q k (ix3 h 0 a) = val_main_v31 (F := Ideal) q k (ix2 h a) := by
    unfold val_main_v33
    generalize val_main_v31 (F := Ideal) q k = y
    pointwise
  rw [e, val_main_v31_apply, r30_raw]
  rfl

section

variable {q k v} (hq : AllReal q) (hk : AllReal k)

include hq hk in
theorem r14 (h : Fin 16) (a b : Fin 8192) : val_main_v14 (F := Ideal) q k (ix3 h a b) = (headRow q k v h a).score b.val := by
  have e : ∑ d, (q (ix2 a (col256 h d)) : EReal) * k (ix2 b (col256 h d)) = (((headRow q k v h a).s b.val : ℝ) : EReal) := by
    unfold headRow
    dsimp only
    rw [coe_sum]
    refine Finset.sum_congr rfl fun d _ => ?_
    rw [EReal.coe_mul, ← hq, ← hk, mul_comm]
    congr 3
    exact Fin.ext (Nat.mod_eq_of_lt b.isLt).symm
  rw [r14_raw, Cert.Bwd.causal, Cert.Bwd.ofBits_bot]
  unfold Row.score
  refine (congrArg (fun x => Scalar.select _ x _) e).trans ?_
  by_cases hb : b.val ≤ a.val
  · rw [if_pos hb, if_pos (show b.val ≤ (headRow q k v h a).r from hb)]; rfl
  · rw [if_neg hb, if_neg (show ¬ b.val ≤ (headRow q k v h a).r from hb)]; rfl

include hq hk in
/-- A row's largest score is a real number. -/
theorem r15 (h : Fin 16) (a : Fin 8192) : ∃ M : ℝ, val_main_v15 (F := Ideal) q k (ix2 h a) = (M : EReal) := by
  rw [r15_raw, Cert.Bwd.ofBits_bot]
  refine Row.fold_real _ (fun b => ?_) a ?_
  · rw [r14 (v := fun _ => (0 : EReal)) hq hk]; exact Row.score_ne_top _ _
  · rw [r14 (v := fun _ => (0 : EReal)) hq hk]; exact Row.score_ne_bot _ _ le_rfl

/-- A sum over the keys, as a sum over their positions. -/
theorem sum_keys (f : ℕ → ℝ) : ∑ b : Fin 8192, ((f b.val : ℝ) : EReal) = ((∑ n ∈ Finset.range 8192, f n : ℝ) : EReal) := by
  rw [Fin.sum_univ_eq_sum_range (fun n => ((f n : ℝ) : EReal)) 8192, coe_sum]

include hq hk in
/-- The reference's output: the softmax of the row's scores against the values. -/
theorem ref_out (a : Fin 8192) (h : Fin 16) (d : Fin 128) :
    val_main_v28 (F := Ideal) q k v (ix2 a (row128 h d)) = (headRow q k v h a).out 8192 d := by
  obtain ⟨M, hM⟩ := r15 hq hk h a
  have e21 : ∀ b : Fin 8192, val_main_v21 (F := Ideal) q k (ix3 h a b) = (((headRow q k v h a).w M b.val : ℝ) : EReal) := fun b => by
    rw [r21_raw, hM, r14 (v := v) hq hk, Row.exp_score]
  have hS := (headRow q k v h a).sum_pos 8192 a.isLt M
  have e22 : val_main_v22 (F := Ideal) q k (ix2 h a) = ((∑ n ∈ Finset.range 8192, (headRow q k v h a).w M n : ℝ) : EReal) := by
    rw [r22_raw, ← sum_keys]
    exact Finset.sum_congr rfl fun b _ => e21 b
  rw [r28_raw]
  unfold Row.out
  rw [← Fin.sum_univ_eq_sum_range (fun n => (((headRow q k v h a).w 0 n / (headRow q k v h a).E 8192 : ℝ) : EReal) * (headRow q k v h a).v d n) 8192]
  refine Finset.sum_congr rfl fun b _ => ?_
  rw [r25_raw, e21, e22, Ideal.div_coe hS.ne', ← EReal.coe_mul, mul_comm ((headRow q k v h a).w M b.val), Row.quotient, mul_comm]
  refine congrArg (HMul.hMul _) ?_
  exact congrArg (fun x => v (ix2 (row128 h d) x)) (Fin.ext (Nat.mod_eq_of_lt b.isLt).symm)

include hq hk in
/-- The reference's logarithm of the row's sum of exponentials. -/
theorem ref_lse (h : Fin 16) (a : Fin 8192) :
    val_main_v33 (F := Ideal) q k (ix3 h 0 a) = ((Real.log ((headRow q k v h a).E 8192) : ℝ) : EReal) := by
  have hS : 0 < (headRow q k v h a).E 8192 := (headRow q k v h a).sum_pos 8192 a.isLt 0
  have e : ∑ b : Fin 8192, Ideal.exp (val_main_v14 (F := Ideal) q k (ix3 h a b)) = (((headRow q k v h a).E 8192 : ℝ) : EReal) := by
    unfold Row.E
    rw [← sum_keys]
    refine Finset.sum_congr rfl fun b _ => ?_
    rw [r14 (v := v) hq hk, ← Row.exp_score, EReal.coe_zero, sub_zero]
  rw [r33_raw, e, Ideal.log_coe, if_neg (not_le.mpr hS)]

end

end Cert.Fwd

end
-- ==== Proof.Fwd.Finite.lean ====
/- The precondition of the attention call read back: every query and every key is a real number. -/
module

public import proofs.«01_k».proof.Pre_finite_fwd
public import proofs.«01_k».proof.Proof.Bwd.Finite

@[expose] public section

noncomputable section

namespace Cert.Pre_finite_fwd.Gen

open Idealize.ShloMosaic

theorem bits_lt : FTy.bits .bf16 < FTy.bits .f32 := by decide
theorem bcast_qk : S_.BroadcastsInDim S8192x4096 (![] : Fin 0 → Fin S8192x4096.rank) := by decide
theorem all_qk : S8192x4096.ReducesTo [0, 1] S_ := by decide
theorem pos_S : 0 < S_.numel := by decide

/-- The side conditions the precondition states. -/
instance facts : Facts := ⟨bits_lt, bcast_qk, all_qk, pos_S⟩

/-- Arguments that meet the precondition have real queries and keys. -/
theorem real_of_fn (a0 a1 : FVec Ideal S8192x4096 .bf16) (a2 : FVec Ideal S2048x8192 .bf16)
    (h : fn (F := Ideal) a0 a1 a2 = fun _ => 1#1) :
    (∀ i, ∃ r : ℝ, a0 i = (r : EReal)) ∧ ∀ i, ∃ r : ℝ, a1 i = (r : EReal) := by
  haveI : Subsingleton S_.Idx := ⟨fun x y => funext fun d => d.elim0⟩
  obtain ⟨e0, e1⟩ := IntOp.andi_eq_one.1 (congrFun h (Shape.Idx.first pos_S))
  exact ⟨fun i => Cert.Pre_finite.Gen.real_of_lt _ (Host.reduce_andi_all _ _ _ _ _ e0 i),
    fun i => Cert.Pre_finite.Gen.real_of_lt _ (Host.reduce_andi_all _ _ _ _ _ e1 i)⟩

end Cert.Pre_finite_fwd.Gen

end
-- ==== Proof.Fwd.Value.lean ====
/- The attention call's three results over the reals, on finite queries and keys: each block holds the rows of its head,
   and the rows are the reference's. -/
module

public import proofs.«01_k».proof.Proof.Fwd.RefVals
public import proofs.«01_k».proof.Proof.Fwd.Finite
public import proofs.«01_k».proof.Defs
public import Idealize.ShloMosaic.Lib.Quiescent

@[expose] public section

set_option maxRecDepth 16384

noncomputable section

namespace Cert.Fwd

open Cert.FlashFwdIdeal Cert.FlashFwdIdeal.Gen Cert.FlashFwdRefIdeal.Read
open Idealize.ShloMosaic Idealize.ShloMosaic.TcCoe Idealize.ShloMosaic.Tactic Idealize.SL.Sem

/-- The blocks that a point reads and writes: sixteen blocks of queries to each head. -/
theorem idx : ∀ t : Fin grid0.N,
    (win0_0.index t 0 = t.val % 16 ∧ win0_0.index t 1 = t.val / 16) ∧
    (win0_1.index t 0 = 0 ∧ win0_1.index t 1 = t.val / 16) ∧
    (win0_2.index t 0 = t.val / 16 ∧ win0_2.index t 1 = 0) ∧
    (win0_3.index t 0 = t.val % 16 ∧ win0_3.index t 1 = t.val / 16) ∧
    (win0_4.index t 0 = t.val % 16 ∧ win0_4.index t 1 = t.val / 16) ∧
    (win0_5.index t 0 = t.val / 16 ∧ win0_5.index t 1 = 0 ∧ win0_5.index t 2 = t.val % 16) := by
  decide +kernel

/-- The head of a point. -/
def hd (t : Fin grid0.N) : Fin 16 := ⟨t.val / 16, by have hN : t.val < 256 := lt_of_lt_of_eq t.isLt N_0; omega⟩

/-- The query in row `c` of a point's block. -/
def query (t : Fin grid0.N) (c : Fin 512) : Fin 8192 := ⟨512 * (t.val % 16) + c.val, by omega⟩

theorem read_q (A : Vec Ideal S8192x4096 .bf16) (t : Fin cfg0.N) (c : Fin 512) (d : Fin 256) :
    ((cfg0.win 0).blk t).view.read (Elt Ideal) A (ix2 c d) = A (ix2 (query t c) (col256 (hd t) d)) := by
  blk_ext [idx t, col256, hd, query]

theorem read_k (A : Vec Ideal S8192x4096 .bf16) (t : Fin cfg0.N) (n : Fin 8192) (d : Fin 256) :
    ((cfg0.win 1).blk t).view.read (Elt Ideal) A (ix2 n d) = A (ix2 n (col256 (hd t) d)) := by
  blk_ext [idx t, col256, hd]

theorem read_v (A : Vec Ideal S2048x8192 .bf16) (t : Fin cfg0.N) (d : Fin 128) (n : Fin 8192) :
    ((cfg0.win 2).blk t).view.read (Elt Ideal) A (ix2 d n) = A (ix2 (row128 (hd t) d) n) := by
  blk_ext [idx t, row128, hd]

theorem pay3_apply (a : Vec Ideal S128x512 .f32) (l : Vec Ideal S1x512 .f32) (c : Fin 512) (d : Fin 128) :
    k0_pay3 (F := Ideal) a l (ix2 c d) = Ideal.div (a (ix2 d c)) (l (ix2 0 c)) := by
  unfold k0_pay3
  pointwise

theorem pay4_apply (a : Vec Ideal S128x512 .f32) (l : Vec Ideal S1x512 .f32) (c : Fin 512) (d : Fin 128) :
    k0_pay4 (F := Ideal) a l (ix2 c d) = Ideal.div (a (ix2 d c)) (l (ix2 0 c)) := by
  pointwise [k0_pay4, pay3_apply]

theorem pay5_apply (x l : Vec Ideal S1x512 .f32) (c : Fin 512) :
    k0_pay5 (F := Ideal) x l (ix3 0 0 c) = x (ix2 0 c) + Ideal.log (l (ix2 0 c)) := by
  pointwise [k0_pay5]

section

variable (m : (ℓ : Loc nD τ sig) → Buf (Elt Ideal) ℓ) (c : Dev nD)

/-- The queries, the keys and the values. -/
abbrev qs : Vec Ideal S8192x4096 .bf16 := m ((c : Thread nD τ).loc main_arg0)
abbrev ks : Vec Ideal S8192x4096 .bf16 := m ((c : Thread nD τ).loc main_arg1)
abbrev vs : Vec Ideal S2048x8192 .bf16 := m ((c : Thread nD τ).loc main_arg2)

theorem iblk_q (t : Fin cfg0.N) (x : Fin 512) (d : Fin 256) :
    iblk m c 0 t (ix2 x d) = qs m c (ix2 (query t x) (col256 (hd t) d)) := read_q (qs m c) t x d

theorem iblk_k (t : Fin cfg0.N) (n : Fin 8192) (d : Fin 256) :
    iblk m c 1 t (ix2 n d) = ks m c (ix2 n (col256 (hd t) d)) := read_k (ks m c) t n d

theorem iblk_v (t : Fin cfg0.N) (d : Fin 128) (n : Fin 8192) :
    iblk m c 2 t (ix2 d n) = vs m c (ix2 (row128 (hd t) d) n) := read_v (vs m c) t d n

/-- A row of a point's block is the row of its query and head. -/
theorem rowOf_eq (t : Fin cfg0.N) (x : Fin 512) :
    rowOf (t.val % 16) (iblk m c 0 t) (iblk m c 1 t) (iblk m c 2 t) x = headRow (qs m c) (ks m c) (vs m c) (hd t) (query t x) := by
  unfold rowOf headRow
  simp only [iblk_q, iblk_k, iblk_v]
  rfl

variable {m c} (hq : AllReal (qs m c)) (hk : AllReal (ks m c))

include hq hk in
theorem holds_end (t : Fin cfg0.N) (x : Fin 512) :
    (headRow (qs m c) (ks m c) (vs m c) (hd t) (query t x)).Holds (512 * (t.val % 16) + 512)
      ((chain (grid0.coords t) (iblk m c 0 t) (iblk m c 1 t) (iblk m c 2 t)).1 (ix2 0 x))
      ((chain (grid0.coords t) (iblk m c 0 t) (iblk m c 1 t) (iblk m c 2 t)).2.1 (ix2 0 x))
      fun d => (chain (grid0.coords t) (iblk m c 0 t) (iblk m c 1 t) (iblk m c 2 t)).2.2 (ix2 d x) := by
  rw [← rowOf_eq]
  refine holds_chain t (fun y => ?_) (fun y => ?_) x
  · idx_vars y; rw [iblk_q]; exact hq _
  · idx_vars y; rw [iblk_k]; exact hk _

theorem query_lt (t : Fin cfg0.N) (x : Fin 512) :
    (headRow (qs m c) (ks m c) (vs m c) (hd t) (query t x)).r < 512 * (t.val % 16) + 512 := Nat.add_lt_add_left x.isLt _

theorem end_le (t : Fin cfg0.N) : 512 * (t.val % 16) + 512 ≤ 8192 := by omega

include hq hk in
theorem final_out : (dats m 0 c).arrAt 3 cfg0.N = val_main_v28 (F := Ideal) (qs m c) (ks m c) (vs m c) := by
  refine (dats m 0 c).arrAt_eq_of_covers 3 _ (by decide +kernel) fun t _ y => ?_
  blk_simp
  rw [after0_3, outs_at]
  unfold outs
  idx_vars y
  rw [pay3_apply, (holds_end hq hk t _).out (query_lt t _) 8192 (end_le t), ← ref_out hq hk]
  blk_ext [idx t, row128, hd, query]

include hq hk in
theorem final_out_rounded : (dats m 0 c).arrAt 4 cfg0.N = val_main_v32 (F := Ideal) (qs m c) (ks m c) (vs m c) := by
  refine (dats m 0 c).arrAt_eq_of_covers 4 _ (by decide +kernel) fun t _ y => ?_
  blk_simp
  rw [after0_4, outs_at]
  unfold outs
  idx_vars y
  rw [pay4_apply, (holds_end hq hk t _).out (query_lt t _) 8192 (end_le t), ← ref_out hq hk]
  blk_ext [idx t, row128, hd, query]

include hq hk in
theorem final_lse : (dats m 0 c).arrAt 5 cfg0.N = val_main_v33 (F := Ideal) (qs m c) (ks m c) := by
  refine (dats m 0 c).arrAt_eq_of_covers 5 _ (by decide +kernel) fun t _ y => ?_
  blk_simp
  rw [after0_5, outs_at]
  unfold outs
  idx_vars y
  obtain rfl := Subsingleton.elim y0 0
  obtain rfl := Subsingleton.elim y1 0
  rw [pay5_apply, (holds_end hq hk t _).lse (query_lt t _) 8192 (end_le t), ← ref_lse hq hk]
  blk_ext [idx t, hd, query]

end

theorem eq_toReal {x : EReal} : (∃ r : ℝ, x = (r : EReal)) → x = (x.toReal : EReal) := by
  rintro ⟨r, rfl⟩
  rw [EReal.toReal_coe]

theorem frame_reference : Cert.quiescent_FlashFwdRefIdeal (hFlashFwdRefIdeal := Cert.FlashFwdRefIdeal.Gen.facts) :=
  fun m ρ _ => (θ_run Cert.FlashFwdRefIdeal.defs _ _).mono
    (fun _ h => ⟨fun c => (h c).2.2.2, sem_eq_zero_of_no_sems (by decide) _⟩) (Cert.FlashFwdRefIdeal.Value.run (F := Ideal) m ρ)

/-- On finite queries and keys the kernel's three results are the reference's. -/
theorem algebraic : Cert.algebraic_FlashFwdIdeal_FlashFwdRefIdeal_pre_finite_fwd (hFlashFwdIdeal := Cert.FlashFwdIdeal.Gen.facts)
    (hFlashFwdRefIdeal := Cert.FlashFwdRefIdeal.Gen.facts) (hPre_finite_fwd := Cert.Pre_finite_fwd.Gen.facts) := by
  intro m ρ m' ρ' hpre hargs
  have hr : ∀ c : Dev nD, AllReal (qs m c) ∧ AllReal (ks m c) := fun c => by
    obtain ⟨hq, hk⟩ := Cert.Pre_finite_fwd.Gen.real_of_fn _ _ _ (hpre c)
    exact ⟨fun y => eq_toReal (hq y), fun y => eq_toReal (hk y)⟩
  refine ⟨_, _, _, (θ_run defs _ _).mono (fun _ h c => ⟨((h c).1 3).trans (final_out (hr c).1 (hr c).2),
    ((h c).1 4).trans (final_out_rounded (hr c).1 (hr c).2), ((h c).1 5).trans (final_lse (hr c).1 (hr c).2),
    ((h c).1 0).trans ((dats m 0 c).arrAt_in 0 rfl _), ((h c).1 1).trans ((dats m 0 c).arrAt_in 1 rfl _),
    ((h c).1 2).trans ((dats m 0 c).arrAt_in 2 rfl _)⟩) (run_main m ρ), ?_⟩
  refine (θ_run Cert.FlashFwdRefIdeal.defs _ _).mono
    (fun r h c => ⟨(h c).1.trans ?_, (h c).2.1.trans ?_, (h c).2.2.1.trans ?_, (h c).2.2.2⟩)
    (Cert.FlashFwdRefIdeal.Value.run (F := Ideal) m' ρ')
  · rw [val_main_v28_eq, (hargs c).1, (hargs c).2.1, (hargs c).2.2]
  · rw [val_main_v32_eq, (hargs c).1, (hargs c).2.1, (hargs c).2.2]
  · rw [val_main_v33_eq, (hargs c).1, (hargs c).2.1]

end Cert.Fwd

end
-- ==== Proof.Mm.Sum.lean ====
/- The sum that a matrix product leaves in its result when the contracted axis is taken in blocks: a running sum that
   the first block's product starts, the blocks between add to, and the last block's product completes. -/
module

public import Idealize.ShloMosaic.Lib.Pipeline.ValueKit
public import Idealize.ShloMosaic.PureOps.Ideal
public import Idealize.ShloMosaic.Lib.Tactic
public import Idealize.ShloMosaic.Lib.Pipeline.ReadBack

@[expose] public section

noncomputable section

namespace Cert.Mm

open Idealize.ShloMosaic Idealize.ShloMosaic.Tactic

/-- A result `o` completed at the last point of each run of `J` points from a running sum `s`: it ends as the sum of the
    run's terms. -/
theorem run_sum {N : ℕ} {ι : Type} (J : ℕ) [NeZero J] (hJ : 1 < J) (o s : (n : ℕ) → n < N → ι → EReal)
    (term : Fin N → ι → EReal)
    (first : ∀ t : Fin N, t.val % J = 0 → ∀ i, s t.val t.isLt i = term t i)
    (mid : ∀ t : Fin N, ¬t.val % J = 0 → ¬t.val % J = J - 1 → ∀ i,
      s t.val t.isLt i = s (t.val - 1) (Nat.lt_of_le_of_lt (Nat.sub_le _ _) t.isLt) i + term t i)
    (last : ∀ t : Fin N, ¬t.val % J = 0 → t.val % J = J - 1 → ∀ i,
      o t.val t.isLt i = s (t.val - 1) (Nat.lt_of_le_of_lt (Nat.sub_le _ _) t.isLt) i + term t i)
    (t : Fin N) (hr : t.val % J = J - 1) (i : ι) :
    o t.val t.isLt i = ∑ k : Fin J, term ⟨J * (t.val / J) + k.val, Pipeline.run_point_lt_of_flush t hr k⟩ i := by
  have h := Pipeline.eq_sum_fin_of_reset_step_apply_of_flush
    (fun n hn i => if n % J = J - 1 then o n hn i else s n hn i) J (fun _ => 0) term
    (fun u hu i => by
      rw [if_neg (by omega), first u hu i, zero_add])
    (fun u hu i => by
      have hp : ¬(u.val - 1) % J = J - 1 := by
        intro h
        have h1 : u.val = u.val - 1 + 1 := by
          rcases Nat.eq_zero_or_pos u.val with h0 | h0
          · exact absurd (by rw [h0]; exact Nat.zero_mod J) hu
          · omega
        apply hu
        rw [h1, Nat.add_mod, h, Nat.mod_eq_of_lt hJ, Nat.sub_add_cancel (le_of_lt hJ), Nat.mod_self]
      rw [if_neg hp]
      split_ifs with hl
      · exact last u hu hl i
      · exact mid u hu hl i)
    t hr i
  rw [if_pos hr, zero_add] at h
  exact h

/-- The same where each term of a run is itself a sum over the `n` lanes of a block: the result is the sum over the whole
    contracted axis, of `J * n` lanes. -/
theorem run_product {N n K : ℕ} {ι : Type} (J : ℕ) [NeZero J] (hJ : 1 < J) (o s : (n : ℕ) → n < N → ι → EReal)
    (part : Fin N → ι → Fin n → EReal)
    (first : ∀ t : Fin N, t.val % J = 0 → ∀ i, s t.val t.isLt i = ∑ l, part t i l)
    (mid : ∀ t : Fin N, ¬t.val % J = 0 → ¬t.val % J = J - 1 → ∀ i,
      s t.val t.isLt i = s (t.val - 1) (Nat.lt_of_le_of_lt (Nat.sub_le _ _) t.isLt) i + ∑ l, part t i l)
    (last : ∀ t : Fin N, ¬t.val % J = 0 → t.val % J = J - 1 → ∀ i,
      o t.val t.isLt i = s (t.val - 1) (Nat.lt_of_le_of_lt (Nat.sub_le _ _) t.isLt) i + ∑ l, part t i l)
    (t : Fin N) (hr : t.val % J = J - 1) (i : ι) (whole : Fin K → EReal) (hK : K = J * n)
    (lane : ∀ (k : Fin J) (l : Fin n) (h : k.val * n + l.val < K),
      part ⟨J * (t.val / J) + k.val, Pipeline.run_point_lt_of_flush t hr k⟩ i l = whole ⟨k.val * n + l.val, h⟩) :
    o t.val t.isLt i = ∑ l, whole l :=
  (run_sum J hJ o s (fun t i => ∑ l, part t i l) first mid last t hr i).trans (Fin.sum_mul_add_congr lane hK)

/-! The three contractions of two matrices: rows by columns, rows by rows, columns by columns. -/

variable {M K N : ℕ}

/-- Entry `i` of `a b`. -/
def nn (a : (⟨2, ![M, K]⟩ : Shape).Idx → EReal) (b : (⟨2, ![K, N]⟩ : Shape).Idx → EReal) (i : (⟨2, ![M, N]⟩ : Shape).Idx)
    (k : Fin K) : EReal :=
  a (ix2 (i 0) k) * b (ix2 k (i 1))

/-- Entry `i` of `a bᵀ`. -/
def nt (a : (⟨2, ![M, K]⟩ : Shape).Idx → EReal) (b : (⟨2, ![N, K]⟩ : Shape).Idx → EReal) (i : (⟨2, ![M, N]⟩ : Shape).Idx)
    (k : Fin K) : EReal :=
  a (ix2 (i 0) k) * b (ix2 (i 1) k)

/-- Entry `i` of `aᵀ b`. -/
def tn (a : (⟨2, ![K, M]⟩ : Shape).Idx → EReal) (b : (⟨2, ![K, N]⟩ : Shape).Idx → EReal) (i : (⟨2, ![M, N]⟩ : Shape).Idx)
    (k : Fin K) : EReal :=
  a (ix2 k (i 0)) * b (ix2 k (i 1))

end Cert.Mm

end
-- ==== Proof.Mm.DWIn.lean ====
/- The gradient of the combined input projection's weights: the kernel's result array is the plain product of the
   layer's input and the output gradient, contracted over the tokens. -/
module

public import proofs.«01_k».proof.Proof.Mm.Sum
public import proofs.«01_k».proof.Proof.Gen.DWInIdeal.Frame
public import proofs.«01_k».proof.Proof.Gen.DWInRefIdeal.Read
public import proofs.«01_k».proof.Defs
public import Idealize.ShloMosaic.Lib.Quiescent

@[expose] public section

set_option maxRecDepth 16384

noncomputable section

namespace Cert.Mm.DWIn

open Cert.DWInIdeal Cert.DWInIdeal.Gen Cert.DWInRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val % 4 ∧ win0_0.index t 1 = t.val / 44) ∧
    (win0_1.index t 0 = t.val % 4 ∧ win0_1.index t 1 = t.val / 4 % 11) ∧
    (win0_2.index t 0 = t.val / 44 ∧ win0_2.index t 1 = t.val / 4 % 11) := by
  decide +kernel

/-- The reference's result at an index. -/
theorem ref_apply (x : Vec Ideal S8192x2048 .bf16) (g : Vec Ideal S8192x15488 .bf16) (i : S2048x15488.Idx) :
    val_main_v6 (F := Ideal) x g i = ∑ k, tn x g i k := by
  idx_vars i
  pointwise [val_main_v6, val_main_v5, val_main_v4, val_main_v1, val_main_v0, tn]
  exact Finset.sum_congr rfl fun k _ => mul_comm _ _

theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => tn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, tn]
  · rw [outsAt0_B m c t h (by omega) h']
    frame_out
    idx_vars y
    pointwise [k0_pay2, tn, read_unread_whole]
  · rw [outsAt0_C m c t h (by omega) h']
    frame_out
    idx_vars y
    pointwise [k0_pay3, tn, read_unread_whole]
  · unfold tn
    congr 1 <;> blk_ext [iblk, V, idx t, idx ⟨_, Pipeline.run_point_lt_of_flush t hr s⟩]

theorem frame_reference : Cert.quiescent_DWInRefIdeal (hDWInRefIdeal := Cert.DWInRefIdeal.Gen.facts) :=
  fun m ρ _ => (θ_run Cert.DWInRefIdeal.defs _ _).mono
    (fun _ h => ⟨fun c => (h c).2, sem_eq_zero_of_no_sems (by decide) _⟩) (Cert.DWInRefIdeal.Value.run (F := Ideal) m ρ)

theorem algebraic : Cert.algebraic_DWInIdeal_DWInRefIdeal (hDWInIdeal := Cert.DWInIdeal.Gen.facts)
    (hDWInRefIdeal := Cert.DWInRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DWInRefIdeal.defs _ _).mono (fun r h c => ⟨(h c).1.trans ?_, (h c).2⟩)
    (Cert.DWInRefIdeal.Value.run (F := Ideal) m' ρ')
  rw [val_main_v6_eq, (hargs c).1, (hargs c).2]

end Cert.Mm.DWIn

end
-- ==== Proof.Mm.DU.lean ====
/- The gradient of the layer's input through the combined input projection: the kernel's result array is the product of
   the output gradient and the transposed weights. -/
module

public import proofs.«01_k».proof.Proof.Mm.Sum
public import proofs.«01_k».proof.Proof.Gen.DUIdeal.Frame
public import proofs.«01_k».proof.Proof.Gen.DURefIdeal.Read
public import proofs.«01_k».proof.Defs
public import Idealize.ShloMosaic.Lib.Quiescent

@[expose] public section

set_option maxRecDepth 16384

noncomputable section

namespace Cert.Mm.DU

open Cert.DUIdeal Cert.DUIdeal.Gen Cert.DURefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: eleven points to each block of the result. -/
theorem idx : ∀ t : Fin grid0.N,
    (win0_0.index t 0 = t.val / 22 ∧ win0_0.index t 1 = t.val % 11) ∧
    (win0_1.index t 0 = t.val / 11 % 2 ∧ win0_1.index t 1 = t.val % 11) ∧
    (win0_2.index t 0 = t.val / 22 ∧ win0_2.index t 1 = t.val / 11 % 2) := by
  decide +kernel

theorem ref_apply (g : Vec Ideal S8192x15488 .bf16) (w : Vec Ideal S2048x15488 .bf16) (i : S8192x2048.Idx) :
    val_main_v4 (F := Ideal) g w i = ∑ k, nt g w i k := by
  idx_vars i
  pointwise [val_main_v4, val_main_v1, val_main_v0, nt]

theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 11 (by decide) (fun n h => (outsAt0 m c n h).1) (fun n h => (outsAt0 m c n h).2)
    (fun t => nt (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, nt]
  · rw [outsAt0_B m c t h (by omega) h']
    frame_out
    idx_vars y
    pointwise [k0_pay2, nt, read_unread_whole]
  · rw [outsAt0_C m c t h (by omega) h']
    frame_out
    idx_vars y
    pointwise [k0_pay3, nt, read_unread_whole]
  · unfold nt
    congr 1 <;> blk_ext [iblk, V, idx t, idx ⟨_, Pipeline.run_point_lt_of_flush t hr s⟩]

theorem frame_reference : Cert.quiescent_DURefIdeal (hDURefIdeal := Cert.DURefIdeal.Gen.facts) :=
  fun m ρ _ => (θ_run Cert.DURefIdeal.defs _ _).mono
    (fun _ h => ⟨fun c => (h c).2, sem_eq_zero_of_no_sems (by decide) _⟩) (Cert.DURefIdeal.Value.run (F := Ideal) m ρ)

theorem algebraic : Cert.algebraic_DUIdeal_DURefIdeal (hDUIdeal := Cert.DUIdeal.Gen.facts)
    (hDURefIdeal := Cert.DURefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DURefIdeal.defs _ _).mono (fun r h c => ⟨(h c).1.trans ?_, (h c).2⟩)
    (Cert.DURefIdeal.Value.run (F := Ideal) m' ρ')
  rw [val_main_v4_eq, (hargs c).1, (hargs c).2]

end Cert.Mm.DU

end
-- ==== Proof.Mm.DWGate.lean ====
/- The gradient of the feed-forward gate's weights: the kernel's result array is the product of the transposed input and
   the output gradient. The gradient of the up projection's weights is the same call on another gradient. -/
module

public import proofs.«01_k».proof.Proof.Mm.Sum
public import proofs.«01_k».proof.Proof.Gen.DWGateIdeal.Frame
public import proofs.«01_k».proof.Proof.Gen.DWGateRefIdeal.Read
public import proofs.«01_k».proof.Defs
public import Idealize.ShloMosaic.Lib.Quiescent

@[expose] public section

set_option maxRecDepth 16384

noncomputable section

namespace Cert.Mm.DWGate

open Cert.DWGateIdeal Cert.DWGateIdeal.Gen Cert.DWGateRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: four points, a quarter of the tokens each, to each block of the result. -/
theorem idx : ∀ t : Fin grid0.N,
    (win0_0.index t 0 = t.val % 4 ∧ win0_0.index t 1 = t.val / 16) ∧
    (win0_1.index t 0 = t.val % 4 ∧ win0_1.index t 1 = t.val / 4 % 4) ∧
    (win0_2.index t 0 = t.val / 16 ∧ win0_2.index t 1 = t.val / 4 % 4) := by
  decide +kernel

theorem ref_apply (x : Vec Ideal S8192x2048 .bf16) (g : Vec Ideal S8192x5632 .bf16) (i : S2048x5632.Idx) :
    val_main_v6 (F := Ideal) x g i = ∑ k, tn x g i k := by
  idx_vars i
  pointwise [val_main_v6, val_main_v5, val_main_v4, val_main_v1, val_main_v0, tn]
  exact Finset.sum_congr rfl fun k _ => mul_comm _ _

theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => tn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, tn]
  · rw [outsAt0_B m c t h (by omega) h']
    frame_out
    idx_vars y
    pointwise [k0_pay2, tn, read_unread_whole]
  · rw [outsAt0_C m c t h (by omega) h']
    frame_out
    idx_vars y
    pointwise [k0_pay3, tn, read_unread_whole]
  · unfold tn
    congr 1 <;> blk_ext [iblk, V, idx t, idx ⟨_, Pipeline.run_point_lt_of_flush t hr s⟩]

theorem frame_reference : Cert.quiescent_DWGateRefIdeal (hDWGateRefIdeal := Cert.DWGateRefIdeal.Gen.facts) :=
  fun m ρ _ => (θ_run Cert.DWGateRefIdeal.defs _ _).mono
    (fun _ h => ⟨fun c => (h c).2, sem_eq_zero_of_no_sems (by decide) _⟩) (Cert.DWGateRefIdeal.Value.run (F := Ideal) m ρ)

theorem algebraic : Cert.algebraic_DWGateIdeal_DWGateRefIdeal (hDWGateIdeal := Cert.DWGateIdeal.Gen.facts)
    (hDWGateRefIdeal := Cert.DWGateRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DWGateRefIdeal.defs _ _).mono (fun r h c => ⟨(h c).1.trans ?_, (h c).2⟩)
    (Cert.DWGateRefIdeal.Value.run (F := Ideal) m' ρ')
  rw [val_main_v6_eq, (hargs c).1, (hargs c).2]

end Cert.Mm.DWGate

end
-- ==== Proof.Mm.DWDown.lean ====
/- The gradient of the feed-forward down projection's weights: the kernel's result array is the product of the transposed
   activation and the output gradient. -/
module

public import proofs.«01_k».proof.Proof.Mm.Sum
public import proofs.«01_k».proof.Proof.Gen.DWDownIdeal.Frame
public import proofs.«01_k».proof.Proof.Gen.DWDownRefIdeal.Read
public import proofs.«01_k».proof.Defs
public import Idealize.ShloMosaic.Lib.Quiescent

@[expose] public section

set_option maxRecDepth 16384

noncomputable section

namespace Cert.Mm.DWDown

open Cert.DWDownIdeal Cert.DWDownIdeal.Gen Cert.DWDownRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: four points, a quarter of the tokens each, to each block of the result. -/
theorem idx : ∀ t : Fin grid0.N,
    (win0_0.index t 0 = t.val % 4 ∧ win0_0.index t 1 = t.val / 8) ∧
    (win0_1.index t 0 = t.val % 4 ∧ win0_1.index t 1 = t.val / 4 % 2) ∧
    (win0_2.index t 0 = t.val / 8 ∧ win0_2.index t 1 = t.val / 4 % 2) := by
  decide +kernel

theorem ref_apply (x : Vec Ideal S8192x5632 .bf16) (g : Vec Ideal S8192x2048 .bf16) (i : S5632x2048.Idx) :
    val_main_v6 (F := Ideal) x g i = ∑ k, tn x g i k := by
  idx_vars i
  pointwise [val_main_v6, val_main_v5, val_main_v4, val_main_v1, val_main_v0, tn]
  exact Finset.sum_congr rfl fun k _ => mul_comm _ _

theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => tn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, tn]
  · rw [outsAt0_B m c t h (by omega) h']
    frame_out
    idx_vars y
    pointwise [k0_pay2, tn, read_unread_whole]
  · rw [outsAt0_C m c t h (by omega) h']
    frame_out
    idx_vars y
    pointwise [k0_pay3, tn, read_unread_whole]
  · unfold tn
    congr 1 <;> blk_ext [iblk, V, idx t, idx ⟨_, Pipeline.run_point_lt_of_flush t hr s⟩]

theorem frame_reference : Cert.quiescent_DWDownRefIdeal (hDWDownRefIdeal := Cert.DWDownRefIdeal.Gen.facts) :=
  fun m ρ _ => (θ_run Cert.DWDownRefIdeal.defs _ _).mono
    (fun _ h => ⟨fun c => (h c).2, sem_eq_zero_of_no_sems (by decide) _⟩) (Cert.DWDownRefIdeal.Value.run (F := Ideal) m ρ)

theorem algebraic : Cert.algebraic_DWDownIdeal_DWDownRefIdeal (hDWDownIdeal := Cert.DWDownIdeal.Gen.facts)
    (hDWDownRefIdeal := Cert.DWDownRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DWDownRefIdeal.defs _ _).mono (fun r h c => ⟨(h c).1.trans ?_, (h c).2⟩)
    (Cert.DWDownRefIdeal.Value.run (F := Ideal) m' ρ')
  rw [val_main_v6_eq, (hargs c).1, (hargs c).2]

end Cert.Mm.DWDown

end
-- ==== Proof.Mm.DWOut.lean ====
/- The gradient of a square output projection's weights: the kernel's result array is the product of the transposed input
   and the output gradient. The layer has three such weights of the same sizes. -/
module

public import proofs.«01_k».proof.Proof.Mm.Sum
public import proofs.«01_k».proof.Proof.Gen.DWOutIdeal.Frame
public import proofs.«01_k».proof.Proof.Gen.DWOutRefIdeal.Read
public import proofs.«01_k».proof.Defs
public import Idealize.ShloMosaic.Lib.Quiescent

@[expose] public section

set_option maxRecDepth 16384

noncomputable section

namespace Cert.Mm.DWOut

open Cert.DWOutIdeal Cert.DWOutIdeal.Gen Cert.DWOutRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: four points, a quarter of the tokens each, to each block of the result. -/
theorem idx : ∀ t : Fin grid0.N,
    (win0_0.index t 0 = t.val % 4 ∧ win0_0.index t 1 = t.val / 8) ∧
    (win0_1.index t 0 = t.val % 4 ∧ win0_1.index t 1 = t.val / 4 % 2) ∧
    (win0_2.index t 0 = t.val / 8 ∧ win0_2.index t 1 = t.val / 4 % 2) := by
  decide +kernel

theorem ref_apply (x g : Vec Ideal S8192x2048 .bf16) (i : S2048x2048.Idx) :
    val_main_v6 (F := Ideal) x g i = ∑ k, tn x g i k := by
  idx_vars i
  pointwise [val_main_v6, val_main_v5, val_main_v4, val_main_v1, val_main_v0, tn]
  exact Finset.sum_congr rfl fun k _ => mul_comm _ _

theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => tn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, tn]
  · rw [outsAt0_B m c t h (by omega) h']
    frame_out
    idx_vars y
    pointwise [k0_pay2, tn, read_unread_whole]
  · rw [outsAt0_C m c t h (by omega) h']
    frame_out
    idx_vars y
    pointwise [k0_pay3, tn, read_unread_whole]
  · unfold tn
    congr 1 <;> blk_ext [iblk, V, idx t, idx ⟨_, Pipeline.run_point_lt_of_flush t hr s⟩]

theorem frame_reference : Cert.quiescent_DWOutRefIdeal (hDWOutRefIdeal := Cert.DWOutRefIdeal.Gen.facts) :=
  fun m ρ _ => (θ_run Cert.DWOutRefIdeal.defs _ _).mono
    (fun _ h => ⟨fun c => (h c).2, sem_eq_zero_of_no_sems (by decide) _⟩) (Cert.DWOutRefIdeal.Value.run (F := Ideal) m ρ)

theorem algebraic : Cert.algebraic_DWOutIdeal_DWOutRefIdeal (hDWOutIdeal := Cert.DWOutIdeal.Gen.facts)
    (hDWOutRefIdeal := Cert.DWOutRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DWOutRefIdeal.defs _ _).mono (fun r h c => ⟨(h c).1.trans ?_, (h c).2⟩)
    (Cert.DWOutRefIdeal.Value.run (F := Ideal) m' ρ')
  rw [val_main_v6_eq, (hargs c).1, (hargs c).2]

end Cert.Mm.DWOut

end
-- ==== Proof.Mm.DWSsmO.lean ====
/- The gradient of the recurrence's output projection's weights: the kernel's result array is the product of the
   transposed input and the output gradient. -/
module

public import proofs.«01_k».proof.Proof.Mm.Sum
public import proofs.«01_k».proof.Proof.Gen.DWSsmOIdeal.Frame
public import proofs.«01_k».proof.Proof.Gen.DWSsmORefIdeal.Read
public import proofs.«01_k».proof.Defs
public import Idealize.ShloMosaic.Lib.Quiescent

@[expose] public section

set_option maxRecDepth 16384

noncomputable section

namespace Cert.Mm.DWSsmO

open Cert.DWSsmOIdeal Cert.DWSsmOIdeal.Gen Cert.DWSsmORefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: four points, a quarter of the tokens each, to each block of the result. -/
theorem idx : ∀ t : Fin grid0.N,
    (win0_0.index t 0 = t.val % 4 ∧ win0_0.index t 1 = t.val / 8) ∧
    (win0_1.index t 0 = t.val % 4 ∧ win0_1.index t 1 = t.val / 4 % 2) ∧
    (win0_2.index t 0 = t.val / 8 ∧ win0_2.index t 1 = t.val / 4 % 2) := by
  decide +kernel

theorem ref_apply (x : Vec Ideal S8192x4096 .bf16) (g : Vec Ideal S8192x2048 .bf16) (i : S4096x2048.Idx) :
    val_main_v6 (F := Ideal) x g i = ∑ k, tn x g i k := by
  idx_vars i
  pointwise [val_main_v6, val_main_v5, val_main_v4, val_main_v1, val_main_v0, tn]
  exact Finset.sum_congr rfl fun k _ => mul_comm _ _

theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => tn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, tn]
  · rw [outsAt0_B m c t h (by omega) h']
    frame_out
    idx_vars y
    pointwise [k0_pay2, tn, read_unread_whole]
  · rw [outsAt0_C m c t h (by omega) h']
    frame_out
    idx_vars y
    pointwise [k0_pay3, tn, read_unread_whole]
  · unfold tn
    congr 1 <;> blk_ext [iblk, V, idx t, idx ⟨_, Pipeline.run_point_lt_of_flush t hr s⟩]

theorem frame_reference : Cert.quiescent_DWSsmORefIdeal (hDWSsmORefIdeal := Cert.DWSsmORefIdeal.Gen.facts) :=
  fun m ρ _ => (θ_run Cert.DWSsmORefIdeal.defs _ _).mono
    (fun _ h => ⟨fun c => (h c).2, sem_eq_zero_of_no_sems (by decide) _⟩) (Cert.DWSsmORefIdeal.Value.run (F := Ideal) m ρ)

theorem algebraic : Cert.algebraic_DWSsmOIdeal_DWSsmORefIdeal (hDWSsmOIdeal := Cert.DWSsmOIdeal.Gen.facts)
    (hDWSsmORefIdeal := Cert.DWSsmORefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DWSsmORefIdeal.defs _ _).mono (fun r h c => ⟨(h c).1.trans ?_, (h c).2⟩)
    (Cert.DWSsmORefIdeal.Value.run (F := Ideal) m' ρ')
  rw [val_main_v6_eq, (hargs c).1, (hargs c).2]

end Cert.Mm.DWSsmO

end
-- ==== Proof.Mm.DAct.lean ====
/- The gradient of the feed-forward activation: the kernel's result array is the product of the output gradient and the
   transposed down projection. The contracted axis is one block, so every point completes a block of the result. -/
module

public import proofs.«01_k».proof.Proof.Mm.Sum
public import proofs.«01_k».proof.Proof.Gen.DActIdeal.Frame
public import proofs.«01_k».proof.Proof.Gen.DActRefIdeal.Read
public import proofs.«01_k».proof.Defs
public import Idealize.ShloMosaic.Lib.Quiescent

@[expose] public section

set_option maxRecDepth 16384

noncomputable section

namespace Cert.Mm.DAct

open Cert.DActIdeal Cert.DActIdeal.Gen Cert.DActRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 4 ∧ win0_0.index t 1 = 0) ∧
    (win0_1.index t 0 = t.val % 4 ∧ win0_1.index t 1 = 0) ∧
    (win0_2.index t 0 = t.val / 4 ∧ win0_2.index t 1 = t.val % 4) := by
  decide +kernel

theorem ref_apply (g : Vec Ideal S8192x2048 .bf16) (w : Vec Ideal S5632x2048 .bf16) (i : S8192x5632.Idx) :
    val_main_v4 (F := Ideal) g w i = ∑ k, nt g w i k := by
  idx_vars i
  pointwise [val_main_v4, val_main_v1, val_main_v0, nt]

/-- The product of two blocks at an index. -/
theorem pay (a : Vec Ideal S1024x2048 .bf16) (b : Vec Ideal S1408x2048 .bf16) (y : S1024x1408.Idx) :
    k0_pay1 a b y = ∑ k, nt a b y k := by
  idx_vars y
  pointwise [k0_pay1, nt]

theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nt
  congr 1 <;> blk_ext [iblk, V, idx t]

theorem frame_reference : Cert.quiescent_DActRefIdeal (hDActRefIdeal := Cert.DActRefIdeal.Gen.facts) :=
  fun m ρ _ => (θ_run Cert.DActRefIdeal.defs _ _).mono
    (fun _ h => ⟨fun c => (h c).2, sem_eq_zero_of_no_sems (by decide) _⟩) (Cert.DActRefIdeal.Value.run (F := Ideal) m ρ)

theorem algebraic : Cert.algebraic_DActIdeal_DActRefIdeal (hDActIdeal := Cert.DActIdeal.Gen.facts)
    (hDActRefIdeal := Cert.DActRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DActRefIdeal.defs _ _).mono (fun r h c => ⟨(h c).1.trans ?_, (h c).2⟩)
    (Cert.DActRefIdeal.Value.run (F := Ideal) m' ρ')
  rw [val_main_v4_eq, (hargs c).1, (hargs c).2]

end Cert.Mm.DAct

end
-- ==== Proof.Mm.DFGate.lean ====
/- The gradient of the feed-forward input through the gate: the kernel's result array is the product of the gate's
   gradient and its transposed weights. -/
module

public import proofs.«01_k».proof.Proof.Mm.Sum
public import proofs.«01_k».proof.Proof.Gen.DFGateIdeal.Frame
public import proofs.«01_k».proof.Proof.Gen.DFGateRefIdeal.Read
public import proofs.«01_k».proof.Defs
public import Idealize.ShloMosaic.Lib.Quiescent

@[expose] public section

set_option maxRecDepth 16384

noncomputable section

namespace Cert.Mm.DFGate

open Cert.DFGateIdeal Cert.DFGateIdeal.Gen Cert.DFGateRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: four points to each block of the result. -/
theorem idx : ∀ t : Fin grid0.N,
    (win0_0.index t 0 = t.val / 8 ∧ win0_0.index t 1 = t.val % 4) ∧
    (win0_1.index t 0 = t.val / 4 % 2 ∧ win0_1.index t 1 = t.val % 4) ∧
    (win0_2.index t 0 = t.val / 8 ∧ win0_2.index t 1 = t.val / 4 % 2) := by
  decide +kernel

theorem ref_apply (g : Vec Ideal S8192x5632 .bf16) (w : Vec Ideal S2048x5632 .bf16) (i : S8192x2048.Idx) :
    val_main_v4 (F := Ideal) g w i = ∑ k, nt g w i k := by
  idx_vars i
  pointwise [val_main_v4, val_main_v1, val_main_v0, nt]

theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => nt (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, nt]
  · rw [outsAt0_B m c t h (by omega) h']
    frame_out
    idx_vars y
    pointwise [k0_pay2, nt, read_unread_whole]
  · rw [outsAt0_C m c t h (by omega) h']
    frame_out
    idx_vars y
    pointwise [k0_pay3, nt, read_unread_whole]
  · unfold nt
    congr 1 <;> blk_ext [iblk, V, idx t, idx ⟨_, Pipeline.run_point_lt_of_flush t hr s⟩]

theorem frame_reference : Cert.quiescent_DFGateRefIdeal (hDFGateRefIdeal := Cert.DFGateRefIdeal.Gen.facts) :=
  fun m ρ _ => (θ_run Cert.DFGateRefIdeal.defs _ _).mono
    (fun _ h => ⟨fun c => (h c).2, sem_eq_zero_of_no_sems (by decide) _⟩) (Cert.DFGateRefIdeal.Value.run (F := Ideal) m ρ)

theorem algebraic : Cert.algebraic_DFGateIdeal_DFGateRefIdeal (hDFGateIdeal := Cert.DFGateIdeal.Gen.facts)
    (hDFGateRefIdeal := Cert.DFGateRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DFGateRefIdeal.defs _ _).mono (fun r h c => ⟨(h c).1.trans ?_, (h c).2⟩)
    (Cert.DFGateRefIdeal.Value.run (F := Ideal) m' ρ')
  rw [val_main_v4_eq, (hargs c).1, (hargs c).2]

end Cert.Mm.DFGate

end
-- ==== Proof.Mm.DFUp.lean ====
/- The gradient of the feed-forward input through the up projection, added to the gradient through the gate: the kernel's
   result array is the product of the up projection's gradient and its transposed weights, plus the third argument. -/
module

public import proofs.«01_k».proof.Proof.Mm.Sum
public import proofs.«01_k».proof.Proof.Gen.DFUpIdeal.Frame
public import proofs.«01_k».proof.Proof.Gen.DFUpRefIdeal.Read
public import proofs.«01_k».proof.Defs
public import Idealize.ShloMosaic.Lib.Quiescent

@[expose] public section

set_option maxRecDepth 16384

noncomputable section

namespace Cert.Mm.DFUp

open Cert.DFUpIdeal Cert.DFUpIdeal.Gen Cert.DFUpRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. The third argument is read where the result is written. -/
theorem idx : ∀ t : Fin grid0.N,
    (win0_0.index t 0 = t.val / 8 ∧ win0_0.index t 1 = t.val % 4) ∧
    (win0_1.index t 0 = t.val / 4 % 2 ∧ win0_1.index t 1 = t.val % 4) ∧
    (win0_2.index t 0 = t.val / 8 ∧ win0_2.index t 1 = t.val / 4 % 2) ∧
    (win0_3.index t 0 = t.val / 8 ∧ win0_3.index t 1 = t.val / 4 % 2) := by
  decide +kernel

theorem ref_apply (g : Vec Ideal S8192x5632 .bf16) (w : Vec Ideal S2048x5632 .bf16) (d : Vec Ideal S8192x2048 .f32)
    (i : S8192x2048.Idx) : val_main_v5 (F := Ideal) g w d i = (∑ k, nt g w i k) + d i := by
  idx_vars i
  pointwise [val_main_v5, val_main_v4, val_main_v1, val_main_v0, nt]

/-- What the last point of a run writes: the running sum with its own product added, and then the third argument. -/
theorem last (c : Dev nD) (t : Fin cfg0.N) (hr : t.val % 4 = 3) (y : S1024x1024.Idx) :
    (outsAt0 m c t.val t.isLt).1 y
      = (outsAt0 m c (t.val - 1) (Nat.lt_of_le_of_lt (Nat.sub_le _ _) t.isLt)).2 y
        + ∑ k, nt (M := 1024) (N := 1024) (K := 1408) (iblk m c 0 t) (iblk m c 1 t) y k
        + (show Vec Ideal S1024x1024 .f32 from iblk m c 2 t) y := by
  rw [outsAt0_C m c t (by omega) (by omega) hr]
  frame_out
  idx_vars y
  pointwise [k0_pay3, nt, read_unread_whole]

theorem final (c : Dev nD) : (dats m 0 c).arrAt 3 cfg0.N
    = val_main_v5 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have hr := (flush0_3 t).mp hf
  blk_simp
  rw [after0_3, ref_apply, last m c t hr]
  congr 1
  refine run_product 4 (by decide)
    (fun n h y => (outsAt0 m c (n - 1) (Nat.lt_of_le_of_lt (Nat.sub_le _ _) h)).2 y
      + ∑ k, nt (M := 1024) (N := 1024) (K := 1408) (iblk m c 0 ⟨n, h⟩) (iblk m c 1 ⟨n, h⟩) y k)
    (fun n h => (outsAt0 m c n h).2) (fun t => nt (iblk m c 0 t) (iblk m c 1 t)) (fun t h y => ?_) (fun t h h' y => ?_)
    (fun _ _ _ _ => rfl) t hr y _ rfl fun s k hl => ?_
  · rw [outsAt0_A m c t h (by omega) (by omega)]
    frame_out
    idx_vars y
    pointwise [k0_pay1, nt]
  · rw [outsAt0_B m c t h (by omega) h']
    frame_out
    idx_vars y
    pointwise [k0_pay2, nt, read_unread_whole]
  · unfold nt
    congr 1 <;> blk_ext [iblk, V, idx t, idx ⟨_, Pipeline.run_point_lt_of_flush t hr s⟩]

theorem frame_reference : Cert.quiescent_DFUpRefIdeal (hDFUpRefIdeal := Cert.DFUpRefIdeal.Gen.facts) :=
  fun m ρ _ => (θ_run Cert.DFUpRefIdeal.defs _ _).mono
    (fun _ h => ⟨fun c => (h c).2, sem_eq_zero_of_no_sems (by decide) _⟩) (Cert.DFUpRefIdeal.Value.run (F := Ideal) m ρ)

theorem algebraic : Cert.algebraic_DFUpIdeal_DFUpRefIdeal (hDFUpIdeal := Cert.DFUpIdeal.Gen.facts)
    (hDFUpRefIdeal := Cert.DFUpRefIdeal.Gen.facts) := by
  intro m ρ m' ρ' _ hargs
  refine ⟨_, (θ_run defs _ _).mono (fun _ h c => ⟨((h c).1 3).trans (final m c), ((h c).1 0).trans ((dats m 0 c).arrAt_in 0 rfl _),
    ((h c).1 1).trans ((dats m 0 c).arrAt_in 1 rfl _), ((h c).1 2).trans ((dats m 0 c).arrAt_in 2 rfl _)⟩) (run_main m ρ), ?_⟩
  refine (θ_run Cert.DFUpRefIdeal.defs _ _).mono (fun r h c => ⟨(h c).1.trans ?_, (h c).2⟩)
    (Cert.DFUpRefIdeal.Value.run (F := Ideal) m' ρ')
  rw [val_main_v5_eq, (hargs c).1, (hargs c).2.1, (hargs c).2.2]

end Cert.Mm.DFUp

end
-- ==== Proof.Mm.DMixed.lean ====
/- The gradient of the mixed branches: the kernel's result array is the product of the output gradient and the transposed
   output projection. The gradient of the gated embedding is the same call on other arrays. -/
module

public import proofs.«01_k».proof.Proof.Mm.Sum
public import proofs.«01_k».proof.Proof.Gen.DMixedIdeal.Frame
public import proofs.«01_k».proof.Proof.Gen.DMixedRefIdeal.Read
public import proofs.«01_k».proof.Defs
public import Idealize.ShloMosaic.Lib.Quiescent

@[expose] public section

set_option maxRecDepth 16384

noncomputable section

namespace Cert.Mm.DMixed

open Cert.DMixedIdeal Cert.DMixedIdeal.Gen Cert.DMixedRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 2 ∧ win0_0.index t 1 = 0) ∧
    (win0_1.index t 0 = t.val % 2 ∧ win0_1.index t 1 = 0) ∧
    (win0_2.index t 0 = t.val / 2 ∧ win0_2.index t 1 = t.val % 2) := by
  decide +kernel

theorem ref_apply (g : Vec Ideal S8192x2048 .bf16) (w : Vec Ideal S2048x2048 .bf16) (i : S8192x2048.Idx) :
    val_main_v4 (F := Ideal) g w i = ∑ k, nt g w i k := by
  idx_vars i
  pointwise [val_main_v4, val_main_v1, val_main_v0, nt]

/-- The product of two blocks at an index. -/
theorem pay (a b : Vec Ideal S1024x2048 .bf16) (y : S1024x1024.Idx) : k0_pay1 a b y = ∑ k, nt a b y k := by
  idx_vars y
  pointwise [k0_pay1, nt]

theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nt
  congr 1 <;> blk_ext [iblk, V, idx t]

theorem frame_reference : Cert.quiescent_DMixedRefIdeal (hDMixedRefIdeal := Cert.DMixedRefIdeal.Gen.facts) :=
  fun m ρ _ => (θ_run Cert.DMixedRefIdeal.defs _ _).mono
    (fun _ h => ⟨fun c => (h c).2, sem_eq_zero_of_no_sems (by decide) _⟩) (Cert.DMixedRefIdeal.Value.run (F := Ideal) m ρ)

theorem algebraic : Cert.algebraic_DMixedIdeal_DMixedRefIdeal (hDMixedIdeal := Cert.DMixedIdeal.Gen.facts)
    (hDMixedRefIdeal := Cert.DMixedRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DMixedRefIdeal.defs _ _).mono (fun r h c => ⟨(h c).1.trans ?_, (h c).2⟩)
    (Cert.DMixedRefIdeal.Value.run (F := Ideal) m' ρ')
  rw [val_main_v4_eq, (hargs c).1, (hargs c).2]

end Cert.Mm.DMixed

end
-- ==== Proof.Mm.DAttn.lean ====
/- The gradient of the attention's output: the kernel's result array is the product of the output gradient and the
   transposed output projection, which both programs store in the narrow format. -/
module

public import proofs.«01_k».proof.Proof.Mm.Sum
public import proofs.«01_k».proof.Proof.Gen.DAttnIdeal.Frame
public import proofs.«01_k».proof.Proof.Gen.DAttnRefIdeal.Read
public import proofs.«01_k».proof.Defs
public import Idealize.ShloMosaic.Lib.Quiescent

@[expose] public section

set_option maxRecDepth 16384

noncomputable section

namespace Cert.Mm.DAttn

open Cert.DAttnIdeal Cert.DAttnIdeal.Gen Cert.DAttnRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 2 ∧ win0_0.index t 1 = 0) ∧
    (win0_1.index t 0 = t.val % 2 ∧ win0_1.index t 1 = 0) ∧
    (win0_2.index t 0 = t.val / 2 ∧ win0_2.index t 1 = t.val % 2) := by
  decide +kernel

theorem ref_apply (g : Vec Ideal S8192x2048 .bf16) (w : Vec Ideal S2048x2048 .bf16) (i : S8192x2048.Idx) :
    val_main_v5 (F := Ideal) g w i = ∑ k, nt g w i k := by
  idx_vars i
  pointwise [val_main_v5, val_main_v4, val_main_v1, val_main_v0, nt]

/-- The product of two blocks at an index. -/
theorem pay (a b : Vec Ideal S1024x2048 .bf16) (y : S1024x1024.Idx) : k0_pay1 a b y = ∑ k, nt a b y k := by
  idx_vars y
  pointwise [k0_pay1, nt]

theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nt
  congr 1 <;> blk_ext [iblk, V, idx t]

theorem frame_reference : Cert.quiescent_DAttnRefIdeal (hDAttnRefIdeal := Cert.DAttnRefIdeal.Gen.facts) :=
  fun m ρ _ => (θ_run Cert.DAttnRefIdeal.defs _ _).mono
    (fun _ h => ⟨fun c => (h c).2, sem_eq_zero_of_no_sems (by decide) _⟩) (Cert.DAttnRefIdeal.Value.run (F := Ideal) m ρ)

theorem algebraic : Cert.algebraic_DAttnIdeal_DAttnRefIdeal (hDAttnIdeal := Cert.DAttnIdeal.Gen.facts)
    (hDAttnRefIdeal := Cert.DAttnRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DAttnRefIdeal.defs _ _).mono (fun r h c => ⟨(h c).1.trans ?_, (h c).2⟩)
    (Cert.DAttnRefIdeal.Value.run (F := Ideal) m' ρ')
  rw [val_main_v5_eq, (hargs c).1, (hargs c).2]

end Cert.Mm.DAttn

end
-- ==== Proof.Mm.DSsm.lean ====
/- The gradient of the recurrence's gated output: the kernel's result array is the product of the output gradient and the
   transposed output projection. The contracted axis is one block. -/
module

public import proofs.«01_k».proof.Proof.Mm.Sum
public import proofs.«01_k».proof.Proof.Gen.DSsmIdeal.Frame
public import proofs.«01_k».proof.Proof.Gen.DSsmRefIdeal.Read
public import proofs.«01_k».proof.Defs
public import Idealize.ShloMosaic.Lib.Quiescent

@[expose] public section

set_option maxRecDepth 16384

noncomputable section

namespace Cert.Mm.DSsm

open Cert.DSsmIdeal Cert.DSsmIdeal.Gen Cert.DSsmRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 4 ∧ win0_0.index t 1 = 0) ∧
    (win0_1.index t 0 = t.val % 4 ∧ win0_1.index t 1 = 0) ∧
    (win0_2.index t 0 = t.val / 4 ∧ win0_2.index t 1 = t.val % 4) := by
  decide +kernel

theorem ref_apply (g : Vec Ideal S8192x2048 .bf16) (w : Vec Ideal S4096x2048 .bf16) (i : S8192x4096.Idx) :
    val_main_v4 (F := Ideal) g w i = ∑ k, nt g w i k := by
  idx_vars i
  pointwise [val_main_v4, val_main_v1, val_main_v0, nt]

/-- The product of two blocks at an index. -/
theorem pay (a b : Vec Ideal S1024x2048 .bf16) (y : S1024x1024.Idx) : k0_pay1 a b y = ∑ k, nt a b y k := by
  idx_vars y
  pointwise [k0_pay1, nt]

theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nt
  congr 1 <;> blk_ext [iblk, V, idx t]

theorem frame_reference : Cert.quiescent_DSsmRefIdeal (hDSsmRefIdeal := Cert.DSsmRefIdeal.Gen.facts) :=
  fun m ρ _ => (θ_run Cert.DSsmRefIdeal.defs _ _).mono
    (fun _ h => ⟨fun c => (h c).2, sem_eq_zero_of_no_sems (by decide) _⟩) (Cert.DSsmRefIdeal.Value.run (F := Ideal) m ρ)

theorem algebraic : Cert.algebraic_DSsmIdeal_DSsmRefIdeal (hDSsmIdeal := Cert.DSsmIdeal.Gen.facts)
    (hDSsmRefIdeal := Cert.DSsmRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DSsmRefIdeal.defs _ _).mono (fun r h c => ⟨(h c).1.trans ?_, (h c).2⟩)
    (Cert.DSsmRefIdeal.Value.run (F := Ideal) m' ρ')
  rw [val_main_v4_eq, (hargs c).1, (hargs c).2]

end Cert.Mm.DSsm

end
-- ==== Proof.Mm.DWQ.lean ====
/- The gradient of the weights that expand the low-rank queries: the kernel's result array is the product of the transposed
   low-rank queries and the gradient of the expanded ones. The keys' weights have the same sizes. -/
module

public import proofs.«01_k».proof.Proof.Mm.Sum
public import proofs.«01_k».proof.Proof.Gen.DWQIdeal.Frame
public import proofs.«01_k».proof.Proof.Gen.DWQRefIdeal.Read
public import proofs.«01_k».proof.Defs
public import Idealize.ShloMosaic.Lib.Quiescent

@[expose] public section

set_option maxRecDepth 16384

noncomputable section

namespace Cert.Mm.DWQ

open Cert.DWQIdeal Cert.DWQIdeal.Gen Cert.DWQRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: four points, a quarter of the tokens each, to each block of the result, which
    has one row of blocks. -/
theorem idx : ∀ t : Fin grid0.N,
    (win0_0.index t 0 = t.val % 4 ∧ win0_0.index t 1 = 0) ∧
    (win0_1.index t 0 = t.val % 4 ∧ win0_1.index t 1 = t.val / 4) ∧
    (win0_2.index t 0 = 0 ∧ win0_2.index t 1 = t.val / 4) := by
  decide +kernel

theorem ref_apply (x : Vec Ideal S8192x512 .bf16) (g : Vec Ideal S8192x4096 .bf16) (i : S512x4096.Idx) :
    val_main_v6 (F := Ideal) x g i = ∑ k, tn x g i k := by
  idx_vars i
  pointwise [val_main_v6, val_main_v5, val_main_v4, val_main_v1, val_main_v0, tn]
  exact Finset.sum_congr rfl fun k _ => mul_comm _ _

theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => tn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, tn]
  · rw [outsAt0_B m c t h (by omega) h']
    frame_out
    idx_vars y
    pointwise [k0_pay2, tn, read_unread_whole]
  · rw [outsAt0_C m c t h (by omega) h']
    frame_out
    idx_vars y
    pointwise [k0_pay3, tn, read_unread_whole]
  · unfold tn
    congr 1 <;> blk_ext [iblk, V, idx t, idx ⟨_, Pipeline.run_point_lt_of_flush t hr s⟩]

theorem frame_reference : Cert.quiescent_DWQRefIdeal (hDWQRefIdeal := Cert.DWQRefIdeal.Gen.facts) :=
  fun m ρ _ => (θ_run Cert.DWQRefIdeal.defs _ _).mono
    (fun _ h => ⟨fun c => (h c).2, sem_eq_zero_of_no_sems (by decide) _⟩) (Cert.DWQRefIdeal.Value.run (F := Ideal) m ρ)

theorem algebraic : Cert.algebraic_DWQIdeal_DWQRefIdeal (hDWQIdeal := Cert.DWQIdeal.Gen.facts)
    (hDWQRefIdeal := Cert.DWQRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DWQRefIdeal.defs _ _).mono (fun r h c => ⟨(h c).1.trans ?_, (h c).2⟩)
    (Cert.DWQRefIdeal.Value.run (F := Ideal) m' ρ')
  rw [val_main_v6_eq, (hargs c).1, (hargs c).2]

end Cert.Mm.DWQ

end
-- ==== Proof.Mm.DWV.lean ====
/- The gradient of the weights that expand the low-rank values: the kernel's result array is the product of the transposed
   low-rank values and the gradient of the expanded ones. -/
module

public import proofs.«01_k».proof.Proof.Mm.Sum
public import proofs.«01_k».proof.Proof.Gen.DWVIdeal.Frame
public import proofs.«01_k».proof.Proof.Gen.DWVRefIdeal.Read
public import proofs.«01_k».proof.Defs
public import Idealize.ShloMosaic.Lib.Quiescent

@[expose] public section

set_option maxRecDepth 16384

noncomputable section

namespace Cert.Mm.DWV

open Cert.DWVIdeal Cert.DWVIdeal.Gen Cert.DWVRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: the result is two blocks, of four points each. -/
theorem idx : ∀ t : Fin grid0.N,
    (win0_0.index t 0 = t.val % 4 ∧ win0_0.index t 1 = 0) ∧
    (win0_1.index t 0 = t.val % 4 ∧ win0_1.index t 1 = t.val / 4) ∧
    (win0_2.index t 0 = 0 ∧ win0_2.index t 1 = t.val / 4) := by
  decide +kernel

theorem ref_apply (x : Vec Ideal S8192x512 .bf16) (g : Vec Ideal S8192x2048 .bf16) (i : S512x2048.Idx) :
    val_main_v6 (F := Ideal) x g i = ∑ k, tn x g i k := by
  idx_vars i
  pointwise [val_main_v6, val_main_v5, val_main_v4, val_main_v1, val_main_v0, tn]
  exact Finset.sum_congr rfl fun k _ => mul_comm _ _

theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => tn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, tn]
  · rw [outsAt0_B m c t h (by omega) h']
    frame_out
    idx_vars y
    pointwise [k0_pay2, tn, read_unread_whole]
  · rw [outsAt0_C m c t h (by omega) h']
    frame_out
    idx_vars y
    pointwise [k0_pay3, tn, read_unread_whole]
  · unfold tn
    congr 1 <;> blk_ext [iblk, V, idx t, idx ⟨_, Pipeline.run_point_lt_of_flush t hr s⟩]

theorem frame_reference : Cert.quiescent_DWVRefIdeal (hDWVRefIdeal := Cert.DWVRefIdeal.Gen.facts) :=
  fun m ρ _ => (θ_run Cert.DWVRefIdeal.defs _ _).mono
    (fun _ h => ⟨fun c => (h c).2, sem_eq_zero_of_no_sems (by decide) _⟩) (Cert.DWVRefIdeal.Value.run (F := Ideal) m ρ)

theorem algebraic : Cert.algebraic_DWVIdeal_DWVRefIdeal (hDWVIdeal := Cert.DWVIdeal.Gen.facts)
    (hDWVRefIdeal := Cert.DWVRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DWVRefIdeal.defs _ _).mono (fun r h c => ⟨(h c).1.trans ?_, (h c).2⟩)
    (Cert.DWVRefIdeal.Value.run (F := Ideal) m' ρ')
  rw [val_main_v6_eq, (hargs c).1, (hargs c).2]

end Cert.Mm.DWV

end
-- ==== Proof.Mm.DCqN.lean ====
/- The gradient of the normed low-rank queries: the kernel's result array is the product of the expanded queries' gradient and
   the transposed weights that expand them. The keys' call has the same sizes. -/
module

public import proofs.«01_k».proof.Proof.Mm.Sum
public import proofs.«01_k».proof.Proof.Gen.DCqNIdeal.Frame
public import proofs.«01_k».proof.Proof.Gen.DCqNRefIdeal.Read
public import proofs.«01_k».proof.Defs
public import Idealize.ShloMosaic.Lib.Quiescent

@[expose] public section

set_option maxRecDepth 16384

noncomputable section

namespace Cert.Mm.DCqN

open Cert.DCqNIdeal Cert.DCqNIdeal.Gen Cert.DCqNRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: two points, eight heads each, to each block of 1024 tokens. -/
theorem idx : ∀ t : Fin grid0.N,
    (win0_0.index t 0 = t.val / 2 ∧ win0_0.index t 1 = t.val % 2) ∧
    (win0_1.index t 0 = 0 ∧ win0_1.index t 1 = t.val % 2) ∧
    (win0_2.index t 0 = t.val / 2 ∧ win0_2.index t 1 = 0) := by
  decide +kernel

theorem ref_apply (g : Vec Ideal S8192x4096 .bf16) (w : Vec Ideal S512x4096 .bf16) (i : S8192x512.Idx) :
    val_main_v4 (F := Ideal) g w i = ∑ k, nt g w i k := by
  idx_vars i
  pointwise [val_main_v4, val_main_v1, val_main_v0, nt]

theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 2 (by decide) (fun n h => (outsAt0 m c n h).1) (fun n h => (outsAt0 m c n h).2)
    (fun t => nt (iblk m c 0 t) (iblk m c 1 t)) (fun t h y => ?_) (fun t h h' y => absurd (by omega) h')
    (fun t h h' y => ?_) t hr y _ rfl fun s k hl => ?_
  · rw [outsAt0_A m c t h (by omega)]
    frame_out
    idx_vars y
    pointwise [k0_pay1, nt]
  · rw [outsAt0_B m c t h h']
    frame_out
    idx_vars y
    pointwise [k0_pay3, nt, read_unread_whole]
  · unfold nt
    congr 1 <;> blk_ext [iblk, V, idx t, idx ⟨_, Pipeline.run_point_lt_of_flush t hr s⟩]

theorem frame_reference : Cert.quiescent_DCqNRefIdeal (hDCqNRefIdeal := Cert.DCqNRefIdeal.Gen.facts) :=
  fun m ρ _ => (θ_run Cert.DCqNRefIdeal.defs _ _).mono
    (fun _ h => ⟨fun c => (h c).2, sem_eq_zero_of_no_sems (by decide) _⟩) (Cert.DCqNRefIdeal.Value.run (F := Ideal) m ρ)

theorem algebraic : Cert.algebraic_DCqNIdeal_DCqNRefIdeal (hDCqNIdeal := Cert.DCqNIdeal.Gen.facts)
    (hDCqNRefIdeal := Cert.DCqNRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DCqNRefIdeal.defs _ _).mono (fun r h c => ⟨(h c).1.trans ?_, (h c).2⟩)
    (Cert.DCqNRefIdeal.Value.run (F := Ideal) m' ρ')
  rw [val_main_v4_eq, (hargs c).1, (hargs c).2]

end Cert.Mm.DCqN

end
-- ==== Proof.Mm.DCkvNV.lean ====
/- The gradient of the normed low-rank keys and values: the kernel's result array is the product of the values' gradient and
   the transposed weights that expand them, added to a third argument, the part that came through the keys. -/
module

public import proofs.«01_k».proof.Proof.Mm.Sum
public import proofs.«01_k».proof.Proof.Gen.DCkvNVIdeal.Frame
public import proofs.«01_k».proof.Proof.Gen.DCkvNVRefIdeal.Read
public import proofs.«01_k».proof.Defs
public import Idealize.ShloMosaic.Lib.Quiescent

@[expose] public section

set_option maxRecDepth 16384

noncomputable section

namespace Cert.Mm.DCkvNV

open Cert.DCkvNVIdeal Cert.DCkvNVIdeal.Gen Cert.DCkvNVRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: 1024 tokens, with all the weights. -/
theorem idx : ∀ t : Fin grid0.N,
    (win0_0.index t 0 = t.val ∧ win0_0.index t 1 = 0) ∧
    (win0_1.index t 0 = 0 ∧ win0_1.index t 1 = 0) ∧
    (win0_2.index t 0 = t.val ∧ win0_2.index t 1 = 0) ∧
    (win0_3.index t 0 = t.val ∧ win0_3.index t 1 = 0) := by
  decide +kernel

theorem ref_apply (g : Vec Ideal S8192x2048 .bf16) (w : Vec Ideal S512x2048 .bf16) (d : Vec Ideal S8192x512 .f32)
    (i : S8192x512.Idx) : val_main_v5 (F := Ideal) g w d i = (∑ k, nt g w i k) + d i := by
  idx_vars i
  pointwise [val_main_v5, val_main_v4, val_main_v1, val_main_v0, nt]

/-- The product of two blocks at an index, with the third block added. -/
theorem pay (a : Vec Ideal S1024x2048 .bf16) (b : Vec Ideal S512x2048 .bf16) (d : Vec Ideal S1024x512 .f32)
    (y : S1024x512.Idx) : k0_pay1 a b d y = (∑ k, nt a b y k) + d y := by
  idx_vars y
  pointwise [k0_pay1, nt]

theorem final (c : Dev nD) : (dats m 0 c).arrAt 3 cfg0.N
    = val_main_v5 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  unfold outsAt0
  frame_out
  rw [pay, ref_apply]
  congr 1
  refine Fin.sum_fin_congr fun k => ?_
  unfold nt
  congr 1 <;> blk_ext [iblk, V, idx t]

theorem frame_reference : Cert.quiescent_DCkvNVRefIdeal (hDCkvNVRefIdeal := Cert.DCkvNVRefIdeal.Gen.facts) :=
  fun m ρ _ => (θ_run Cert.DCkvNVRefIdeal.defs _ _).mono
    (fun _ h => ⟨fun c => (h c).2, sem_eq_zero_of_no_sems (by decide) _⟩) (Cert.DCkvNVRefIdeal.Value.run (F := Ideal) m ρ)

theorem algebraic : Cert.algebraic_DCkvNVIdeal_DCkvNVRefIdeal (hDCkvNVIdeal := Cert.DCkvNVIdeal.Gen.facts)
    (hDCkvNVRefIdeal := Cert.DCkvNVRefIdeal.Gen.facts) := by
  intro m ρ m' ρ' _ hargs
  refine ⟨_, (θ_run defs _ _).mono (fun _ h c => ⟨((h c).1 3).trans (final m c), ((h c).1 0).trans ((dats m 0 c).arrAt_in 0 rfl _),
    ((h c).1 1).trans ((dats m 0 c).arrAt_in 1 rfl _), ((h c).1 2).trans ((dats m 0 c).arrAt_in 2 rfl _)⟩) (run_main m ρ), ?_⟩
  refine (θ_run Cert.DCkvNVRefIdeal.defs _ _).mono (fun r h c => ⟨(h c).1.trans ?_, (h c).2⟩)
    (Cert.DCkvNVRefIdeal.Value.run (F := Ideal) m' ρ')
  rw [val_main_v5_eq, (hargs c).1, (hargs c).2.1, (hargs c).2.2]

end Cert.Mm.DCkvNV

end
-- ==== Proof.Mm.DWPle.lean ====
/- The gradient of the weights that project the layer's own embedding: the kernel's result array is the product of the
   transposed embedding, kept in the wide format, and the output gradient. -/
module

public import proofs.«01_k».proof.Proof.Mm.Sum
public import proofs.«01_k».proof.Proof.Gen.DWPleIdeal.Frame
public import proofs.«01_k».proof.Proof.Gen.DWPleRefIdeal.Read
public import proofs.«01_k».proof.Defs
public import Idealize.ShloMosaic.Lib.Quiescent

@[expose] public section

set_option maxRecDepth 16384

noncomputable section

namespace Cert.Mm.DWPle

open Cert.DWPleIdeal Cert.DWPleIdeal.Gen Cert.DWPleRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: all 256 columns of the embedding, for a quarter of the tokens. -/
theorem idx : ∀ t : Fin grid0.N,
    (win0_0.index t 0 = t.val % 4 ∧ win0_0.index t 1 = 0) ∧
    (win0_1.index t 0 = t.val % 4 ∧ win0_1.index t 1 = t.val / 4) ∧
    (win0_2.index t 0 = 0 ∧ win0_2.index t 1 = t.val / 4) := by
  decide +kernel

theorem ref_apply (p : Vec Ideal S8192x256 .f32) (g : Vec Ideal S8192x2048 .bf16) (i : S256x2048.Idx) :
    val_main_v5 (F := Ideal) p g i = ∑ k, tn p g i k := by
  idx_vars i
  pointwise [val_main_v5, val_main_v4, val_main_v3, val_main_v0, tn]
  exact Finset.sum_congr rfl fun k _ => mul_comm _ _

theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => tn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, tn]
  · rw [outsAt0_B m c t h (by omega) h']
    frame_out
    idx_vars y
    pointwise [k0_pay2, tn, read_unread_whole]
  · rw [outsAt0_C m c t h (by omega) h']
    frame_out
    idx_vars y
    pointwise [k0_pay3, tn, read_unread_whole]
  · unfold tn
    congr 1 <;> blk_ext [iblk, V, idx t, idx ⟨_, Pipeline.run_point_lt_of_flush t hr s⟩]

theorem frame_reference : Cert.quiescent_DWPleRefIdeal (hDWPleRefIdeal := Cert.DWPleRefIdeal.Gen.facts) :=
  fun m ρ _ => (θ_run Cert.DWPleRefIdeal.defs _ _).mono
    (fun _ h => ⟨fun c => (h c).2, sem_eq_zero_of_no_sems (by decide) _⟩) (Cert.DWPleRefIdeal.Value.run (F := Ideal) m ρ)

theorem algebraic : Cert.algebraic_DWPleIdeal_DWPleRefIdeal (hDWPleIdeal := Cert.DWPleIdeal.Gen.facts)
    (hDWPleRefIdeal := Cert.DWPleRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.DWPleRefIdeal.defs _ _).mono (fun r h c => ⟨(h c).1.trans ?_, (h c).2⟩)
    (Cert.DWPleRefIdeal.Value.run (F := Ideal) m' ρ')
  rw [val_main_v5_eq, (hargs c).1, (hargs c).2]

end Cert.Mm.DWPle

end
-- ==== Proof.Mm.InZ.lean ====
/- The input projection to the gate of the recurrence's output: the kernel's result array is the plain product. The
   projection to the branches' gates is the same call on other weights. -/
module

public import proofs.«01_k».proof.Proof.Mm.Sum
public import proofs.«01_k».proof.Proof.Gen.InZIdeal.Frame
public import proofs.«01_k».proof.Proof.Gen.InZRefIdeal.Read
public import proofs.«01_k».proof.Defs
public import Idealize.ShloMosaic.Lib.Quiescent

@[expose] public section

set_option maxRecDepth 16384

noncomputable section

namespace Cert.Mm.InZ

open Cert.InZIdeal Cert.InZIdeal.Gen Cert.InZRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 4 ∧ win0_0.index t 1 = 0) ∧
    (win0_1.index t 0 = 0 ∧ win0_1.index t 1 = t.val % 4) ∧
    (win0_2.index t 0 = t.val / 4 ∧ win0_2.index t 1 = t.val % 4) := by
  decide +kernel

theorem ref_apply (x : Vec Ideal S8192x2048 .bf16) (w : Vec Ideal S2048x4096 .bf16) (i : S8192x4096.Idx) :
    val_main_v2 (F := Ideal) x w i = ∑ k, nn x w i k := by
  idx_vars i
  pointwise [val_main_v2, val_main_v1, val_main_v0, nn]

/-- The product of two blocks at an index. -/
theorem pay (a : Vec Ideal S1024x2048 .bf16) (b : Vec Ideal S2048x1024 .bf16) (y : S1024x1024.Idx) :
    k0_pay1 a b y = ∑ k, nn a b y k := by
  idx_vars y
  pointwise [k0_pay1, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_InZRefIdeal (hInZRefIdeal := Cert.InZRefIdeal.Gen.facts) :=
  fun m ρ _ => (θ_run Cert.InZRefIdeal.defs _ _).mono
    (fun _ h => ⟨fun c => (h c).2, sem_eq_zero_of_no_sems (by decide) _⟩) (Cert.InZRefIdeal.Value.run (F := Ideal) m ρ)

theorem algebraic : Cert.algebraic_InZIdeal_InZRefIdeal (hInZIdeal := Cert.InZIdeal.Gen.facts)
    (hInZRefIdeal := Cert.InZRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.InZRefIdeal.defs _ _).mono (fun r h c => ⟨(h c).1.trans ?_, (h c).2⟩)
    (Cert.InZRefIdeal.Value.run (F := Ideal) m' ρ')
  rw [val_main_v2_eq, (hargs c).1, (hargs c).2]

end Cert.Mm.InZ

end
-- ==== Proof.Mm.InXbc.lean ====
/- The input projection to the recurrence's convolved channels: the kernel's result array is the plain product. -/
module

public import proofs.«01_k».proof.Proof.Mm.Sum
public import proofs.«01_k».proof.Proof.Gen.InXbcIdeal.Frame
public import proofs.«01_k».proof.Proof.Gen.InXbcRefIdeal.Read
public import proofs.«01_k».proof.Defs
public import Idealize.ShloMosaic.Lib.Quiescent

@[expose] public section

set_option maxRecDepth 16384

noncomputable section

namespace Cert.Mm.InXbc

open Cert.InXbcIdeal Cert.InXbcIdeal.Gen Cert.InXbcRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 4 ∧ win0_0.index t 1 = 0) ∧
    (win0_1.index t 0 = 0 ∧ win0_1.index t 1 = t.val % 4) ∧
    (win0_2.index t 0 = t.val / 4 ∧ win0_2.index t 1 = t.val % 4) := by
  decide +kernel

theorem ref_apply (x : Vec Ideal S8192x2048 .bf16) (w : Vec Ideal S2048x6144 .bf16) (i : S8192x6144.Idx) :
    val_main_v2 (F := Ideal) x w i = ∑ k, nn x w i k := by
  idx_vars i
  pointwise [val_main_v2, val_main_v1, val_main_v0, nn]

/-- The product of two blocks at an index. -/
theorem pay (a : Vec Ideal S1024x2048 .bf16) (b : Vec Ideal S2048x1536 .bf16) (y : S1024x1536.Idx) :
    k0_pay1 a b y = ∑ k, nn a b y k := by
  idx_vars y
  pointwise [k0_pay1, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_InXbcRefIdeal (hInXbcRefIdeal := Cert.InXbcRefIdeal.Gen.facts) :=
  fun m ρ _ => (θ_run Cert.InXbcRefIdeal.defs _ _).mono
    (fun _ h => ⟨fun c => (h c).2, sem_eq_zero_of_no_sems (by decide) _⟩) (Cert.InXbcRefIdeal.Value.run (F := Ideal) m ρ)

theorem algebraic : Cert.algebraic_InXbcIdeal_InXbcRefIdeal (hInXbcIdeal := Cert.InXbcIdeal.Gen.facts)
    (hInXbcRefIdeal := Cert.InXbcRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.InXbcRefIdeal.defs _ _).mono (fun r h c => ⟨(h c).1.trans ?_, (h c).2⟩)
    (Cert.InXbcRefIdeal.Value.run (F := Ideal) m' ρ')
  rw [val_main_v2_eq, (hargs c).1, (hargs c).2]

end Cert.Mm.InXbc

end
-- ==== Proof.Mm.FfnGate.lean ====
/- The feed-forward gate: the kernel's result array is the plain product. The up projection is the same call on other
   weights. -/
module

public import proofs.«01_k».proof.Proof.Mm.Sum
public import proofs.«01_k».proof.Proof.Gen.FfnGateIdeal.Frame
public import proofs.«01_k».proof.Proof.Gen.FfnGateRefIdeal.Read
public import proofs.«01_k».proof.Defs
public import Idealize.ShloMosaic.Lib.Quiescent

@[expose] public section

set_option maxRecDepth 16384

noncomputable section

namespace Cert.Mm.FfnGate

open Cert.FfnGateIdeal Cert.FfnGateIdeal.Gen Cert.FfnGateRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 4 ∧ win0_0.index t 1 = 0) ∧
    (win0_1.index t 0 = 0 ∧ win0_1.index t 1 = t.val % 4) ∧
    (win0_2.index t 0 = t.val / 4 ∧ win0_2.index t 1 = t.val % 4) := by
  decide +kernel

theorem ref_apply (x : Vec Ideal S8192x2048 .bf16) (w : Vec Ideal S2048x5632 .bf16) (i : S8192x5632.Idx) :
    val_main_v2 (F := Ideal) x w i = ∑ k, nn x w i k := by
  idx_vars i
  pointwise [val_main_v2, val_main_v1, val_main_v0, nn]

/-- The product of two blocks at an index. -/
theorem pay (a : Vec Ideal S1024x2048 .bf16) (b : Vec Ideal S2048x1408 .bf16) (y : S1024x1408.Idx) :
    k0_pay1 a b y = ∑ k, nn a b y k := by
  idx_vars y
  pointwise [k0_pay1, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_FfnGateRefIdeal (hFfnGateRefIdeal := Cert.FfnGateRefIdeal.Gen.facts) :=
  fun m ρ _ => (θ_run Cert.FfnGateRefIdeal.defs _ _).mono
    (fun _ h => ⟨fun c => (h c).2, sem_eq_zero_of_no_sems (by decide) _⟩) (Cert.FfnGateRefIdeal.Value.run (F := Ideal) m ρ)

theorem algebraic : Cert.algebraic_FfnGateIdeal_FfnGateRefIdeal (hFfnGateIdeal := Cert.FfnGateIdeal.Gen.facts)
    (hFfnGateRefIdeal := Cert.FfnGateRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.FfnGateRefIdeal.defs _ _).mono (fun r h c => ⟨(h c).1.trans ?_, (h c).2⟩)
    (Cert.FfnGateRefIdeal.Value.run (F := Ideal) m' ρ')
  rw [val_main_v2_eq, (hargs c).1, (hargs c).2]

end Cert.Mm.FfnGate

end
-- ==== Proof.Mm.FfnDown.lean ====
/- The feed-forward down projection: the kernel's result array is the plain product. -/
module

public import proofs.«01_k».proof.Proof.Mm.Sum
public import proofs.«01_k».proof.Proof.Gen.FfnDownIdeal.Frame
public import proofs.«01_k».proof.Proof.Gen.FfnDownRefIdeal.Read
public import proofs.«01_k».proof.Defs
public import Idealize.ShloMosaic.Lib.Quiescent

@[expose] public section

set_option maxRecDepth 16384

noncomputable section

namespace Cert.Mm.FfnDown

open Cert.FfnDownIdeal Cert.FfnDownIdeal.Gen Cert.FfnDownRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: four points to each block of the result. -/
theorem idx : ∀ t : Fin grid0.N,
    (win0_0.index t 0 = t.val / 8 ∧ win0_0.index t 1 = t.val % 4) ∧
    (win0_1.index t 0 = t.val % 4 ∧ win0_1.index t 1 = t.val / 4 % 2) ∧
    (win0_2.index t 0 = t.val / 8 ∧ win0_2.index t 1 = t.val / 4 % 2) := by
  decide +kernel

theorem ref_apply (x : Vec Ideal S8192x5632 .bf16) (w : Vec Ideal S5632x2048 .bf16) (i : S8192x2048.Idx) :
    val_main_v2 (F := Ideal) x w i = ∑ k, nn x w i k := by
  idx_vars i
  pointwise [val_main_v2, val_main_v1, val_main_v0, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 4 (by decide) (fun n h => (outsAt0 m c n h).1) (fun n h => (outsAt0 m c n h).2)
    (fun t => nn (iblk m c 0 t) (iblk m c 1 t)) (fun t h y => ?_) (fun t h h' y => ?_) (fun t h h' y => ?_) t hr y _ rfl
    fun s k hl => ?_
  · rw [outsAt0_A m c t h (by omega) (by omega)]
    frame_out
    idx_vars y
    pointwise [k0_pay1, nn]
  · rw [outsAt0_B m c t h (by omega) h']
    frame_out
    idx_vars y
    pointwise [k0_pay2, nn, read_unread_whole]
  · rw [outsAt0_C m c t h (by omega) h']
    frame_out
    idx_vars y
    pointwise [k0_pay3, nn, read_unread_whole]
  · unfold nn
    congr 1 <;> blk_ext [iblk, V, idx t, idx ⟨_, Pipeline.run_point_lt_of_flush t hr s⟩]

theorem frame_reference : Cert.quiescent_FfnDownRefIdeal (hFfnDownRefIdeal := Cert.FfnDownRefIdeal.Gen.facts) :=
  fun m ρ _ => (θ_run Cert.FfnDownRefIdeal.defs _ _).mono
    (fun _ h => ⟨fun c => (h c).2, sem_eq_zero_of_no_sems (by decide) _⟩) (Cert.FfnDownRefIdeal.Value.run (F := Ideal) m ρ)

theorem algebraic : Cert.algebraic_FfnDownIdeal_FfnDownRefIdeal (hFfnDownIdeal := Cert.FfnDownIdeal.Gen.facts)
    (hFfnDownRefIdeal := Cert.FfnDownRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.FfnDownRefIdeal.defs _ _).mono (fun r h c => ⟨(h c).1.trans ?_, (h c).2⟩)
    (Cert.FfnDownRefIdeal.Value.run (F := Ideal) m' ρ')
  rw [val_main_v2_eq, (hargs c).1, (hargs c).2]

end Cert.Mm.FfnDown

end
-- ==== Proof.Mm.OutProj.lean ====
/- The layer's output projection: the kernel's result array is the plain product. The attention's output projection and
   the gated embedding's are the same call on other arrays. -/
module

public import proofs.«01_k».proof.Proof.Mm.Sum
public import proofs.«01_k».proof.Proof.Gen.OutProjIdeal.Frame
public import proofs.«01_k».proof.Proof.Gen.OutProjRefIdeal.Read
public import proofs.«01_k».proof.Defs
public import Idealize.ShloMosaic.Lib.Quiescent

@[expose] public section

set_option maxRecDepth 16384

noncomputable section

namespace Cert.Mm.OutProj

open Cert.OutProjIdeal Cert.OutProjIdeal.Gen Cert.OutProjRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 2 ∧ win0_0.index t 1 = 0) ∧
    (win0_1.index t 0 = 0 ∧ win0_1.index t 1 = t.val % 2) ∧
    (win0_2.index t 0 = t.val / 2 ∧ win0_2.index t 1 = t.val % 2) := by
  decide +kernel

theorem ref_apply (x : Vec Ideal S8192x2048 .bf16) (w : Vec Ideal S2048x2048 .bf16) (i : S8192x2048.Idx) :
    val_main_v2 (F := Ideal) x w i = ∑ k, nn x w i k := by
  idx_vars i
  pointwise [val_main_v2, val_main_v1, val_main_v0, nn]

/-- The product of two blocks at an index. -/
theorem pay (a : Vec Ideal S1024x2048 .bf16) (b : Vec Ideal S2048x1024 .bf16) (y : S1024x1024.Idx) :
    k0_pay1 a b y = ∑ k, nn a b y k := by
  idx_vars y
  pointwise [k0_pay1, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_OutProjRefIdeal (hOutProjRefIdeal := Cert.OutProjRefIdeal.Gen.facts) :=
  fun m ρ _ => (θ_run Cert.OutProjRefIdeal.defs _ _).mono
    (fun _ h => ⟨fun c => (h c).2, sem_eq_zero_of_no_sems (by decide) _⟩) (Cert.OutProjRefIdeal.Value.run (F := Ideal) m ρ)

theorem algebraic : Cert.algebraic_OutProjIdeal_OutProjRefIdeal (hOutProjIdeal := Cert.OutProjIdeal.Gen.facts)
    (hOutProjRefIdeal := Cert.OutProjRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.OutProjRefIdeal.defs _ _).mono (fun r h c => ⟨(h c).1.trans ?_, (h c).2⟩)
    (Cert.OutProjRefIdeal.Value.run (F := Ideal) m' ρ')
  rw [val_main_v2_eq, (hargs c).1, (hargs c).2]

end Cert.Mm.OutProj

end
-- ==== Proof.Mm.SsmO.lean ====
/- The output projection of the recurrence: the kernel's result array is the plain product. The contracted axis is two
   blocks, so no point lies between the first and the last of a run. -/
module

public import proofs.«01_k».proof.Proof.Mm.Sum
public import proofs.«01_k».proof.Proof.Gen.SsmOIdeal.Frame
public import proofs.«01_k».proof.Proof.Gen.SsmORefIdeal.Read
public import proofs.«01_k».proof.Defs
public import Idealize.ShloMosaic.Lib.Quiescent

@[expose] public section

set_option maxRecDepth 16384

noncomputable section

namespace Cert.Mm.SsmO

open Cert.SsmOIdeal Cert.SsmOIdeal.Gen Cert.SsmORefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: two points to each block of the result. -/
theorem idx : ∀ t : Fin grid0.N,
    (win0_0.index t 0 = t.val / 4 ∧ win0_0.index t 1 = t.val % 2) ∧
    (win0_1.index t 0 = t.val % 2 ∧ win0_1.index t 1 = t.val / 2 % 2) ∧
    (win0_2.index t 0 = t.val / 4 ∧ win0_2.index t 1 = t.val / 2 % 2) := by
  decide +kernel

theorem ref_apply (x : Vec Ideal S8192x4096 .bf16) (w : Vec Ideal S4096x2048 .bf16) (i : S8192x2048.Idx) :
    val_main_v2 (F := Ideal) x w i = ∑ k, nn x w i k := by
  idx_vars i
  pointwise [val_main_v2, val_main_v1, val_main_v0, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, ref_apply]
  refine run_product 2 (by decide) (fun n h => (outsAt0 m c n h).1) (fun n h => (outsAt0 m c n h).2)
    (fun t => nn (iblk m c 0 t) (iblk m c 1 t)) (fun t h y => ?_) (fun t h h' y => absurd (by omega) h')
    (fun t h h' y => ?_) t hr y _ rfl fun s k hl => ?_
  · rw [outsAt0_A m c t h (by omega)]
    frame_out
    idx_vars y
    pointwise [k0_pay1, nn]
  · rw [outsAt0_B m c t h h']
    frame_out
    idx_vars y
    pointwise [k0_pay3, nn, read_unread_whole]
  · unfold nn
    congr 1 <;> blk_ext [iblk, V, idx t, idx ⟨_, Pipeline.run_point_lt_of_flush t hr s⟩]

theorem frame_reference : Cert.quiescent_SsmORefIdeal (hSsmORefIdeal := Cert.SsmORefIdeal.Gen.facts) :=
  fun m ρ _ => (θ_run Cert.SsmORefIdeal.defs _ _).mono
    (fun _ h => ⟨fun c => (h c).2, sem_eq_zero_of_no_sems (by decide) _⟩) (Cert.SsmORefIdeal.Value.run (F := Ideal) m ρ)

theorem algebraic : Cert.algebraic_SsmOIdeal_SsmORefIdeal (hSsmOIdeal := Cert.SsmOIdeal.Gen.facts)
    (hSsmORefIdeal := Cert.SsmORefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.SsmORefIdeal.defs _ _).mono (fun r h c => ⟨(h c).1.trans ?_, (h c).2⟩)
    (Cert.SsmORefIdeal.Value.run (F := Ideal) m' ρ')
  rw [val_main_v2_eq, (hargs c).1, (hargs c).2]

end Cert.Mm.SsmO

end
-- ==== Proof.Mm.InCqkv.lean ====
/- The input projection to the low-rank queries, keys and values: the kernel's result array is the product of the normed input
   and those columns of the weights. -/
module

public import proofs.«01_k».proof.Proof.Mm.Sum
public import proofs.«01_k».proof.Proof.Gen.InCqkvIdeal.Frame
public import proofs.«01_k».proof.Proof.Gen.InCqkvRefIdeal.Read
public import proofs.«01_k».proof.Defs
public import Idealize.ShloMosaic.Lib.Quiescent

@[expose] public section

set_option maxRecDepth 16384

noncomputable section

namespace Cert.Mm.InCqkv

open Cert.InCqkvIdeal Cert.InCqkvIdeal.Gen Cert.InCqkvRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: 1024 tokens, with all the weights. -/
theorem idx : ∀ t : Fin grid0.N,
    (win0_0.index t 0 = t.val ∧ win0_0.index t 1 = 0) ∧
    (win0_1.index t 0 = 0 ∧ win0_1.index t 1 = 0) ∧
    (win0_2.index t 0 = t.val ∧ win0_2.index t 1 = 0) := by
  decide +kernel

theorem ref_apply (x : Vec Ideal S8192x2048 .bf16) (w : Vec Ideal S2048x1024 .bf16) (i : S8192x1024.Idx) :
    val_main_v2 (F := Ideal) x w i = ∑ k, nn x w i k := by
  idx_vars i
  pointwise [val_main_v2, val_main_v1, val_main_v0, nn]

/-- The product of two blocks at an index. -/
theorem pay (a : Vec Ideal S1024x2048 .bf16) (b : Vec Ideal S2048x1024 .bf16) (y : S1024x1024.Idx) :
    k0_pay1 a b y = ∑ k, nn a b y k := by
  idx_vars y
  pointwise [k0_pay1, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_InCqkvRefIdeal (hInCqkvRefIdeal := Cert.InCqkvRefIdeal.Gen.facts) :=
  fun m ρ _ => (θ_run Cert.InCqkvRefIdeal.defs _ _).mono
    (fun _ h => ⟨fun c => (h c).2, sem_eq_zero_of_no_sems (by decide) _⟩) (Cert.InCqkvRefIdeal.Value.run (F := Ideal) m ρ)

theorem algebraic : Cert.algebraic_InCqkvIdeal_InCqkvRefIdeal (hInCqkvIdeal := Cert.InCqkvIdeal.Gen.facts)
    (hInCqkvRefIdeal := Cert.InCqkvRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.InCqkvRefIdeal.defs _ _).mono (fun r h c => ⟨(h c).1.trans ?_, (h c).2⟩)
    (Cert.InCqkvRefIdeal.Value.run (F := Ideal) m' ρ')
  rw [val_main_v2_eq, (hargs c).1, (hargs c).2]

end Cert.Mm.InCqkv

end
-- ==== Proof.Mm.InSmall.lean ====
/- The input projection to the rotary key and the step sizes: the kernel's result array is the product of the normed input and
   those columns of the weights, which fill 384 with the padding. -/
module

public import proofs.«01_k».proof.Proof.Mm.Sum
public import proofs.«01_k».proof.Proof.Gen.InSmallIdeal.Frame
public import proofs.«01_k».proof.Proof.Gen.InSmallRefIdeal.Read
public import proofs.«01_k».proof.Defs
public import Idealize.ShloMosaic.Lib.Quiescent

@[expose] public section

set_option maxRecDepth 16384

noncomputable section

namespace Cert.Mm.InSmall

open Cert.InSmallIdeal Cert.InSmallIdeal.Gen Cert.InSmallRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: 1024 tokens, with all 384 columns. -/
theorem idx : ∀ t : Fin grid0.N,
    (win0_0.index t 0 = t.val ∧ win0_0.index t 1 = 0) ∧
    (win0_1.index t 0 = 0 ∧ win0_1.index t 1 = 0) ∧
    (win0_2.index t 0 = t.val ∧ win0_2.index t 1 = 0) := by
  decide +kernel

theorem ref_apply (x : Vec Ideal S8192x2048 .bf16) (w : Vec Ideal S2048x384 .bf16) (i : S8192x384.Idx) :
    val_main_v2 (F := Ideal) x w i = ∑ k, nn x w i k := by
  idx_vars i
  pointwise [val_main_v2, val_main_v1, val_main_v0, nn]

/-- The product of two blocks at an index. -/
theorem pay (a : Vec Ideal S1024x2048 .bf16) (b : Vec Ideal S2048x384 .bf16) (y : S1024x384.Idx) :
    k0_pay1 a b y = ∑ k, nn a b y k := by
  idx_vars y
  pointwise [k0_pay1, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_InSmallRefIdeal (hInSmallRefIdeal := Cert.InSmallRefIdeal.Gen.facts) :=
  fun m ρ _ => (θ_run Cert.InSmallRefIdeal.defs _ _).mono
    (fun _ h => ⟨fun c => (h c).2, sem_eq_zero_of_no_sems (by decide) _⟩) (Cert.InSmallRefIdeal.Value.run (F := Ideal) m ρ)

theorem algebraic : Cert.algebraic_InSmallIdeal_InSmallRefIdeal (hInSmallIdeal := Cert.InSmallIdeal.Gen.facts)
    (hInSmallRefIdeal := Cert.InSmallRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.InSmallRefIdeal.defs _ _).mono (fun r h c => ⟨(h c).1.trans ?_, (h c).2⟩)
    (Cert.InSmallRefIdeal.Value.run (F := Ideal) m' ρ')
  rw [val_main_v2_eq, (hargs c).1, (hargs c).2]

end Cert.Mm.InSmall

end
-- ==== Proof.Mm.UpQ.lean ====
/- The queries from their low-rank form: the kernel's result array is the product of the normed low-rank queries and the weights
   that expand them, with 256 columns to a head. The keys' call has the same sizes. -/
module

public import proofs.«01_k».proof.Proof.Mm.Sum
public import proofs.«01_k».proof.Proof.Gen.UpQIdeal.Frame
public import proofs.«01_k».proof.Proof.Gen.UpQRefIdeal.Read
public import proofs.«01_k».proof.Defs
public import Idealize.ShloMosaic.Lib.Quiescent

@[expose] public section

set_option maxRecDepth 16384

noncomputable section

namespace Cert.Mm.UpQ

open Cert.UpQIdeal Cert.UpQIdeal.Gen Cert.UpQRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: 1024 tokens by the columns of four heads. -/
theorem idx : ∀ t : Fin grid0.N,
    (win0_0.index t 0 = t.val / 4 ∧ win0_0.index t 1 = 0) ∧
    (win0_1.index t 0 = 0 ∧ win0_1.index t 1 = t.val % 4) ∧
    (win0_2.index t 0 = t.val / 4 ∧ win0_2.index t 1 = t.val % 4) := by
  decide +kernel

theorem ref_apply (x : Vec Ideal S8192x512 .bf16) (w : Vec Ideal S512x4096 .bf16) (i : S8192x4096.Idx) :
    val_main_v2 (F := Ideal) x w i = ∑ k, nn x w i k := by
  idx_vars i
  pointwise [val_main_v2, val_main_v1, val_main_v0, nn]

/-- The product of two blocks at an index. -/
theorem pay (a : Vec Ideal S1024x512 .bf16) (b : Vec Ideal S512x1024 .bf16) (y : S1024x1024.Idx) :
    k0_pay1 a b y = ∑ k, nn a b y k := by
  idx_vars y
  pointwise [k0_pay1, nn]

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_UpQRefIdeal (hUpQRefIdeal := Cert.UpQRefIdeal.Gen.facts) :=
  fun m ρ _ => (θ_run Cert.UpQRefIdeal.defs _ _).mono
    (fun _ h => ⟨fun c => (h c).2, sem_eq_zero_of_no_sems (by decide) _⟩) (Cert.UpQRefIdeal.Value.run (F := Ideal) m ρ)

theorem algebraic : Cert.algebraic_UpQIdeal_UpQRefIdeal (hUpQIdeal := Cert.UpQIdeal.Gen.facts)
    (hUpQRefIdeal := Cert.UpQRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.UpQRefIdeal.defs _ _).mono (fun r h c => ⟨(h c).1.trans ?_, (h c).2⟩)
    (Cert.UpQRefIdeal.Value.run (F := Ideal) m' ρ')
  rw [val_main_v2_eq, (hargs c).1, (hargs c).2]

end Cert.Mm.UpQ

end
-- ==== Proof.Mm.UpV.lean ====
/- The values from their low-rank form: the kernel's result array is the product of the normed low-rank values and the weights
   that expand them, which both programs store in the narrow format. -/
module

public import proofs.«01_k».proof.Proof.Mm.Sum
public import proofs.«01_k».proof.Proof.Gen.UpVIdeal.Frame
public import proofs.«01_k».proof.Proof.Gen.UpVRefIdeal.Read
public import proofs.«01_k».proof.Defs
public import Idealize.ShloMosaic.Lib.Quiescent

@[expose] public section

set_option maxRecDepth 16384

noncomputable section

namespace Cert.Mm.UpV

open Cert.UpVIdeal Cert.UpVIdeal.Gen Cert.UpVRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: 1024 tokens by the columns of eight heads. -/
theorem idx : ∀ t : Fin grid0.N,
    (win0_0.index t 0 = t.val / 2 ∧ win0_0.index t 1 = 0) ∧
    (win0_1.index t 0 = 0 ∧ win0_1.index t 1 = t.val % 2) ∧
    (win0_2.index t 0 = t.val / 2 ∧ win0_2.index t 1 = t.val % 2) := by
  decide +kernel

theorem ref_apply (x : Vec Ideal S8192x512 .bf16) (w : Vec Ideal S512x2048 .bf16) (i : S8192x2048.Idx) :
    val_main_v3 (F := Ideal) x w i = ∑ k, nn x w i k := by
  idx_vars i
  pointwise [val_main_v3, val_main_v2, val_main_v1, val_main_v0, nn]

/-- The product of two blocks at an index. -/
theorem pay (a : Vec Ideal S1024x512 .bf16) (b : Vec Ideal S512x1024 .bf16) (y : S1024x1024.Idx) :
    k0_pay1 a b y = ∑ k, nn a b y k := by
  idx_vars y
  pointwise [k0_pay1, nn]

theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_UpVRefIdeal (hUpVRefIdeal := Cert.UpVRefIdeal.Gen.facts) :=
  fun m ρ _ => (θ_run Cert.UpVRefIdeal.defs _ _).mono
    (fun _ h => ⟨fun c => (h c).2, sem_eq_zero_of_no_sems (by decide) _⟩) (Cert.UpVRefIdeal.Value.run (F := Ideal) m ρ)

theorem algebraic : Cert.algebraic_UpVIdeal_UpVRefIdeal (hUpVIdeal := Cert.UpVIdeal.Gen.facts)
    (hUpVRefIdeal := Cert.UpVRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.UpVRefIdeal.defs _ _).mono (fun r h c => ⟨(h c).1.trans ?_, (h c).2⟩)
    (Cert.UpVRefIdeal.Value.run (F := Ideal) m' ρ')
  rw [val_main_v3_eq, (hargs c).1, (hargs c).2]

end Cert.Mm.UpV

end
-- ==== Proof.Mm.UpVT.lean ====
/- The values a second time, transposed as the attention's forward pass reads them: the kernel multiplies the transposed weights
   and the normed low-rank values row by row, and the reference transposes the product. -/
module

public import proofs.«01_k».proof.Proof.Mm.Sum
public import proofs.«01_k».proof.Proof.Gen.UpVTIdeal.Frame
public import proofs.«01_k».proof.Proof.Gen.UpVTRefIdeal.Read
public import proofs.«01_k».proof.Defs
public import Idealize.ShloMosaic.Lib.Quiescent

@[expose] public section

set_option maxRecDepth 16384

noncomputable section

namespace Cert.Mm.UpVT

open Cert.UpVTIdeal Cert.UpVTIdeal.Gen Cert.UpVTRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: the columns of eight heads by 1024 tokens. -/
theorem idx : ∀ t : Fin grid0.N,
    (win0_0.index t 0 = t.val / 8 ∧ win0_0.index t 1 = 0) ∧
    (win0_1.index t 0 = t.val % 8 ∧ win0_1.index t 1 = 0) ∧
    (win0_2.index t 0 = t.val / 8 ∧ win0_2.index t 1 = t.val % 8) := by
  decide +kernel

/-- The transposed product is the row-by-row product of the transposed factors, in the other order. -/
theorem ref_apply (w : Vec Ideal S2048x512 .bf16) (x : Vec Ideal S8192x512 .bf16) (i : S2048x8192.Idx) :
    val_main_v5 (F := Ideal) w x i = ∑ k, nt w x i k := by
  idx_vars i
  pointwise [val_main_v5, val_main_v4, val_main_v3, val_main_v2, val_main_v1, val_main_v0, nt]
  exact Finset.sum_congr rfl fun k _ => mul_comm _ _

/-- The product of two blocks at an index. -/
theorem pay (a b : Vec Ideal S1024x512 .bf16) (y : S1024x1024.Idx) : k0_pay1 a b y = ∑ k, nt a b y k := by
  idx_vars y
  pointwise [k0_pay1, nt]

theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nt
  congr 1 <;> blk_ext [iblk, V, idx t]

theorem frame_reference : Cert.quiescent_UpVTRefIdeal (hUpVTRefIdeal := Cert.UpVTRefIdeal.Gen.facts) :=
  fun m ρ _ => (θ_run Cert.UpVTRefIdeal.defs _ _).mono
    (fun _ h => ⟨fun c => (h c).2, sem_eq_zero_of_no_sems (by decide) _⟩) (Cert.UpVTRefIdeal.Value.run (F := Ideal) m ρ)

theorem algebraic : Cert.algebraic_UpVTIdeal_UpVTRefIdeal (hUpVTIdeal := Cert.UpVTIdeal.Gen.facts)
    (hUpVTRefIdeal := Cert.UpVTRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.UpVTRefIdeal.defs _ _).mono (fun r h c => ⟨(h c).1.trans ?_, (h c).2⟩)
    (Cert.UpVTRefIdeal.Value.run (F := Ideal) m' ρ')
  rw [val_main_v5_eq, (hargs c).1, (hargs c).2]

end Cert.Mm.UpVT

end
-- ==== Proof.Row.SwiGlu.lean ====
/- The gated activation: the kernel walks each block of tokens in strips of sixteen rows, and every strip it stores holds the gate
   times its logistic times the other half, which is the reference's formula at each index. -/
module

public import proofs.«01_k».proof.Proof.Gen.SwiGluIdeal.Frame
public import proofs.«01_k».proof.Proof.Gen.SwiGluRefIdeal.Read
public import proofs.«01_k».proof.Defs
public import Idealize.ShloMosaic.Lib.Quiescent
public import Idealize.ShloMosaic.Lib.Pipeline.ValueKit
public import Idealize.ShloMosaic.PureOps.Ideal
public import Idealize.ShloMosaic.Lib.Tactic

@[expose] public section

set_option maxRecDepth 16384

noncomputable section

namespace Cert.Row.SwiGlu

open Cert.SwiGluIdeal Cert.SwiGluIdeal.Gen Cert.SwiGluRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes: 256 tokens, with every column. -/
theorem idx : ∀ t : Fin grid0.N,
    (win0_0.index t 0 = t.val ∧ win0_0.index t 1 = 0) ∧
    (win0_1.index t 0 = t.val ∧ win0_1.index t 1 = 0) ∧
    (win0_2.index t 0 = t.val ∧ win0_2.index t 1 = 0) := by
  decide +kernel

/-- The gated activation of two numbers. -/
def gated (g u : EReal) : EReal := g * Ideal.logistic g * u

theorem ref_apply (g u : Vec Ideal S8192x5632 .f32) (i : S8192x5632.Idx) :
    val_main_v2 (F := Ideal) g u i = gated (g i) (u i) := by
  pointwise [val_main_v2, val_main_v1, val_main_v0, val_main_call0_v5, val_main_call0_v4, val_main_call0_cst_0,
    val_main_call0_v3, val_main_call0_v2, val_main_call0_cst, val_main_call0_v1, val_main_call0_v0, gated, Ideal.logistic]

/-- What a trip stores, at an index of its strip. -/
theorem pay (g u : Vec Ideal S16x5632 .f32) (x : S16x5632.Idx) : k0_pay1 g u x = gated (g x) (u x) := by
  pointwise [k0_pay1, gated]

variable (c : Dev nD) (i : grid0.Coords) (arg1 : Memref sig .tc .vmem S256x5632 .f32) (harg1 : arg1.IsWhole)
  (arg2 : Memref sig .tc .vmem S256x5632 .f32) (harg2 : arg2.IsWhole) (arg3 : Memref sig .tc .vmem S256x5632 .bf16)
  (harg3 : arg3.IsWhole) (X Y : Vec Ideal S256x5632 .f32)

/-- A trip stores the gated activation of the two blocks in its strip. -/
theorem trip (k : Fin k0_t1_loop.trips) : ∀ p ∈ tripL_k0_t1 (F := Ideal) Variants.none c none i arg1 harg1 arg2 harg2 arg3 harg3
    (harg1.unread X) (harg2.unread Y) k, ∀ x : p.1.shape.Idx, p.2 x = gated (X (p.1.emb x)) (Y (p.1.emb x)) := by
  unfold tripL_k0_t1 trip_k0_t1
  dsimp only
  intro p hp x
  obtain rfl := List.mem_singleton.mp hp
  simp only [View.readAt_eq_ld, harg1.read_unread, harg2.read_unread]
  exact pay _ _ x

/-- So do all the trips before any one of them. -/
theorem trips : ∀ n, n ≤ k0_t1_loop.trips → ∀ p ∈ pb_k0_t1 (F := Ideal) Variants.none c none i arg1 harg1 arg2 harg2 arg3 harg3
    (harg1.unread X) (harg2.unread Y) n, ∀ x : p.1.shape.Idx, p.2 x = gated (X (p.1.emb x)) (Y (p.1.emb x))
  | 0, _, _, hp => absurd hp List.not_mem_nil
  | n + 1, hn, p, hp => by
    rw [pb_k0_t1_succ (k := ⟨n, hn⟩)] at hp
    rcases List.mem_append.mp hp with hp | hp
    · exact trip c i arg1 harg1 arg2 harg2 arg3 harg3 X Y ⟨n, hn⟩ p hp
    · exact trips n (Nat.le_of_succ_le hn) p hp

/-- The block a point leaves. -/
theorem block (y : S256x5632.Idx) :
    out0_A_2 (F := Ideal) c i arg1 harg1 arg2 harg2 arg3 harg3 X Y y = gated (X y) (Y y) := by
  unfold out0_A_2
  refine View.read_writes_apply_of_pieces (Val := Elt Ideal) _ _ (fun y => gated (X y) (Y y)) _ ?_ y
    (cover0_A_2 c i arg1 harg1 arg2 harg2 arg3 harg3 X Y y)
  unfold kernelRun0_A
  dsimp only
  intro p hp
  exact trips c i arg1 harg1 arg2 harg2 arg3 harg3 X Y _ le_rfl p (by simpa using hp)

theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  rw [block, ref_apply]
  congr 1 <;> blk_ext [iblk, V, idx t]

theorem frame_reference : Cert.quiescent_SwiGluRefIdeal (hSwiGluRefIdeal := Cert.SwiGluRefIdeal.Gen.facts) :=
  fun m ρ _ => (θ_run Cert.SwiGluRefIdeal.defs _ _).mono
    (fun _ h => ⟨fun c => (h c).2, sem_eq_zero_of_no_sems (by decide) _⟩) (Cert.SwiGluRefIdeal.Value.run (F := Ideal) m ρ)

theorem algebraic : Cert.algebraic_SwiGluIdeal_SwiGluRefIdeal (hSwiGluIdeal := Cert.SwiGluIdeal.Gen.facts)
    (hSwiGluRefIdeal := Cert.SwiGluRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.SwiGluRefIdeal.defs _ _).mono (fun r h c => ⟨(h c).1.trans ?_, (h c).2⟩)
    (Cert.SwiGluRefIdeal.Value.run (F := Ideal) m' ρ')
  rw [val_main_v2_eq, (hargs c).1, (hargs c).2]

end Cert.Row.SwiGlu

end
-- ==== Proof.Mm.PleProj.lean ====
/- The projection of the layer's own embedding: the kernel's result array is the product of the embedding, kept in the wide
   format, and its weights. -/
module

public import proofs.«01_k».proof.Proof.Mm.Sum
public import proofs.«01_k».proof.Proof.Gen.PleProjIdeal.Frame
public import proofs.«01_k».proof.Proof.Gen.PleProjRefIdeal.Read
public import proofs.«01_k».proof.Defs
public import Idealize.ShloMosaic.Lib.Quiescent

@[expose] public section

set_option maxRecDepth 16384

noncomputable section

namespace Cert.Mm.PleProj

open Cert.PleProjIdeal Cert.PleProjIdeal.Gen Cert.PleProjRefIdeal.Read
open Idealize.ShloMosaic Idealize.ShloMosaic.TcCoe Idealize.ShloMosaic.Tactic Idealize.SL.Sem

variable (m : (ℓ : Loc nD τ sig) → Buf (Elt Ideal) ℓ)

/-- The blocks that a point reads and writes. -/
theorem idx : ∀ t : Fin grid0.N,
    (win0_0.index t 0 = t.val / 2 ∧ win0_0.index t 1 = 0) ∧
    (win0_1.index t 0 = 0 ∧ win0_1.index t 1 = t.val % 2) ∧
    (win0_2.index t 0 = t.val / 2 ∧ win0_2.index t 1 = t.val % 2) := by
  decide +kernel

theorem ref_apply (p : Vec Ideal S8192x256 .f32) (w : Vec Ideal S256x2048 .bf16) (i : S8192x2048.Idx) :
    val_main_v1 (F := Ideal) p w i = ∑ k, nn p w i k := by
  idx_vars i
  pointwise [val_main_v1, val_main_v0, nn]

/-- The product of two blocks at an index. -/
theorem pay (a : Vec Ideal S1024x256 .f32) (b : Vec Ideal S256x1024 .bf16) (y : S1024x1024.Idx) :
    k0_pay1 a b y = ∑ k, nn a b y k := by
  idx_vars y
  pointwise [k0_pay1, nn]

theorem final (c : Dev nD) : (dats m 0 c).arrAt 2 cfg0.N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay, ref_apply]
  refine Fin.sum_fin_congr fun k => ?_
  unfold nn
  congr 1 <;> blk_ext [iblk, V, idx t]

theorem frame_reference : Cert.quiescent_PleProjRefIdeal (hPleProjRefIdeal := Cert.PleProjRefIdeal.Gen.facts) :=
  fun m ρ _ => (θ_run Cert.PleProjRefIdeal.defs _ _).mono
    (fun _ h => ⟨fun c => (h c).2, sem_eq_zero_of_no_sems (by decide) _⟩) (Cert.PleProjRefIdeal.Value.run (F := Ideal) m ρ)

theorem algebraic : Cert.algebraic_PleProjIdeal_PleProjRefIdeal (hPleProjIdeal := Cert.PleProjIdeal.Gen.facts)
    (hPleProjRefIdeal := Cert.PleProjRefIdeal.Gen.facts) := by
  intro m ρ m' ρ' _ hargs
  refine ⟨_, (θ_run defs _ _).mono (fun _ h c => ⟨((h c).1 2).trans (final m c), ((h c).1 0).trans ((dats m 0 c).arrAt_in 0 rfl _),
    ((h c).1 1).trans ((dats m 0 c).arrAt_in 1 rfl _)⟩) (run_main m ρ), ?_⟩
  refine (θ_run Cert.PleProjRefIdeal.defs _ _).mono (fun r h c => ⟨(h c).1.trans ?_, (h c).2⟩)
    (Cert.PleProjRefIdeal.Value.run (F := Ideal) m' ρ')
  rw [val_main_v1_eq, (hargs c).1, (hargs c).2]

end Cert.Mm.PleProj

end
-- ==== Proof.lean ====
/- The proof of the claim: each kernel terminates with its arguments unchanged and its counters at zero, read over bits and
   over the reals; its reference likewise; and the two end with equal results, the attention backward kernel's on finite
   arguments, the forward kernel's on finite queries and keys, and the matrix products' on all. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Bwd.Value
public import proofs.«01_k».proof.Proof.Bwd.Bits
public import proofs.«01_k».proof.Proof.Gen.FlashFwd.Frame
public import proofs.«01_k».proof.Proof.Gen.FlashFwdRefIdeal.Read
public import proofs.«01_k».proof.Proof.Fwd.Value
public import proofs.«01_k».proof.Proof.Gen.DWIn.Frame
public import proofs.«01_k».proof.Proof.Mm.DWIn
public import proofs.«01_k».proof.Proof.Gen.DU.Frame
public import proofs.«01_k».proof.Proof.Mm.DU
public import proofs.«01_k».proof.Proof.Gen.DWGate.Frame
public import proofs.«01_k».proof.Proof.Mm.DWGate
public import proofs.«01_k».proof.Proof.Gen.DWDown.Frame
public import proofs.«01_k».proof.Proof.Mm.DWDown
public import proofs.«01_k».proof.Proof.Gen.DWOut.Frame
public import proofs.«01_k».proof.Proof.Mm.DWOut
public import proofs.«01_k».proof.Proof.Gen.DWSsmO.Frame
public import proofs.«01_k».proof.Proof.Mm.DWSsmO
public import proofs.«01_k».proof.Proof.Gen.DAct.Frame
public import proofs.«01_k».proof.Proof.Mm.DAct
public import proofs.«01_k».proof.Proof.Gen.DFGate.Frame
public import proofs.«01_k».proof.Proof.Mm.DFGate
public import proofs.«01_k».proof.Proof.Gen.DFUp.Frame
public import proofs.«01_k».proof.Proof.Mm.DFUp
public import proofs.«01_k».proof.Proof.Gen.DMixed.Frame
public import proofs.«01_k».proof.Proof.Mm.DMixed
public import proofs.«01_k».proof.Proof.Gen.DAttn.Frame
public import proofs.«01_k».proof.Proof.Mm.DAttn
public import proofs.«01_k».proof.Proof.Gen.DSsm.Frame
public import proofs.«01_k».proof.Proof.Mm.DSsm
public import proofs.«01_k».proof.Proof.Gen.DWQ.Frame
public import proofs.«01_k».proof.Proof.Mm.DWQ
public import proofs.«01_k».proof.Proof.Gen.DWV.Frame
public import proofs.«01_k».proof.Proof.Mm.DWV
public import proofs.«01_k».proof.Proof.Gen.DCqN.Frame
public import proofs.«01_k».proof.Proof.Mm.DCqN
public import proofs.«01_k».proof.Proof.Gen.DCkvNV.Frame
public import proofs.«01_k».proof.Proof.Mm.DCkvNV
public import proofs.«01_k».proof.Proof.Gen.DWPle.Frame
public import proofs.«01_k».proof.Proof.Mm.DWPle
public import proofs.«01_k».proof.Proof.Gen.InZ.Frame
public import proofs.«01_k».proof.Proof.Mm.InZ
public import proofs.«01_k».proof.Proof.Gen.InXbc.Frame
public import proofs.«01_k».proof.Proof.Mm.InXbc
public import proofs.«01_k».proof.Proof.Gen.FfnGate.Frame
public import proofs.«01_k».proof.Proof.Mm.FfnGate
public import proofs.«01_k».proof.Proof.Gen.FfnDown.Frame
public import proofs.«01_k».proof.Proof.Mm.FfnDown
public import proofs.«01_k».proof.Proof.Gen.OutProj.Frame
public import proofs.«01_k».proof.Proof.Mm.OutProj
public import proofs.«01_k».proof.Proof.Gen.SsmO.Frame
public import proofs.«01_k».proof.Proof.Mm.SsmO
public import proofs.«01_k».proof.Proof.Gen.InCqkv.Frame
public import proofs.«01_k».proof.Proof.Mm.InCqkv
public import proofs.«01_k».proof.Proof.Gen.InSmall.Frame
public import proofs.«01_k».proof.Proof.Mm.InSmall
public import proofs.«01_k».proof.Proof.Gen.UpQ.Frame
public import proofs.«01_k».proof.Proof.Mm.UpQ
public import proofs.«01_k».proof.Proof.Gen.UpV.Frame
public import proofs.«01_k».proof.Proof.Mm.UpV
public import proofs.«01_k».proof.Proof.Gen.UpVT.Frame
public import proofs.«01_k».proof.Proof.Mm.UpVT
public import proofs.«01_k».proof.Proof.Gen.SwiGlu.Frame
public import proofs.«01_k».proof.Proof.Row.SwiGlu
public import proofs.«01_k».proof.Proof.Gen.PleProj.Frame
public import proofs.«01_k».proof.Proof.Mm.PleProj
public import Idealize.ShloMosaic.Lib.Quiescent

@[expose] public section

noncomputable section

namespace Cert.Proof

open Idealize.ShloMosaic Idealize.ShloMosaic.TcCoe Idealize.SL.Sem

/-- The kernel's frame over bits: its program is the idealized one's text, read at bits. -/
theorem frame_kernel : Cert.quiescent_Kernel (hKernel := Cert.Kernel.Gen.facts) :=
  fun m ρ _ => Cert.Bwd.frame_bits m ρ

theorem frame_kernelIdeal : Cert.quiescent_KernelIdeal (hKernelIdeal := Cert.KernelIdeal.Gen.facts) :=
  fun m ρ _ => Cert.Bwd.frame (F := Ideal) m ρ

theorem frame_kernelIdeal_finite :
    Cert.quiescent_KernelIdeal_pre_finite (hKernelIdeal := Cert.KernelIdeal.Gen.facts) (hPre_finite := Cert.Pre_finite.Gen.facts) :=
  fun m ρ _ => Cert.Bwd.frame (F := Ideal) m ρ

theorem frame_reference : Cert.quiescent_ReferenceIdeal (hReferenceIdeal := Cert.ReferenceIdeal.Gen.facts) :=
  fun m ρ _ => (θ_run Cert.ReferenceIdeal.defs _ _).mono
    (fun _ h => ⟨fun c => (h c).2.2.2, sem_eq_zero_of_no_sems (by decide) _⟩) (Cert.ReferenceIdeal.Value.run (F := Ideal) m ρ)

theorem frame_reference_finite :
    Cert.quiescent_ReferenceIdeal_pre_finite (hReferenceIdeal := Cert.ReferenceIdeal.Gen.facts) (hPre_finite := Cert.Pre_finite.Gen.facts) :=
  fun m ρ _ => frame_reference m ρ trivial

/-- On finite arguments the kernel's three gradients are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨fun c => (Cert.Bwd.dats m 0 c).arrAt 6 Cert.KernelIdeal.cfg0.N, fun c => (Cert.Bwd.dats m 0 c).arrAt 7 Cert.KernelIdeal.cfg0.N,
    fun c => (Cert.Bwd.dats m 0 c).arrAt 8 Cert.KernelIdeal.cfg0.N, Cert.Bwd.run_values m ρ, ?_⟩
  refine (θ_run Cert.ReferenceIdeal.defs _ _).mono (fun r h c => ?_) (Cert.ReferenceIdeal.Value.run (F := Ideal) m' ρ')
  obtain ⟨h0, h1, h2, hrest⟩ := h c
  obtain ⟨a0, a1, a2, a3⟩ := hargs c
  obtain ⟨X, hX⟩ := Cert.Bwd.exists_inp _ _ _ _ (hpre c)
  have hH := Cert.Bwd.hosts m c hX
  refine ⟨h0.trans ?_, h1.trans ?_, h2.trans ?_, hrest⟩
  · rw [Cert.ReferenceIdeal.Read.val_main_v65_eq, a0, a1, a2, a3]
    exact (funext hX.ref_out0).trans (Cert.Bwd.dq_array hH).symm
  · rw [Cert.ReferenceIdeal.Read.val_main_v67_eq, a0, a1, a2, a3]
    exact (funext hX.ref_out1).trans (Cert.Bwd.dk_array hH).symm
  · rw [Cert.ReferenceIdeal.Read.val_main_v69_eq, a0, a1, a3]
    exact (funext hX.ref_out2).trans (Cert.Bwd.dv_array hH).symm

theorem claim : Cert.Claim :=
  ⟨Cert.Kernel.Gen.facts, Cert.KernelIdeal.Gen.facts, Cert.ReferenceIdeal.Gen.facts, Cert.FlashFwd.Gen.facts,
    Cert.FlashFwdIdeal.Gen.facts, Cert.FlashFwdRefIdeal.Gen.facts, Cert.DWIn.Gen.facts,
    Cert.DWInIdeal.Gen.facts, Cert.DWInRefIdeal.Gen.facts, Cert.DU.Gen.facts, Cert.DUIdeal.Gen.facts,
    Cert.DURefIdeal.Gen.facts, Cert.DWGate.Gen.facts, Cert.DWGateIdeal.Gen.facts, Cert.DWGateRefIdeal.Gen.facts,
    Cert.DWDown.Gen.facts, Cert.DWDownIdeal.Gen.facts, Cert.DWDownRefIdeal.Gen.facts, Cert.DWOut.Gen.facts,
    Cert.DWOutIdeal.Gen.facts, Cert.DWOutRefIdeal.Gen.facts, Cert.DWSsmO.Gen.facts, Cert.DWSsmOIdeal.Gen.facts,
    Cert.DWSsmORefIdeal.Gen.facts, Cert.DAct.Gen.facts, Cert.DActIdeal.Gen.facts, Cert.DActRefIdeal.Gen.facts,
    Cert.DFGate.Gen.facts, Cert.DFGateIdeal.Gen.facts, Cert.DFGateRefIdeal.Gen.facts, Cert.DFUp.Gen.facts,
    Cert.DFUpIdeal.Gen.facts, Cert.DFUpRefIdeal.Gen.facts, Cert.DMixed.Gen.facts, Cert.DMixedIdeal.Gen.facts,
    Cert.DMixedRefIdeal.Gen.facts, Cert.DAttn.Gen.facts, Cert.DAttnIdeal.Gen.facts, Cert.DAttnRefIdeal.Gen.facts,
    Cert.DSsm.Gen.facts, Cert.DSsmIdeal.Gen.facts, Cert.DSsmRefIdeal.Gen.facts, Cert.DWQ.Gen.facts,
    Cert.DWQIdeal.Gen.facts, Cert.DWQRefIdeal.Gen.facts, Cert.DWV.Gen.facts, Cert.DWVIdeal.Gen.facts,
    Cert.DWVRefIdeal.Gen.facts, Cert.DCqN.Gen.facts, Cert.DCqNIdeal.Gen.facts, Cert.DCqNRefIdeal.Gen.facts,
    Cert.DCkvNV.Gen.facts, Cert.DCkvNVIdeal.Gen.facts, Cert.DCkvNVRefIdeal.Gen.facts, Cert.DWPle.Gen.facts,
    Cert.DWPleIdeal.Gen.facts, Cert.DWPleRefIdeal.Gen.facts, Cert.InZ.Gen.facts,
    Cert.InZIdeal.Gen.facts, Cert.InZRefIdeal.Gen.facts, Cert.InXbc.Gen.facts, Cert.InXbcIdeal.Gen.facts,
    Cert.InXbcRefIdeal.Gen.facts, Cert.FfnGate.Gen.facts, Cert.FfnGateIdeal.Gen.facts, Cert.FfnGateRefIdeal.Gen.facts,
    Cert.FfnDown.Gen.facts, Cert.FfnDownIdeal.Gen.facts, Cert.FfnDownRefIdeal.Gen.facts, Cert.OutProj.Gen.facts,
    Cert.OutProjIdeal.Gen.facts, Cert.OutProjRefIdeal.Gen.facts, Cert.SsmO.Gen.facts, Cert.SsmOIdeal.Gen.facts,
    Cert.SsmORefIdeal.Gen.facts, Cert.InCqkv.Gen.facts, Cert.InCqkvIdeal.Gen.facts, Cert.InCqkvRefIdeal.Gen.facts,
    Cert.InSmall.Gen.facts, Cert.InSmallIdeal.Gen.facts, Cert.InSmallRefIdeal.Gen.facts, Cert.UpQ.Gen.facts,
    Cert.UpQIdeal.Gen.facts, Cert.UpQRefIdeal.Gen.facts, Cert.UpV.Gen.facts, Cert.UpVIdeal.Gen.facts,
    Cert.UpVRefIdeal.Gen.facts, Cert.UpVT.Gen.facts, Cert.UpVTIdeal.Gen.facts, Cert.UpVTRefIdeal.Gen.facts,
    Cert.SwiGlu.Gen.facts, Cert.SwiGluIdeal.Gen.facts, Cert.SwiGluRefIdeal.Gen.facts,
    Cert.PleProj.Gen.facts, Cert.PleProjIdeal.Gen.facts, Cert.PleProjRefIdeal.Gen.facts, Cert.Pre_finite.Gen.facts, Cert.Pre_finite_fwd.Gen.facts,
    frame_kernel, frame_kernelIdeal, frame_kernelIdeal_finite, frame_reference, frame_reference_finite,
    fun m ρ _ => Cert.FlashFwd.Gen.frame m ρ, fun m ρ _ => Cert.FlashFwdIdeal.Gen.frame m ρ, fun m ρ _ => Cert.FlashFwdIdeal.Gen.frame m ρ,
    Cert.Fwd.frame_reference, fun m ρ _ => Cert.Fwd.frame_reference m ρ trivial,
    fun m ρ _ => Cert.DWIn.Gen.frame m ρ, fun m ρ _ => Cert.DWInIdeal.Gen.frame m ρ, Cert.Mm.DWIn.frame_reference,
    fun m ρ _ => Cert.DU.Gen.frame m ρ, fun m ρ _ => Cert.DUIdeal.Gen.frame m ρ, Cert.Mm.DU.frame_reference,
    fun m ρ _ => Cert.DWGate.Gen.frame m ρ, fun m ρ _ => Cert.DWGateIdeal.Gen.frame m ρ, Cert.Mm.DWGate.frame_reference,
    fun m ρ _ => Cert.DWDown.Gen.frame m ρ, fun m ρ _ => Cert.DWDownIdeal.Gen.frame m ρ, Cert.Mm.DWDown.frame_reference,
    fun m ρ _ => Cert.DWOut.Gen.frame m ρ, fun m ρ _ => Cert.DWOutIdeal.Gen.frame m ρ, Cert.Mm.DWOut.frame_reference,
    fun m ρ _ => Cert.DWSsmO.Gen.frame m ρ, fun m ρ _ => Cert.DWSsmOIdeal.Gen.frame m ρ, Cert.Mm.DWSsmO.frame_reference,
    fun m ρ _ => Cert.DAct.Gen.frame m ρ, fun m ρ _ => Cert.DActIdeal.Gen.frame m ρ, Cert.Mm.DAct.frame_reference,
    fun m ρ _ => Cert.DFGate.Gen.frame m ρ, fun m ρ _ => Cert.DFGateIdeal.Gen.frame m ρ, Cert.Mm.DFGate.frame_reference,
    fun m ρ _ => Cert.DFUp.Gen.frame m ρ, fun m ρ _ => Cert.DFUpIdeal.Gen.frame m ρ, Cert.Mm.DFUp.frame_reference,
    fun m ρ _ => Cert.DMixed.Gen.frame m ρ, fun m ρ _ => Cert.DMixedIdeal.Gen.frame m ρ, Cert.Mm.DMixed.frame_reference,
    fun m ρ _ => Cert.DAttn.Gen.frame m ρ, fun m ρ _ => Cert.DAttnIdeal.Gen.frame m ρ, Cert.Mm.DAttn.frame_reference,
    fun m ρ _ => Cert.DSsm.Gen.frame m ρ, fun m ρ _ => Cert.DSsmIdeal.Gen.frame m ρ, Cert.Mm.DSsm.frame_reference,
    fun m ρ _ => Cert.DWQ.Gen.frame m ρ, fun m ρ _ => Cert.DWQIdeal.Gen.frame m ρ, Cert.Mm.DWQ.frame_reference,
    fun m ρ _ => Cert.DWV.Gen.frame m ρ, fun m ρ _ => Cert.DWVIdeal.Gen.frame m ρ, Cert.Mm.DWV.frame_reference,
    fun m ρ _ => Cert.DCqN.Gen.frame m ρ, fun m ρ _ => Cert.DCqNIdeal.Gen.frame m ρ, Cert.Mm.DCqN.frame_reference,
    fun m ρ _ => Cert.DCkvNV.Gen.frame m ρ, fun m ρ _ => Cert.DCkvNVIdeal.Gen.frame m ρ, Cert.Mm.DCkvNV.frame_reference,
    fun m ρ _ => Cert.DWPle.Gen.frame m ρ, fun m ρ _ => Cert.DWPleIdeal.Gen.frame m ρ, Cert.Mm.DWPle.frame_reference,
    fun m ρ _ => Cert.InZ.Gen.frame m ρ, fun m ρ _ => Cert.InZIdeal.Gen.frame m ρ, Cert.Mm.InZ.frame_reference,
    fun m ρ _ => Cert.InXbc.Gen.frame m ρ, fun m ρ _ => Cert.InXbcIdeal.Gen.frame m ρ, Cert.Mm.InXbc.frame_reference,
    fun m ρ _ => Cert.FfnGate.Gen.frame m ρ, fun m ρ _ => Cert.FfnGateIdeal.Gen.frame m ρ, Cert.Mm.FfnGate.frame_reference,
    fun m ρ _ => Cert.FfnDown.Gen.frame m ρ, fun m ρ _ => Cert.FfnDownIdeal.Gen.frame m ρ, Cert.Mm.FfnDown.frame_reference,
    fun m ρ _ => Cert.OutProj.Gen.frame m ρ, fun m ρ _ => Cert.OutProjIdeal.Gen.frame m ρ, Cert.Mm.OutProj.frame_reference,
    fun m ρ _ => Cert.SsmO.Gen.frame m ρ, fun m ρ _ => Cert.SsmOIdeal.Gen.frame m ρ, Cert.Mm.SsmO.frame_reference,
    fun m ρ _ => Cert.InCqkv.Gen.frame m ρ, fun m ρ _ => Cert.InCqkvIdeal.Gen.frame m ρ, Cert.Mm.InCqkv.frame_reference,
    fun m ρ _ => Cert.InSmall.Gen.frame m ρ, fun m ρ _ => Cert.InSmallIdeal.Gen.frame m ρ, Cert.Mm.InSmall.frame_reference,
    fun m ρ _ => Cert.UpQ.Gen.frame m ρ, fun m ρ _ => Cert.UpQIdeal.Gen.frame m ρ, Cert.Mm.UpQ.frame_reference,
    fun m ρ _ => Cert.UpV.Gen.frame m ρ, fun m ρ _ => Cert.UpVIdeal.Gen.frame m ρ, Cert.Mm.UpV.frame_reference,
    fun m ρ _ => Cert.UpVT.Gen.frame m ρ, fun m ρ _ => Cert.UpVTIdeal.Gen.frame m ρ, Cert.Mm.UpVT.frame_reference,
    fun m ρ _ => Cert.SwiGlu.Gen.frame m ρ, fun m ρ _ => Cert.SwiGluIdeal.Gen.frame m ρ, Cert.Row.SwiGlu.frame_reference,
    fun m ρ _ => Cert.PleProj.Gen.frame m ρ, fun m ρ _ => Cert.PleProjIdeal.Gen.frame m ρ, Cert.Mm.PleProj.frame_reference,
    trivial, algebraic, trivial, Cert.Fwd.algebraic, trivial, Cert.Mm.DWIn.algebraic, trivial, Cert.Mm.DU.algebraic, trivial, Cert.Mm.DWGate.algebraic,
    trivial, Cert.Mm.DWDown.algebraic, trivial, Cert.Mm.DWOut.algebraic, trivial, Cert.Mm.DWSsmO.algebraic, trivial,
    Cert.Mm.DAct.algebraic, trivial, Cert.Mm.DFGate.algebraic, trivial, Cert.Mm.DFUp.algebraic, trivial,
    Cert.Mm.DMixed.algebraic, trivial, Cert.Mm.DAttn.algebraic, trivial, Cert.Mm.DSsm.algebraic, trivial,
    Cert.Mm.DWQ.algebraic, trivial, Cert.Mm.DWV.algebraic, trivial, Cert.Mm.DCqN.algebraic, trivial,
    Cert.Mm.DCkvNV.algebraic, trivial, Cert.Mm.DWPle.algebraic, trivial,
    Cert.Mm.InZ.algebraic, trivial, Cert.Mm.InXbc.algebraic, trivial, Cert.Mm.FfnGate.algebraic, trivial,
    Cert.Mm.FfnDown.algebraic, trivial, Cert.Mm.OutProj.algebraic, trivial, Cert.Mm.SsmO.algebraic, trivial,
    Cert.Mm.InCqkv.algebraic, trivial, Cert.Mm.InSmall.algebraic, trivial, Cert.Mm.UpQ.algebraic, trivial,
    Cert.Mm.UpV.algebraic, trivial, Cert.Mm.UpVT.algebraic, trivial, Cert.Row.SwiGlu.algebraic, trivial,
    Cert.Mm.PleProj.algebraic⟩

end Cert.Proof

end
